-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v47)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v47) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S16384x8x32 : Shape := ⟨3, ![16384, 8, 32]⟩
abbrev S16384x8x64 : Shape := ⟨3, ![16384, 8, 64]⟩
abbrev S16384x32 : Shape := ⟨2, ![16384, 32]⟩
abbrev S_ : Shape := ⟨0, ![]⟩

class Facts : Prop where
  bcast_S_S16384x8x32 : S_.BroadcastsInDim S16384x8x32 (![] : Fin 0 → Fin S16384x8x32.rank)
  reducesTo_S16384x8x32_S_d0_1_2 : S16384x8x32.ReducesTo [0, 1, 2] S_
  h_S_ : 0 < S_.numel
  bcast_S_S16384x8x64 : S_.BroadcastsInDim S16384x8x64 (![] : Fin 0 → Fin S16384x8x64.rank)
  reducesTo_S16384x8x64_S_d0_1_2 : S16384x8x64.ReducesTo [0, 1, 2] S_
  bcast_S_S16384x32 : S_.BroadcastsInDim S16384x32 (![] : Fin 0 → Fin S16384x32.rank)
  reducesTo_S16384x32_S_d0_1 : S16384x32.ReducesTo [0, 1] S_

variable [Facts]

def fn_part1 {F : FTy → Type} [FloatOps F] (main_v13 : IVec S_ 1) (main_v16 : IVec S16384x8x64 1) : IVec S_ 1 :=
  let main_c_5 : IVec S_ 1 := constantI S_ 1 1#1
  let main_v17 : IVec S_ 1 := (fun x v => Host.reduce IntOp.andi x v reducesTo_S16384x8x64_S_d0_1_2 h_S_) main_v16 main_c_5
  let main_v18 : IVec S_ 1 := andi main_v13 main_v17
  main_v18

def fn {F : FTy → Type} [FloatOps F] (main_arg0 : FVec F S16384x8x32 .f32) (main_arg1 : FVec F S16384x8x64 .f32) (main_arg2 : FVec F S16384x32 .f32) (main_arg3 : FVec F S16384x8x64 .f32) (main_arg4 : FVec F S16384x8x64 .f32) : IVec S_ 1 :=
  let main_v0 : FVec F S16384x8x32 .f32 := Host.absf main_arg0
  let main_cst : FVec F S_ .f32 := constant S_ .f32 0x7F800000#32
  let main_v1 : FVec F S16384x8x32 .f32 := broadcastInDim S16384x8x32 ![] bcast_S_S16384x8x32 main_cst
  let main_v2 : IVec S16384x8x32 1 := cmpf .olt main_v0 main_v1
  let main_c : IVec S_ 1 := constantI S_ 1 1#1
  let main_v3 : IVec S_ 1 := (fun x v => Host.reduce IntOp.andi x v reducesTo_S16384x8x32_S_d0_1_2 h_S_) main_v2 main_c
  let main_v4 : FVec F S16384x8x64 .f32 := Host.absf main_arg1
  let main_cst_0 : FVec F S_ .f32 := constant S_ .f32 0x7F800000#32
  let main_v5 : FVec F S16384x8x64 .f32 := broadcastInDim S16384x8x64 ![] bcast_S_S16384x8x64 main_cst_0
  let main_v6 : IVec S16384x8x64 1 := cmpf .olt main_v4 main_v5
  let main_c_1 : IVec S_ 1 := constantI S_ 1 1#1
  let main_v7 : IVec S_ 1 := (fun x v => Host.reduce IntOp.andi x v reducesTo_S16384x8x64_S_d0_1_2 h_S_) main_v6 main_c_1
  let main_v8 : IVec S_ 1 := andi main_v3 main_v7
  let main_v9 : FVec F S16384x32 .f32 := Host.absf main_arg2
  let main_cst_2 : FVec F S_ .f32 := constant S_ .f32 0x7F800000#32
  let main_v10 : FVec F S16384x32 .f32 := broadcastInDim S16384x32 ![] bcast_S_S16384x32 main_cst_2
  let main_v11 : IVec S16384x32 1 := cmpf .olt main_v9 main_v10
  let main_c_3 : IVec S_ 1 := constantI S_ 1 1#1
  let main_v12 : IVec S_ 1 := (fun x v => Host.reduce IntOp.andi x v reducesTo_S16384x32_S_d0_1 h_S_) main_v11 main_c_3
  let main_v13 : IVec S_ 1 := andi main_v8 main_v12
  let main_v14 : FVec F S16384x8x64 .f32 := Host.absf main_arg3
  let main_cst_4 : FVec F S_ .f32 := constant S_ .f32 0x7F800000#32
  let main_v15 : FVec F S16384x8x64 .f32 := broadcastInDim S16384x8x64 ![] bcast_S_S16384x8x64 main_cst_4
  let main_v16 : IVec S16384x8x64 1 := cmpf .olt main_v14 main_v15
  fn_part1 (F := F) main_v13 main_v16
-- ==== Pre_finite2.lean ====
abbrev S16384x8x64 : Shape := ⟨3, ![16384, 8, 64]⟩
abbrev S16384x2x64 : Shape := ⟨3, ![16384, 2, 64]⟩
abbrev S16384x8 : Shape := ⟨2, ![16384, 8]⟩
abbrev S_ : Shape := ⟨0, ![]⟩

class Facts : Prop where
  bcast_S_S16384x8x64 : S_.BroadcastsInDim S16384x8x64 (![] : Fin 0 → Fin S16384x8x64.rank)
  reducesTo_S16384x8x64_S_d0_1_2 : S16384x8x64.ReducesTo [0, 1, 2] S_
  h_S_ : 0 < S_.numel
  bcast_S_S16384x2x64 : S_.BroadcastsInDim S16384x2x64 (![] : Fin 0 → Fin S16384x2x64.rank)
  reducesTo_S16384x2x64_S_d0_1_2 : S16384x2x64.ReducesTo [0, 1, 2] S_
  bcast_S_S16384x8 : S_.BroadcastsInDim S16384x8 (![] : Fin 0 → Fin S16384x8.rank)
  reducesTo_S16384x8_S_d0_1 : S16384x8.ReducesTo [0, 1] S_

variable [Facts]

def fn {F : FTy → Type} [FloatOps F] (main_arg0 : FVec F S16384x8x64 .f32) (main_arg1 : FVec F S16384x2x64 .f32) (main_arg2 : FVec F S16384x2x64 .f32) (main_arg3 : FVec F S16384x8 .f32) : IVec S_ 1 :=
  let main_v0 : FVec F S16384x8x64 .f32 := Host.absf main_arg0
  let main_cst : FVec F S_ .f32 := constant S_ .f32 0x7F800000#32
  let main_v1 : FVec F S16384x8x64 .f32 := broadcastInDim S16384x8x64 ![] bcast_S_S16384x8x64 main_cst
  let main_v2 : IVec S16384x8x64 1 := cmpf .olt main_v0 main_v1
  let main_c : IVec S_ 1 := constantI S_ 1 1#1
  let main_v3 : IVec S_ 1 := (fun x v => Host.reduce IntOp.andi x v reducesTo_S16384x8x64_S_d0_1_2 h_S_) main_v2 main_c
  let main_v4 : FVec F S16384x2x64 .f32 := Host.absf main_arg1
  let main_cst_0 : FVec F S_ .f32 := constant S_ .f32 0x7F800000#32
  let main_v5 : FVec F S16384x2x64 .f32 := broadcastInDim S16384x2x64 ![] bcast_S_S16384x2x64 main_cst_0
  let main_v6 : IVec S16384x2x64 1 := cmpf .olt main_v4 main_v5
  let main_c_1 : IVec S_ 1 := constantI S_ 1 1#1
  let main_v7 : IVec S_ 1 := (fun x v => Host.reduce IntOp.andi x v reducesTo_S16384x2x64_S_d0_1_2 h_S_) main_v6 main_c_1
  let main_v8 : IVec S_ 1 := andi main_v3 main_v7
  let main_v9 : FVec F S16384x8 .f32 := Host.absf main_arg3
  let main_cst_2 : FVec F S_ .f32 := constant S_ .f32 0x7F800000#32
  let main_v10 : FVec F S16384x8 .f32 := broadcastInDim S16384x8 ![] bcast_S_S16384x8 main_cst_2
  let main_v11 : IVec S16384x8 1 := cmpf .olt main_v9 main_v10
  let main_c_3 : IVec S_ 1 := constantI S_ 1 1#1
  let main_v12 : IVec S_ 1 := (fun x v => Host.reduce IntOp.andi x v reducesTo_S16384x8_S_d0_1 h_S_) main_v11 main_c_3
  let main_v13 : IVec S_ 1 := andi main_v8 main_v12
  main_v13
-- ==== Kernel.lean ====
abbrev S16384x8x32 : Shape := ⟨3, ![16384, 8, 32]⟩
abbrev S16384x8x64 : Shape := ⟨3, ![16384, 8, 64]⟩
abbrev S16384x32 : Shape := ⟨2, ![16384, 32]⟩
abbrev S_ : Shape := ⟨0, ![]⟩
abbrev S16384x8x128 : Shape := ⟨3, ![16384, 8, 128]⟩
abbrev S16384x1024 : Shape := ⟨2, ![16384, 1024]⟩
abbrev S16384x1x32 : Shape := ⟨3, ![16384, 1, 32]⟩
abbrev S16384x8x1 : Shape := ⟨3, ![16384, 8, 1]⟩
abbrev S16384x8x63 : Shape := ⟨3, ![16384, 8, 63]⟩
abbrev S64x256x1024 : Shape := ⟨3, ![64, 256, 1024]⟩
abbrev S64x1024x256 : Shape := ⟨3, ![64, 1024, 256]⟩
abbrev S512x512 : Shape := ⟨2, ![512, 512]⟩
abbrev S16384x512 : Shape := ⟨2, ![16384, 512]⟩
abbrev S64x512x256 : Shape := ⟨3, ![64, 512, 256]⟩
abbrev S2x4x256x512 : Shape := ⟨4, ![2, 4, 256, 512]⟩
abbrev S4x1x512 : Shape := ⟨3, ![4, 1, 512]⟩
abbrev S2x4x1x512 : Shape := ⟨4, ![2, 4, 1, 512]⟩
abbrev S4x128x512 : Shape := ⟨3, ![4, 128, 512]⟩
abbrev S512x128 : Shape := ⟨2, ![512, 128]⟩
abbrev S4x256x512 : Shape := ⟨3, ![4, 256, 512]⟩
abbrev S1x4x256x512 : Shape := ⟨4, ![1, 4, 256, 512]⟩
abbrev S1x4x1x512 : Shape := ⟨4, ![1, 4, 1, 512]⟩
abbrev S256x128 : Shape := ⟨2, ![256, 128]⟩
abbrev S256x512 : Shape := ⟨2, ![256, 512]⟩
abbrev S1x1x256x512 : Shape := ⟨4, ![1, 1, 256, 512]⟩
abbrev S1x1x1x512 : Shape := ⟨4, ![1, 1, 1, 512]⟩
abbrev S1x512 : Shape := ⟨2, ![1, 512]⟩
abbrev S1x128x512 : Shape := ⟨3, ![1, 128, 512]⟩
abbrev S128x512 : Shape := ⟨2, ![128, 512]⟩
abbrev S1x128x256 : Shape := ⟨3, ![1, 128, 256]⟩
abbrev S128x256 : Shape := ⟨2, ![128, 256]⟩
abbrev S1x1x512 : Shape := ⟨3, ![1, 1, 512]⟩
abbrev S1x1x256x128 : Shape := ⟨4, ![1, 1, 256, 128]⟩
abbrev S128 : Shape := ⟨1, ![128]⟩
abbrev S1x128 : Shape := ⟨2, ![1, 128]⟩
abbrev S1x1x64x512 : Shape := ⟨4, ![1, 1, 64, 512]⟩
abbrev S64x512 : Shape := ⟨2, ![64, 512]⟩

abbrev nBuf : Space → Nat
  | .hbm => 32
  | .vmem => 11
  | .smem => 0
  | _ => 0

abbrev bufTy : (tb : Table) → Fin (tcTables nBuf tb) → BufTy
  | .hbm, ⟨0, _⟩ => ⟨S16384x8x32, .f32⟩
  | .hbm, ⟨1, _⟩ => ⟨S16384x8x64, .f32⟩
  | .hbm, ⟨2, _⟩ => ⟨S16384x32, .f32⟩
  | .hbm, ⟨3, _⟩ => ⟨S16384x8x64, .f32⟩
  | .hbm, ⟨4, _⟩ => ⟨S16384x8x64, .f32⟩
  | .hbm, ⟨5, _⟩ => ⟨S_, .f32⟩
  | .hbm, ⟨6, _⟩ => ⟨S16384x8x32, .f32⟩
  | .hbm, ⟨7, _⟩ => ⟨S16384x8x128, .f32⟩
  | .hbm, ⟨8, _⟩ => ⟨S16384x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .bf16⟩
  | .hbm, ⟨16, _⟩ => ⟨S16384x1x32, .f32⟩
  | .hbm, ⟨17, _⟩ => ⟨S16384x8x32, .f32⟩
  | .hbm, ⟨18, _⟩ => ⟨S16384x8x128, .f32⟩
  | .hbm, ⟨19, _⟩ => ⟨S16384x1024, .f32⟩
  | .hbm, ⟨20, _⟩ => ⟨S16384x1024, .bf16⟩
  | .hbm, ⟨21, _⟩ => ⟨S_, .f32⟩
  | .hbm, ⟨22, _⟩ => ⟨S16384x8x1, .f32⟩
  | .hbm, ⟨23, _⟩ => ⟨S_, .f32⟩
  | .hbm, ⟨24, _⟩ => ⟨S16384x8x63, .f32⟩
  | .hbm, ⟨25, _⟩ => ⟨S16384x8x128, .f32⟩
  | .hbm, ⟨26, _⟩ => ⟨S64x256x1024, .f32⟩
  | .hbm, ⟨27, _⟩ => ⟨S64x1024x256, .f32⟩
  | .hbm, ⟨28, _⟩ => ⟨S64x1024x256, .bf16⟩
  | .hbm, ⟨29, _⟩ => ⟨S16384x1024, .bf16⟩
  | .hbm, ⟨30, _⟩ => ⟨S16384x8x128, .bf16⟩
  | .hbm, ⟨31, _⟩ => ⟨S16384x8x64, .bf16⟩
  | .local _ .vmem, ⟨0, _⟩ => ⟨S512x512, .bf16⟩
  | .local _ .vmem, ⟨1, _⟩ => ⟨S512x512, .bf16⟩
  | .local _ .vmem, ⟨2, _⟩ => ⟨S16384x512, .bf16⟩
  | .local _ .vmem, ⟨3, _⟩ => ⟨S64x512x256, .bf16⟩
  | .local _ .vmem, ⟨4, _⟩ => ⟨S512x512, .bf16⟩
  | .local _ .vmem, ⟨5, _⟩ => ⟨S512x512, .bf16⟩
  | .local _ .vmem, ⟨6, _⟩ => ⟨S2x4x256x512, .f32⟩
  | .local _ .vmem, ⟨7, _⟩ => ⟨S2x4x256x512, .bf16⟩
  | .local _ .vmem, ⟨8, _⟩ => ⟨S4x1x512, .f32⟩
  | .local _ .vmem, ⟨9, _⟩ => ⟨S2x4x1x512, .f32⟩
  | .local _ .vmem, ⟨10, _⟩ => ⟨S4x128x512, .f32⟩
  | _, _ => ⟨S16384x8x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 32], ![false, false]⟩

def k0_mult1 : BitVec 32 :=
  let c0_i32 : BitVec 32 := 0#32
  c0_i32
@[reducible] def k0_t1_loop (i : grid0.Coords) : Scf.Loop 32 :=
  let c0_i32_42 : BitVec 32 := 0#32
  let arg1 : BitVec 32 := BitVec.ofNat 32 (i 1).val
  let v53 : BitVec 32 := Scalar.subi arg1 c0_i32_42
  let c1_i32 : BitVec 32 := 1#32
  let v55 : BitVec 32 := Scalar.divsi v53 c1_i32
  let v56 : BitVec 32 := Scalar.muli v55 c1_i32
  let v57 : BitVec 32 := Scalar.addi c0_i32_42 v56
  let c1_i32_44 : BitVec 32 := 1#32
  ⟨c0_i32_42, v57, c1_i32_44⟩
def k0_mult2 (i : grid0.Coords) (k0_t1 : Fin (k0_t1_loop i).trips) : BitVec 32 :=
  let c2_i32_1114 : BitVec 32 := 2#32
  let c0_i32_42 : BitVec 32 := 0#32
  let c1_i32_44 : BitVec 32 := 1#32
  let arg11 : BitVec 32 := Scf.iv c0_i32_42 c1_i32_44 k0_t1
  let v1670 : BitVec 32 := Scalar.muli c2_i32_1114 arg11
  let c1_i32_1115 : BitVec 32 := 1#32
  let v1671 : BitVec 32 := Scalar.addi v1670 c1_i32_1115
  let c256_i32_1116 : BitVec 32 := 256#32
  let v1672 : BitVec 32 := Scalar.muli v1671 c256_i32_1116
  v1672
def k0_off1 (i : grid0.Coords) (k0_t1 : Fin (k0_t1_loop i).trips) : Fin 2 → Nat :=
  let c2_i32_1114 : BitVec 32 := 2#32
  let c0_i32_42 : BitVec 32 := 0#32
  let c1_i32_44 : BitVec 32 := 1#32
  let arg11 : BitVec 32 := Scf.iv c0_i32_42 c1_i32_44 k0_t1
  let v1670 : BitVec 32 := Scalar.muli c2_i32_1114 arg11
  let c1_i32_1115 : BitVec 32 := 1#32
  let v1671 : BitVec 32 := Scalar.addi v1670 c1_i32_1115
  let c256_i32_1116 : BitVec 32 := 256#32
  let v1672 : BitVec 32 := Scalar.muli v1671 c256_i32_1116
  let v1673 : BitVec 32 := v1672
  let v1674 : Index := Scalar.indexCast v1673
  let c0_1117 : Index := 0#32
  ![v1674.toNat, 0]
def k0_off2 (i : grid0.Coords) (k0_t1 : Fin (k0_t1_loop i).trips) : Fin 2 → Nat :=
  let c2_i32_1114 : BitVec 32 := 2#32
  let c0_i32_42 : BitVec 32 := 0#32
  let c1_i32_44 : BitVec 32 := 1#32
  let arg11 : BitVec 32 := Scf.iv c0_i32_42 c1_i32_44 k0_t1
  let v1670 : BitVec 32 := Scalar.muli c2_i32_1114 arg11
  let c1_i32_1115 : BitVec 32 := 1#32
  let v1671 : BitVec 32 := Scalar.addi v1670 c1_i32_1115
  let c256_i32_1116 : BitVec 32 := 256#32
  let v1672 : BitVec 32 := Scalar.muli v1671 c256_i32_1116
  let v1673 : BitVec 32 := v1672
  let v1681 : Index := Scalar.indexCast v1673
  let c128_1123 : Index := 128#32
  ![v1681.toNat, 128]
def k0_off3 (i : grid0.Coords) (k0_t1 : Fin (k0_t1_loop i).trips) : Fin 2 → Nat :=
  let c2_i32_1114 : BitVec 32 := 2#32
  let c0_i32_42 : BitVec 32 := 0#32
  let c1_i32_44 : BitVec 32 := 1#32
  let arg11 : BitVec 32 := Scf.iv c0_i32_42 c1_i32_44 k0_t1
  let v1670 : BitVec 32 := Scalar.muli c2_i32_1114 arg11
  let c1_i32_1115 : BitVec 32 := 1#32
  let v1671 : BitVec 32 := Scalar.addi v1670 c1_i32_1115
  let c256_i32_1116 : BitVec 32 := 256#32
  let v1672 : BitVec 32 := Scalar.muli v1671 c256_i32_1116
  let v1673 : BitVec 32 := v1672
  let v1688 : Index := Scalar.indexCast v1673
  let c256_1129 : Index := 256#32
  ![v1688.toNat, 256]
def k0_off4 (i : grid0.Coords) (k0_t1 : Fin (k0_t1_loop i).trips) : Fin 2 → Nat :=
  let c2_i32_1114 : BitVec 32 := 2#32
  let c0_i32_42 : BitVec 32 := 0#32
  let c1_i32_44 : BitVec 32 := 1#32
  let arg11 : BitVec 32 := Scf.iv c0_i32_42 c1_i32_44 k0_t1
  let v1670 : BitVec 32 := Scalar.muli c2_i32_1114 arg11
  let c1_i32_1115 : BitVec 32 := 1#32
  let v1671 : BitVec 32 := Scalar.addi v1670 c1_i32_1115
  let c256_i32_1116 : BitVec 32 := 256#32
  let v1672 : BitVec 32 := Scalar.muli v1671 c256_i32_1116
  let v1673 : BitVec 32 := v1672
  let v1695 : Index := Scalar.indexCast v1673
  let c384_1135 : Index := 384#32
  ![v1695.toNat, 384]
def k0_off5 (i : grid0.Coords) (k0_t1 : Fin (k0_t1_loop i).trips) : Fin 3 → Nat :=
  let c2_i32_1114 : BitVec 32 := 2#32
  let c0_i32_42 : BitVec 32 := 0#32
  let c1_i32_44 : BitVec 32 := 1#32
  let arg11 : BitVec 32 := Scf.iv c0_i32_42 c1_i32_44 k0_t1
  let v1670 : BitVec 32 := Scalar.muli c2_i32_1114 arg11
  let c1_i32_1141 : BitVec 32 := 1#32
  let v1702 : BitVec 32 := Scalar.subi v1670 c1_i32_1141
  let c0_i32_1142 : BitVec 32 := 0#32
  let v1703 : BitVec 32 := Scalar.maxsi v1702 c0_i32_1142
  let v1710 : Index := Scalar.indexCast v1703
  let c0_1150 : Index := 0#32
  let c0_1151 : Index := 0#32
  ![v1710.toNat, 0, 0]
def k0_off6 (i : grid0.Coords) (k0_t1 : Fin (k0_t1_loop i).trips) : Fin 3 → Nat :=
  let c2_i32_1114 : BitVec 32 := 2#32
  let c0_i32_42 : BitVec 32 := 0#32
  let c1_i32_44 : BitVec 32 := 1#32
  let arg11 : BitVec 32 := Scf.iv c0_i32_42 c1_i32_44 k0_t1
  let v1670 : BitVec 32 := Scalar.muli c2_i32_1114 arg11
  let c1_i32_1141 : BitVec 32 := 1#32
  let v1702 : BitVec 32 := Scalar.subi v1670 c1_i32_1141
  let c0_i32_1142 : BitVec 32 := 0#32
  let v1703 : BitVec 32 := Scalar.maxsi v1702 c0_i32_1142
  let v1726 : Index := Scalar.indexCast v1703
  let c128_1167 : Index := 128#32
  let c0_1168 : Index := 0#32
  ![v1726.toNat, 128, 0]
def k0_off7 (i : grid0.Coords) (k0_t1 : Fin (k0_t1_loop i).trips) : Fin 3 → Nat :=
  let c2_i32_1114 : BitVec 32 := 2#32
  let c0_i32_42 : BitVec 32 := 0#32
  let c1_i32_44 : BitVec 32 := 1#32
  let arg11 : BitVec 32 := Scf.iv c0_i32_42 c1_i32_44 k0_t1
  let v1670 : BitVec 32 := Scalar.muli c2_i32_1114 arg11
  let c1_i32_1141 : BitVec 32 := 1#32
  let v1702 : BitVec 32 := Scalar.subi v1670 c1_i32_1141
  let c0_i32_1142 : BitVec 32 := 0#32
  let v1703 : BitVec 32 := Scalar.maxsi v1702 c0_i32_1142
  let v1742 : Index := Scalar.indexCast v1703
  let c256_1184 : Index := 256#32
  let c0_1185 : Index := 0#32
  ![v1742.toNat, 256, 0]
def k0_off8 (i : grid0.Coords) (k0_t1 : Fin (k0_t1_loop i).trips) : Fin 3 → Nat :=
  let c2_i32_1114 : BitVec 32 := 2#32
  let c0_i32_42 : BitVec 32 := 0#32
  let c1_i32_44 : BitVec 32 := 1#32
  let arg11 : BitVec 32 := Scf.iv c0_i32_42 c1_i32_44 k0_t1
  let v1670 : BitVec 32 := Scalar.muli c2_i32_1114 arg11
  let c1_i32_1141 : BitVec 32 := 1#32
  let v1702 : BitVec 32 := Scalar.subi v1670 c1_i32_1141
  let c0_i32_1142 : BitVec 32 := 0#32
  let v1703 : BitVec 32 := Scalar.maxsi v1702 c0_i32_1142
  let v1758 : Index := Scalar.indexCast v1703
  let c384_1201 : Index := 384#32
  let c0_1202 : Index := 0#32
  ![v1758.toNat, 384, 0]
def k0_mult3 (i : grid0.Coords) (k0_t1 : Fin (k0_t1_loop i).trips) : BitVec 32 :=
  let c2_i32_1459 : BitVec 32 := 2#32
  let c0_i32_42 : BitVec 32 := 0#32
  let c1_i32_44 : BitVec 32 := 1#32
  let arg11 : BitVec 32 := Scf.iv c0_i32_42 c1_i32_44 k0_t1
  let v2024 : BitVec 32 := Scalar.muli c2_i32_1459 arg11
  let c1_i32_1460 : BitVec 32 := 1#32
  let v2025 : BitVec 32 := Scalar.addi v2024 c1_i32_1460
  let c1_i32_1461 : BitVec 32 := 1#32
  let v2026 : BitVec 32 := Scalar.addi v2025 c1_i32_1461
  let c256_i32_1462 : BitVec 32 := 256#32
  let v2027 : BitVec 32 := Scalar.muli v2026 c256_i32_1462
  v2027
def k0_off9 (i : grid0.Coords) (k0_t1 : Fin (k0_t1_loop i).trips) : Fin 2 → Nat :=
  let c2_i32_1459 : BitVec 32 := 2#32
  let c0_i32_42 : BitVec 32 := 0#32
  let c1_i32_44 : BitVec 32 := 1#32
  let arg11 : BitVec 32 := Scf.iv c0_i32_42 c1_i32_44 k0_t1
  let v2024 : BitVec 32 := Scalar.muli c2_i32_1459 arg11
  let c1_i32_1460 : BitVec 32 := 1#32
  let v2025 : BitVec 32 := Scalar.addi v2024 c1_i32_1460
  let c1_i32_1461 : BitVec 32 := 1#32
  let v2026 : BitVec 32 := Scalar.addi v2025 c1_i32_1461
  let c256_i32_1462 : BitVec 32 := 256#32
  let v2027 : BitVec 32 := Scalar.muli v2026 c256_i32_1462
  let v2028 : BitVec 32 := v2027
  let v2029 : Index := Scalar.indexCast v2028
  let c0_1463 : Index := 0#32
  ![v2029.toNat, 0]
def k0_off10 (i : grid0.Coords) (k0_t1 : Fin (k0_t1_loop i).trips) : Fin 2 → Nat :=
  let c2_i32_1459 : BitVec 32 := 2#32
  let c0_i32_42 : BitVec 32 := 0#32
  let c1_i32_44 : BitVec 32 := 1#32
  let arg11 : BitVec 32 := Scf.iv c0_i32_42 c1_i32_44 k0_t1
  let v2024 : BitVec 32 := Scalar.muli c2_i32_1459 arg11
  let c1_i32_1460 : BitVec 32 := 1#32
  let v2025 : BitVec 32 := Scalar.addi v2024 c1_i32_1460
  let c1_i32_1461 : BitVec 32 := 1#32
  let v2026 : BitVec 32 := Scalar.addi v2025 c1_i32_1461
  let c256_i32_1462 : BitVec 32 := 256#32
  let v2027 : BitVec 32 := Scalar.muli v2026 c256_i32_1462
  let v2028 : BitVec 32 := v2027
  let v2036 : Index := Scalar.indexCast v2028
  let c128_1469 : Index := 128#32
  ![v2036.toNat, 128]
def k0_off11 (i : grid0.Coords) (k0_t1 : Fin (k0_t1_loop i).trips) : Fin 2 → Nat :=
  let c2_i32_1459 : BitVec 32 := 2#32
  let c0_i32_42 : BitVec 32 := 0#32
  let c1_i32_44 : BitVec 32 := 1#32
  let arg11 : BitVec 32 := Scf.iv c0_i32_42 c1_i32_44 k0_t1
  let v2024 : BitVec 32 := Scalar.muli c2_i32_1459 arg11
  let c1_i32_1460 : BitVec 32 := 1#32
  let v2025 : BitVec 32 := Scalar.addi v2024 c1_i32_1460
  let c1_i32_1461 : BitVec 32 := 1#32
  let v2026 : BitVec 32 := Scalar.addi v2025 c1_i32_1461
  let c256_i32_1462 : BitVec 32 := 256#32
  let v2027 : BitVec 32 := Scalar.muli v2026 c256_i32_1462
  let v2028 : BitVec 32 := v2027
  let v2043 : Index := Scalar.indexCast v2028
  let c256_1475 : Index := 256#32
  ![v2043.toNat, 256]
def k0_off12 (i : grid0.Coords) (k0_t1 : Fin (k0_t1_loop i).trips) : Fin 2 → Nat :=
  let c2_i32_1459 : BitVec 32 := 2#32
  let c0_i32_42 : BitVec 32 := 0#32
  let c1_i32_44 : BitVec 32 := 1#32
  let arg11 : BitVec 32 := Scf.iv c0_i32_42 c1_i32_44 k0_t1
  let v2024 : BitVec 32 := Scalar.muli c2_i32_1459 arg11
  let c1_i32_1460 : BitVec 32 := 1#32
  let v2025 : BitVec 32 := Scalar.addi v2024 c1_i32_1460
  let c1_i32_1461 : BitVec 32 := 1#32
  let v2026 : BitVec 32 := Scalar.addi v2025 c1_i32_1461
  let c256_i32_1462 : BitVec 32 := 256#32
  let v2027 : BitVec 32 := Scalar.muli v2026 c256_i32_1462
  let v2028 : BitVec 32 := v2027
  let v2050 : Index := Scalar.indexCast v2028
  let c384_1481 : Index := 384#32
  ![v2050.toNat, 384]
def k0_off13 (i : grid0.Coords) (k0_t1 : Fin (k0_t1_loop i).trips) : Fin 3 → Nat :=
  let c2_i32_1459 : BitVec 32 := 2#32
  let c0_i32_42 : BitVec 32 := 0#32
  let c1_i32_44 : BitVec 32 := 1#32
  let arg11 : BitVec 32 := Scf.iv c0_i32_42 c1_i32_44 k0_t1
  let v2024 : BitVec 32 := Scalar.muli c2_i32_1459 arg11
  let c1_i32_1460 : BitVec 32 := 1#32
  let v2025 : BitVec 32 := Scalar.addi v2024 c1_i32_1460
  let c1_i32_1487 : BitVec 32 := 1#32
  let v2057 : BitVec 32 := Scalar.subi v2025 c1_i32_1487
  let c0_i32_1488 : BitVec 32 := 0#32
  let v2058 : BitVec 32 := Scalar.maxsi v2057 c0_i32_1488
  let v2065 : Index := Scalar.indexCast v2058
  let c0_1496 : Index := 0#32
  let c0_1497 : Index := 0#32
  ![v2065.toNat, 0, 0]
def k0_off14 (i : grid0.Coords) (k0_t1 : Fin (k0_t1_loop i).trips) : Fin 3 → Nat :=
  let c2_i32_1459 : BitVec 32 := 2#32
  let c0_i32_42 : BitVec 32 := 0#32
  let c1_i32_44 : BitVec 32 := 1#32
  let arg11 : BitVec 32 := Scf.iv c0_i32_42 c1_i32_44 k0_t1
  let v2024 : BitVec 32 := Scalar.muli c2_i32_1459 arg11
  let c1_i32_1460 : BitVec 32 := 1#32
  let v2025 : BitVec 32 := Scalar.addi v2024 c1_i32_1460
  let c1_i32_1487 : BitVec 32 := 1#32
  let v2057 : BitVec 32 := Scalar.subi v2025 c1_i32_1487
  let c0_i32_1488 : BitVec 32 := 0#32
  let v2058 : BitVec 32 := Scalar.maxsi v2057 c0_i32_1488
  let v2081 : Index := Scalar.indexCast v2058
  let c128_1513 : Index := 128#32
  let c0_1514 : Index := 0#32
  ![v2081.toNat, 128, 0]
def k0_off15 (i : grid0.Coords) (k0_t1 : Fin (k0_t1_loop i).trips) : Fin 3 → Nat :=
  let c2_i32_1459 : BitVec 32 := 2#32
  let c0_i32_42 : BitVec 32 := 0#32
  let c1_i32_44 : BitVec 32 := 1#32
  let arg11 : BitVec 32 := Scf.iv c0_i32_42 c1_i32_44 k0_t1
  let v2024 : BitVec 32 := Scalar.muli c2_i32_1459 arg11
  let c1_i32_1460 : BitVec 32 := 1#32
  let v2025 : BitVec 32 := Scalar.addi v2024 c1_i32_1460
  let c1_i32_1487 : BitVec 32 := 1#32
  let v2057 : BitVec 32 := Scalar.subi v2025 c1_i32_1487
  let c0_i32_1488 : BitVec 32 := 0#32
  let v2058 : BitVec 32 := Scalar.maxsi v2057 c0_i32_1488
  let v2097 : Index := Scalar.indexCast v2058
  let c256_1530 : Index := 256#32
  let c0_1531 : Index := 0#32
  ![v2097.toNat, 256, 0]
def k0_off16 (i : grid0.Coords) (k0_t1 : Fin (k0_t1_loop i).trips) : Fin 3 → Nat :=
  let c2_i32_1459 : BitVec 32 := 2#32
  let c0_i32_42 : BitVec 32 := 0#32
  let c1_i32_44 : BitVec 32 := 1#32
  let arg11 : BitVec 32 := Scf.iv c0_i32_42 c1_i32_44 k0_t1
  let v2024 : BitVec 32 := Scalar.muli c2_i32_1459 arg11
  let c1_i32_1460 : BitVec 32 := 1#32
  let v2025 : BitVec 32 := Scalar.addi v2024 c1_i32_1460
  let c1_i32_1487 : BitVec 32 := 1#32
  let v2057 : BitVec 32 := Scalar.subi v2025 c1_i32_1487
  let c0_i32_1488 : BitVec 32 := 0#32
  let v2058 : BitVec 32 := Scalar.maxsi v2057 c0_i32_1488
  let v2113 : Index := Scalar.indexCast v2058
  let c384_1547 : Index := 384#32
  let c0_1548 : Index := 0#32
  ![v2113.toNat, 384, 0]
@[reducible] def k0_t2_loop (i : grid0.Coords) : Scf.Loop 32 :=
  let c0_i32_42 : BitVec 32 := 0#32
  let arg1 : BitVec 32 := BitVec.ofNat 32 (i 1).val
  let v53 : BitVec 32 := Scalar.subi arg1 c0_i32_42
  let c1_i32 : BitVec 32 := 1#32
  let v55 : BitVec 32 := Scalar.divsi v53 c1_i32
  let v56 : BitVec 32 := Scalar.muli v55 c1_i32
  let v57 : BitVec 32 := Scalar.addi c0_i32_42 v56
  let v54 : BitVec 32 := Scalar.addi c0_i32_42 v53
  let c1_i32_45 : BitVec 32 := 1#32
  ⟨v57, v54, c1_i32_45⟩
def k0_mult4 (i : grid0.Coords) (k0_t2 : Fin (k0_t2_loop i).trips) : BitVec 32 :=
  let c2_i32_1114 : BitVec 32 := 2#32
  let c0_i32_42 : BitVec 32 := 0#32
  let arg1 : BitVec 32 := BitVec.ofNat 32 (i 1).val
  let v53 : BitVec 32 := Scalar.subi arg1 c0_i32_42
  let c1_i32 : BitVec 32 := 1#32
  let v55 : BitVec 32 := Scalar.divsi v53 c1_i32
  let v56 : BitVec 32 := Scalar.muli v55 c1_i32
  let v57 : BitVec 32 := Scalar.addi c0_i32_42 v56
  let c1_i32_45 : BitVec 32 := 1#32
  let arg11 : BitVec 32 := Scf.iv v57 c1_i32_45 k0_t2
  let v1670 : BitVec 32 := Scalar.muli c2_i32_1114 arg11
  let c1_i32_1115 : BitVec 32 := 1#32
  let v1671 : BitVec 32 := Scalar.addi v1670 c1_i32_1115
  let c256_i32_1116 : BitVec 32 := 256#32
  let v1672 : BitVec 32 := Scalar.muli v1671 c256_i32_1116
  v1672
def k0_off17 (i : grid0.Coords) (k0_t2 : Fin (k0_t2_loop i).trips) : Fin 2 → Nat :=
  let c2_i32_1114 : BitVec 32 := 2#32
  let c0_i32_42 : BitVec 32 := 0#32
  let arg1 : BitVec 32 := BitVec.ofNat 32 (i 1).val
  let v53 : BitVec 32 := Scalar.subi arg1 c0_i32_42
  let c1_i32 : BitVec 32 := 1#32
  let v55 : BitVec 32 := Scalar.divsi v53 c1_i32
  let v56 : BitVec 32 := Scalar.muli v55 c1_i32
  let v57 : BitVec 32 := Scalar.addi c0_i32_42 v56
  let c1_i32_45 : BitVec 32 := 1#32
  let arg11 : BitVec 32 := Scf.iv v57 c1_i32_45 k0_t2
  let v1670 : BitVec 32 := Scalar.muli c2_i32_1114 arg11
  let c1_i32_1115 : BitVec 32 := 1#32
  let v1671 : BitVec 32 := Scalar.addi v1670 c1_i32_1115
  let c256_i32_1116 : BitVec 32 := 256#32
  let v1672 : BitVec 32 := Scalar.muli v1671 c256_i32_1116
  let v1673 : BitVec 32 := v1672
  let v1674 : Index := Scalar.indexCast v1673
  let c0_1117 : Index := 0#32
  ![v1674.toNat, 0]
def k0_off18 (i : grid0.Coords) (k0_t2 : Fin (k0_t2_loop i).trips) : Fin 2 → Nat :=
  let c2_i32_1114 : BitVec 32 := 2#32
  let c0_i32_42 : BitVec 32 := 0#32
  let arg1 : BitVec 32 := BitVec.ofNat 32 (i 1).val
  let v53 : BitVec 32 := Scalar.subi arg1 c0_i32_42
  let c1_i32 : BitVec 32 := 1#32
  let v55 : BitVec 32 := Scalar.divsi v53 c1_i32
  let v56 : BitVec 32 := Scalar.muli v55 c1_i32
  let v57 : BitVec 32 := Scalar.addi c0_i32_42 v56
  let c1_i32_45 : BitVec 32 := 1#32
  let arg11 : BitVec 32 := Scf.iv v57 c1_i32_45 k0_t2
  let v1670 : BitVec 32 := Scalar.muli c2_i32_1114 arg11
  let c1_i32_1115 : BitVec 32 := 1#32
  let v1671 : BitVec 32 := Scalar.addi v1670 c1_i32_1115
  let c256_i32_1116 : BitVec 32 := 256#32
  let v1672 : BitVec 32 := Scalar.muli v1671 c256_i32_1116
  let v1673 : BitVec 32 := v1672
  let v1681 : Index := Scalar.indexCast v1673
  let c128_1123 : Index := 128#32
  ![v1681.toNat, 128]
def k0_off19 (i : grid0.Coords) (k0_t2 : Fin (k0_t2_loop i).trips) : Fin 2 → Nat :=
  let c2_i32_1114 : BitVec 32 := 2#32
  let c0_i32_42 : BitVec 32 := 0#32
  let arg1 : BitVec 32 := BitVec.ofNat 32 (i 1).val
  let v53 : BitVec 32 := Scalar.subi arg1 c0_i32_42
  let c1_i32 : BitVec 32 := 1#32
  let v55 : BitVec 32 := Scalar.divsi v53 c1_i32
  let v56 : BitVec 32 := Scalar.muli v55 c1_i32
  let v57 : BitVec 32 := Scalar.addi c0_i32_42 v56
  let c1_i32_45 : BitVec 32 := 1#32
  let arg11 : BitVec 32 := Scf.iv v57 c1_i32_45 k0_t2
  let v1670 : BitVec 32 := Scalar.muli c2_i32_1114 arg11
  let c1_i32_1115 : BitVec 32 := 1#32
  let v1671 : BitVec 32 := Scalar.addi v1670 c1_i32_1115
  let c256_i32_1116 : BitVec 32 := 256#32
  let v1672 : BitVec 32 := Scalar.muli v1671 c256_i32_1116
  let v1673 : BitVec 32 := v1672
  let v1688 : Index := Scalar.indexCast v1673
  let c256_1129 : Index := 256#32
  ![v1688.toNat, 256]
def k0_off20 (i : grid0.Coords) (k0_t2 : Fin (k0_t2_loop i).trips) : Fin 2 → Nat :=
  let c2_i32_1114 : BitVec 32 := 2#32
  let c0_i32_42 : BitVec 32 := 0#32
  let arg1 : BitVec 32 := BitVec.ofNat 32 (i 1).val
  let v53 : BitVec 32 := Scalar.subi arg1 c0_i32_42
  let c1_i32 : BitVec 32 := 1#32
  let v55 : BitVec 32 := Scalar.divsi v53 c1_i32
  let v56 : BitVec 32 := Scalar.muli v55 c1_i32
  let v57 : BitVec 32 := Scalar.addi c0_i32_42 v56
  let c1_i32_45 : BitVec 32 := 1#32
  let arg11 : BitVec 32 := Scf.iv v57 c1_i32_45 k0_t2
  let v1670 : BitVec 32 := Scalar.muli c2_i32_1114 arg11
  let c1_i32_1115 : BitVec 32 := 1#32
  let v1671 : BitVec 32 := Scalar.addi v1670 c1_i32_1115
  let c256_i32_1116 : BitVec 32 := 256#32
  let v1672 : BitVec 32 := Scalar.muli v1671 c256_i32_1116
  let v1673 : BitVec 32 := v1672
  let v1695 : Index := Scalar.indexCast v1673
  let c384_1135 : Index := 384#32
  ![v1695.toNat, 384]
def k0_off21 (i : grid0.Coords) (k0_t2 : Fin (k0_t2_loop i).trips) : Fin 3 → Nat :=
  let c2_i32_1114 : BitVec 32 := 2#32
  let c0_i32_42 : BitVec 32 := 0#32
  let arg1 : BitVec 32 := BitVec.ofNat 32 (i 1).val
  let v53 : BitVec 32 := Scalar.subi arg1 c0_i32_42
  let c1_i32 : BitVec 32 := 1#32
  let v55 : BitVec 32 := Scalar.divsi v53 c1_i32
  let v56 : BitVec 32 := Scalar.muli v55 c1_i32
  let v57 : BitVec 32 := Scalar.addi c0_i32_42 v56
  let c1_i32_45 : BitVec 32 := 1#32
  let arg11 : BitVec 32 := Scf.iv v57 c1_i32_45 k0_t2
  let v1670 : BitVec 32 := Scalar.muli c2_i32_1114 arg11
  let c1_i32_1141 : BitVec 32 := 1#32
  let v1702 : BitVec 32 := Scalar.subi v1670 c1_i32_1141
  let c0_i32_1142 : BitVec 32 := 0#32
  let v1703 : BitVec 32 := Scalar.maxsi v1702 c0_i32_1142
  let v1710 : Index := Scalar.indexCast v1703
  let c0_1150 : Index := 0#32
  let c0_1151 : Index := 0#32
  ![v1710.toNat, 0, 0]
def k0_off22 (i : grid0.Coords) (k0_t2 : Fin (k0_t2_loop i).trips) : Fin 3 → Nat :=
  let c2_i32_1114 : BitVec 32 := 2#32
  let c0_i32_42 : BitVec 32 := 0#32
  let arg1 : BitVec 32 := BitVec.ofNat 32 (i 1).val
  let v53 : BitVec 32 := Scalar.subi arg1 c0_i32_42
  let c1_i32 : BitVec 32 := 1#32
  let v55 : BitVec 32 := Scalar.divsi v53 c1_i32
  let v56 : BitVec 32 := Scalar.muli v55 c1_i32
  let v57 : BitVec 32 := Scalar.addi c0_i32_42 v56
  let c1_i32_45 : BitVec 32 := 1#32
  let arg11 : BitVec 32 := Scf.iv v57 c1_i32_45 k0_t2
  let v1670 : BitVec 32 := Scalar.muli c2_i32_1114 arg11
  let c1_i32_1141 : BitVec 32 := 1#32
  let v1702 : BitVec 32 := Scalar.subi v1670 c1_i32_1141
  let c0_i32_1142 : BitVec 32 := 0#32
  let v1703 : BitVec 32 := Scalar.maxsi v1702 c0_i32_1142
  let v1726 : Index := Scalar.indexCast v1703
  let c128_1167 : Index := 128#32
  let c0_1168 : Index := 0#32
  ![v1726.toNat, 128, 0]
def k0_off23 (i : grid0.Coords) (k0_t2 : Fin (k0_t2_loop i).trips) : Fin 3 → Nat :=
  let c2_i32_1114 : BitVec 32 := 2#32
  let c0_i32_42 : BitVec 32 := 0#32
  let arg1 : BitVec 32 := BitVec.ofNat 32 (i 1).val
  let v53 : BitVec 32 := Scalar.subi arg1 c0_i32_42
  let c1_i32 : BitVec 32 := 1#32
  let v55 : BitVec 32 := Scalar.divsi v53 c1_i32
  let v56 : BitVec 32 := Scalar.muli v55 c1_i32
  let v57 : BitVec 32 := Scalar.addi c0_i32_42 v56
  let c1_i32_45 : BitVec 32 := 1#32
  let arg11 : BitVec 32 := Scf.iv v57 c1_i32_45 k0_t2
  let v1670 : BitVec 32 := Scalar.muli c2_i32_1114 arg11
  let c1_i32_1141 : BitVec 32 := 1#32
  let v1702 : BitVec 32 := Scalar.subi v1670 c1_i32_1141
  let c0_i32_1142 : BitVec 32 := 0#32
  let v1703 : BitVec 32 := Scalar.maxsi v1702 c0_i32_1142
  let v1742 : Index := Scalar.indexCast v1703
  let c256_1184 : Index := 256#32
  let c0_1185 : Index := 0#32
  ![v1742.toNat, 256, 0]
def k0_off24 (i : grid0.Coords) (k0_t2 : Fin (k0_t2_loop i).trips) : Fin 3 → Nat :=
  let c2_i32_1114 : BitVec 32 := 2#32
  let c0_i32_42 : BitVec 32 := 0#32
  let arg1 : BitVec 32 := BitVec.ofNat 32 (i 1).val
  let v53 : BitVec 32 := Scalar.subi arg1 c0_i32_42
  let c1_i32 : BitVec 32 := 1#32
  let v55 : BitVec 32 := Scalar.divsi v53 c1_i32
  let v56 : BitVec 32 := Scalar.muli v55 c1_i32
  let v57 : BitVec 32 := Scalar.addi c0_i32_42 v56
  let c1_i32_45 : BitVec 32 := 1#32
  let arg11 : BitVec 32 := Scf.iv v57 c1_i32_45 k0_t2
  let v1670 : BitVec 32 := Scalar.muli c2_i32_1114 arg11
  let c1_i32_1141 : BitVec 32 := 1#32
  let v1702 : BitVec 32 := Scalar.subi v1670 c1_i32_1141
  let c0_i32_1142 : BitVec 32 := 0#32
  let v1703 : BitVec 32 := Scalar.maxsi v1702 c0_i32_1142
  let v1758 : Index := Scalar.indexCast v1703
  let c384_1201 : Index := 384#32
  let c0_1202 : Index := 0#32
  ![v1758.toNat, 384, 0]
def k0_mult5 (i : grid0.Coords) (k0_t2 : Fin (k0_t2_loop i).trips) : BitVec 32 :=
  let c2_i32_1459 : BitVec 32 := 2#32
  let c0_i32_42 : BitVec 32 := 0#32
  let arg1 : BitVec 32 := BitVec.ofNat 32 (i 1).val
  let v53 : BitVec 32 := Scalar.subi arg1 c0_i32_42
  let c1_i32 : BitVec 32 := 1#32
  let v55 : BitVec 32 := Scalar.divsi v53 c1_i32
  let v56 : BitVec 32 := Scalar.muli v55 c1_i32
  let v57 : BitVec 32 := Scalar.addi c0_i32_42 v56
  let c1_i32_45 : BitVec 32 := 1#32
  let arg11 : BitVec 32 := Scf.iv v57 c1_i32_45 k0_t2
  let v2024 : BitVec 32 := Scalar.muli c2_i32_1459 arg11
  let c1_i32_1460 : BitVec 32 := 1#32
  let v2025 : BitVec 32 := Scalar.addi v2024 c1_i32_1460
  let c1_i32_1461 : BitVec 32 := 1#32
  let v2026 : BitVec 32 := Scalar.addi v2025 c1_i32_1461
  let c256_i32_1462 : BitVec 32 := 256#32
  let v2027 : BitVec 32 := Scalar.muli v2026 c256_i32_1462
  v2027
def k0_off25 (i : grid0.Coords) (k0_t2 : Fin (k0_t2_loop i).trips) : Fin 2 → Nat :=
  let c2_i32_1459 : BitVec 32 := 2#32
  let c0_i32_42 : BitVec 32 := 0#32
  let arg1 : BitVec 32 := BitVec.ofNat 32 (i 1).val
  let v53 : BitVec 32 := Scalar.subi arg1 c0_i32_42
  let c1_i32 : BitVec 32 := 1#32
  let v55 : BitVec 32 := Scalar.divsi v53 c1_i32
  let v56 : BitVec 32 := Scalar.muli v55 c1_i32
  let v57 : BitVec 32 := Scalar.addi c0_i32_42 v56
  let c1_i32_45 : BitVec 32 := 1#32
  let arg11 : BitVec 32 := Scf.iv v57 c1_i32_45 k0_t2
  let v2024 : BitVec 32 := Scalar.muli c2_i32_1459 arg11
  let c1_i32_1460 : BitVec 32 := 1#32
  let v2025 : BitVec 32 := Scalar.addi v2024 c1_i32_1460
  let c1_i32_1461 : BitVec 32 := 1#32
  let v2026 : BitVec 32 := Scalar.addi v2025 c1_i32_1461
  let c256_i32_1462 : BitVec 32 := 256#32
  let v2027 : BitVec 32 := Scalar.muli v2026 c256_i32_1462
  let v2028 : BitVec 32 := v2027
  let v2029 : Index := Scalar.indexCast v2028
  let c0_1463 : Index := 0#32
  ![v2029.toNat, 0]
def k0_off26 (i : grid0.Coords) (k0_t2 : Fin (k0_t2_loop i).trips) : Fin 2 → Nat :=
  let c2_i32_1459 : BitVec 32 := 2#32
  let c0_i32_42 : BitVec 32 := 0#32
  let arg1 : BitVec 32 := BitVec.ofNat 32 (i 1).val
  let v53 : BitVec 32 := Scalar.subi arg1 c0_i32_42
  let c1_i32 : BitVec 32 := 1#32
  let v55 : BitVec 32 := Scalar.divsi v53 c1_i32
  let v56 : BitVec 32 := Scalar.muli v55 c1_i32
  let v57 : BitVec 32 := Scalar.addi c0_i32_42 v56
  let c1_i32_45 : BitVec 32 := 1#32
  let arg11 : BitVec 32 := Scf.iv v57 c1_i32_45 k0_t2
  let v2024 : BitVec 32 := Scalar.muli c2_i32_1459 arg11
  let c1_i32_1460 : BitVec 32 := 1#32
  let v2025 : BitVec 32 := Scalar.addi v2024 c1_i32_1460
  let c1_i32_1461 : BitVec 32 := 1#32
  let v2026 : BitVec 32 := Scalar.addi v2025 c1_i32_1461
  let c256_i32_1462 : BitVec 32 := 256#32
  let v2027 : BitVec 32 := Scalar.muli v2026 c256_i32_1462
  let v2028 : BitVec 32 := v2027
  let v2036 : Index := Scalar.indexCast v2028
  let c128_1469 : Index := 128#32
  ![v2036.toNat, 128]
def k0_off27 (i : grid0.Coords) (k0_t2 : Fin (k0_t2_loop i).trips) : Fin 2 → Nat :=
  let c2_i32_1459 : BitVec 32 := 2#32
  let c0_i32_42 : BitVec 32 := 0#32
  let arg1 : BitVec 32 := BitVec.ofNat 32 (i 1).val
  let v53 : BitVec 32 := Scalar.subi arg1 c0_i32_42
  let c1_i32 : BitVec 32 := 1#32
  let v55 : BitVec 32 := Scalar.divsi v53 c1_i32
  let v56 : BitVec 32 := Scalar.muli v55 c1_i32
  let v57 : BitVec 32 := Scalar.addi c0_i32_42 v56
  let c1_i32_45 : BitVec 32 := 1#32
  let arg11 : BitVec 32 := Scf.iv v57 c1_i32_45 k0_t2
  let v2024 : BitVec 32 := Scalar.muli c2_i32_1459 arg11
  let c1_i32_1460 : BitVec 32 := 1#32
  let v2025 : BitVec 32 := Scalar.addi v2024 c1_i32_1460
  let c1_i32_1461 : BitVec 32 := 1#32
  let v2026 : BitVec 32 := Scalar.addi v2025 c1_i32_1461
  let c256_i32_1462 : BitVec 32 := 256#32
  let v2027 : BitVec 32 := Scalar.muli v2026 c256_i32_1462
  let v2028 : BitVec 32 := v2027
  let v2043 : Index := Scalar.indexCast v2028
  let c256_1475 : Index := 256#32
  ![v2043.toNat, 256]
def k0_off28 (i : grid0.Coords) (k0_t2 : Fin (k0_t2_loop i).trips) : Fin 2 → Nat :=
  let c2_i32_1459 : BitVec 32 := 2#32
  let c0_i32_42 : BitVec 32 := 0#32
  let arg1 : BitVec 32 := BitVec.ofNat 32 (i 1).val
  let v53 : BitVec 32 := Scalar.subi arg1 c0_i32_42
  let c1_i32 : BitVec 32 := 1#32
  let v55 : BitVec 32 := Scalar.divsi v53 c1_i32
  let v56 : BitVec 32 := Scalar.muli v55 c1_i32
  let v57 : BitVec 32 := Scalar.addi c0_i32_42 v56
  let c1_i32_45 : BitVec 32 := 1#32
  let arg11 : BitVec 32 := Scf.iv v57 c1_i32_45 k0_t2
  let v2024 : BitVec 32 := Scalar.muli c2_i32_1459 arg11
  let c1_i32_1460 : BitVec 32 := 1#32
  let v2025 : BitVec 32 := Scalar.addi v2024 c1_i32_1460
  let c1_i32_1461 : BitVec 32 := 1#32
  let v2026 : BitVec 32 := Scalar.addi v2025 c1_i32_1461
  let c256_i32_1462 : BitVec 32 := 256#32
  let v2027 : BitVec 32 := Scalar.muli v2026 c256_i32_1462
  let v2028 : BitVec 32 := v2027
  let v2050 : Index := Scalar.indexCast v2028
  let c384_1481 : Index := 384#32
  ![v2050.toNat, 384]
def k0_off29 (i : grid0.Coords) (k0_t2 : Fin (k0_t2_loop i).trips) : Fin 3 → Nat :=
  let c2_i32_1459 : BitVec 32 := 2#32
  let c0_i32_42 : BitVec 32 := 0#32
  let arg1 : BitVec 32 := BitVec.ofNat 32 (i 1).val
  let v53 : BitVec 32 := Scalar.subi arg1 c0_i32_42
  let c1_i32 : BitVec 32 := 1#32
  let v55 : BitVec 32 := Scalar.divsi v53 c1_i32
  let v56 : BitVec 32 := Scalar.muli v55 c1_i32
  let v57 : BitVec 32 := Scalar.addi c0_i32_42 v56
  let c1_i32_45 : BitVec 32 := 1#32
  let arg11 : BitVec 32 := Scf.iv v57 c1_i32_45 k0_t2
  let v2024 : BitVec 32 := Scalar.muli c2_i32_1459 arg11
  let c1_i32_1460 : BitVec 32 := 1#32
  let v2025 : BitVec 32 := Scalar.addi v2024 c1_i32_1460
  let c1_i32_1487 : BitVec 32 := 1#32
  let v2057 : BitVec 32 := Scalar.subi v2025 c1_i32_1487
  let c0_i32_1488 : BitVec 32 := 0#32
  let v2058 : BitVec 32 := Scalar.maxsi v2057 c0_i32_1488
  let v2065 : Index := Scalar.indexCast v2058
  let c0_1496 : Index := 0#32
  let c0_1497 : Index := 0#32
  ![v2065.toNat, 0, 0]
def k0_off30 (i : grid0.Coords) (k0_t2 : Fin (k0_t2_loop i).trips) : Fin 3 → Nat :=
  let c2_i32_1459 : BitVec 32 := 2#32
  let c0_i32_42 : BitVec 32 := 0#32
  let arg1 : BitVec 32 := BitVec.ofNat 32 (i 1).val
  let v53 : BitVec 32 := Scalar.subi arg1 c0_i32_42
  let c1_i32 : BitVec 32 := 1#32
  let v55 : BitVec 32 := Scalar.divsi v53 c1_i32
  let v56 : BitVec 32 := Scalar.muli v55 c1_i32
  let v57 : BitVec 32 := Scalar.addi c0_i32_42 v56
  let c1_i32_45 : BitVec 32 := 1#32
  let arg11 : BitVec 32 := Scf.iv v57 c1_i32_45 k0_t2
  let v2024 : BitVec 32 := Scalar.muli c2_i32_1459 arg11
  let c1_i32_1460 : BitVec 32 := 1#32
  let v2025 : BitVec 32 := Scalar.addi v2024 c1_i32_1460
  let c1_i32_1487 : BitVec 32 := 1#32
  let v2057 : BitVec 32 := Scalar.subi v2025 c1_i32_1487
  let c0_i32_1488 : BitVec 32 := 0#32
  let v2058 : BitVec 32 := Scalar.maxsi v2057 c0_i32_1488
  let v2081 : Index := Scalar.indexCast v2058
  let c128_1513 : Index := 128#32
  let c0_1514 : Index := 0#32
  ![v2081.toNat, 128, 0]
def k0_off31 (i : grid0.Coords) (k0_t2 : Fin (k0_t2_loop i).trips) : Fin 3 → Nat :=
  let c2_i32_1459 : BitVec 32 := 2#32
  let c0_i32_42 : BitVec 32 := 0#32
  let arg1 : BitVec 32 := BitVec.ofNat 32 (i 1).val
  let v53 : BitVec 32 := Scalar.subi arg1 c0_i32_42
  let c1_i32 : BitVec 32 := 1#32
  let v55 : BitVec 32 := Scalar.divsi v53 c1_i32
  let v56 : BitVec 32 := Scalar.muli v55 c1_i32
  let v57 : BitVec 32 := Scalar.addi c0_i32_42 v56
  let c1_i32_45 : BitVec 32 := 1#32
  let arg11 : BitVec 32 := Scf.iv v57 c1_i32_45 k0_t2
  let v2024 : BitVec 32 := Scalar.muli c2_i32_1459 arg11
  let c1_i32_1460 : BitVec 32 := 1#32
  let v2025 : BitVec 32 := Scalar.addi v2024 c1_i32_1460
  let c1_i32_1487 : BitVec 32 := 1#32
  let v2057 : BitVec 32 := Scalar.subi v2025 c1_i32_1487
  let c0_i32_1488 : BitVec 32 := 0#32
  let v2058 : BitVec 32 := Scalar.maxsi v2057 c0_i32_1488
  let v2097 : Index := Scalar.indexCast v2058
  let c256_1530 : Index := 256#32
  let c0_1531 : Index := 0#32
  ![v2097.toNat, 256, 0]
def k0_off32 (i : grid0.Coords) (k0_t2 : Fin (k0_t2_loop i).trips) : Fin 3 → Nat :=
  let c2_i32_1459 : BitVec 32 := 2#32
  let c0_i32_42 : BitVec 32 := 0#32
  let arg1 : BitVec 32 := BitVec.ofNat 32 (i 1).val
  let v53 : BitVec 32 := Scalar.subi arg1 c0_i32_42
  let c1_i32 : BitVec 32 := 1#32
  let v55 : BitVec 32 := Scalar.divsi v53 c1_i32
  let v56 : BitVec 32 := Scalar.muli v55 c1_i32
  let v57 : BitVec 32 := Scalar.addi c0_i32_42 v56
  let c1_i32_45 : BitVec 32 := 1#32
  let arg11 : BitVec 32 := Scf.iv v57 c1_i32_45 k0_t2
  let v2024 : BitVec 32 := Scalar.muli c2_i32_1459 arg11
  let c1_i32_1460 : BitVec 32 := 1#32
  let v2025 : BitVec 32 := Scalar.addi v2024 c1_i32_1460
  let c1_i32_1487 : BitVec 32 := 1#32
  let v2057 : BitVec 32 := Scalar.subi v2025 c1_i32_1487
  let c0_i32_1488 : BitVec 32 := 0#32
  let v2058 : BitVec 32 := Scalar.maxsi v2057 c0_i32_1488
  let v2113 : Index := Scalar.indexCast v2058
  let c384_1547 : Index := 384#32
  let c0_1548 : Index := 0#32
  ![v2113.toNat, 384, 0]
def k0_mult6 (i : grid0.Coords) : BitVec 32 :=
  let c2_i32 : BitVec 32 := 2#32
  let arg1 : BitVec 32 := BitVec.ofNat 32 (i 1).val
  let v60 : BitVec 32 := Scalar.muli c2_i32 arg1
  let c0_i32_46 : BitVec 32 := 0#32
  let v61 : BitVec 32 := Scalar.addi v60 c0_i32_46
  let c1_i32_47 : BitVec 32 := 1#32
  let v62 : BitVec 32 := Scalar.addi v61 c1_i32_47
  let c256_i32 : BitVec 32 := 256#32
  let v63 : BitVec 32 := Scalar.muli v62 c256_i32
  v63
def k0_off33 (i : grid0.Coords) : Fin 2 → Nat :=
  let c2_i32 : BitVec 32 := 2#32
  let arg1 : BitVec 32 := BitVec.ofNat 32 (i 1).val
  let v60 : BitVec 32 := Scalar.muli c2_i32 arg1
  let c0_i32_46 : BitVec 32 := 0#32
  let v61 : BitVec 32 := Scalar.addi v60 c0_i32_46
  let c1_i32_47 : BitVec 32 := 1#32
  let v62 : BitVec 32 := Scalar.addi v61 c1_i32_47
  let c256_i32 : BitVec 32 := 256#32
  let v63 : BitVec 32 := Scalar.muli v62 c256_i32
  let v64 : BitVec 32 := v63
  let v65 : Index := Scalar.indexCast v64
  let c0_48 : Index := 0#32
  ![v65.toNat, 0]
def k0_off34 (i : grid0.Coords) : Fin 2 → Nat :=
  let c2_i32 : BitVec 32 := 2#32
  let arg1 : BitVec 32 := BitVec.ofNat 32 (i 1).val
  let v60 : BitVec 32 := Scalar.muli c2_i32 arg1
  let c0_i32_46 : BitVec 32 := 0#32
  let v61 : BitVec 32 := Scalar.addi v60 c0_i32_46
  let c1_i32_47 : BitVec 32 := 1#32
  let v62 : BitVec 32 := Scalar.addi v61 c1_i32_47
  let c256_i32 : BitVec 32 := 256#32
  let v63 : BitVec 32 := Scalar.muli v62 c256_i32
  let v64 : BitVec 32 := v63
  let v72 : Index := Scalar.indexCast v64
  let c128_54 : Index := 128#32
  ![v72.toNat, 128]
def k0_off35 (i : grid0.Coords) : Fin 2 → Nat :=
  let c2_i32 : BitVec 32 := 2#32
  let arg1 : BitVec 32 := BitVec.ofNat 32 (i 1).val
  let v60 : BitVec 32 := Scalar.muli c2_i32 arg1
  let c0_i32_46 : BitVec 32 := 0#32
  let v61 : BitVec 32 := Scalar.addi v60 c0_i32_46
  let c1_i32_47 : BitVec 32 := 1#32
  let v62 : BitVec 32 := Scalar.addi v61 c1_i32_47
  let c256_i32 : BitVec 32 := 256#32
  let v63 : BitVec 32 := Scalar.muli v62 c256_i32
  let v64 : BitVec 32 := v63
  let v79 : Index := Scalar.indexCast v64
  let c256_60 : Index := 256#32
  ![v79.toNat, 256]
def k0_off36 (i : grid0.Coords) : Fin 2 → Nat :=
  let c2_i32 : BitVec 32 := 2#32
  let arg1 : BitVec 32 := BitVec.ofNat 32 (i 1).val
  let v60 : BitVec 32 := Scalar.muli c2_i32 arg1
  let c0_i32_46 : BitVec 32 := 0#32
  let v61 : BitVec 32 := Scalar.addi v60 c0_i32_46
  let c1_i32_47 : BitVec 32 := 1#32
  let v62 : BitVec 32 := Scalar.addi v61 c1_i32_47
  let c256_i32 : BitVec 32 := 256#32
  let v63 : BitVec 32 := Scalar.muli v62 c256_i32
  let v64 : BitVec 32 := v63
  let v86 : Index := Scalar.indexCast v64
  let c384_66 : Index := 384#32
  ![v86.toNat, 384]
def k0_off37 (i : grid0.Coords) (c0_i32_46 : BitVec 32) : Fin 3 → Nat :=
  let c2_i32 : BitVec 32 := 2#32
  let arg1 : BitVec 32 := BitVec.ofNat 32 (i 1).val
  let v60 : BitVec 32 := Scalar.muli c2_i32 arg1
  let v61 : BitVec 32 := Scalar.addi v60 c0_i32_46
  let c1_i32_72 : BitVec 32 := 1#32
  let v93 : BitVec 32 := Scalar.subi v61 c1_i32_72
  let c0_i32_73 : BitVec 32 := 0#32
  let v94 : BitVec 32 := Scalar.maxsi v93 c0_i32_73
  let v101 : Index := Scalar.indexCast v94
  let c0_81 : Index := 0#32
  let c0_82 : Index := 0#32
  ![v101.toNat, 0, 0]
def k0_off38 (i : grid0.Coords) (c0_i32_46 : BitVec 32) : Fin 3 → Nat :=
  let c2_i32 : BitVec 32 := 2#32
  let arg1 : BitVec 32 := BitVec.ofNat 32 (i 1).val
  let v60 : BitVec 32 := Scalar.muli c2_i32 arg1
  let v61 : BitVec 32 := Scalar.addi v60 c0_i32_46
  let c1_i32_72 : BitVec 32 := 1#32
  let v93 : BitVec 32 := Scalar.subi v61 c1_i32_72
  let c0_i32_73 : BitVec 32 := 0#32
  let v94 : BitVec 32 := Scalar.maxsi v93 c0_i32_73
  let v117 : Index := Scalar.indexCast v94
  let c128_98 : Index := 128#32
  let c0_99 : Index := 0#32
  ![v117.toNat, 128, 0]
def k0_off39 (i : grid0.Coords) (c0_i32_46 : BitVec 32) : Fin 3 → Nat :=
  let c2_i32 : BitVec 32 := 2#32
  let arg1 : BitVec 32 := BitVec.ofNat 32 (i 1).val
  let v60 : BitVec 32 := Scalar.muli c2_i32 arg1
  let v61 : BitVec 32 := Scalar.addi v60 c0_i32_46
  let c1_i32_72 : BitVec 32 := 1#32
  let v93 : BitVec 32 := Scalar.subi v61 c1_i32_72
  let c0_i32_73 : BitVec 32 := 0#32
  let v94 : BitVec 32 := Scalar.maxsi v93 c0_i32_73
  let v133 : Index := Scalar.indexCast v94
  let c256_115 : Index := 256#32
  let c0_116 : Index := 0#32
  ![v133.toNat, 256, 0]
def k0_off40 (i : grid0.Coords) (c0_i32_46 : BitVec 32) : Fin 3 → Nat :=
  let c2_i32 : BitVec 32 := 2#32
  let arg1 : BitVec 32 := BitVec.ofNat 32 (i 1).val
  let v60 : BitVec 32 := Scalar.muli c2_i32 arg1
  let v61 : BitVec 32 := Scalar.addi v60 c0_i32_46
  let c1_i32_72 : BitVec 32 := 1#32
  let v93 : BitVec 32 := Scalar.subi v61 c1_i32_72
  let c0_i32_73 : BitVec 32 := 0#32
  let v94 : BitVec 32 := Scalar.maxsi v93 c0_i32_73
  let v149 : Index := Scalar.indexCast v94
  let c384_132 : Index := 384#32
  let c0_133 : Index := 0#32
  ![v149.toNat, 384, 0]
def k0_off41 (i : grid0.Coords) : Fin 3 → Nat :=
  let c2_i32_1023 : BitVec 32 := 2#32
  let arg1 : BitVec 32 := BitVec.ofNat 32 (i 1).val
  let v1571 : BitVec 32 := Scalar.muli c2_i32_1023 arg1
  let c2_i32_1024 : BitVec 32 := 2#32
  let v1572 : BitVec 32 := Scalar.addi v1571 c2_i32_1024
  let c1_i32_1025 : BitVec 32 := 1#32
  let v1573 : BitVec 32 := Scalar.subi v1572 c1_i32_1025
  let v1580 : Index := Scalar.indexCast v1573
  let c0_1033 : Index := 0#32
  let c0_1034 : Index := 0#32
  ![v1580.toNat, 0, 0]
def k0_off42 (i : grid0.Coords) : Fin 3 → Nat :=
  let c2_i32_1023 : BitVec 32 := 2#32
  let arg1 : BitVec 32 := BitVec.ofNat 32 (i 1).val
  let v1571 : BitVec 32 := Scalar.muli c2_i32_1023 arg1
  let c2_i32_1024 : BitVec 32 := 2#32
  let v1572 : BitVec 32 := Scalar.addi v1571 c2_i32_1024
  let c1_i32_1025 : BitVec 32 := 1#32
  let v1573 : BitVec 32 := Scalar.subi v1572 c1_i32_1025
  let v1596 : Index := Scalar.indexCast v1573
  let c128_1050 : Index := 128#32
  let c0_1051 : Index := 0#32
  ![v1596.toNat, 128, 0]
def k0_off43 (i : grid0.Coords) : Fin 3 → Nat :=
  let c2_i32_1023 : BitVec 32 := 2#32
  let arg1 : BitVec 32 := BitVec.ofNat 32 (i 1).val
  let v1571 : BitVec 32 := Scalar.muli c2_i32_1023 arg1
  let c2_i32_1024 : BitVec 32 := 2#32
  let v1572 : BitVec 32 := Scalar.addi v1571 c2_i32_1024
  let c1_i32_1025 : BitVec 32 := 1#32
  let v1573 : BitVec 32 := Scalar.subi v1572 c1_i32_1025
  let v1612 : Index := Scalar.indexCast v1573
  let c256_1067 : Index := 256#32
  let c0_1068 : Index := 0#32
  ![v1612.toNat, 256, 0]
def k0_off44 (i : grid0.Coords) : Fin 3 → Nat :=
  let c2_i32_1023 : BitVec 32 := 2#32
  let arg1 : BitVec 32 := BitVec.ofNat 32 (i 1).val
  let v1571 : BitVec 32 := Scalar.muli c2_i32_1023 arg1
  let c2_i32_1024 : BitVec 32 := 2#32
  let v1572 : BitVec 32 := Scalar.addi v1571 c2_i32_1024
  let c1_i32_1025 : BitVec 32 := 1#32
  let v1573 : BitVec 32 := Scalar.subi v1572 c1_i32_1025
  let v1628 : Index := Scalar.indexCast v1573
  let c384_1084 : Index := 384#32
  let c0_1085 : Index := 0#32
  ![v1628.toNat, 384, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S64x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16384x8x32 : Shape := ⟨3, ![16384, 8, 32]⟩
abbrev S16384x8x64 : Shape := ⟨3, ![16384, 8, 64]⟩
abbrev S16384x32 : Shape := ⟨2, ![16384, 32]⟩
abbrev S8x16384x16384 : Shape := ⟨3, ![8, 16384, 16384]⟩
abbrev S16384x16384x8 : Shape := ⟨3, ![16384, 16384, 8]⟩
abbrev S_ : Shape := ⟨0, ![]⟩
abbrev S16384 : Shape := ⟨1, ![16384]⟩
abbrev S1x1x16384 : Shape := ⟨3, ![1, 1, 16384]⟩
abbrev S1x16384x1 : Shape := ⟨3, ![1, 16384, 1]⟩
abbrev S1x16384x16384 : Shape := ⟨3, ![1, 16384, 16384]⟩
abbrev S8x16384 : Shape := ⟨2, ![8, 16384]⟩
abbrev S8x16384x1 : Shape := ⟨3, ![8, 16384, 1]⟩
abbrev S8x64x16384 : Shape := ⟨3, ![8, 64, 16384]⟩

abbrev nBuf : Space → Nat
  | .hbm => 40
  | .vmem => 0
  | .smem => 0
  | _ => 0

abbrev bufTy : (tb : Table) → Fin (tcTables nBuf tb) → BufTy
  | .hbm, ⟨0, _⟩ => ⟨S16384x8x32, .f32⟩
  | .hbm, ⟨1, _⟩ => ⟨S16384x8x64, .f32⟩
  | .hbm, ⟨2, _⟩ => ⟨S16384x32, .f32⟩
  | .hbm, ⟨3, _⟩ => ⟨S16384x8x64, .f32⟩
  | .hbm, ⟨4, _⟩ => ⟨S16384x8x64, .f32⟩
  | .hbm, ⟨5, _⟩ => ⟨S8x16384x16384, .f32⟩
  | .hbm, ⟨6, _⟩ => ⟨S16384x16384x8, .f32⟩
  | .hbm, ⟨7, _⟩ => ⟨S8x16384x16384, .f32⟩
  | .hbm, ⟨8, _⟩ => ⟨S8x16384x16384, .f32⟩
  | .hbm, ⟨9, _⟩ => ⟨S_, .f32⟩
  | .hbm, ⟨10, _⟩ => ⟨S8x16384x16384, .f32⟩
  | .hbm, ⟨11, _⟩ => ⟨S8x16384x16384, .f32⟩
  | .hbm, ⟨12, _⟩ => ⟨S16384, .i32⟩
  | .hbm, ⟨13, _⟩ => ⟨S1x1x16384, .i32⟩
  | .hbm, ⟨14, _⟩ => ⟨S1x16384x1, .i32⟩
  | .hbm, ⟨15, _⟩ => ⟨S1x16384x16384, .i32⟩
  | .hbm, ⟨16, _⟩ => ⟨S1x16384x16384, .i32⟩
  | .hbm, ⟨17, _⟩ => ⟨S1x16384x16384, .i1⟩
  | .hbm, ⟨18, _⟩ => ⟨S_, .f32⟩
  | .hbm, ⟨19, _⟩ => ⟨S_, .f32⟩
  | .hbm, ⟨20, _⟩ => ⟨S8x16384x16384, .i1⟩
  | .hbm, ⟨21, _⟩ => ⟨S8x16384x16384, .f32⟩
  | .hbm, ⟨22, _⟩ => ⟨S8x16384x16384, .f32⟩
  | .hbm, ⟨23, _⟩ => ⟨S_, .f32⟩
  | .hbm, ⟨24, _⟩ => ⟨S8x16384, .f32⟩
  | .hbm, ⟨25, _⟩ => ⟨S_, .f32⟩
  | .hbm, ⟨26, _⟩ => ⟨S8x16384, .f32⟩
  | .hbm, ⟨27, _⟩ => ⟨S8x16384, .f32⟩
  | .hbm, ⟨28, _⟩ => ⟨S8x16384x1, .f32⟩
  | .hbm, ⟨29, _⟩ => ⟨S8x16384x16384, .f32⟩
  | .hbm, ⟨30, _⟩ => ⟨S8x16384x16384, .f32⟩
  | .hbm, ⟨31, _⟩ => ⟨S8x16384x16384, .f32⟩
  | .hbm, ⟨32, _⟩ => ⟨S_, .f32⟩
  | .hbm, ⟨33, _⟩ => ⟨S8x16384, .f32⟩
  | .hbm, ⟨34, _⟩ => ⟨S8x16384x1, .f32⟩
  | .hbm, ⟨35, _⟩ => ⟨S8x16384x16384, .f32⟩
  | .hbm, ⟨36, _⟩ => ⟨S8x16384x16384, .f32⟩
  | .hbm, ⟨37, _⟩ => ⟨S8x64x16384, .f32⟩
  | .hbm, ⟨38, _⟩ => ⟨S16384x8x64, .f32⟩
  | .hbm, ⟨39, _⟩ => ⟨S16384x8x64, .bf16⟩
  | _, _ => ⟨S16384x8x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel2.lean ====
abbrev S16384x8x64 : Shape := ⟨3, ![16384, 8, 64]⟩
abbrev S16384x2x64 : Shape := ⟨3, ![16384, 2, 64]⟩
abbrev S16384x8 : Shape := ⟨2, ![16384, 8]⟩
abbrev S_ : Shape := ⟨0, ![]⟩
abbrev S16384x8x1 : Shape := ⟨3, ![16384, 8, 1]⟩
abbrev S16384x8x3 : Shape := ⟨3, ![16384, 8, 3]⟩
abbrev S4x4 : Shape := ⟨2, ![4, 4]⟩
abbrev S1x4x4x1 : Shape := ⟨4, ![1, 4, 4, 1]⟩
abbrev S2x4x4x3 : Shape := ⟨4, ![2, 4, 4, 3]⟩
abbrev S8x12 : Shape := ⟨2, ![8, 12]⟩
abbrev S1x8x12 : Shape := ⟨3, ![1, 8, 12]⟩
abbrev S16384x8x12 : Shape := ⟨3, ![16384, 8, 12]⟩
abbrev S16384x8x49 : Shape := ⟨3, ![16384, 8, 49]⟩
abbrev S16384x8x128 : Shape := ⟨3, ![16384, 8, 128]⟩
abbrev S16384x1024 : Shape := ⟨2, ![16384, 1024]⟩
abbrev S16384x2x3 : Shape := ⟨3, ![16384, 2, 3]⟩
abbrev S16384x2x12 : Shape := ⟨3, ![16384, 2, 12]⟩
abbrev S16384x2x49 : Shape := ⟨3, ![16384, 2, 49]⟩
abbrev S16384x2x128 : Shape := ⟨3, ![16384, 2, 128]⟩
abbrev S16384x256 : Shape := ⟨2, ![16384, 256]⟩
abbrev S16384x2x1 : Shape := ⟨3, ![16384, 2, 1]⟩
abbrev S16384x2x63 : Shape := ⟨3, ![16384, 2, 63]⟩
abbrev S64x256x256 : Shape := ⟨3, ![64, 256, 256]⟩
abbrev S512x512 : Shape := ⟨2, ![512, 512]⟩
abbrev S16384x128 : Shape := ⟨2, ![16384, 128]⟩
abbrev S64x128x256 : Shape := ⟨3, ![64, 128, 256]⟩
abbrev S2x4x256x512 : Shape := ⟨4, ![2, 4, 256, 512]⟩
abbrev S4x1x512 : Shape := ⟨3, ![4, 1, 512]⟩
abbrev S2x4x1x512 : Shape := ⟨4, ![2, 4, 1, 512]⟩
abbrev S4x128x512 : Shape := ⟨3, ![4, 128, 512]⟩
abbrev S512x128 : Shape := ⟨2, ![512, 128]⟩
abbrev S4x256x512 : Shape := ⟨3, ![4, 256, 512]⟩
abbrev S1x4x256x512 : Shape := ⟨4, ![1, 4, 256, 512]⟩
abbrev S1x4x1x512 : Shape := ⟨4, ![1, 4, 1, 512]⟩
abbrev S256x128 : Shape := ⟨2, ![256, 128]⟩
abbrev S256x512 : Shape := ⟨2, ![256, 512]⟩
abbrev S1x1x256x512 : Shape := ⟨4, ![1, 1, 256, 512]⟩
abbrev S1x1x1x512 : Shape := ⟨4, ![1, 1, 1, 512]⟩
abbrev S1x512 : Shape := ⟨2, ![1, 512]⟩
abbrev S1x128x512 : Shape := ⟨3, ![1, 128, 512]⟩
abbrev S128x512 : Shape := ⟨2, ![128, 512]⟩
abbrev S1x128x256 : Shape := ⟨3, ![1, 128, 256]⟩
abbrev S128x256 : Shape := ⟨2, ![128, 256]⟩
abbrev S1x1x512 : Shape := ⟨3, ![1, 1, 512]⟩
abbrev S1x1x256x128 : Shape := ⟨4, ![1, 1, 256, 128]⟩
abbrev S128 : Shape := ⟨1, ![128]⟩
abbrev S1x128 : Shape := ⟨2, ![1, 128]⟩
abbrev S1x1x64x512 : Shape := ⟨4, ![1, 1, 64, 512]⟩
abbrev S64x512 : Shape := ⟨2, ![64, 512]⟩

abbrev nBuf : Space → Nat
  | .hbm => 57
  | .vmem => 11
  | .smem => 0
  | _ => 0

abbrev bufTy : (tb : Table) → Fin (tcTables nBuf tb) → BufTy
  | .hbm, ⟨0, _⟩ => ⟨S16384x8x64, .f32⟩
  | .hbm, ⟨1, _⟩ => ⟨S16384x2x64, .f32⟩
  | .hbm, ⟨2, _⟩ => ⟨S16384x2x64, .f32⟩
  | .hbm, ⟨3, _⟩ => ⟨S16384x8, .f32⟩
  | .hbm, ⟨4, _⟩ => ⟨S_, .f32⟩
  | .hbm, ⟨5, _⟩ => ⟨S_, .f32⟩
  | .hbm, ⟨6, _⟩ => ⟨S16384x8, .f32⟩
  | .hbm, ⟨7, _⟩ => ⟨S16384x8, .f32⟩
  | .hbm, ⟨8, _⟩ => ⟨S16384x8, .bf16⟩
  | .hbm, ⟨9, _⟩ => ⟨S16384x8, .f32⟩
  | .hbm, ⟨10, _⟩ => ⟨S16384x8, .f32⟩
  | .hbm, ⟨11, _⟩ => ⟨S16384x8, .bf16⟩
  | .hbm, ⟨12, _⟩ => ⟨S16384x8, .f32⟩
  | .hbm, ⟨13, _⟩ => ⟨S16384x8, .f32⟩
  | .hbm, ⟨14, _⟩ => ⟨S16384x8, .f32⟩
  | .hbm, ⟨15, _⟩ => ⟨S16384x8, .bf16⟩
  | .hbm, ⟨16, _⟩ => ⟨S16384x8, .f32⟩
  | .hbm, ⟨17, _⟩ => ⟨S16384x8x1, .f32⟩
  | .hbm, ⟨18, _⟩ => ⟨S16384x8x1, .f32⟩
  | .hbm, ⟨19, _⟩ => ⟨S16384x8x1, .f32⟩
  | .hbm, ⟨20, _⟩ => ⟨S16384x8x3, .f32⟩
  | .hbm, ⟨21, _⟩ => ⟨S4x4, .i32⟩
  | .hbm, ⟨22, _⟩ => ⟨S4x4, .i32⟩
  | .hbm, ⟨23, _⟩ => ⟨S4x4, .i1⟩
  | .hbm, ⟨24, _⟩ => ⟨S4x4, .f32⟩
  | .hbm, ⟨25, _⟩ => ⟨S1x4x4x1, .f32⟩
  | .hbm, ⟨26, _⟩ => ⟨S2x4x4x3, .f32⟩
  | .hbm, ⟨27, _⟩ => ⟨S8x12, .f32⟩
  | .hbm, ⟨28, _⟩ => ⟨S1x8x12, .f32⟩
  | .hbm, ⟨29, _⟩ => ⟨S16384x8x12, .f32⟩
  | .hbm, ⟨30, _⟩ => ⟨S_, .f32⟩
  | .hbm, ⟨31, _⟩ => ⟨S16384x8x49, .f32⟩
  | .hbm, ⟨32, _⟩ => ⟨S_, .f32⟩
  | .hbm, ⟨33, _⟩ => ⟨S_, .f32⟩
  | .hbm, ⟨34, _⟩ => ⟨S16384x8x64, .f32⟩
  | .hbm, ⟨35, _⟩ => ⟨S16384x8x64, .f32⟩
  | .hbm, ⟨36, _⟩ => ⟨S16384x8x128, .f32⟩
  | .hbm, ⟨37, _⟩ => ⟨S16384x1024, .f32⟩
  | .hbm, ⟨38, _⟩ => ⟨S16384x1024, .bf16⟩
  | .hbm, ⟨39, _⟩ => ⟨S_, .f32⟩
  | .hbm, ⟨40, _⟩ => ⟨S16384x2x3, .f32⟩
  | .hbm, ⟨41, _⟩ => ⟨S16384x2x12, .f32⟩
  | .hbm, ⟨42, _⟩ => ⟨S16384x2x12, .f32⟩
  | .hbm, ⟨43, _⟩ => ⟨S16384x2x49, .f32⟩
  | .hbm, ⟨44, _⟩ => ⟨S16384x2x128, .f32⟩
  | .hbm, ⟨45, _⟩ => ⟨S16384x256, .f32⟩
  | .hbm, ⟨46, _⟩ => ⟨S16384x256, .bf16⟩
  | .hbm, ⟨47, _⟩ => ⟨S16384x2x1, .f32⟩
  | .hbm, ⟨48, _⟩ => ⟨S_, .f32⟩
  | .hbm, ⟨49, _⟩ => ⟨S16384x2x63, .f32⟩
  | .hbm, ⟨50, _⟩ => ⟨S16384x2x128, .f32⟩
  | .hbm, ⟨51, _⟩ => ⟨S64x256x256, .f32⟩
  | .hbm, ⟨52, _⟩ => ⟨S64x256x256, .f32⟩
  | .hbm, ⟨53, _⟩ => ⟨S64x256x256, .bf16⟩
  | .hbm, ⟨54, _⟩ => ⟨S16384x1024, .bf16⟩
  | .hbm, ⟨55, _⟩ => ⟨S16384x8x128, .bf16⟩
  | .hbm, ⟨56, _⟩ => ⟨S16384x8x64, .bf16⟩
  | .local _ .vmem, ⟨0, _⟩ => ⟨S512x512, .bf16⟩
  | .local _ .vmem, ⟨1, _⟩ => ⟨S512x512, .bf16⟩
  | .local _ .vmem, ⟨2, _⟩ => ⟨S16384x128, .bf16⟩
  | .local _ .vmem, ⟨3, _⟩ => ⟨S64x128x256, .bf16⟩
  | .local _ .vmem, ⟨4, _⟩ => ⟨S512x512, .bf16⟩
  | .local _ .vmem, ⟨5, _⟩ => ⟨S512x512, .bf16⟩
  | .local _ .vmem, ⟨6, _⟩ => ⟨S2x4x256x512, .f32⟩
  | .local _ .vmem, ⟨7, _⟩ => ⟨S2x4x256x512, .bf16⟩
  | .local _ .vmem, ⟨8, _⟩ => ⟨S4x1x512, .f32⟩
  | .local _ .vmem, ⟨9, _⟩ => ⟨S2x4x1x512, .f32⟩
  | .local _ .vmem, ⟨10, _⟩ => ⟨S4x128x512, .f32⟩
  | _, _ => ⟨S16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 32], ![false, false]⟩

def k0_mult1 : BitVec 32 :=
  let c0_i32 : BitVec 32 := 0#32
  c0_i32
@[reducible] def k0_t1_loop (i : grid0.Coords) : Scf.Loop 32 :=
  let c0_i32_42 : BitVec 32 := 0#32
  let arg1 : BitVec 32 := BitVec.ofNat 32 (i 1).val
  let v53 : BitVec 32 := Scalar.subi arg1 c0_i32_42
  let c1_i32 : BitVec 32 := 1#32
  let v55 : BitVec 32 := Scalar.divsi v53 c1_i32
  let v56 : BitVec 32 := Scalar.muli v55 c1_i32
  let v57 : BitVec 32 := Scalar.addi c0_i32_42 v56
  let c1_i32_44 : BitVec 32 := 1#32
  ⟨c0_i32_42, v57, c1_i32_44⟩
def k0_mult2 (i : grid0.Coords) (k0_t1 : Fin (k0_t1_loop i).trips) : BitVec 32 :=
  let c2_i32_1114 : BitVec 32 := 2#32
  let c0_i32_42 : BitVec 32 := 0#32
  let c1_i32_44 : BitVec 32 := 1#32
  let arg11 : BitVec 32 := Scf.iv c0_i32_42 c1_i32_44 k0_t1
  let v1670 : BitVec 32 := Scalar.muli c2_i32_1114 arg11
  let c1_i32_1115 : BitVec 32 := 1#32
  let v1671 : BitVec 32 := Scalar.addi v1670 c1_i32_1115
  let c256_i32_1116 : BitVec 32 := 256#32
  let v1672 : BitVec 32 := Scalar.muli v1671 c256_i32_1116
  v1672
def k0_off1 (i : grid0.Coords) (k0_t1 : Fin (k0_t1_loop i).trips) : Fin 2 → Nat :=
  let c2_i32_1114 : BitVec 32 := 2#32
  let c0_i32_42 : BitVec 32 := 0#32
  let c1_i32_44 : BitVec 32 := 1#32
  let arg11 : BitVec 32 := Scf.iv c0_i32_42 c1_i32_44 k0_t1
  let v1670 : BitVec 32 := Scalar.muli c2_i32_1114 arg11
  let c1_i32_1115 : BitVec 32 := 1#32
  let v1671 : BitVec 32 := Scalar.addi v1670 c1_i32_1115
  let c256_i32_1116 : BitVec 32 := 256#32
  let v1672 : BitVec 32 := Scalar.muli v1671 c256_i32_1116
  let v1673 : BitVec 32 := v1672
  let v1674 : Index := Scalar.indexCast v1673
  let c0_1117 : Index := 0#32
  ![v1674.toNat, 0]
def k0_off2 (i : grid0.Coords) (k0_t1 : Fin (k0_t1_loop i).trips) : Fin 3 → Nat :=
  let c2_i32_1114 : BitVec 32 := 2#32
  let c0_i32_42 : BitVec 32 := 0#32
  let c1_i32_44 : BitVec 32 := 1#32
  let arg11 : BitVec 32 := Scf.iv c0_i32_42 c1_i32_44 k0_t1
  let v1670 : BitVec 32 := Scalar.muli c2_i32_1114 arg11
  let c1_i32_1141 : BitVec 32 := 1#32
  let v1702 : BitVec 32 := Scalar.subi v1670 c1_i32_1141
  let c0_i32_1142 : BitVec 32 := 0#32
  let v1703 : BitVec 32 := Scalar.maxsi v1702 c0_i32_1142
  let v1710 : Index := Scalar.indexCast v1703
  let c0_1150 : Index := 0#32
  let c0_1151 : Index := 0#32
  ![v1710.toNat, 0, 0]
def k0_mult3 (i : grid0.Coords) (k0_t1 : Fin (k0_t1_loop i).trips) : BitVec 32 :=
  let c2_i32_1459 : BitVec 32 := 2#32
  let c0_i32_42 : BitVec 32 := 0#32
  let c1_i32_44 : BitVec 32 := 1#32
  let arg11 : BitVec 32 := Scf.iv c0_i32_42 c1_i32_44 k0_t1
  let v2024 : BitVec 32 := Scalar.muli c2_i32_1459 arg11
  let c1_i32_1460 : BitVec 32 := 1#32
  let v2025 : BitVec 32 := Scalar.addi v2024 c1_i32_1460
  let c1_i32_1461 : BitVec 32 := 1#32
  let v2026 : BitVec 32 := Scalar.addi v2025 c1_i32_1461
  let c256_i32_1462 : BitVec 32 := 256#32
  let v2027 : BitVec 32 := Scalar.muli v2026 c256_i32_1462
  v2027
def k0_off3 (i : grid0.Coords) (k0_t1 : Fin (k0_t1_loop i).trips) : Fin 2 → Nat :=
  let c2_i32_1459 : BitVec 32 := 2#32
  let c0_i32_42 : BitVec 32 := 0#32
  let c1_i32_44 : BitVec 32 := 1#32
  let arg11 : BitVec 32 := Scf.iv c0_i32_42 c1_i32_44 k0_t1
  let v2024 : BitVec 32 := Scalar.muli c2_i32_1459 arg11
  let c1_i32_1460 : BitVec 32 := 1#32
  let v2025 : BitVec 32 := Scalar.addi v2024 c1_i32_1460
  let c1_i32_1461 : BitVec 32 := 1#32
  let v2026 : BitVec 32 := Scalar.addi v2025 c1_i32_1461
  let c256_i32_1462 : BitVec 32 := 256#32
  let v2027 : BitVec 32 := Scalar.muli v2026 c256_i32_1462
  let v2028 : BitVec 32 := v2027
  let v2029 : Index := Scalar.indexCast v2028
  let c0_1463 : Index := 0#32
  ![v2029.toNat, 0]
def k0_off4 (i : grid0.Coords) (k0_t1 : Fin (k0_t1_loop i).trips) : Fin 3 → Nat :=
  let c2_i32_1459 : BitVec 32 := 2#32
  let c0_i32_42 : BitVec 32 := 0#32
  let c1_i32_44 : BitVec 32 := 1#32
  let arg11 : BitVec 32 := Scf.iv c0_i32_42 c1_i32_44 k0_t1
  let v2024 : BitVec 32 := Scalar.muli c2_i32_1459 arg11
  let c1_i32_1460 : BitVec 32 := 1#32
  let v2025 : BitVec 32 := Scalar.addi v2024 c1_i32_1460
  let c1_i32_1487 : BitVec 32 := 1#32
  let v2057 : BitVec 32 := Scalar.subi v2025 c1_i32_1487
  let c0_i32_1488 : BitVec 32 := 0#32
  let v2058 : BitVec 32 := Scalar.maxsi v2057 c0_i32_1488
  let v2065 : Index := Scalar.indexCast v2058
  let c0_1496 : Index := 0#32
  let c0_1497 : Index := 0#32
  ![v2065.toNat, 0, 0]
@[reducible] def k0_t2_loop (i : grid0.Coords) : Scf.Loop 32 :=
  let c0_i32_42 : BitVec 32 := 0#32
  let arg1 : BitVec 32 := BitVec.ofNat 32 (i 1).val
  let v53 : BitVec 32 := Scalar.subi arg1 c0_i32_42
  let c1_i32 : BitVec 32 := 1#32
  let v55 : BitVec 32 := Scalar.divsi v53 c1_i32
  let v56 : BitVec 32 := Scalar.muli v55 c1_i32
  let v57 : BitVec 32 := Scalar.addi c0_i32_42 v56
  let v54 : BitVec 32 := Scalar.addi c0_i32_42 v53
  let c1_i32_45 : BitVec 32 := 1#32
  ⟨v57, v54, c1_i32_45⟩
def k0_mult4 (i : grid0.Coords) (k0_t2 : Fin (k0_t2_loop i).trips) : BitVec 32 :=
  let c2_i32_1114 : BitVec 32 := 2#32
  let c0_i32_42 : BitVec 32 := 0#32
  let arg1 : BitVec 32 := BitVec.ofNat 32 (i 1).val
  let v53 : BitVec 32 := Scalar.subi arg1 c0_i32_42
  let c1_i32 : BitVec 32 := 1#32
  let v55 : BitVec 32 := Scalar.divsi v53 c1_i32
  let v56 : BitVec 32 := Scalar.muli v55 c1_i32
  let v57 : BitVec 32 := Scalar.addi c0_i32_42 v56
  let c1_i32_45 : BitVec 32 := 1#32
  let arg11 : BitVec 32 := Scf.iv v57 c1_i32_45 k0_t2
  let v1670 : BitVec 32 := Scalar.muli c2_i32_1114 arg11
  let c1_i32_1115 : BitVec 32 := 1#32
  let v1671 : BitVec 32 := Scalar.addi v1670 c1_i32_1115
  let c256_i32_1116 : BitVec 32 := 256#32
  let v1672 : BitVec 32 := Scalar.muli v1671 c256_i32_1116
  v1672
def k0_off5 (i : grid0.Coords) (k0_t2 : Fin (k0_t2_loop i).trips) : Fin 2 → Nat :=
  let c2_i32_1114 : BitVec 32 := 2#32
  let c0_i32_42 : BitVec 32 := 0#32
  let arg1 : BitVec 32 := BitVec.ofNat 32 (i 1).val
  let v53 : BitVec 32 := Scalar.subi arg1 c0_i32_42
  let c1_i32 : BitVec 32 := 1#32
  let v55 : BitVec 32 := Scalar.divsi v53 c1_i32
  let v56 : BitVec 32 := Scalar.muli v55 c1_i32
  let v57 : BitVec 32 := Scalar.addi c0_i32_42 v56
  let c1_i32_45 : BitVec 32 := 1#32
  let arg11 : BitVec 32 := Scf.iv v57 c1_i32_45 k0_t2
  let v1670 : BitVec 32 := Scalar.muli c2_i32_1114 arg11
  let c1_i32_1115 : BitVec 32 := 1#32
  let v1671 : BitVec 32 := Scalar.addi v1670 c1_i32_1115
  let c256_i32_1116 : BitVec 32 := 256#32
  let v1672 : BitVec 32 := Scalar.muli v1671 c256_i32_1116
  let v1673 : BitVec 32 := v1672
  let v1674 : Index := Scalar.indexCast v1673
  let c0_1117 : Index := 0#32
  ![v1674.toNat, 0]
def k0_off6 (i : grid0.Coords) (k0_t2 : Fin (k0_t2_loop i).trips) : Fin 3 → Nat :=
  let c2_i32_1114 : BitVec 32 := 2#32
  let c0_i32_42 : BitVec 32 := 0#32
  let arg1 : BitVec 32 := BitVec.ofNat 32 (i 1).val
  let v53 : BitVec 32 := Scalar.subi arg1 c0_i32_42
  let c1_i32 : BitVec 32 := 1#32
  let v55 : BitVec 32 := Scalar.divsi v53 c1_i32
  let v56 : BitVec 32 := Scalar.muli v55 c1_i32
  let v57 : BitVec 32 := Scalar.addi c0_i32_42 v56
  let c1_i32_45 : BitVec 32 := 1#32
  let arg11 : BitVec 32 := Scf.iv v57 c1_i32_45 k0_t2
  let v1670 : BitVec 32 := Scalar.muli c2_i32_1114 arg11
  let c1_i32_1141 : BitVec 32 := 1#32
  let v1702 : BitVec 32 := Scalar.subi v1670 c1_i32_1141
  let c0_i32_1142 : BitVec 32 := 0#32
  let v1703 : BitVec 32 := Scalar.maxsi v1702 c0_i32_1142
  let v1710 : Index := Scalar.indexCast v1703
  let c0_1150 : Index := 0#32
  let c0_1151 : Index := 0#32
  ![v1710.toNat, 0, 0]
def k0_mult5 (i : grid0.Coords) (k0_t2 : Fin (k0_t2_loop i).trips) : BitVec 32 :=
  let c2_i32_1459 : BitVec 32 := 2#32
  let c0_i32_42 : BitVec 32 := 0#32
  let arg1 : BitVec 32 := BitVec.ofNat 32 (i 1).val
  let v53 : BitVec 32 := Scalar.subi arg1 c0_i32_42
  let c1_i32 : BitVec 32 := 1#32
  let v55 : BitVec 32 := Scalar.divsi v53 c1_i32
  let v56 : BitVec 32 := Scalar.muli v55 c1_i32
  let v57 : BitVec 32 := Scalar.addi c0_i32_42 v56
  let c1_i32_45 : BitVec 32 := 1#32
  let arg11 : BitVec 32 := Scf.iv v57 c1_i32_45 k0_t2
  let v2024 : BitVec 32 := Scalar.muli c2_i32_1459 arg11
  let c1_i32_1460 : BitVec 32 := 1#32
  let v2025 : BitVec 32 := Scalar.addi v2024 c1_i32_1460
  let c1_i32_1461 : BitVec 32 := 1#32
  let v2026 : BitVec 32 := Scalar.addi v2025 c1_i32_1461
  let c256_i32_1462 : BitVec 32 := 256#32
  let v2027 : BitVec 32 := Scalar.muli v2026 c256_i32_1462
  v2027
def k0_off7 (i : grid0.Coords) (k0_t2 : Fin (k0_t2_loop i).trips) : Fin 2 → Nat :=
  let c2_i32_1459 : BitVec 32 := 2#32
  let c0_i32_42 : BitVec 32 := 0#32
  let arg1 : BitVec 32 := BitVec.ofNat 32 (i 1).val
  let v53 : BitVec 32 := Scalar.subi arg1 c0_i32_42
  let c1_i32 : BitVec 32 := 1#32
  let v55 : BitVec 32 := Scalar.divsi v53 c1_i32
  let v56 : BitVec 32 := Scalar.muli v55 c1_i32
  let v57 : BitVec 32 := Scalar.addi c0_i32_42 v56
  let c1_i32_45 : BitVec 32 := 1#32
  let arg11 : BitVec 32 := Scf.iv v57 c1_i32_45 k0_t2
  let v2024 : BitVec 32 := Scalar.muli c2_i32_1459 arg11
  let c1_i32_1460 : BitVec 32 := 1#32
  let v2025 : BitVec 32 := Scalar.addi v2024 c1_i32_1460
  let c1_i32_1461 : BitVec 32 := 1#32
  let v2026 : BitVec 32 := Scalar.addi v2025 c1_i32_1461
  let c256_i32_1462 : BitVec 32 := 256#32
  let v2027 : BitVec 32 := Scalar.muli v2026 c256_i32_1462
  let v2028 : BitVec 32 := v2027
  let v2029 : Index := Scalar.indexCast v2028
  let c0_1463 : Index := 0#32
  ![v2029.toNat, 0]
def k0_off8 (i : grid0.Coords) (k0_t2 : Fin (k0_t2_loop i).trips) : Fin 3 → Nat :=
  let c2_i32_1459 : BitVec 32 := 2#32
  let c0_i32_42 : BitVec 32 := 0#32
  let arg1 : BitVec 32 := BitVec.ofNat 32 (i 1).val
  let v53 : BitVec 32 := Scalar.subi arg1 c0_i32_42
  let c1_i32 : BitVec 32 := 1#32
  let v55 : BitVec 32 := Scalar.divsi v53 c1_i32
  let v56 : BitVec 32 := Scalar.muli v55 c1_i32
  let v57 : BitVec 32 := Scalar.addi c0_i32_42 v56
  let c1_i32_45 : BitVec 32 := 1#32
  let arg11 : BitVec 32 := Scf.iv v57 c1_i32_45 k0_t2
  let v2024 : BitVec 32 := Scalar.muli c2_i32_1459 arg11
  let c1_i32_1460 : BitVec 32 := 1#32
  let v2025 : BitVec 32 := Scalar.addi v2024 c1_i32_1460
  let c1_i32_1487 : BitVec 32 := 1#32
  let v2057 : BitVec 32 := Scalar.subi v2025 c1_i32_1487
  let c0_i32_1488 : BitVec 32 := 0#32
  let v2058 : BitVec 32 := Scalar.maxsi v2057 c0_i32_1488
  let v2065 : Index := Scalar.indexCast v2058
  let c0_1496 : Index := 0#32
  let c0_1497 : Index := 0#32
  ![v2065.toNat, 0, 0]
def k0_mult6 (i : grid0.Coords) : BitVec 32 :=
  let c2_i32 : BitVec 32 := 2#32
  let arg1 : BitVec 32 := BitVec.ofNat 32 (i 1).val
  let v60 : BitVec 32 := Scalar.muli c2_i32 arg1
  let c0_i32_46 : BitVec 32 := 0#32
  let v61 : BitVec 32 := Scalar.addi v60 c0_i32_46
  let c1_i32_47 : BitVec 32 := 1#32
  let v62 : BitVec 32 := Scalar.addi v61 c1_i32_47
  let c256_i32 : BitVec 32 := 256#32
  let v63 : BitVec 32 := Scalar.muli v62 c256_i32
  v63
def k0_off9 (i : grid0.Coords) : Fin 2 → Nat :=
  let c2_i32 : BitVec 32 := 2#32
  let arg1 : BitVec 32 := BitVec.ofNat 32 (i 1).val
  let v60 : BitVec 32 := Scalar.muli c2_i32 arg1
  let c0_i32_46 : BitVec 32 := 0#32
  let v61 : BitVec 32 := Scalar.addi v60 c0_i32_46
  let c1_i32_47 : BitVec 32 := 1#32
  let v62 : BitVec 32 := Scalar.addi v61 c1_i32_47
  let c256_i32 : BitVec 32 := 256#32
  let v63 : BitVec 32 := Scalar.muli v62 c256_i32
  let v64 : BitVec 32 := v63
  let v65 : Index := Scalar.indexCast v64
  let c0_48 : Index := 0#32
  ![v65.toNat, 0]
def k0_off10 (i : grid0.Coords) (c0_i32_46 : BitVec 32) : Fin 3 → Nat :=
  let c2_i32 : BitVec 32 := 2#32
  let arg1 : BitVec 32 := BitVec.ofNat 32 (i 1).val
  let v60 : BitVec 32 := Scalar.muli c2_i32 arg1
  let v61 : BitVec 32 := Scalar.addi v60 c0_i32_46
  let c1_i32_72 : BitVec 32 := 1#32
  let v93 : BitVec 32 := Scalar.subi v61 c1_i32_72
  let c0_i32_73 : BitVec 32 := 0#32
  let v94 : BitVec 32 := Scalar.maxsi v93 c0_i32_73
  let v101 : Index := Scalar.indexCast v94
  let c0_81 : Index := 0#32
  let c0_82 : Index := 0#32
  ![v101.toNat, 0, 0]
def k0_off11 (i : grid0.Coords) : Fin 3 → Nat :=
  let c2_i32_1023 : BitVec 32 := 2#32
  let arg1 : BitVec 32 := BitVec.ofNat 32 (i 1).val
  let v1571 : BitVec 32 := Scalar.muli c2_i32_1023 arg1
  let c2_i32_1024 : BitVec 32 := 2#32
  let v1572 : BitVec 32 := Scalar.addi v1571 c2_i32_1024
  let c1_i32_1025 : BitVec 32 := 1#32
  let v1573 : BitVec 32 := Scalar.subi v1572 c1_i32_1025
  let v1580 : Index := Scalar.indexCast v1573
  let c0_1033 : Index := 0#32
  let c0_1034 : Index := 0#32
  ![v1580.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S64x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x8x64 : Shape := ⟨3, ![16384, 8, 64]⟩
abbrev S16384x2x64 : Shape := ⟨3, ![16384, 2, 64]⟩
abbrev S16384x8 : Shape := ⟨2, ![16384, 8]⟩
abbrev S16384x2x1x64 : Shape := ⟨4, ![16384, 2, 1, 64]⟩
abbrev S16384x2x4x64 : Shape := ⟨4, ![16384, 2, 4, 64]⟩
abbrev S8x16384 : Shape := ⟨2, ![8, 16384]⟩
abbrev S8x16384x16384 : Shape := ⟨3, ![8, 16384, 16384]⟩
abbrev S_ : Shape := ⟨0, ![]⟩
abbrev S8x16384x1 : Shape := ⟨3, ![8, 16384, 1]⟩
abbrev S8x1x16384 : Shape := ⟨3, ![8, 1, 16384]⟩
abbrev S16384 : Shape := ⟨1, ![16384]⟩
abbrev S1x1x16384 : Shape := ⟨3, ![1, 1, 16384]⟩
abbrev S1x16384x1 : Shape := ⟨3, ![1, 16384, 1]⟩
abbrev S1x16384x16384 : Shape := ⟨3, ![1, 16384, 16384]⟩
abbrev S8x64x16384 : Shape := ⟨3, ![8, 64, 16384]⟩

abbrev nBuf : Space → Nat
  | .hbm => 49
  | .vmem => 0
  | .smem => 0
  | _ => 0

abbrev bufTy : (tb : Table) → Fin (tcTables nBuf tb) → BufTy
  | .hbm, ⟨0, _⟩ => ⟨S16384x8x64, .f32⟩
  | .hbm, ⟨1, _⟩ => ⟨S16384x2x64, .f32⟩
  | .hbm, ⟨2, _⟩ => ⟨S16384x2x64, .f32⟩
  | .hbm, ⟨3, _⟩ => ⟨S16384x8, .f32⟩
  | .hbm, ⟨4, _⟩ => ⟨S16384x2x1x64, .f32⟩
  | .hbm, ⟨5, _⟩ => ⟨S16384x2x4x64, .f32⟩
  | .hbm, ⟨6, _⟩ => ⟨S16384x8x64, .f32⟩
  | .hbm, ⟨7, _⟩ => ⟨S16384x2x1x64, .f32⟩
  | .hbm, ⟨8, _⟩ => ⟨S16384x2x4x64, .f32⟩
  | .hbm, ⟨9, _⟩ => ⟨S16384x8x64, .f32⟩
  | .hbm, ⟨10, _⟩ => ⟨S8x16384, .f32⟩
  | .hbm, ⟨11, _⟩ => ⟨S8x16384x16384, .f32⟩
  | .hbm, ⟨12, _⟩ => ⟨S_, .f32⟩
  | .hbm, ⟨13, _⟩ => ⟨S8x16384x16384, .f32⟩
  | .hbm, ⟨14, _⟩ => ⟨S8x16384x16384, .f32⟩
  | .hbm, ⟨15, _⟩ => ⟨S8x16384x1, .f32⟩
  | .hbm, ⟨16, _⟩ => ⟨S8x16384x16384, .f32⟩
  | .hbm, ⟨17, _⟩ => ⟨S8x16384x16384, .f32⟩
  | .hbm, ⟨18, _⟩ => ⟨S8x1x16384, .f32⟩
  | .hbm, ⟨19, _⟩ => ⟨S8x16384x16384, .f32⟩
  | .hbm, ⟨20, _⟩ => ⟨S8x16384x16384, .f32⟩
  | .hbm, ⟨21, _⟩ => ⟨S16384, .i32⟩
  | .hbm, ⟨22, _⟩ => ⟨S1x1x16384, .i32⟩
  | .hbm, ⟨23, _⟩ => ⟨S1x16384x1, .i32⟩
  | .hbm, ⟨24, _⟩ => ⟨S1x16384x16384, .i32⟩
  | .hbm, ⟨25, _⟩ => ⟨S1x16384x16384, .i32⟩
  | .hbm, ⟨26, _⟩ => ⟨S1x16384x16384, .i1⟩
  | .hbm, ⟨27, _⟩ => ⟨S_, .f32⟩
  | .hbm, ⟨28, _⟩ => ⟨S_, .f32⟩
  | .hbm, ⟨29, _⟩ => ⟨S8x16384x16384, .i1⟩
  | .hbm, ⟨30, _⟩ => ⟨S8x16384x16384, .f32⟩
  | .hbm, ⟨31, _⟩ => ⟨S8x16384x16384, .f32⟩
  | .hbm, ⟨32, _⟩ => ⟨S_, .f32⟩
  | .hbm, ⟨33, _⟩ => ⟨S8x16384, .f32⟩
  | .hbm, ⟨34, _⟩ => ⟨S_, .f32⟩
  | .hbm, ⟨35, _⟩ => ⟨S8x16384, .f32⟩
  | .hbm, ⟨36, _⟩ => ⟨S8x16384, .f32⟩
  | .hbm, ⟨37, _⟩ => ⟨S8x16384x1, .f32⟩
  | .hbm, ⟨38, _⟩ => ⟨S8x16384x16384, .f32⟩
  | .hbm, ⟨39, _⟩ => ⟨S8x16384x16384, .f32⟩
  | .hbm, ⟨40, _⟩ => ⟨S8x16384x16384, .f32⟩
  | .hbm, ⟨41, _⟩ => ⟨S_, .f32⟩
  | .hbm, ⟨42, _⟩ => ⟨S8x16384, .f32⟩
  | .hbm, ⟨43, _⟩ => ⟨S8x16384x1, .f32⟩
  | .hbm, ⟨44, _⟩ => ⟨S8x16384x16384, .f32⟩
  | .hbm, ⟨45, _⟩ => ⟨S8x16384x16384, .f32⟩
  | .hbm, ⟨46, _⟩ => ⟨S8x64x16384, .f32⟩
  | .hbm, ⟨47, _⟩ => ⟨S16384x8x64, .f32⟩
  | .hbm, ⟨48, _⟩ => ⟨S16384x8x64, .bf16⟩
  | _, _ => ⟨S16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel3.lean ====
abbrev S1x16384x1024 : Shape := ⟨3, ![1, 16384, 1024]⟩
abbrev S1x1x9216 : Shape := ⟨3, ![1, 1, 9216]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x2816 : Shape := ⟨2, ![1024, 2816]⟩
abbrev S1x512x1024 : Shape := ⟨3, ![1, 512, 1024]⟩
abbrev S1x1x1024 : Shape := ⟨3, ![1, 1, 1024]⟩
abbrev S1x512 : Shape := ⟨2, ![1, 512]⟩
abbrev S1x512x1 : Shape := ⟨3, ![1, 512, 1]⟩
abbrev S512x1024 : Shape := ⟨2, ![512, 1024]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 12
  | .vmem => 14
  | .smem => 0
  | _ => 0

abbrev bufTy : (tb : Table) → Fin (tcTables nBuf tb) → BufTy
  | .hbm, ⟨0, _⟩ => ⟨S1x16384x1024, .f32⟩
  | .hbm, ⟨1, _⟩ => ⟨S1x1x9216, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1x1024, .f32⟩
  | .hbm, ⟨6, _⟩ => ⟨S1024x2816, .f32⟩
  | .hbm, ⟨7, _⟩ => ⟨S1024x2816, .bf16⟩
  | .hbm, ⟨8, _⟩ => ⟨S1024x2816, .f32⟩
  | .hbm, ⟨9, _⟩ => ⟨S1024x2816, .bf16⟩
  | .hbm, ⟨10, _⟩ => ⟨S2816x1024, .bf16⟩
  | .hbm, ⟨11, _⟩ => ⟨S1x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S1x512x1024, .f32⟩
  | .local _ .vmem, ⟨13, _⟩ => ⟨S1x512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S1x16384x1024 : Shape := ⟨3, ![1, 16384, 1024]⟩
abbrev S1x1x9216 : Shape := ⟨3, ![1, 1, 9216]⟩
abbrev S1024 : Shape := ⟨1, ![1024]⟩
abbrev S1024x5632 : Shape := ⟨2, ![1024, 5632]⟩
abbrev S2816x1024 : Shape := ⟨2, ![2816, 1024]⟩
abbrev S1x1x1024 : Shape := ⟨3, ![1, 1, 1024]⟩
abbrev S_ : Shape := ⟨0, ![]⟩
abbrev S1x16384 : Shape := ⟨2, ![1, 16384]⟩
abbrev S1x16384x1 : Shape := ⟨3, ![1, 16384, 1]⟩
abbrev S1x16384x5632 : Shape := ⟨3, ![1, 16384, 5632]⟩
abbrev S1x16384x2816 : Shape := ⟨3, ![1, 16384, 2816]⟩

abbrev nBuf : Space → Nat
  | .hbm => 51
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x1x9216, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1x1x1024, .f32⟩
  | .hbm, ⟨6, _⟩ => ⟨S1x1x1024, .f32⟩
  | .hbm, ⟨7, _⟩ => ⟨S1x1x1024, .f32⟩
  | .hbm, ⟨8, _⟩ => ⟨S1x16384x1024, .f32⟩
  | .hbm, ⟨9, _⟩ => ⟨S_, .f32⟩
  | .hbm, ⟨10, _⟩ => ⟨S1x16384, .f32⟩
  | .hbm, ⟨11, _⟩ => ⟨S1x16384x1, .f32⟩
  | .hbm, ⟨12, _⟩ => ⟨S_, .f32⟩
  | .hbm, ⟨13, _⟩ => ⟨S1x16384x1, .f32⟩
  | .hbm, ⟨14, _⟩ => ⟨S1x16384x1, .f32⟩
  | .hbm, ⟨15, _⟩ => ⟨S_, .f32⟩
  | .hbm, ⟨16, _⟩ => ⟨S1x16384x1, .f32⟩
  | .hbm, ⟨17, _⟩ => ⟨S1x16384x1, .f32⟩
  | .hbm, ⟨18, _⟩ => ⟨S1x16384x1, .f32⟩
  | .hbm, ⟨19, _⟩ => ⟨S1x16384x1024, .f32⟩
  | .hbm, ⟨20, _⟩ => ⟨S1x16384x1024, .f32⟩
  | .hbm, ⟨21, _⟩ => ⟨S1x1x1024, .f32⟩
  | .hbm, ⟨22, _⟩ => ⟨S1x16384x1024, .f32⟩
  | .hbm, ⟨23, _⟩ => ⟨S1x16384x1024, .f32⟩
  | .hbm, ⟨24, _⟩ => ⟨S_, .f32⟩
  | .hbm, ⟨25, _⟩ => ⟨S1x1x1024, .f32⟩
  | .hbm, ⟨26, _⟩ => ⟨S1x1x1024, .f32⟩
  | .hbm, ⟨27, _⟩ => ⟨S1x16384x1024, .f32⟩
  | .hbm, ⟨28, _⟩ => ⟨S1x16384x1024, .f32⟩
  | .hbm, ⟨29, _⟩ => ⟨S1x16384x1024, .f32⟩
  | .hbm, ⟨30, _⟩ => ⟨S1x16384x1024, .f32⟩
  | .hbm, ⟨31, _⟩ => ⟨S1x16384x5632, .f32⟩
  | .hbm, ⟨32, _⟩ => ⟨S1x16384x2816, .f32⟩
  | .hbm, ⟨33, _⟩ => ⟨S1x16384x2816, .f32⟩
  | .hbm, ⟨34, _⟩ => ⟨S_, .f32⟩
  | .hbm, ⟨35, _⟩ => ⟨S1x1x1024, .f32⟩
  | .hbm, ⟨36, _⟩ => ⟨S1x1x1024, .f32⟩
  | .hbm, ⟨37, _⟩ => ⟨S1x16384x2816, .f32⟩
  | .hbm, ⟨38, _⟩ => ⟨S1x16384x2816, .f32⟩
  | .hbm, ⟨39, _⟩ => ⟨S_, .f32⟩
  | .hbm, ⟨40, _⟩ => ⟨S1x16384x2816, .f32⟩
  | .hbm, ⟨41, _⟩ => ⟨S1x16384x2816, .f32⟩
  | .hbm, ⟨42, _⟩ => ⟨S_, .f32⟩
  | .hbm, ⟨43, _⟩ => ⟨S1x16384x2816, .f32⟩
  | .hbm, ⟨44, _⟩ => ⟨S1x16384x2816, .f32⟩
  | .hbm, ⟨45, _⟩ => ⟨S1x16384x2816, .f32⟩
  | .hbm, ⟨46, _⟩ => ⟨S1x16384x2816, .f32⟩
  | .hbm, ⟨47, _⟩ => ⟨S1x16384x1024, .f32⟩
  | .hbm, ⟨48, _⟩ => ⟨S1x16384x1024, .f32⟩
  | .hbm, ⟨49, _⟩ => ⟨S1x16384x1024, .f32⟩
  | .hbm, ⟨50, _⟩ => ⟨S1x16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== Kernel4.lean ====
abbrev S1x16384x1024 : Shape := ⟨3, ![1, 16384, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S1x16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S1x16384x1024 : Shape := ⟨3, ![1, 16384, 1024]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1x16384x1024, .f32⟩
  | .hbm, ⟨3, _⟩ => ⟨S_, .f32⟩
  | .hbm, ⟨4, _⟩ => ⟨S1x16384, .f32⟩
  | .hbm, ⟨5, _⟩ => ⟨S1x16384x1, .f32⟩
  | .hbm, ⟨6, _⟩ => ⟨S_, .f32⟩
  | .hbm, ⟨7, _⟩ => ⟨S1x16384x1, .f32⟩
  | .hbm, ⟨8, _⟩ => ⟨S1x16384x1, .f32⟩
  | .hbm, ⟨9, _⟩ => ⟨S_, .f32⟩
  | .hbm, ⟨10, _⟩ => ⟨S1x16384x1, .f32⟩
  | .hbm, ⟨11, _⟩ => ⟨S1x16384x1, .f32⟩
  | .hbm, ⟨12, _⟩ => ⟨S1x16384x1, .f32⟩
  | .hbm, ⟨13, _⟩ => ⟨S1x16384x1024, .f32⟩
  | .hbm, ⟨14, _⟩ => ⟨S1x16384x1024, .f32⟩
  | .hbm, ⟨15, _⟩ => ⟨S1x1x1024, .f32⟩
  | .hbm, ⟨16, _⟩ => ⟨S1x16384x1024, .f32⟩
  | .hbm, ⟨17, _⟩ => ⟨S1x16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel5.lean ====
abbrev S128x8x1024 : Shape := ⟨3, ![128, 8, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x1024, .f32⟩
  | .hbm, ⟨3, _⟩ => ⟨S1x1024, .f32⟩
  | .hbm, ⟨4, _⟩ => ⟨S1024x1024, .f32⟩
  | .hbm, ⟨5, _⟩ => ⟨S128x8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S128x8x1024 : Shape := ⟨3, ![128, 8, 1024]⟩
abbrev S1024 : Shape := ⟨1, ![1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S128x8x1024, .f32⟩
  | .hbm, ⟨3, _⟩ => ⟨S_, .f32⟩
  | .hbm, ⟨4, _⟩ => ⟨S128x8, .f32⟩
  | .hbm, ⟨5, _⟩ => ⟨S128x8x1, .f32⟩
  | .hbm, ⟨6, _⟩ => ⟨S_, .f32⟩
  | .hbm, ⟨7, _⟩ => ⟨S128x8x1, .f32⟩
  | .hbm, ⟨8, _⟩ => ⟨S128x8x1, .f32⟩
  | .hbm, ⟨9, _⟩ => ⟨S_, .f32⟩
  | .hbm, ⟨10, _⟩ => ⟨S128x8x1, .f32⟩
  | .hbm, ⟨11, _⟩ => ⟨S128x8x1, .f32⟩
  | .hbm, ⟨12, _⟩ => ⟨S128x8x1, .f32⟩
  | .hbm, ⟨13, _⟩ => ⟨S128x8x1024, .f32⟩
  | .hbm, ⟨14, _⟩ => ⟨S128x8x1024, .f32⟩
  | .hbm, ⟨15, _⟩ => ⟨S1x1x1024, .f32⟩
  | .hbm, ⟨16, _⟩ => ⟨S128x8x1024, .f32⟩
  | .hbm, ⟨17, _⟩ => ⟨S128x8x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Windows.lean ====
module

public import Idealize.ShloMosaic.Lib.VecWindow

/-! Reading a buffer's windows after stores: each load is a window of the array read, each store puts a window over it,
    and a window of an array with a window put over it is found by comparing the two places. -/

@[expose] public section

noncomputable section

namespace Cert.Flash

open Idealize.ShloMosaic

section Array

variable {α : Type} {s : Shape}

/-- A window apart from the one put (on some axis) is that of the array before. -/
theorem window_put_apart (x : s.Idx → α) (off size off' size' : Fin s.rank → ℕ) (inb' : ∀ a, off' a + size' a ≤ s.size a)
    (w : ((a : Fin s.rank) → Fin (size a)) → α) (h : ∃ a, off' a + size' a ≤ off a ∨ off a + size a ≤ off' a) :
    VecWindow.window (VecWindow.put x off size w) off' size' inb' = VecWindow.window x off' size' inb' := by
  obtain ⟨a, ha⟩ := h
  exact VecWindow.window_put_of_disjoint x off size off' size' inb' w a ha

/-- A window lying in a wider one is a window of that one's. -/
theorem window_inside (x : s.Idx → α) (off size off' size' d : Fin s.rank → ℕ) (inb : ∀ a, off a + size a ≤ s.size a)
    (inb' : ∀ a, off' a + size' a ≤ s.size a) (hd : ∀ a, off' a = off a + d a) (h : ∀ a, d a + size' a ≤ size a) :
    VecWindow.window x off' size' inb' = VecWindow.window (s := ⟨s.rank, size⟩) (VecWindow.window x off size inb) d size' h := by
  funext y
  refine congrArg x (funext fun a => Fin.ext ?_)
  show off' a + 1 * (y a).val = off a + 1 * (d a + 1 * (y a).val)
  rw [hd]; omega

/-- A window lying in the one put last is a window of what was put. -/
theorem window_put_inside (x : s.Idx → α) (off size off' size' d : Fin s.rank → ℕ) (inb' : ∀ a, off' a + size' a ≤ s.size a)
    (w : ((a : Fin s.rank) → Fin (size a)) → α) (hd : ∀ a, off' a = off a + d a) (h : ∀ a, d a + size' a ≤ size a) :
    VecWindow.window (VecWindow.put x off size w) off' size' inb' = VecWindow.window (s := ⟨s.rank, size⟩) w d size' h := by
  rw [VecWindow.window_put_of_inside x off size off' size' inb' w fun a => by have := hd a; have := h a; omega]
  funext y
  refine congrArg w (funext fun a => Fin.ext ?_)
  show off' a - off a + 1 * (y a).val = d a + 1 * (y a).val
  rw [hd]; omega

/-- An array with a window put over it, at a place of the window. -/
theorem put_pos (x : s.Idx → α) (off size : Fin s.rank → ℕ) (w : ((a : Fin s.rank) → Fin (size a)) → α) (y : s.Idx)
    (h : ∀ a, off a ≤ (y a).val ∧ (y a).val < off a + size a) : VecWindow.put x off size w y = w (Rect.unitLocal (s := s) y h) := dif_pos h

/-- An array with a window put over it, at a place outside the window on some axis. -/
theorem put_neg (x : s.Idx → α) (off size : Fin s.rank → ℕ) (w : ((a : Fin s.rank) → Fin (size a)) → α) (y : s.Idx) (a : Fin s.rank)
    (h : (y a).val < off a ∨ off a + size a ≤ (y a).val) : VecWindow.put x off size w y = x y := dif_neg fun hall => by have := hall a; omega

/-- The window of an array put over an array that agrees with it elsewhere. -/
theorem put_window_eq (x g : s.Idx → α) (off size : Fin s.rank → ℕ) (inb : ∀ a, off a + size a ≤ s.size a) (y : s.Idx)
    (h : (∃ a, (y a).val < off a ∨ off a + size a ≤ (y a).val) → x y = g y) :
    VecWindow.put x off size (VecWindow.window g off size inb) y = g y := by
  by_cases hc : ∀ a, off a ≤ (y a).val ∧ (y a).val < off a + size a
  · rw [put_pos x off size _ y hc]
    refine congrArg g (funext fun a => Fin.ext ?_)
    show off a + 1 * ((y a).val - off a) = (y a).val
    have := hc a; omega
  · push Not at hc
    obtain ⟨a, ha⟩ := hc
    have : (y a).val < off a ∨ off a + size a ≤ (y a).val := by
      rcases Nat.lt_or_ge (y a).val (off a) with h1 | h1
      · exact .inl h1
      · exact .inr (ha h1)
    rw [put_neg x off size _ y a this]
    exact h ⟨a, this⟩

end Array

section Buffer

variable {sig : RefSig} {κ : Kind} {sp : Space} {s : Shape} {e : EltTy} {Val : EltTy → Type}

/-- A load is a window of the array read. -/
theorem readAt_window (v : View sig κ sp s e) (f : v.ty.Contents Val) {off size : Fin s.rank → ℕ} (inb : ∀ a, off a + size a ≤ s.size a) :
    v.readAt Val (Rect.unit off size inb).toLoadRect f = VecWindow.window (v.read Val f) off size inb := rfl

/-- A load over stores alone is a window of what they leave. -/
theorem readCov_window [∀ e, Nonempty (Val e)] (v : View sig κ sp s e) (L : List (View.Piece Val s e)) {off size : Fin s.rank → ℕ}
    (inb : ∀ a, off a + size a ≤ s.size a) :
    v.readCov L (Rect.unit off size inb).toLoadRect = VecWindow.window (v.read Val (v.writes Val v.junk L)) off size inb := rfl

/-- The last store puts its window over what the earlier ones leave. -/
theorem read_writes_put (v : View sig κ sp s e) (f : v.ty.Contents Val) {off size : Fin s.rank → ℕ} (inb : ∀ a, off a + size a ≤ s.size a)
    (w : (Rect.unit off size inb).shape.Idx → Val e) (L : List (View.Piece Val s e)) :
    v.read Val (v.writes Val f (⟨Rect.unit off size inb, w⟩ :: L)) = VecWindow.put (v.read Val (v.writes Val f L)) off size w :=
  View.read_writes_cons_put v f inb w L rfl

end Buffer

end Cert.Flash

end
-- ==== Proof.State.lean ====
module

public import proofs.«01_k».proof.Proof.Gen.KernelIdeal.Skeleton
public import proofs.«01_k».proof.Proof.Windows

/-! What one head's scratch holds between two steps of the sweep over the key tiles, and how a step changes it.

    Before a step, a head has the scores of the tile at hand; the weights, and the factor to rescale by, that the step before
    left; the running maximum; and the weighted sum of the value rows up to the step before. -/

@[expose] public section

noncomputable section

namespace Cert.Flash

open Idealize.ShloMosaic Cert.KernelIdeal Cert.KernelIdeal.Gen

section Stack

variable {α : Type}

/-- Four bands of 64 rows, one below the other. -/
def stack (c0 c1 c2 c3 : S1x1x64x512.Idx → α) : S1x1x256x512.Idx → α :=
  VecWindow.put (s := S1x1x256x512) (VecWindow.put (s := S1x1x256x512) (VecWindow.put (s := S1x1x256x512) (VecWindow.put (s := S1x1x256x512)
    (fun _ => c0 fun k => ⟨0, by revert k; decide⟩) ![0, 0, 0, 0] ![1, 1, 64, 512] c0) ![0, 0, 64, 0] ![1, 1, 64, 512] c1) ![0, 0, 128, 0] ![1, 1, 64, 512] c2) ![0, 0, 192, 0] ![1, 1, 64, 512] c3

/-- The window of a head is what the four stores of bands put into it. -/
theorem window_stack (x : S2x4x256x512.Idx → α) (b a : ℕ) (c0 c1 c2 c3 : S1x1x64x512.Idx → α) (inb : ∀ k, ![b, a, 0, 0] k + ![1, 1, 256, 512] k ≤ S2x4x256x512.size k) :
    VecWindow.window (s := S2x4x256x512) (VecWindow.put (s := S2x4x256x512) (VecWindow.put (s := S2x4x256x512) (VecWindow.put (s := S2x4x256x512) (VecWindow.put (s := S2x4x256x512)
      x ![b, a, 0, 0] ![1, 1, 64, 512] c0) ![b, a, 64, 0] ![1, 1, 64, 512] c1) ![b, a, 128, 0] ![1, 1, 64, 512] c2) ![b, a, 192, 0] ![1, 1, 64, 512] c3)
      ![b, a, 0, 0] ![1, 1, 256, 512] inb = stack c0 c1 c2 c3 := by
  funext y
  unfold stack VecWindow.window
  have h0 : (y 0).val < 1 := (y 0).isLt
  have h1 : (y 1).val < 1 := (y 1).isLt
  have h2 : (y 2).val < 256 := (y 2).isLt
  have h3 : (y 3).val < 512 := (y 3).isLt
  set z := (Rect.unit (s := S2x4x256x512) ![b, a, 0, 0] ![1, 1, 256, 512] inb).emb y with hz
  have e0 : (z 0).val = b + 1 * (y 0).val := rfl
  have e1 : (z 1).val = a + 1 * (y 1).val := rfl
  have e2 : (z 2).val = 0 + 1 * (y 2).val := rfl
  have e3 : (z 3).val = 0 + 1 * (y 3).val := rfl
  have pos : ∀ (x : S2x4x256x512.Idx → α) (x' : S1x1x256x512.Idx → α) (r : ℕ) (c : S1x1x64x512.Idx → α), r ≤ (y 2).val → (y 2).val < r + 64 →
      VecWindow.put (s := S2x4x256x512) x ![b, a, r, 0] ![1, 1, 64, 512] c z = VecWindow.put (s := S1x1x256x512) x' ![0, 0, r, 0] ![1, 1, 64, 512] c y := by
    intro x x' r c hl hu
    rw [put_pos (s := S2x4x256x512) x _ _ c z (fun k => by fin_cases k <;> simp [e0, e1, e2, e3] <;> omega),
      put_pos (s := S1x1x256x512) x' _ _ c y (fun k => by fin_cases k <;> simp <;> omega)]
    refine congrArg c (funext fun k => Fin.ext ?_)
    fin_cases k
    · show (z 0).val - b = (y 0).val - 0; omega
    · show (z 1).val - a = (y 1).val - 0; omega
    · show (z 2).val - r = (y 2).val - r; omega
    · show (z 3).val - 0 = (y 3).val - 0; omega
  have neg : ∀ (x : S2x4x256x512.Idx → α) (r : ℕ) (c : S1x1x64x512.Idx → α), (y 2).val < r → VecWindow.put (s := S2x4x256x512) x ![b, a, r, 0] ![1, 1, 64, 512] c z = x z := by
    intro x r c hl; exact put_neg (s := S2x4x256x512) x _ _ c z 2 (.inl (by show (z 2).val < r; omega))
  have neg' : ∀ (x : S1x1x256x512.Idx → α) (r : ℕ) (c : S1x1x64x512.Idx → α), (y 2).val < r → VecWindow.put (s := S1x1x256x512) x ![0, 0, r, 0] ![1, 1, 64, 512] c y = x y := by
    intro x r c hl; exact put_neg (s := S1x1x256x512) x _ _ c y 2 (.inl hl)
  rcases Nat.lt_or_ge (y 2).val 192 with l3 | g3
  · rw [neg _ 192 _ l3, neg' _ 192 _ l3]
    rcases Nat.lt_or_ge (y 2).val 128 with l2 | g2
    · rw [neg _ 128 _ l2, neg' _ 128 _ l2]
      rcases Nat.lt_or_ge (y 2).val 64 with l1 | g1
      · rw [neg _ 64 _ l1, neg' _ 64 _ l1]
        exact pos _ _ 0 c0 (by omega) (by omega)
      · exact pos _ _ 64 c1 g1 (by omega)
    · exact pos _ _ 128 c2 g2 (by omega)
  · exact pos _ _ 192 c3 g3 (by omega)

/-- The four bands of an array, one below the other, are the array. -/
theorem stack_window (g : S1x1x256x512.Idx → α) (i0 i1 i2 i3) :
    stack (VecWindow.window (s := S1x1x256x512) g ![0, 0, 0, 0] ![1, 1, 64, 512] i0) (VecWindow.window (s := S1x1x256x512) g ![0, 0, 64, 0] ![1, 1, 64, 512] i1)
      (VecWindow.window (s := S1x1x256x512) g ![0, 0, 128, 0] ![1, 1, 64, 512] i2) (VecWindow.window (s := S1x1x256x512) g ![0, 0, 192, 0] ![1, 1, 64, 512] i3) = g := by
  funext y
  have h0 : (y 0).val < 1 := (y 0).isLt
  have h1 : (y 1).val < 1 := (y 1).isLt
  have h2 : (y 2).val < 256 := (y 2).isLt
  have h3 : (y 3).val < 512 := (y 3).isLt
  have out : ∀ r : ℕ, (∃ k : Fin 4, (y k).val < ![0, 0, r, 0] k ∨ ![0, 0, r, 0] k + ![1, 1, 64, 512] k ≤ (y k).val) → (y 2).val < r ∨ r + 64 ≤ (y 2).val := by
    rintro r ⟨k, hk⟩
    fin_cases k <;> simp at hk <;> omega
  unfold stack
  refine put_window_eq (s := S1x1x256x512) _ g _ _ i3 y fun o3 => ?_
  refine put_window_eq (s := S1x1x256x512) _ g _ _ i2 y fun o2 => ?_
  refine put_window_eq (s := S1x1x256x512) _ g _ _ i1 y fun o1 => ?_
  refine put_window_eq (s := S1x1x256x512) _ g _ _ i0 y fun o0 => ?_
  have := out _ o0; have := out _ o1; have := out _ o2; have := out _ o3
  omega

/-- A band or a strip of the window put last is one of what was put. -/
theorem part_put (x : S2x4x256x512.Idx → α) (b a r c h w : ℕ) (v : S1x1x256x512.Idx → α)
    (inb : ∀ k, ![b, a, r, c] k + ![1, 1, h, w] k ≤ S2x4x256x512.size k) (inb' : ∀ k, ![0, 0, r, c] k + ![1, 1, h, w] k ≤ S1x1x256x512.size k) :
    VecWindow.window (s := S2x4x256x512) (VecWindow.put (s := S2x4x256x512) x ![b, a, 0, 0] ![1, 1, 256, 512] v) ![b, a, r, c] ![1, 1, h, w] inb
      = VecWindow.window (s := S1x1x256x512) v ![0, 0, r, c] ![1, 1, h, w] inb' :=
  window_put_inside (s := S2x4x256x512) x _ _ _ _ ![0, 0, r, c] inb v (fun k => by fin_cases k <;> simp) inb'

/-- A band or a strip of a head's window is one of what that window holds. -/
theorem part_window (x : S2x4x256x512.Idx → α) (b a : ℕ) (v : S1x1x256x512.Idx → α) (inb0 : ∀ k, ![b, a, 0, 0] k + ![1, 1, 256, 512] k ≤ S2x4x256x512.size k)
    (hv : VecWindow.window (s := S2x4x256x512) x ![b, a, 0, 0] ![1, 1, 256, 512] inb0 = v) (r c h w : ℕ)
    (inb : ∀ k, ![b, a, r, c] k + ![1, 1, h, w] k ≤ S2x4x256x512.size k) (inb' : ∀ k, ![0, 0, r, c] k + ![1, 1, h, w] k ≤ S1x1x256x512.size k) :
    VecWindow.window (s := S2x4x256x512) x ![b, a, r, c] ![1, 1, h, w] inb = VecWindow.window (s := S1x1x256x512) v ![0, 0, r, c] ![1, 1, h, w] inb' := by
  subst hv
  exact window_inside (s := S2x4x256x512) x _ _ _ _ ![0, 0, r, c] inb0 inb (fun k => by fin_cases k <;> simp) inb'

end Stack

variable {F : FTy → Type} [FloatOps F]

/-- What a head's scratch holds between two steps. -/
structure St (F : FTy → Type) where
  /-- the scores of the tile at hand, key by query -/
  s : FVec F S1x1x256x512 .f32
  /-- the weights of the step before -/
  p : FVec F S1x1x256x512 .bf16
  /-- the running maximum per query -/
  m : FVec F S1x1x512 .f32
  /-- the factor of the step before -/
  al : FVec F S1x1x1x512 .f32
  /-- the weighted sum, feature by query -/
  acc : FVec F S1x128x512 .f32

/-- A tile's scores: its key rows against the query rows. -/
def score (q : FVec F S512x128 .bf16) (kt : FVec F S256x128 .bf16) : FVec F S1x1x256x512 .f32 := k0_pay1 q kt

/-- A strip of 128 queries of a tile's scores. -/
def strip (s : FVec F S1x1x256x512 .f32) (c : ℕ) (h : ∀ k, ![0, 0, 0, c] k + ![1, 1, 256, 128] k ≤ S1x1x256x512.size k := by decide) : FVec F S1x1x256x128 .f32 :=
  VecWindow.window (s := S1x1x256x512) s ![0, 0, 0, c] ![1, 1, 256, 128] h

/-- A band of 64 keys of a tile's scores. -/
def band (s : FVec F S1x1x256x512 .f32) (r : ℕ) (h : ∀ k, ![0, 0, r, 0] k + ![1, 1, 64, 512] k ≤ S1x1x256x512.size k := by decide) : FVec F S1x1x64x512 .f32 :=
  VecWindow.window (s := S1x1x256x512) s ![0, 0, r, 0] ![1, 1, 64, 512] h

/-- The running maximum after a tile, as a row. -/
def maxRow (m : FVec F S1x1x512 .f32) (s : FVec F S1x1x256x512 .f32) : FVec F S1x512 .f32 :=
  k0_pay17 (k0_pay13 m) (k0_pay14 (strip s 0)) (k0_pay14 (strip s 128)) (k0_pay14 (strip s 256)) (strip s 384)

/-- The running maximum after a tile, as stored. -/
def maxOf (m : FVec F S1x1x512 .f32) (s : FVec F S1x1x256x512 .f32) : FVec F S1x1x512 .f32 :=
  k0_pay18 (k0_pay13 m) (k0_pay14 (strip s 0)) (k0_pay14 (strip s 128)) (k0_pay14 (strip s 256)) (strip s 384)

/-- The factor that takes sums relative to the maximum before a tile to sums relative to the one after. -/
def factor (m : FVec F S1x1x512 .f32) (s : FVec F S1x1x256x512 .f32) : FVec F S1x1x1x512 .f32 :=
  k0_pay19 (k0_pay13 m) (k0_pay14 (strip s 0)) (k0_pay14 (strip s 128)) (k0_pay14 (strip s 256)) (strip s 384)

/-- A tile's weights relative to a maximum. -/
def weights (mr : FVec F S1x512 .f32) (s : FVec F S1x1x256x512 .f32) : FVec F S1x1x256x512 .bf16 :=
  stack (k0_pay41 mr (band s 0)) (k0_pay41 mr (band s 64)) (k0_pay41 mr (band s 128)) (k0_pay41 mr (band s 192))

/-- The weighted sum with the step before's tile taken in. -/
def gather (σ : St F) (vt : FVec F S1x128x256 .bf16) : FVec F S1x128x512 .f32 := k0_pay6 σ.al σ.acc vt σ.p

/-- One step on tile scores `sm` (those at hand, masked or not), the next tile's scores being `next` and the step before's value tile `vt`. -/
def advance (sm next : FVec F S1x1x256x512 .f32) (vt : FVec F S1x128x256 .bf16) (σ : St F) : St F where
  s := next
  p := weights (maxRow σ.m sm) sm
  m := maxOf σ.m sm
  al := factor σ.m sm
  acc := gather σ vt

/-- What the five scratch buffers hold before a step whose scores lie in slot `b`, the step before's weights in slot `b'`. -/
structure Holds (b b' : ℕ) (x6 : FVec F S2x4x256x512 .f32) (x7 : FVec F S2x4x256x512 .bf16) (x8 : FVec F S4x1x512 .f32) (x9 : FVec F S2x4x1x512 .f32)
    (x10 : FVec F S4x128x512 .f32) (σ : ℕ → St F) : Prop where
  s : ∀ a inb, VecWindow.window (s := S2x4x256x512) x6 ![b, a, 0, 0] ![1, 1, 256, 512] inb = (σ a).s
  p : ∀ a inb, VecWindow.window (s := S2x4x256x512) x7 ![b', a, 0, 0] ![1, 1, 256, 512] inb = (σ a).p
  m : ∀ a inb, VecWindow.window (s := S4x1x512) x8 ![a, 0, 0] ![1, 1, 512] inb = (σ a).m
  al : ∀ a inb, VecWindow.window (s := S2x4x1x512) x9 ![b', a, 0, 0] ![1, 1, 1, 512] inb = (σ a).al
  acc : ∀ a inb, VecWindow.window (s := S4x128x512) x10 ![a, 0, 0] ![1, 128, 512] inb = (σ a).acc

/-- A band or a strip of a head's scores, in the slot at hand. -/
theorem Holds.part {b b' : ℕ} {x6 : FVec F S2x4x256x512 .f32} {x7 : FVec F S2x4x256x512 .bf16} {x8 : FVec F S4x1x512 .f32} {x9 : FVec F S2x4x1x512 .f32}
    {x10 : FVec F S4x128x512 .f32} {σ : ℕ → St F} (h : Holds b b' x6 x7 x8 x9 x10 σ) (a r c hh w : ℕ)
    (inb0 : ∀ k, ![b, a, 0, 0] k + ![1, 1, 256, 512] k ≤ S2x4x256x512.size k)
    (inb : ∀ k, ![b, a, r, c] k + ![1, 1, hh, w] k ≤ S2x4x256x512.size k) (inb' : ∀ k, ![0, 0, r, c] k + ![1, 1, hh, w] k ≤ S1x1x256x512.size k) :
    VecWindow.window (s := S2x4x256x512) x6 ![b, a, r, c] ![1, 1, hh, w] inb = VecWindow.window (s := S1x1x256x512) (σ a).s ![0, 0, r, c] ![1, 1, hh, w] inb' :=
  part_window x6 b a _ inb0 (h.s a inb0) r c hh w inb inb'

end Cert.Flash

end
-- ==== Proof.TripRun.lean ====
module

public import proofs.«01_k».proof.Proof.State
public import Idealize.ShloMosaic.Lib.Exec
public import Idealize.ShloMosaic.Lib.Tactic
public import Idealize.ShloMosaic.Lib.Pipeline.Kit

/-! One trip of the sweep's loop, run once at symbolic contents: two steps, the scores' slot being 0 in the first and 1 in the
    second. The run finds what each scratch buffer is written with. -/

@[expose] public section

set_option maxRecDepth 8192
set_option maxHeartbeats 4000000

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources the run is stated over. -/
local notation "𝕄" => MT nD τ sig Unit (Elt F) ℕ (UR sig nD τ) ℕ

section Trip

variable (𝒱 : Variants) (c : Dev nD) (bd : Option 𝒱.V) (i : grid0.Coords)
  (arg2 : Memref sig .tc .vmem S512x512 .bf16) (harg2 : arg2.IsWhole)
  (arg3 : Memref sig .tc .vmem S16384x512 .bf16) (harg3 : arg3.IsWhole)
  (arg4 : Memref sig .tc .vmem S64x512x256 .bf16) (harg4 : arg4.IsWhole)
  (arg5 : Memref sig .tc .vmem S512x512 .bf16) (harg5 : arg5.IsWhole)
  (arg6 : Memref sig .tc .vmem S2x4x256x512 .f32) (harg6 : arg6.IsWhole)
  (arg7 : Memref sig .tc .vmem S2x4x256x512 .bf16) (harg7 : arg7.IsWhole)
  (arg8 : Memref sig .tc .vmem S4x1x512 .f32) (harg8 : arg8.IsWhole)
  (arg9 : Memref sig .tc .vmem S2x4x1x512 .f32) (harg9 : arg9.IsWhole)
  (arg10 : Memref sig .tc .vmem S4x128x512 .f32) (harg10 : arg10.IsWhole)
  (arg1 : BitVec 32) (qv : ℕ → FVec F S512x128 .bf16) (c0_i32_42 c0_i32_43 c1_i32 v55 : BitVec 32)

/-- A buffer held whole at given contents. -/
abbrev held {s : Shape} {e : EltTy} (m : Memref sig .tc .vmem s e) (f : BufTy.Contents (Elt F) m.view.ty) : sProp 𝕄 :=
  m.view.loc (c : Thread nD τ) ↦[m.view.set]{fullShare} f

/-- What a trip needs: the keys and the value rows to read, the five scratch buffers to rewrite. -/
abbrev tripRes (X3 : BufTy.Contents (Elt F) arg3.view.ty) (X4 : BufTy.Contents (Elt F) arg4.view.ty)
  (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) : sProp 𝕄 :=
  iprop(held c arg3 X3 ∗ held c arg4 X4 ∗ held c arg6 f6 ∗ held c arg7 f7 ∗ held c arg8 f8 ∗ held c arg9 f9 ∗ held c arg10 f10)

/-- A trip of the loop. -/
abbrev tripProg (k : Fin (k0_t1_loop i).trips) (acc : BitVec 32) : Prog (TpuEff nD τ sig (Elt F) Λ₀ .tc) (BitVec 32) :=
  k0_t1_body (F := F) i arg2 harg2 arg3 harg3 arg4 harg4 arg5 harg5 arg6 harg6 arg7 harg7 arg8 harg8 arg9 harg9 arg10 harg10 arg1 (qv 0) (qv 1) (qv 2) (qv 3) c0_i32_42 c0_i32_43 c1_i32 v55 k acc

set_option backward.proofsInPublic true in
/-- The trip's run: each scratch buffer's writes, as found. -/
def tripRun (X3 : BufTy.Contents (Elt F) arg3.view.ty) (X4 : BufTy.Contents (Elt F) arg4.view.ty)
  (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (k : Fin (k0_t1_loop i).trips) (acc : BitVec 32) :
    Σ' (L6 : List (View.Piece (Elt F) S2x4x256x512 .f32)) (L7 : List (View.Piece (Elt F) S2x4x256x512 .bf16)) (L8 : List (View.Piece (Elt F) S4x1x512 .f32)) (L9 : List (View.Piece (Elt F) S2x4x1x512 .f32)), { L10 : List (View.Piece (Elt F) S4x128x512 .f32) //
      ∀ (E : Set ℕ), tripRes c arg3 arg4 arg6 arg7 arg8 arg9 arg10 X3 X4 f6 f7 f8 f9 f10
        ⊢ wp frame (wpE (defs₀ (F := F)) 𝒱 (c : Thread nD τ) bd) E (tripProg i arg2 harg2 arg3 harg3 arg4 harg4 arg5 harg5 arg6 harg6 arg7 harg7 arg8 harg8 arg9 harg9 arg10 harg10 arg1 qv c0_i32_42 c0_i32_43 c1_i32 v55 k acc)
          (fun _ => tripRes c arg3 arg4 arg6 arg7 arg8 arg9 arg10 X3 X4 (arg6.view.writes (Elt F) f6 L6) (arg7.view.writes (Elt F) f7 L7) (arg8.view.writes (Elt F) f8 L8) (arg9.view.writes (Elt F) f9 L9) (arg10.view.writes (Elt F) f10 L10)) } := by
  refine ⟨?_, ?_, ?_, ?_, ?_, fun E => ?run⟩
  case run =>
    dsimp only [tripProg]
    unfold k0_t1_body
    iintro ⟨H3, H4, H6, H7, H8, H9, H10⟩
    sl_exec
    sl_step
    sl_close

end Trip

end Cert.Flash

end
-- ==== Proof.TripTiles.lean ====
module

public import proofs.«01_k».proof.Proof.TripRun

/-! What a trip of the loop reads of the keys and the values, and what it makes of the heads' states. -/

@[expose] public section

set_option maxRecDepth 8192
set_option maxHeartbeats 4000000

noncomputable section

namespace Cert.Flash

open Cert.KernelIdeal Cert.KernelIdeal.Gen
open Idealize.ShloMosaic Idealize.ShloMosaic.TcCoe Idealize.ShloMosaic.Tactic

variable {F : FTy → Type} [FloatOps F]

/-- The key and value tiles a trip reads: the next tile's keys and the value tile of the step before, for each of its two steps. -/
structure TripTiles (i : grid0.Coords) (k : Fin (k0_t1_loop i).trips) (K : FVec F S16384x512 .bf16) (V : FVec F S64x512x256 .bf16)
    (kt1 kt2 : ℕ → FVec F S256x128 .bf16) (vt1 vt2 : ℕ → FVec F S1x128x256 .bf16) : Prop where
  k10 : ∀ inb, VecWindow.window (s := S16384x512) K (k0_off1 i k) ![256, 128] inb = kt1 0
  k11 : ∀ inb, VecWindow.window (s := S16384x512) K (k0_off2 i k) ![256, 128] inb = kt1 1
  k12 : ∀ inb, VecWindow.window (s := S16384x512) K (k0_off3 i k) ![256, 128] inb = kt1 2
  k13 : ∀ inb, VecWindow.window (s := S16384x512) K (k0_off4 i k) ![256, 128] inb = kt1 3
  v10 : ∀ inb, VecWindow.window (s := S64x512x256) V (k0_off5 i k) ![1, 128, 256] inb = vt1 0
  v11 : ∀ inb, VecWindow.window (s := S64x512x256) V (k0_off6 i k) ![1, 128, 256] inb = vt1 1
  v12 : ∀ inb, VecWindow.window (s := S64x512x256) V (k0_off7 i k) ![1, 128, 256] inb = vt1 2
  v13 : ∀ inb, VecWindow.window (s := S64x512x256) V (k0_off8 i k) ![1, 128, 256] inb = vt1 3
  k20 : ∀ inb, VecWindow.window (s := S16384x512) K (k0_off9 i k) ![256, 128] inb = kt2 0
  k21 : ∀ inb, VecWindow.window (s := S16384x512) K (k0_off10 i k) ![256, 128] inb = kt2 1
  k22 : ∀ inb, VecWindow.window (s := S16384x512) K (k0_off11 i k) ![256, 128] inb = kt2 2
  k23 : ∀ inb, VecWindow.window (s := S16384x512) K (k0_off12 i k) ![256, 128] inb = kt2 3
  v20 : ∀ inb, VecWindow.window (s := S64x512x256) V (k0_off13 i k) ![1, 128, 256] inb = vt2 0
  v21 : ∀ inb, VecWindow.window (s := S64x512x256) V (k0_off14 i k) ![1, 128, 256] inb = vt2 1
  v22 : ∀ inb, VecWindow.window (s := S64x512x256) V (k0_off15 i k) ![1, 128, 256] inb = vt2 2
  v23 : ∀ inb, VecWindow.window (s := S64x512x256) V (k0_off16 i k) ![1, 128, 256] inb = vt2 3

/-- What a trip makes of the heads' states: two steps. -/
def trip2 (qv : ℕ → FVec F S512x128 .bf16) (kt1 kt2 : ℕ → FVec F S256x128 .bf16) (vt1 vt2 : ℕ → FVec F S1x128x256 .bf16) (σ : ℕ → St F) (a : ℕ) : St F :=
  advance (score (qv a) (kt1 a)) (score (qv a) (kt2 a)) (vt2 a) (advance (σ a).s (score (qv a) (kt1 a)) (vt1 a) (σ a))

end Cert.Flash

end
-- ==== Proof.TripHolds.lean ====
module

public import proofs.«01_k».proof.Proof.TripTiles

/-! A trip's writes, read window by window: the states two steps on. -/

@[expose] public section

set_option maxRecDepth 8192
set_option maxHeartbeats 4000000

noncomputable section

namespace Cert.Flash

open Cert.KernelIdeal Cert.KernelIdeal.Gen
open Idealize.ShloMosaic Idealize.ShloMosaic.TcCoe Idealize.ShloMosaic.Tactic

variable {F : FTy → Type} [FloatOps F]

section Trip

variable (𝒱 : Variants) (c : Dev nD) (bd : Option 𝒱.V) (i : grid0.Coords)
  (arg2 : Memref sig .tc .vmem S512x512 .bf16) (harg2 : arg2.IsWhole)
  (arg3 : Memref sig .tc .vmem S16384x512 .bf16) (harg3 : arg3.IsWhole)
  (arg4 : Memref sig .tc .vmem S64x512x256 .bf16) (harg4 : arg4.IsWhole)
  (arg5 : Memref sig .tc .vmem S512x512 .bf16) (harg5 : arg5.IsWhole)
  (arg6 : Memref sig .tc .vmem S2x4x256x512 .f32) (harg6 : arg6.IsWhole)
  (arg7 : Memref sig .tc .vmem S2x4x256x512 .bf16) (harg7 : arg7.IsWhole)
  (arg8 : Memref sig .tc .vmem S4x1x512 .f32) (harg8 : arg8.IsWhole)
  (arg9 : Memref sig .tc .vmem S2x4x1x512 .f32) (harg9 : arg9.IsWhole)
  (arg10 : Memref sig .tc .vmem S4x128x512 .f32) (harg10 : arg10.IsWhole)
  (arg1 : BitVec 32) (qv : ℕ → FVec F S512x128 .bf16) (c0_i32_42 c0_i32_43 c1_i32 v55 : BitVec 32)
  (X3 : BufTy.Contents (Elt F) arg3.view.ty) (X4 : BufTy.Contents (Elt F) arg4.view.ty)
  (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (k : Fin (k0_t1_loop i).trips) (acc : BitVec 32)
  (kt1 kt2 : ℕ → FVec F S256x128 .bf16) (vt1 vt2 : ℕ → FVec F S1x128x256 .bf16) (σ : ℕ → St F)
  (hT : TripTiles i k (arg3.view.read (Elt F) X3) (arg4.view.read (Elt F) X4) kt1 kt2 vt1 vt2)
  (hH : Holds 0 1 (arg6.view.read (Elt F) f6) (arg7.view.read (Elt F) f7) (arg8.view.read (Elt F) f8) (arg9.view.read (Elt F) f9) (arg10.view.read (Elt F) f10) σ)

include hT hH in
theorem trip_s0 (inb) : VecWindow.window (s := S2x4x256x512) (arg6.view.read (Elt F) (arg6.view.writes (Elt F) f6 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).1)) ![0, 0, 0, 0] ![1, 1, 256, 512] inb
    = (trip2 qv kt1 kt2 vt1 vt2 σ 0).s := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k11, hT.k12, hT.k13, hT.k20, hT.k21, hT.k22, hT.k23, hT.v10, hT.v11, hT.v12, hT.v13, hT.v20, hT.v21, hT.v22, hT.v23]
  rfl

include hT hH in
theorem trip_s1 (inb) : VecWindow.window (s := S2x4x256x512) (arg6.view.read (Elt F) (arg6.view.writes (Elt F) f6 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).1)) ![0, 1, 0, 0] ![1, 1, 256, 512] inb
    = (trip2 qv kt1 kt2 vt1 vt2 σ 1).s := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k11, hT.k12, hT.k13, hT.k20, hT.k21, hT.k22, hT.k23, hT.v10, hT.v11, hT.v12, hT.v13, hT.v20, hT.v21, hT.v22, hT.v23]
  rfl

include hT hH in
theorem trip_s2 (inb) : VecWindow.window (s := S2x4x256x512) (arg6.view.read (Elt F) (arg6.view.writes (Elt F) f6 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).1)) ![0, 2, 0, 0] ![1, 1, 256, 512] inb
    = (trip2 qv kt1 kt2 vt1 vt2 σ 2).s := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k11, hT.k12, hT.k13, hT.k20, hT.k21, hT.k22, hT.k23, hT.v10, hT.v11, hT.v12, hT.v13, hT.v20, hT.v21, hT.v22, hT.v23]
  rfl

include hT hH in
theorem trip_s3 (inb) : VecWindow.window (s := S2x4x256x512) (arg6.view.read (Elt F) (arg6.view.writes (Elt F) f6 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).1)) ![0, 3, 0, 0] ![1, 1, 256, 512] inb
    = (trip2 qv kt1 kt2 vt1 vt2 σ 3).s := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k11, hT.k12, hT.k13, hT.k20, hT.k21, hT.k22, hT.k23, hT.v10, hT.v11, hT.v12, hT.v13, hT.v20, hT.v21, hT.v22, hT.v23]
  rfl

include hT hH in
theorem trip_p0 (inb) : VecWindow.window (s := S2x4x256x512) (arg7.view.read (Elt F) (arg7.view.writes (Elt F) f7 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.1)) ![1, 0, 0, 0] ![1, 1, 256, 512] inb
    = (trip2 qv kt1 kt2 vt1 vt2 σ 0).p := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k11, hT.k12, hT.k13, hT.k20, hT.k21, hT.k22, hT.k23, hT.v10, hT.v11, hT.v12, hT.v13, hT.v20, hT.v21, hT.v22, hT.v23]
  rfl

include hT hH in
theorem trip_p1 (inb) : VecWindow.window (s := S2x4x256x512) (arg7.view.read (Elt F) (arg7.view.writes (Elt F) f7 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.1)) ![1, 1, 0, 0] ![1, 1, 256, 512] inb
    = (trip2 qv kt1 kt2 vt1 vt2 σ 1).p := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k11, hT.k12, hT.k13, hT.k20, hT.k21, hT.k22, hT.k23, hT.v10, hT.v11, hT.v12, hT.v13, hT.v20, hT.v21, hT.v22, hT.v23]
  rfl

include hT hH in
theorem trip_p2 (inb) : VecWindow.window (s := S2x4x256x512) (arg7.view.read (Elt F) (arg7.view.writes (Elt F) f7 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.1)) ![1, 2, 0, 0] ![1, 1, 256, 512] inb
    = (trip2 qv kt1 kt2 vt1 vt2 σ 2).p := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k11, hT.k12, hT.k13, hT.k20, hT.k21, hT.k22, hT.k23, hT.v10, hT.v11, hT.v12, hT.v13, hT.v20, hT.v21, hT.v22, hT.v23]
  rfl

include hT hH in
theorem trip_p3 (inb) : VecWindow.window (s := S2x4x256x512) (arg7.view.read (Elt F) (arg7.view.writes (Elt F) f7 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.1)) ![1, 3, 0, 0] ![1, 1, 256, 512] inb
    = (trip2 qv kt1 kt2 vt1 vt2 σ 3).p := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k11, hT.k12, hT.k13, hT.k20, hT.k21, hT.k22, hT.k23, hT.v10, hT.v11, hT.v12, hT.v13, hT.v20, hT.v21, hT.v22, hT.v23]
  rfl

include hT hH in
theorem trip_m0 (inb) : VecWindow.window (s := S4x1x512) (arg8.view.read (Elt F) (arg8.view.writes (Elt F) f8 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.2.1)) ![0, 0, 0] ![1, 1, 512] inb
    = (trip2 qv kt1 kt2 vt1 vt2 σ 0).m := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k11, hT.k12, hT.k13, hT.k20, hT.k21, hT.k22, hT.k23, hT.v10, hT.v11, hT.v12, hT.v13, hT.v20, hT.v21, hT.v22, hT.v23]
  rfl

include hT hH in
theorem trip_m1 (inb) : VecWindow.window (s := S4x1x512) (arg8.view.read (Elt F) (arg8.view.writes (Elt F) f8 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.2.1)) ![1, 0, 0] ![1, 1, 512] inb
    = (trip2 qv kt1 kt2 vt1 vt2 σ 1).m := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k11, hT.k12, hT.k13, hT.k20, hT.k21, hT.k22, hT.k23, hT.v10, hT.v11, hT.v12, hT.v13, hT.v20, hT.v21, hT.v22, hT.v23]
  rfl

include hT hH in
theorem trip_m2 (inb) : VecWindow.window (s := S4x1x512) (arg8.view.read (Elt F) (arg8.view.writes (Elt F) f8 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.2.1)) ![2, 0, 0] ![1, 1, 512] inb
    = (trip2 qv kt1 kt2 vt1 vt2 σ 2).m := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k11, hT.k12, hT.k13, hT.k20, hT.k21, hT.k22, hT.k23, hT.v10, hT.v11, hT.v12, hT.v13, hT.v20, hT.v21, hT.v22, hT.v23]
  rfl

include hT hH in
theorem trip_m3 (inb) : VecWindow.window (s := S4x1x512) (arg8.view.read (Elt F) (arg8.view.writes (Elt F) f8 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.2.1)) ![3, 0, 0] ![1, 1, 512] inb
    = (trip2 qv kt1 kt2 vt1 vt2 σ 3).m := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k11, hT.k12, hT.k13, hT.k20, hT.k21, hT.k22, hT.k23, hT.v10, hT.v11, hT.v12, hT.v13, hT.v20, hT.v21, hT.v22, hT.v23]
  rfl

include hT hH in
theorem trip_al0 (inb) : VecWindow.window (s := S2x4x1x512) (arg9.view.read (Elt F) (arg9.view.writes (Elt F) f9 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.2.2.1)) ![1, 0, 0, 0] ![1, 1, 1, 512] inb
    = (trip2 qv kt1 kt2 vt1 vt2 σ 0).al := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k11, hT.k12, hT.k13, hT.k20, hT.k21, hT.k22, hT.k23, hT.v10, hT.v11, hT.v12, hT.v13, hT.v20, hT.v21, hT.v22, hT.v23]
  rfl

include hT hH in
theorem trip_al1 (inb) : VecWindow.window (s := S2x4x1x512) (arg9.view.read (Elt F) (arg9.view.writes (Elt F) f9 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.2.2.1)) ![1, 1, 0, 0] ![1, 1, 1, 512] inb
    = (trip2 qv kt1 kt2 vt1 vt2 σ 1).al := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k11, hT.k12, hT.k13, hT.k20, hT.k21, hT.k22, hT.k23, hT.v10, hT.v11, hT.v12, hT.v13, hT.v20, hT.v21, hT.v22, hT.v23]
  rfl

include hT hH in
theorem trip_al2 (inb) : VecWindow.window (s := S2x4x1x512) (arg9.view.read (Elt F) (arg9.view.writes (Elt F) f9 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.2.2.1)) ![1, 2, 0, 0] ![1, 1, 1, 512] inb
    = (trip2 qv kt1 kt2 vt1 vt2 σ 2).al := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k11, hT.k12, hT.k13, hT.k20, hT.k21, hT.k22, hT.k23, hT.v10, hT.v11, hT.v12, hT.v13, hT.v20, hT.v21, hT.v22, hT.v23]
  rfl

include hT hH in
theorem trip_al3 (inb) : VecWindow.window (s := S2x4x1x512) (arg9.view.read (Elt F) (arg9.view.writes (Elt F) f9 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.2.2.1)) ![1, 3, 0, 0] ![1, 1, 1, 512] inb
    = (trip2 qv kt1 kt2 vt1 vt2 σ 3).al := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k11, hT.k12, hT.k13, hT.k20, hT.k21, hT.k22, hT.k23, hT.v10, hT.v11, hT.v12, hT.v13, hT.v20, hT.v21, hT.v22, hT.v23]
  rfl

include hT hH in
theorem trip_acc0 (inb) : VecWindow.window (s := S4x128x512) (arg10.view.read (Elt F) (arg10.view.writes (Elt F) f10 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.2.2.2.1)) ![0, 0, 0] ![1, 128, 512] inb
    = (trip2 qv kt1 kt2 vt1 vt2 σ 0).acc := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k11, hT.k12, hT.k13, hT.k20, hT.k21, hT.k22, hT.k23, hT.v10, hT.v11, hT.v12, hT.v13, hT.v20, hT.v21, hT.v22, hT.v23]
  rfl

include hT hH in
theorem trip_acc1 (inb) : VecWindow.window (s := S4x128x512) (arg10.view.read (Elt F) (arg10.view.writes (Elt F) f10 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.2.2.2.1)) ![1, 0, 0] ![1, 128, 512] inb
    = (trip2 qv kt1 kt2 vt1 vt2 σ 1).acc := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k11, hT.k12, hT.k13, hT.k20, hT.k21, hT.k22, hT.k23, hT.v10, hT.v11, hT.v12, hT.v13, hT.v20, hT.v21, hT.v22, hT.v23]
  rfl

include hT hH in
theorem trip_acc2 (inb) : VecWindow.window (s := S4x128x512) (arg10.view.read (Elt F) (arg10.view.writes (Elt F) f10 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.2.2.2.1)) ![2, 0, 0] ![1, 128, 512] inb
    = (trip2 qv kt1 kt2 vt1 vt2 σ 2).acc := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k11, hT.k12, hT.k13, hT.k20, hT.k21, hT.k22, hT.k23, hT.v10, hT.v11, hT.v12, hT.v13, hT.v20, hT.v21, hT.v22, hT.v23]
  rfl

include hT hH in
theorem trip_acc3 (inb) : VecWindow.window (s := S4x128x512) (arg10.view.read (Elt F) (arg10.view.writes (Elt F) f10 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.2.2.2.1)) ![3, 0, 0] ![1, 128, 512] inb
    = (trip2 qv kt1 kt2 vt1 vt2 σ 3).acc := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k11, hT.k12, hT.k13, hT.k20, hT.k21, hT.k22, hT.k23, hT.v10, hT.v11, hT.v12, hT.v13, hT.v20, hT.v21, hT.v22, hT.v23]
  rfl

include hT hH in
/-- A trip of the loop takes states held to states held: two steps on. -/
theorem trip_holds : Holds 0 1 (arg6.view.read (Elt F) (arg6.view.writes (Elt F) f6 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).1)) (arg7.view.read (Elt F) (arg7.view.writes (Elt F) f7 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.1)) (arg8.view.read (Elt F) (arg8.view.writes (Elt F) f8 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.2.1)) (arg9.view.read (Elt F) (arg9.view.writes (Elt F) f9 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.2.2.1)) (arg10.view.read (Elt F) (arg10.view.writes (Elt F) f10 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.2.2.2.1))
    (trip2 qv kt1 kt2 vt1 vt2 σ) where
  s a inb := by
    have ha : a < 4 := by have : a + 1 ≤ 4 := inb 1; omega
    obtain rfl | rfl | rfl | rfl : a = 0 ∨ a = 1 ∨ a = 2 ∨ a = 3 := by omega
    · exact trip_s0 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
    · exact trip_s1 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
    · exact trip_s2 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
    · exact trip_s3 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
  p a inb := by
    have ha : a < 4 := by have : a + 1 ≤ 4 := inb 1; omega
    obtain rfl | rfl | rfl | rfl : a = 0 ∨ a = 1 ∨ a = 2 ∨ a = 3 := by omega
    · exact trip_p0 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
    · exact trip_p1 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
    · exact trip_p2 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
    · exact trip_p3 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
  m a inb := by
    have ha : a < 4 := by have : a + 1 ≤ 4 := inb 0; omega
    obtain rfl | rfl | rfl | rfl : a = 0 ∨ a = 1 ∨ a = 2 ∨ a = 3 := by omega
    · exact trip_m0 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
    · exact trip_m1 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
    · exact trip_m2 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
    · exact trip_m3 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
  al a inb := by
    have ha : a < 4 := by have : a + 1 ≤ 4 := inb 1; omega
    obtain rfl | rfl | rfl | rfl : a = 0 ∨ a = 1 ∨ a = 2 ∨ a = 3 := by omega
    · exact trip_al0 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
    · exact trip_al1 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
    · exact trip_al2 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
    · exact trip_al3 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
  acc a inb := by
    have ha : a < 4 := by have : a + 1 ≤ 4 := inb 0; omega
    obtain rfl | rfl | rfl | rfl : a = 0 ∨ a = 1 ∨ a = 2 ∨ a = 3 := by omega
    · exact trip_acc0 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
    · exact trip_acc1 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
    · exact trip_acc2 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
    · exact trip_acc3 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb

end Trip

end Cert.Flash

end
-- ==== Proof.Masked.lean ====
module

public import proofs.«01_k».proof.Proof.State
public import Idealize.ShloMosaic.Lib.ValueLayout

/-! The step on a masked tile: the comparison of positions as the words have it, and the same as a step on masked scores. -/

@[expose] public section

set_option maxRecDepth 8192

noncomputable section

namespace Cert.Flash

open Idealize.ShloMosaic Idealize.ShloMosaic.ValueIdx Cert.KernelIdeal Cert.KernelIdeal.Gen

variable {F : FTy → Type} [FloatOps F]

/-- Scores with those of keys past their query taken out: tile `j` of the keys against block `b` of the queries. -/
def masked (b j : ℕ) (s : FVec F S1x1x256x512 .f32) : FVec F S1x1x256x512 .f32 :=
  fun y => if 256 * j + (y 2).val ≤ 512 * b + (y 3).val then s y else Scalar.ofBits .f32 0xFF800000#32

/-- A strip, with the comparison in words. -/
def stripSel (kb qb : BitVec 32) (x : FVec F S256x128 .f32) : FVec F S256x128 .f32 :=
  select (cmpi .sle (addi (broadcast S256x128 kb) (iota .tc S256x128 32 [0] iota_S256x128_d0_w32)) (addi (broadcast S256x128 qb) (iota .tc S256x128 32 [1] iota_S256x128_d1_w32)))
    x (broadcast S256x128 (Scalar.ofBits .f32 0xFF800000#32))

/-- A band, with the comparison in words. -/
def bandSel (kb qb : BitVec 32) (x : FVec F S64x512 .f32) : FVec F S64x512 .f32 :=
  select (cmpi .sle (addi (broadcast S64x512 kb) (iota .tc S64x512 32 [0] iota_S64x512_d0_w32)) (addi (broadcast S64x512 qb) (iota .tc S64x512 32 [1] iota_S64x512_d1_w32)))
    x (broadcast S64x512 (Scalar.ofBits .f32 0xFF800000#32))

/-- The position of the first key, `r` rows into tile `j`. -/
abbrev keyAt (j : BitVec 32) (r : BitVec 32) : BitVec 32 := Scalar.addi (Scalar.muli j 256#32) r

/-- The position of the first query, `r` columns into block `b`. -/
abbrev queryAt (b : BitVec 32) (r : BitVec 32) : BitVec 32 := Scalar.addi (Scalar.muli b 512#32) r

/-- The maxima of a strip of a masked tile. -/
def stripMaxW (b j r : BitVec 32) (x : FVec F S1x1x256x128 .f32) : FVec F S1x128 .f32 :=
  shapeCast S1x128 (multiReduction .maximumf [0] S128 (stripSel (keyAt j 0#32) (queryAt b r) (shapeCast S256x128 x shapeCasts_S1x1x256x128_S256x128)) 0xFF800000#32 reduces_S256x128_S128 (.inl rfl) rfl) shapeCasts_S128_S1x128

/-- The running maximum after a masked tile, as a row. -/
def maxRowW (b j : BitVec 32) (m : FVec F S1x1x512 .f32) (s : FVec F S1x1x256x512 .f32) : FVec F S1x512 .f32 :=
  maximumf (k0_pay13 m) (concatenate S1x512 1 [⟨S1x128, stripMaxW b j 0#32 (strip s 0)⟩, ⟨S1x128, stripMaxW b j 128#32 (strip s 128)⟩, ⟨S1x128, stripMaxW b j 256#32 (strip s 256)⟩,
    ⟨S1x128, stripMaxW b j 384#32 (strip s 384)⟩] concatenates_S1x128_S1x128_S1x128_S1x128_S1x512_d1)

/-- The weights of a band of a masked tile. -/
def bandW (b j r : BitVec 32) (mr : FVec F S1x512 .f32) (x : FVec F S1x1x64x512 .f32) : FVec F S1x1x64x512 .bf16 :=
  shapeCast S1x1x64x512 (truncf .bf16 (exp2 (subf (bandSel (keyAt j r) (queryAt b 0#32) (shapeCast S64x512 x shapeCasts_S1x1x64x512_S64x512)) (broadcastTo S64x512 mr broadcasts_S1x512_S64x512))) bitsLt_bf16_f32) shapeCasts_S64x512_S1x1x64x512

/-- The step on a masked tile, as the words have it. -/
def advanceW (b j : BitVec 32) (next : FVec F S1x1x256x512 .f32) (vt : FVec F S1x128x256 .bf16) (σ : St F) : St F where
  s := next
  p := stack (bandW b j 0#32 (maxRowW b j σ.m σ.s) (band σ.s 0)) (bandW b j 64#32 (maxRowW b j σ.m σ.s) (band σ.s 64)) (bandW b j 128#32 (maxRowW b j σ.m σ.s) (band σ.s 128)) (bandW b j 192#32 (maxRowW b j σ.m σ.s) (band σ.s 192))
  m := shapeCast S1x1x512 (maxRowW b j σ.m σ.s) shapeCasts_S1x512_S1x1x512
  al := shapeCast S1x1x1x512 (exp2 (subf (k0_pay13 σ.m) (maxRowW b j σ.m σ.s))) shapeCasts_S1x512_S1x1x1x512
  acc := gather σ vt

/-- The comparison of words is that of the numbers they stand for. -/
theorem sle_word (b j r r' : ℕ) (hb : b < 32) (hj : j < 64) (hr : r < 256) (hr' : r' < 512) (x y : F .f32) (kb qb : BitVec 32) (o o' : ℕ) (ho : o + o' = r)
    (p p' : ℕ) (hp : p + p' = r') (hk : kb = keyAt (BitVec.ofNat 32 j) (BitVec.ofNat 32 o)) (hq : qb = queryAt (BitVec.ofNat 32 b) (BitVec.ofNat 32 p)) :
    Scalar.select (IntOp.cmpi .sle (IntOp.addi kb (BitVec.ofNat 32 o')) (IntOp.addi qb (BitVec.ofNat 32 p'))) x y = if 256 * j + r ≤ 512 * b + r' then x else y := by
  have e1 : IntOp.addi kb (BitVec.ofNat 32 o') = BitVec.ofNat 32 (256 * j + r) := by
    subst hk ho
    show BitVec.ofNat 32 j * 256#32 + BitVec.ofNat 32 o + BitVec.ofNat 32 o' = _
    rw [show (256#32 : BitVec 32) = BitVec.ofNat 32 256 from rfl, ← BitVec.ofNat_mul, ← BitVec.ofNat_add, ← BitVec.ofNat_add]
    congr 1; omega
  have e2 : IntOp.addi qb (BitVec.ofNat 32 p') = BitVec.ofNat 32 (512 * b + r') := by
    subst hq hp
    show BitVec.ofNat 32 b * 512#32 + BitVec.ofNat 32 p + BitVec.ofNat 32 p' = _
    rw [show (512#32 : BitVec 32) = BitVec.ofNat 32 512 from rfl, ← BitVec.ofNat_mul, ← BitVec.ofNat_add, ← BitVec.ofNat_add]
    congr 1; omega
  rw [e1, e2]
  have t : ∀ n : ℕ, n < 2 ^ 31 → (BitVec.ofNat 32 n).toInt = n := by
    intro n hn
    rw [BitVec.toInt_eq_toNat_of_lt (by rw [BitVec.toNat_ofNat]; omega), BitVec.toNat_ofNat, Nat.mod_eq_of_lt (by omega)]
  have c : ((BitVec.ofNat 32 (256 * j + r)).sle (BitVec.ofNat 32 (512 * b + r')) = true) ↔ 256 * j + r ≤ 512 * b + r' := by
    rw [BitVec.sle_iff_toInt_le, t _ (by omega), t _ (by omega)]; omega
  show (if BitVec.ofBool _ = 1 then x else y) = _
  by_cases h : 256 * j + r ≤ 512 * b + r'
  · rw [if_pos h]
    have := c.2 h
    dsimp only
    rw [this]; rfl
  · rw [if_neg h]
    have : (BitVec.ofNat 32 (256 * j + r)).sle (BitVec.ofNat 32 (512 * b + r')) = false := by
      rw [← Bool.not_eq_true]; exact fun hh => h (c.1 hh)
    dsimp only
    rw [this]; rfl

/-- A strip with the comparison in words is the masked tile's strip. -/
theorem stripSel_eq (b j : ℕ) (hb : b < 32) (hj : j < 64) (s : FVec F S1x1x256x512 .f32) (r : ℕ) (h : ∀ k, ![0, 0, 0, r] k + ![1, 1, 256, 128] k ≤ S1x1x256x512.size k) :
    stripSel (keyAt (BitVec.ofNat 32 j) 0#32) (queryAt (BitVec.ofNat 32 b) (BitVec.ofNat 32 r)) (shapeCast S256x128 (strip s r h) shapeCasts_S1x1x256x128_S256x128)
      = shapeCast S256x128 (strip (masked b j s) r h) shapeCasts_S1x1x256x128_S256x128 := by
  have hr : r + 128 ≤ 512 := h 3
  funext y
  obtain ⟨p, q, rfl⟩ : ∃ (p : Fin 256) (q : Fin 128), y = ix2 p q := ⟨y 0, y 1, eq_ix2 y⟩
  have cast : ∀ x : FVec F S1x1x256x128 .f32, shapeCast S256x128 x shapeCasts_S1x1x256x128_S256x128 (ix2 p q) = x (ix4 (0 : Fin 1) (0 : Fin 1) p q) := fun x =>
    shapeCast_apply x _ _ _ (by
      rw [Shape.rowMajor_val_four, Shape.rowMajor_val_two]
      show ((0 * 1 + 0) * 256 + p.val) * 128 + q.val = p.val * 128 + q.val
      omega)
  have hp := p.isLt
  have hq := q.isLt
  refine Eq.trans ?_ (cast _).symm
  refine Eq.trans (congrArg (fun t => Scalar.select (IntOp.cmpi .sle (IntOp.addi _ (BitVec.ofNat 32 (0 * 256 + p.val))) (IntOp.addi _ (BitVec.ofNat 32 (0 * 128 + q.val)))) t _) (cast (strip s r h))) ?_
  exact sle_word b j (0 + 1 * p.val) (r + 1 * q.val) hb hj (by omega) (by omega) _ _ _ _ 0 (0 * 256 + p.val) (by omega) r (0 * 128 + q.val) (by omega) rfl rfl

/-- A band with the comparison in words is the masked tile's band. -/
theorem bandSel_eq (b j : ℕ) (hb : b < 32) (hj : j < 64) (s : FVec F S1x1x256x512 .f32) (r : ℕ) (h : ∀ k, ![0, 0, r, 0] k + ![1, 1, 64, 512] k ≤ S1x1x256x512.size k) :
    bandSel (keyAt (BitVec.ofNat 32 j) (BitVec.ofNat 32 r)) (queryAt (BitVec.ofNat 32 b) 0#32) (shapeCast S64x512 (band s r h) shapeCasts_S1x1x64x512_S64x512)
      = shapeCast S64x512 (band (masked b j s) r h) shapeCasts_S1x1x64x512_S64x512 := by
  have hr : r + 64 ≤ 256 := h 2
  funext y
  obtain ⟨p, q, rfl⟩ : ∃ (p : Fin 64) (q : Fin 512), y = ix2 p q := ⟨y 0, y 1, eq_ix2 y⟩
  have cast : ∀ x : FVec F S1x1x64x512 .f32, shapeCast S64x512 x shapeCasts_S1x1x64x512_S64x512 (ix2 p q) = x (ix4 (0 : Fin 1) (0 : Fin 1) p q) := fun x =>
    shapeCast_apply x _ _ _ (by
      rw [Shape.rowMajor_val_four, Shape.rowMajor_val_two]
      show ((0 * 1 + 0) * 64 + p.val) * 512 + q.val = p.val * 512 + q.val
      omega)
  have hp := p.isLt
  have hq := q.isLt
  refine Eq.trans ?_ (cast _).symm
  refine Eq.trans (congrArg (fun t => Scalar.select (IntOp.cmpi .sle (IntOp.addi _ (BitVec.ofNat 32 (0 * 64 + p.val))) (IntOp.addi _ (BitVec.ofNat 32 (0 * 512 + q.val)))) t _) (cast (band s r h))) ?_
  exact sle_word b j (r + 1 * p.val) (0 + 1 * q.val) hb hj (by omega) (by omega) _ _ _ _ r (0 * 64 + p.val) (by omega) 0 (0 * 512 + q.val) (by omega) rfl rfl

/-- The step on a masked tile is a step on the masked scores. -/
theorem advanceW_eq (b j : ℕ) (hb : b < 32) (hj : j < 64) (next : FVec F S1x1x256x512 .f32) (vt : FVec F S1x128x256 .bf16) (σ : St F) :
    advanceW (BitVec.ofNat 32 b) (BitVec.ofNat 32 j) next vt σ = advance (masked b j σ.s) next vt σ := by
  have hs : ∀ (r : ℕ) (h), stripMaxW (BitVec.ofNat 32 b) (BitVec.ofNat 32 j) (BitVec.ofNat 32 r) (strip σ.s r h) = k0_pay14 (strip (masked b j σ.s) r h) := by
    intro r h
    unfold stripMaxW
    rw [stripSel_eq b j hb hj]
    rfl
  have hm : maxRowW (BitVec.ofNat 32 b) (BitVec.ofNat 32 j) σ.m σ.s = maxRow σ.m (masked b j σ.s) := by
    unfold maxRowW
    rw [hs 0, hs 128, hs 256, hs 384]
    rfl
  have hb : ∀ (r : ℕ) (h) (mr), bandW (BitVec.ofNat 32 b) (BitVec.ofNat 32 j) (BitVec.ofNat 32 r) mr (band σ.s r h) = k0_pay41 mr (band (masked b j σ.s) r h) := by
    intro r h mr
    unfold bandW
    rw [bandSel_eq b j hb hj]
    rfl
  unfold advanceW
  rw [hm, hb 0, hb 64, hb 128, hb 192]
  rfl

end Cert.Flash

end
-- ==== Proof.Sweep.lean ====
module

public import proofs.«01_k».proof.Proof.TripTiles
public import proofs.«01_k».proof.Proof.Masked

/-! The sweep of one block of queries over the key tiles, state by state, and where the tiles lie that a trip of the loop reads. -/

@[expose] public section

set_option maxRecDepth 8192

noncomputable section

namespace Cert.Flash

open Idealize.ShloMosaic Idealize.ShloMosaic.ValueIdx Idealize.ShloMosaic.Tactic Cert.KernelIdeal Cert.KernelIdeal.Gen

variable {F : FTy → Type} [FloatOps F]

/-- Tile `j` of head `a`'s key rows: 256 rows of its 128 columns. -/
def kTile (K : FVec F S16384x512 .bf16) (j a : ℕ) : FVec F S256x128 .bf16 :=
  if h : ∀ k, ![256 * j, 128 * a] k + ![256, 128] k ≤ S16384x512.size k then VecWindow.window (s := S16384x512) K ![256 * j, 128 * a] ![256, 128] h else fun _ => Scalar.ofBits .bf16 0x0000#16

/-- Tile `j` of head `a`'s value rows, feature by key. -/
def vTile (V : FVec F S64x512x256 .bf16) (j a : ℕ) : FVec F S1x128x256 .bf16 :=
  if h : ∀ k, ![j, 128 * a, 0] k + ![1, 128, 256] k ≤ S64x512x256.size k then VecWindow.window (s := S64x512x256) V ![j, 128 * a, 0] ![1, 128, 256] h else fun _ => Scalar.ofBits .bf16 0x0000#16

/-- Head `a`'s columns of a block of queries. -/
def qTile (Q : FVec F S512x512 .bf16) (a : ℕ) : FVec F S512x128 .bf16 :=
  if h : ∀ k, ![0, 128 * a] k + ![512, 128] k ≤ S512x512.size k then VecWindow.window (s := S512x512) Q ![0, 128 * a] ![512, 128] h else fun _ => Scalar.ofBits .bf16 0x0000#16

theorem window_kTile (K : FVec F S16384x512 .bf16) (off : Fin 2 → ℕ) (inb) (j a : ℕ) (h : off = ![256 * j, 128 * a]) :
    VecWindow.window (s := S16384x512) K off ![256, 128] inb = kTile K j a := by
  subst h; exact (dif_pos inb).symm

theorem window_vTile (V : FVec F S64x512x256 .bf16) (off : Fin 3 → ℕ) (inb) (j a : ℕ) (h : off = ![j, 128 * a, 0]) :
    VecWindow.window (s := S64x512x256) V off ![1, 128, 256] inb = vTile V j a := by
  subst h; exact (dif_pos inb).symm

theorem window_qTile (Q : FVec F S512x512 .bf16) (off : Fin 2 → ℕ) (inb) (a : ℕ) (h : off = ![0, 128 * a]) :
    VecWindow.window (s := S512x512) Q off ![512, 128] inb = qTile Q a := by
  subst h; exact (dif_pos inb).symm

/-- A head's state before step `j` of the sweep of query block `b`: each step on the tile's masked scores. -/
def sweep (b : ℕ) (q : FVec F S512x128 .bf16) (kt : ℕ → FVec F S256x128 .bf16) (vt : ℕ → FVec F S1x128x256 .bf16) : ℕ → St F
  | 0 => ⟨score q (kt 0), fun _ => Scalar.ofBits .bf16 0x0000#16, fun _ => Scalar.ofBits .f32 0xFF800000#32, fun _ => Scalar.ofBits .f32 0x3F800000#32, fun _ => Scalar.ofBits .f32 0x00000000#32⟩
  | j + 1 => advance (masked b j (sweep b q kt vt j).s) (score q (kt (j + 1))) (vt (j - 1)) (sweep b q kt vt j)

/-- The scores at hand are those of the tile whose turn it is. -/
theorem sweep_s (b : ℕ) (q : FVec F S512x128 .bf16) (kt : ℕ → FVec F S256x128 .bf16) (vt : ℕ → FVec F S1x128x256 .bf16) (j : ℕ) :
    (sweep b q kt vt j).s = score q (kt j) := by
  cases j <;> rfl

/-- A tile that lies before every query of the block is not changed by the mask. -/
theorem masked_before (b j : ℕ) (s : FVec F S1x1x256x512 .f32) (h : j < 2 * b) : masked b j s = s := by
  funext y
  have h2 : (y 2).val < 256 := (y 2).isLt
  exact if_pos (by omega)

/-- The heads' states of the sweep. -/
def states (b : ℕ) (q : ℕ → FVec F S512x128 .bf16) (K : FVec F S16384x512 .bf16) (V : FVec F S64x512x256 .bf16) (j a : ℕ) : St F :=
  sweep b (q a) (fun j => kTile K j a) (fun j => vTile V j a) j

/-- A trip on tiles before the block takes the states two steps on. -/
theorem states_trip (b k : ℕ) (hk : k < b) (q : ℕ → FVec F S512x128 .bf16) (K : FVec F S16384x512 .bf16) (V : FVec F S64x512x256 .bf16) :
    trip2 q (fun a => kTile K (2 * k + 1) a) (fun a => kTile K (2 * k + 2) a) (fun a => vTile V (2 * k - 1) a) (fun a => vTile V (2 * k) a) (states b q K V (2 * k)) = states b q K V (2 * (k + 1)) := by
  funext a
  show _ = advance (masked b (2 * k + 1) (advance (masked b (2 * k) _) _ _ _).s) _ (vTile V (2 * k + 1 - 1) a) (advance (masked b (2 * k) _) _ _ _)
  rw [masked_before b (2 * k) _ (by omega), masked_before b (2 * k + 1) _ (by omega)]
  rfl

theorem trips_eq : ∀ i : grid0.Coords, (k0_t1_loop i).trips = (i 1).val := by decide +kernel

theorem off5_at (i : grid0.Coords) (k : Fin (k0_t1_loop i).trips) : k0_off5 i k = ![2 * k.val - 1, 0, 0] := by
  have hk : k.val < 31 := Nat.lt_of_lt_of_le k.isLt (k0_t1_abs i).2.1
  have z : Affine.IsInt 0#32 0 := Affine.ofNat _ (by omega)
  have o : Affine.IsInt 1#32 1 := Affine.ofNat _ (by omega)
  have t : Affine.IsInt 2#32 2 := Affine.ofNat _ (by omega)
  have hi : Affine.IsInt (Scf.iv 0#32 1#32 k.val) (k.val : Int) := Affine.iv z o k.val (by omega)
  have hv : Affine.IsInt _ (2 * (k.val : Int)) := Affine.muli t hi (by omega)
  have hu : Affine.IsInt _ (2 * (k.val : Int) - 1) := Affine.subi hv o (by omega)
  have hm : Affine.IsInt _ (max (2 * (k.val : Int) - 1) 0) := Affine.maxsi hu z (by omega)
  have hw := Affine.indexCast hm
  exact Affine.vec_cons hw (by omega) rfl

theorem off6_at (i : grid0.Coords) (k : Fin (k0_t1_loop i).trips) : k0_off6 i k = ![2 * k.val - 1, 128, 0] := by
  have hk : k.val < 31 := Nat.lt_of_lt_of_le k.isLt (k0_t1_abs i).2.1
  have z : Affine.IsInt 0#32 0 := Affine.ofNat _ (by omega)
  have o : Affine.IsInt 1#32 1 := Affine.ofNat _ (by omega)
  have t : Affine.IsInt 2#32 2 := Affine.ofNat _ (by omega)
  have hi : Affine.IsInt (Scf.iv 0#32 1#32 k.val) (k.val : Int) := Affine.iv z o k.val (by omega)
  have hv : Affine.IsInt _ (2 * (k.val : Int)) := Affine.muli t hi (by omega)
  have hu : Affine.IsInt _ (2 * (k.val : Int) - 1) := Affine.subi hv o (by omega)
  have hm : Affine.IsInt _ (max (2 * (k.val : Int) - 1) 0) := Affine.maxsi hu z (by omega)
  have hw := Affine.indexCast hm
  exact Affine.vec_cons hw (by omega) rfl

theorem off7_at (i : grid0.Coords) (k : Fin (k0_t1_loop i).trips) : k0_off7 i k = ![2 * k.val - 1, 256, 0] := by
  have hk : k.val < 31 := Nat.lt_of_lt_of_le k.isLt (k0_t1_abs i).2.1
  have z : Affine.IsInt 0#32 0 := Affine.ofNat _ (by omega)
  have o : Affine.IsInt 1#32 1 := Affine.ofNat _ (by omega)
  have t : Affine.IsInt 2#32 2 := Affine.ofNat _ (by omega)
  have hi : Affine.IsInt (Scf.iv 0#32 1#32 k.val) (k.val : Int) := Affine.iv z o k.val (by omega)
  have hv : Affine.IsInt _ (2 * (k.val : Int)) := Affine.muli t hi (by omega)
  have hu : Affine.IsInt _ (2 * (k.val : Int) - 1) := Affine.subi hv o (by omega)
  have hm : Affine.IsInt _ (max (2 * (k.val : Int) - 1) 0) := Affine.maxsi hu z (by omega)
  have hw := Affine.indexCast hm
  exact Affine.vec_cons hw (by omega) rfl

theorem off8_at (i : grid0.Coords) (k : Fin (k0_t1_loop i).trips) : k0_off8 i k = ![2 * k.val - 1, 384, 0] := by
  have hk : k.val < 31 := Nat.lt_of_lt_of_le k.isLt (k0_t1_abs i).2.1
  have z : Affine.IsInt 0#32 0 := Affine.ofNat _ (by omega)
  have o : Affine.IsInt 1#32 1 := Affine.ofNat _ (by omega)
  have t : Affine.IsInt 2#32 2 := Affine.ofNat _ (by omega)
  have hi : Affine.IsInt (Scf.iv 0#32 1#32 k.val) (k.val : Int) := Affine.iv z o k.val (by omega)
  have hv : Affine.IsInt _ (2 * (k.val : Int)) := Affine.muli t hi (by omega)
  have hu : Affine.IsInt _ (2 * (k.val : Int) - 1) := Affine.subi hv o (by omega)
  have hm : Affine.IsInt _ (max (2 * (k.val : Int) - 1) 0) := Affine.maxsi hu z (by omega)
  have hw := Affine.indexCast hm
  exact Affine.vec_cons hw (by omega) rfl

theorem off37_at0 : ∀ i : grid0.Coords, k0_off37 i 0#32 = ![2 * (i 1).val - 1, 0, 0] := by decide +kernel
theorem off37_at1 : ∀ i : grid0.Coords, k0_off37 i 1#32 = ![2 * (i 1).val, 0, 0] := by decide +kernel

theorem off38_at0 : ∀ i : grid0.Coords, k0_off38 i 0#32 = ![2 * (i 1).val - 1, 128, 0] := by decide +kernel
theorem off38_at1 : ∀ i : grid0.Coords, k0_off38 i 1#32 = ![2 * (i 1).val, 128, 0] := by decide +kernel

theorem off39_at0 : ∀ i : grid0.Coords, k0_off39 i 0#32 = ![2 * (i 1).val - 1, 256, 0] := by decide +kernel
theorem off39_at1 : ∀ i : grid0.Coords, k0_off39 i 1#32 = ![2 * (i 1).val, 256, 0] := by decide +kernel

theorem off40_at0 : ∀ i : grid0.Coords, k0_off40 i 0#32 = ![2 * (i 1).val - 1, 384, 0] := by decide +kernel
theorem off40_at1 : ∀ i : grid0.Coords, k0_off40 i 1#32 = ![2 * (i 1).val, 384, 0] := by decide +kernel

/-- The tiles a trip reads. -/
theorem tripTiles (i : grid0.Coords) (k : Fin (k0_t1_loop i).trips) (K : FVec F S16384x512 .bf16) (V : FVec F S64x512x256 .bf16) :
    TripTiles i k K V (fun a => kTile K (2 * k.val + 1) a) (fun a => kTile K (2 * k.val + 2) a) (fun a => vTile V (2 * k.val - 1) a) (fun a => vTile V (2 * k.val) a) where
  k10 inb := window_kTile K _ inb _ _ ((k0_off1_eq i k).trans (by congr 1; omega))
  v10 inb := window_vTile V _ inb _ _ (off5_at i k)
  k20 inb := window_kTile K _ inb _ _ ((k0_off9_eq i k).trans (by congr 1; omega))
  v20 inb := window_vTile V _ inb _ _ (k0_off13_eq i k)
  k11 inb := window_kTile K _ inb _ _ ((k0_off2_eq i k).trans (by congr 1; omega))
  v11 inb := window_vTile V _ inb _ _ (off6_at i k)
  k21 inb := window_kTile K _ inb _ _ ((k0_off10_eq i k).trans (by congr 1; omega))
  v21 inb := window_vTile V _ inb _ _ (k0_off14_eq i k)
  k12 inb := window_kTile K _ inb _ _ ((k0_off3_eq i k).trans (by congr 1; omega))
  v12 inb := window_vTile V _ inb _ _ (off7_at i k)
  k22 inb := window_kTile K _ inb _ _ ((k0_off11_eq i k).trans (by congr 1; omega))
  v22 inb := window_vTile V _ inb _ _ (k0_off15_eq i k)
  k13 inb := window_kTile K _ inb _ _ ((k0_off4_eq i k).trans (by congr 1; omega))
  v13 inb := window_vTile V _ inb _ _ (off8_at i k)
  k23 inb := window_kTile K _ inb _ _ ((k0_off12_eq i k).trans (by congr 1; omega))
  v23 inb := window_vTile V _ inb _ _ (k0_off16_eq i k)

/-- A window of one value inside a window of one value. -/
theorem window_put_const {α : Type} {s : Shape} (x : s.Idx → α) (off size off' size' : Fin s.rank → ℕ) (inb' : ∀ a, off' a + size' a ≤ s.size a)
    (w : ((a : Fin s.rank) → Fin (size a)) → α) (c : α) (hw : ∀ y, w y = c) (h : ∀ a, off a ≤ off' a ∧ off' a + size' a ≤ off a + size a) :
    VecWindow.window (VecWindow.put x off size w) off' size' inb' = fun _ => c := by
  rw [VecWindow.window_put_of_inside x off size off' size' inb' w h]
  exact funext fun y => hw _

/-- A head's block of outputs: its weighted sums over their own row of weights' sums, query by feature. -/
def outOf (acc : FVec F S1x128x512 .f32) : FVec F S512x128 .bf16 := k0_pay381 acc

/-- What a query block's run leaves for head `a`. -/
def headOut (b : ℕ) (q : ℕ → FVec F S512x128 .bf16) (K : FVec F S16384x512 .bf16) (V : FVec F S64x512x256 .bf16) (a : ℕ) : FVec F S512x128 .bf16 :=
  outOf (gather (states b q K V (2 * b + 2) a) (vTile V (2 * b + 1) a))

/-- The output block of a query block's run: four heads side by side. -/
def blockOut (b : ℕ) (Q : FVec F S512x512 .bf16) (K : FVec F S16384x512 .bf16) (V : FVec F S64x512x256 .bf16) : FVec F S512x512 .bf16 :=
  fun y => headOut b (qTile Q) K V ((y 1).val / 128) (ix2 (y 0) ⟨(y 1).val % 128, Nat.mod_lt _ (by decide)⟩)

/-- Four heads' blocks stored side by side are the output block. -/
theorem put_heads (x : FVec F S512x512 .bf16) (h : ℕ → FVec F S512x128 .bf16) :
    VecWindow.put (s := S512x512) (VecWindow.put (s := S512x512) (VecWindow.put (s := S512x512) (VecWindow.put (s := S512x512) x ![0, 0] ![512, 128] (h 0)) ![0, 128] ![512, 128] (h 1)) ![0, 256] ![512, 128] (h 2)) ![0, 384] ![512, 128] (h 3)
      = fun y => h ((y 1).val / 128) (ix2 (y 0) ⟨(y 1).val % 128, Nat.mod_lt _ (by decide)⟩) := by
  funext y
  obtain ⟨p, q, rfl⟩ : ∃ (p : Fin 512) (q : Fin 512), y = ix2 p q := ⟨y 0, y 1, eq_ix2 y⟩
  have hp := p.isLt
  have hq := q.isLt
  have hit : ∀ (x : FVec F S512x512 .bf16) (a : ℕ) (c : FVec F S512x128 .bf16), 128 * a ≤ q.val → q.val < 128 * a + 128 → c = h a →
      VecWindow.put (s := S512x512) x ![0, 128 * a] ![512, 128] c (ix2 p q) = h (q.val / 128) (ix2 p ⟨q.val % 128, Nat.mod_lt _ (by decide)⟩) := by
    intro x a c hl hu hc
    subst hc
    have ea : q.val / 128 = a := by omega
    rw [put_pos (s := S512x512) x _ _ (h a) _ (fun k => by
      match k with
      | ⟨0, _⟩ => exact ⟨Nat.zero_le _, by show p.val < 0 + 512; omega⟩
      | ⟨1, _⟩ => exact ⟨hl, hu⟩), ea]
    refine congrArg (h a) (funext fun k => ?_)
    match k with
    | ⟨0, _⟩ => exact Fin.ext (by show p.val - 0 = p.val; omega)
    | ⟨1, _⟩ => exact Fin.ext (by show q.val - 128 * a = q.val % 128; omega)
  have miss : ∀ (x : FVec F S512x512 .bf16) (r : ℕ) (c : FVec F S512x128 .bf16), q.val < r → VecWindow.put (s := S512x512) x ![0, r] ![512, 128] c (ix2 p q) = x (ix2 p q) :=
    fun x r c hl => put_neg (s := S512x512) x _ _ c _ 1 (.inl hl)
  show _ = h (q.val / 128) (ix2 p ⟨q.val % 128, _⟩)
  rcases Nat.lt_or_ge q.val 384 with l3 | g3
  · rw [miss _ 384 _ l3]
    rcases Nat.lt_or_ge q.val 256 with l2 | g2
    · rw [miss _ 256 _ l2]
      rcases Nat.lt_or_ge q.val 128 with l1 | g1
      · rw [miss _ 128 _ l1]
        exact hit _ 0 _ (by omega) (by omega) rfl
      · exact hit _ 1 _ (by omega) (by omega) rfl
    · exact hit _ 2 _ (by omega) (by omega) rfl
  · exact hit _ 3 _ (by omega) (by omega) rfl

end Cert.Flash

end
-- ==== Proof.Body.lean ====
module

public import proofs.«01_k».proof.Proof.TripHolds
public import proofs.«01_k».proof.Proof.Sweep
public import Idealize.ShloMosaic.Lib.LoopRemainder

/-! The loop by its trips, and the body's run around it: what the output block is written with, as found. -/

@[expose] public section

set_option maxRecDepth 8192
set_option maxHeartbeats 4000000

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources the run is stated over. -/
local notation "𝕄" => MT nD τ sig Unit (Elt F) ℕ (UR sig nD τ) ℕ

/-- Four values by number. -/
def pick {α : Type} (x0 x1 x2 x3 : α) : ℕ → α
  | 0 => x0
  | 1 => x1
  | 2 => x2
  | _ => x3

section Body

variable (𝒱 : Variants) (c : Dev nD) (bd : Option 𝒱.V) (i : grid0.Coords)
  (arg2 : Memref sig .tc .vmem S512x512 .bf16) (harg2 : arg2.IsWhole)
  (arg3 : Memref sig .tc .vmem S16384x512 .bf16) (harg3 : arg3.IsWhole)
  (arg4 : Memref sig .tc .vmem S64x512x256 .bf16) (harg4 : arg4.IsWhole)
  (arg5 : Memref sig .tc .vmem S512x512 .bf16) (harg5 : arg5.IsWhole)
  (arg6 : Memref sig .tc .vmem S2x4x256x512 .f32) (harg6 : arg6.IsWhole)
  (arg7 : Memref sig .tc .vmem S2x4x256x512 .bf16) (harg7 : arg7.IsWhole)
  (arg8 : Memref sig .tc .vmem S4x1x512 .f32) (harg8 : arg8.IsWhole)
  (arg9 : Memref sig .tc .vmem S2x4x1x512 .f32) (harg9 : arg9.IsWhole)
  (arg10 : Memref sig .tc .vmem S4x128x512 .f32) (harg10 : arg10.IsWhole)
  (X2 : BufTy.Contents (Elt F) arg2.view.ty) (X3 : BufTy.Contents (Elt F) arg3.view.ty) (X4 : BufTy.Contents (Elt F) arg4.view.ty)
  (f5 : BufTy.Contents (Elt F) arg5.view.ty)
  (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty)

/-- The body on its arguments. -/
abbrev bodyProg : Prog (TpuEff nD τ sig (Elt F) Λ₀ .tc) PUnit := cc0_flash_prompt (F := F) i arg2 harg2 arg3 harg3 arg4 harg4 arg5 harg5 arg6 harg6 arg7 harg7 arg8 harg8 arg9 harg9 arg10 harg10

/-- What a block's run leaves: the operands as they were, the output block found, the scratch at some contents. -/
abbrev bodyPost : sProp 𝕄 :=
  iprop(held c arg2 X2 ∗ held c arg3 X3 ∗ held c arg4 X4
    ∗ (∃ f, held c arg5 f ∗ ⌜arg5.view.read (Elt F) f = blockOut (i 1).val (arg2.view.read (Elt F) X2) (arg3.view.read (Elt F) X3) (arg4.view.read (Elt F) X4)⌝)
    ∗ (∃ f, held c arg6 f) ∗ (∃ f, held c arg7 f) ∗ (∃ f, held c arg8 f) ∗ (∃ f, held c arg9 f) ∗ (∃ f, held c arg10 f))

/-- What the loop keeps: the scratch holds the sweep's states. -/
abbrev loopInv (k : ℕ) : sProp 𝕄 :=
  iprop(held c arg3 X3 ∗ held c arg4 X4 ∗ ∃ g6 g7 g8 g9 g10, held c arg6 g6 ∗ held c arg7 g7 ∗ held c arg8 g8 ∗ held c arg9 g9 ∗ held c arg10 g10
    ∗ ⌜Holds 0 1 (arg6.view.read (Elt F) g6) (arg7.view.read (Elt F) g7) (arg8.view.read (Elt F) g8) (arg9.view.read (Elt F) g9) (arg10.view.read (Elt F) g10)
      (states (i 1).val (qTile (arg2.view.read (Elt F) X2)) (arg3.view.read (Elt F) X3) (arg4.view.read (Elt F) X4) (2 * k))⌝)

include X2 X3 X4 in
/-- A trip keeps what the loop keeps. -/
theorem tripStep (arg1 c0_i32_42 c0_i32_43 c1_i32 v55 : BitVec 32) (k : Fin (k0_t1_loop i).trips) (acc : BitVec 32) :
    loopInv c i arg2 arg3 arg4 arg6 arg7 arg8 arg9 arg10 X2 X3 X4 k.val
      ⊢ wp Idealize.ShloMosaic.frame (wpE (defs₀ (F := F)) 𝒱 (c : Thread nD τ) bd) Set.univ (tripProg i arg2 harg2 arg3 harg3 arg4 harg4 arg5 harg5 arg6 harg6 arg7 harg7 arg8 harg8 arg9 harg9 arg10 harg10 arg1 (qTile (arg2.view.read (Elt F) X2)) c0_i32_42 c0_i32_43 c1_i32 v55 k acc)
          (fun _ => loopInv c i arg2 arg3 arg4 arg6 arg7 arg8 arg9 arg10 X2 X3 X4 (k.val + 1)) := by
  iintro ⟨H3, H4, %g6, %g7, %g8, %g9, %g10, H6, H7, H8, H9, H10, %hH⟩
  iapply wp_wand_r
  isplitl [H3 H4 H6 H7 H8 H9 H10]
  · iapply ((tripRun 𝒱 c bd i arg2 harg2 arg3 harg3 arg4 harg4 arg5 harg5 arg6 harg6 arg7 harg7 arg8 harg8 arg9 harg9 arg10 harg10 arg1 (qTile (arg2.view.read (Elt F) X2)) c0_i32_42 c0_i32_43 c1_i32 v55 X3 X4 g6 g7 g8 g9 g10 k acc).2.2.2.2.2 Set.univ)
    iframe H3 H4 H6 H7 H8 H9 H10
  · iintro %r ⟨H3, H4, H6, H7, H8, H9, H10⟩
    iframe H3 H4
    iexists _, _, _, _, _
    iframe H6 H7 H8 H9 H10
    ipureintro
    have h := trip_holds 𝒱 c bd i arg2 harg2 arg3 harg3 arg4 harg4 arg5 harg5 arg6 harg6 arg7 harg7 arg8 harg8 arg9 harg9 arg10 harg10 arg1 (qTile (arg2.view.read (Elt F) X2)) c0_i32_42 c0_i32_43 c1_i32 v55 X3 X4 g6 g7 g8 g9 g10 k acc _ _ _ _ _
      (tripTiles i k (arg3.view.read (Elt F) X3) (arg4.view.read (Elt F) X4)) hH
    rwa [states_trip (i 1).val k.val (k.isLt.trans_eq (trips_eq i))] at h

/-- The states left after the two masked tiles, as the words have them. -/
def lastW (i : grid0.Coords) (q : FVec F S512x128 .bf16) (kt : FVec F S256x128 .bf16) (v0 v1 : FVec F S1x128x256 .bf16) (σ : St F) (x : FVec F S1x1x256x512 .f32) : St F :=
  advanceW (BitVec.ofNat 32 (i 1).val) (Scalar.addi (Scalar.muli 2#32 (BitVec.ofNat 32 (i 1).val)) 1#32) x v1
    (advanceW (BitVec.ofNat 32 (i 1).val) (Scalar.addi (Scalar.muli 2#32 (BitVec.ofNat 32 (i 1).val)) 0#32) (score q kt) v0 σ)

theorem pay219_eq (x : FVec F S512x128 .bf16) : k0_pay219 x = x := shapeCast_self x _
theorem pay220_eq (x : FVec F S512x128 .bf16) : k0_pay220 x = x := shapeCast_self x _
theorem pay221_eq (x : FVec F S512x128 .bf16) : k0_pay221 x = x := shapeCast_self x _
theorem pay222_eq (x : FVec F S512x128 .bf16) : k0_pay222 x = x := shapeCast_self x _

/-- The words of the two tiles' numbers. -/
theorem word_tile (i : grid0.Coords) (r : ℕ) : Scalar.addi (Scalar.muli 2#32 (BitVec.ofNat 32 (i 1).val)) (BitVec.ofNat 32 r) = BitVec.ofNat 32 (2 * (i 1).val + r) := by
  show BitVec.ofNat 32 2 * BitVec.ofNat 32 (i 1).val + BitVec.ofNat 32 r = _
  rw [← BitVec.ofNat_mul, ← BitVec.ofNat_add]

/-- The heads' outputs, as the words have them. -/
theorem headOut_word (i : grid0.Coords) (q : ℕ → FVec F S512x128 .bf16) (K : FVec F S16384x512 .bf16) (V : FVec F S64x512x256 .bf16) (a : ℕ) :
    headOut (i 1).val q K V a = outOf (gather (lastW i (q a) (kTile K (2 * (i 1).val + 1) a) (vTile V (2 * (i 1).val - 1) a) (vTile V (2 * (i 1).val) a) (states (i 1).val q K V (2 * (i 1).val) a)
      (score (q a) (kTile K (2 * (i 1).val + 2) a))) (vTile V (2 * (i 1).val + 1) a)) := by
  have hi : (i 1).val < 32 := (i 1).isLt
  unfold lastW
  rw [show (1#32 : BitVec 32) = BitVec.ofNat 32 1 from rfl, show (0#32 : BitVec 32) = BitVec.ofNat 32 0 from rfl, word_tile, word_tile, advanceW_eq _ _ hi (by omega), advanceW_eq _ _ hi (by omega)]
  rfl

section Words

variable (Q : FVec F S512x512 .bf16) (K : FVec F S16384x512 .bf16) (V : FVec F S64x512x256 .bf16)

theorem q0 (inb) : VecWindow.window (s := S512x512) Q ![0, 0] ![512, 128] inb = qTile Q 0 := window_qTile Q _ inb 0 rfl
theorem k00 (inb) : VecWindow.window (s := S16384x512) K ![0, 0] ![256, 128] inb = kTile K 0 0 := window_kTile K _ inb 0 0 rfl
theorem kl0 (i : grid0.Coords) (inb) : VecWindow.window (s := S16384x512) K (k0_off33 i) ![256, 128] inb = kTile K (2 * (i 1).val + 1) 0 :=
  window_kTile K _ inb _ 0 ((k0_off33_eq i).trans (by congr 1; omega))
theorem va0 (i : grid0.Coords) (inb) : VecWindow.window (s := S64x512x256) V (k0_off37 i 0#32) ![1, 128, 256] inb = vTile V (2 * (i 1).val - 1) 0 := window_vTile V _ inb _ 0 (off37_at0 i)
theorem vb0 (i : grid0.Coords) (inb) : VecWindow.window (s := S64x512x256) V (k0_off37 i 1#32) ![1, 128, 256] inb = vTile V (2 * (i 1).val) 0 := window_vTile V _ inb _ 0 (off37_at1 i)
theorem vc0 (i : grid0.Coords) (inb) : VecWindow.window (s := S64x512x256) V (k0_off41 i) ![1, 128, 256] inb = vTile V (2 * (i 1).val + 1) 0 := window_vTile V _ inb _ 0 (k0_off41_eq i)
theorem q1 (inb) : VecWindow.window (s := S512x512) Q ![0, 128] ![512, 128] inb = qTile Q 1 := window_qTile Q _ inb 1 rfl
theorem k01 (inb) : VecWindow.window (s := S16384x512) K ![0, 128] ![256, 128] inb = kTile K 0 1 := window_kTile K _ inb 0 1 rfl
theorem kl1 (i : grid0.Coords) (inb) : VecWindow.window (s := S16384x512) K (k0_off34 i) ![256, 128] inb = kTile K (2 * (i 1).val + 1) 1 :=
  window_kTile K _ inb _ 1 ((k0_off34_eq i).trans (by congr 1; omega))
theorem va1 (i : grid0.Coords) (inb) : VecWindow.window (s := S64x512x256) V (k0_off38 i 0#32) ![1, 128, 256] inb = vTile V (2 * (i 1).val - 1) 1 := window_vTile V _ inb _ 1 (off38_at0 i)
theorem vb1 (i : grid0.Coords) (inb) : VecWindow.window (s := S64x512x256) V (k0_off38 i 1#32) ![1, 128, 256] inb = vTile V (2 * (i 1).val) 1 := window_vTile V _ inb _ 1 (off38_at1 i)
theorem vc1 (i : grid0.Coords) (inb) : VecWindow.window (s := S64x512x256) V (k0_off42 i) ![1, 128, 256] inb = vTile V (2 * (i 1).val + 1) 1 := window_vTile V _ inb _ 1 (k0_off42_eq i)
theorem q2 (inb) : VecWindow.window (s := S512x512) Q ![0, 256] ![512, 128] inb = qTile Q 2 := window_qTile Q _ inb 2 rfl
theorem k02 (inb) : VecWindow.window (s := S16384x512) K ![0, 256] ![256, 128] inb = kTile K 0 2 := window_kTile K _ inb 0 2 rfl
theorem kl2 (i : grid0.Coords) (inb) : VecWindow.window (s := S16384x512) K (k0_off35 i) ![256, 128] inb = kTile K (2 * (i 1).val + 1) 2 :=
  window_kTile K _ inb _ 2 ((k0_off35_eq i).trans (by congr 1; omega))
theorem va2 (i : grid0.Coords) (inb) : VecWindow.window (s := S64x512x256) V (k0_off39 i 0#32) ![1, 128, 256] inb = vTile V (2 * (i 1).val - 1) 2 := window_vTile V _ inb _ 2 (off39_at0 i)
theorem vb2 (i : grid0.Coords) (inb) : VecWindow.window (s := S64x512x256) V (k0_off39 i 1#32) ![1, 128, 256] inb = vTile V (2 * (i 1).val) 2 := window_vTile V _ inb _ 2 (off39_at1 i)
theorem vc2 (i : grid0.Coords) (inb) : VecWindow.window (s := S64x512x256) V (k0_off43 i) ![1, 128, 256] inb = vTile V (2 * (i 1).val + 1) 2 := window_vTile V _ inb _ 2 (k0_off43_eq i)
theorem q3 (inb) : VecWindow.window (s := S512x512) Q ![0, 384] ![512, 128] inb = qTile Q 3 := window_qTile Q _ inb 3 rfl
theorem k03 (inb) : VecWindow.window (s := S16384x512) K ![0, 384] ![256, 128] inb = kTile K 0 3 := window_kTile K _ inb 0 3 rfl
theorem kl3 (i : grid0.Coords) (inb) : VecWindow.window (s := S16384x512) K (k0_off36 i) ![256, 128] inb = kTile K (2 * (i 1).val + 1) 3 :=
  window_kTile K _ inb _ 3 ((k0_off36_eq i).trans (by congr 1; omega))
theorem va3 (i : grid0.Coords) (inb) : VecWindow.window (s := S64x512x256) V (k0_off40 i 0#32) ![1, 128, 256] inb = vTile V (2 * (i 1).val - 1) 3 := window_vTile V _ inb _ 3 (off40_at0 i)
theorem vb3 (i : grid0.Coords) (inb) : VecWindow.window (s := S64x512x256) V (k0_off40 i 1#32) ![1, 128, 256] inb = vTile V (2 * (i 1).val) 3 := window_vTile V _ inb _ 3 (off40_at1 i)
theorem vc3 (i : grid0.Coords) (inb) : VecWindow.window (s := S64x512x256) V (k0_off44 i) ![1, 128, 256] inb = vTile V (2 * (i 1).val + 1) 3 := window_vTile V _ inb _ 3 (k0_off44_eq i)

end Words

set_option backward.proofsInPublic true in
/-- The body's run. -/
theorem bodyRun :
      iprop(held c arg2 X2 ∗ held c arg3 X3 ∗ held c arg4 X4 ∗ held c arg5 f5 ∗ held c arg6 f6 ∗ held c arg7 f7 ∗ held c arg8 f8 ∗ held c arg9 f9 ∗ held c arg10 f10)
        ⊢ wp Idealize.ShloMosaic.frame (wpE (defs₀ (F := F)) 𝒱 (c : Thread nD τ) bd) Set.univ (bodyProg i arg2 harg2 arg3 harg3 arg4 harg4 arg5 harg5 arg6 harg6 arg7 harg7 arg8 harg8 arg9 harg9 arg10 harg10)
          (fun _ => bodyPost c i arg2 arg3 arg4 arg5 arg6 arg7 arg8 arg9 arg10 X2 X3 X4) := by
  dsimp only [bodyProg]
  rw [cc0_flash_prompt_eq_skeleton]
  unfold cc0_flash_prompt_skel
  iintro ⟨H2, H3, H4, H5, H6, H7, H8, H9, H10⟩
  sl_exec
  sl_for (fun k _ => loopInv c i arg2 arg3 arg4 arg6 arg7 arg8 arg9 arg10 X2 X3 X4 k) $$ [H3 H4 H6 H7 H8 H9 H10]
  · intro k acc
    sl_unfold_run_names
    simp only [readAt_window, pay219_eq, pay220_eq, pay221_eq, pay222_eq, q0, q1, q2, q3]
    exact tripStep 𝒱 c bd i arg2 harg2 arg3 harg3 arg4 harg4 arg5 harg5 arg6 harg6 arg7 harg7 arg8 harg8 arg9 harg9 arg10 harg10 X2 X3 X4 _ _ _ _ _ k acc
  · unfold loopInv
    iframe H3 H4
    iexists _, _, _, _, _
    iframe H6 H7 H8 H9 H10
    ipureintro
    refine ⟨fun a inb => ?_, fun a inb => ?_, fun a inb => ?_, fun a inb => ?_, fun a inb => ?_⟩
    · have ha : a < 4 := by have : a + 1 ≤ 4 := inb 1; omega
      obtain rfl | rfl | rfl | rfl : a = 0 ∨ a = 1 ∨ a = 2 ∨ a = 3 := by omega
      all_goals
        sl_unfold_run_names
        simp (decide := true) only [readAt_window, read_writes_put, window_put_apart, VecWindow.window_put_same, pay219_eq, pay220_eq, pay221_eq, pay222_eq, q0, q1, q2, q3, k00, k01, k02, k03]
        rfl
    · have ha : a < 4 := by have : a + 1 ≤ 4 := inb 1; omega
      rw [read_writes_put]
      exact window_put_const (s := S2x4x256x512) _ _ _ _ _ inb _ _ (fun _ => rfl) fun k => by fin_cases k <;> simp <;> omega
    · have ha : a < 4 := by have : a + 1 ≤ 4 := inb 0; omega
      sl_unfold_run_names
      rw [read_writes_put]
      exact window_put_const (s := S4x1x512) _ _ _ _ _ inb _ _ (fun _ => rfl) fun k => by fin_cases k <;> simp <;> omega
    · have ha : a < 4 := by have : a + 1 ≤ 4 := inb 1; omega
      rw [read_writes_put]
      exact window_put_const (s := S2x4x1x512) _ _ _ _ _ inb _ _ (fun _ => rfl) fun k => by fin_cases k <;> simp <;> omega
    · have ha : a < 4 := by have : a + 1 ≤ 4 := inb 0; omega
      sl_unfold_run_names
      rw [read_writes_put]
      exact window_put_const (s := S4x128x512) _ _ _ _ _ inb _ _ (fun _ => rfl) fun k => by fin_cases k <;> simp <;> omega
  iintro %acc HI
  icases HI with ⟨H3, H4, %g6, %g7, %g8, %g9, %g10, H6, H7, H8, H9, H10, %hH⟩
  sl_exec
  sl_step
  unfold bodyPost
  iframe H2 H3 H4
  isplitl [H5]
  · iexists _
    iframe H5
    ipureintro
    have ht : Scf.trips (k0_t1_loop i).lb (k0_t1_loop i).ub (k0_t1_loop i).st = (i 1).val := trips_eq i
    rw [ht] at hH
    refine Eq.trans ?_ (put_heads (arg5.view.read (Elt F) f5) (headOut (i 1).val (qTile (arg2.view.read (Elt F) X2)) (arg3.view.read (Elt F) X3) (arg4.view.read (Elt F) X4)))
    rw [headOut_word, headOut_word, headOut_word, headOut_word]
    sl_unfold_run_names
    simp (decide := true) only [readCov_window, readAt_window, read_writes_put, window_put_apart, VecWindow.window_put_same, window_stack, part_put, hH.part, hH.s, hH.p, hH.m, hH.al, hH.acc,
      pay219_eq, pay220_eq, pay221_eq, pay222_eq, q0, q1, q2, q3, kl0, va0, vb0, vc0, kl1, va1, vb1, vc1, kl2, va2, vb2, vc2, kl3, va3, vb3, vc3]
    rfl
  · isplitl [H6]
    · iexists _; iexact H6
    isplitl [H7]
    · iexists _; iexact H7
    isplitl [H8]
    · iexists _; iexact H8
    isplitl [H9]
    · iexists _; iexact H9
    iexists _; iexact H10

end Body

end Cert.Flash

end
-- ==== Proof.Run.lean ====
module

public import proofs.«01_k».proof.Proof.Body
public import proofs.«01_k».proof.Proof.Gen.KernelIdeal.Frame
public import Idealize.ShloMosaic.PureOps.BitExact
public import Idealize.ShloMosaic.PureOps.Ideal

/-! The kernel's run: at every grid point the body leaves the block of `blockOut`, so the pipeline ends with the output array
    made of those blocks, the arguments as they were and every semaphore at zero. -/

@[expose] public section

set_option maxRecDepth 8192

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The resources the run is stated over. -/
local notation "𝕄" => MT nD τ sig Unit (Elt F) ℕ (UR sig nD τ) ℕ

/-- Nothing here needs a measure on loops. -/
abbrev 𝒱₀ : Variants := Variants.none

variable (m : (ℓ : Loc nD τ sig) → Buf (Elt F) ℓ) (ρ : Dev nD → PrngReg)

/-- The block of the output at a grid point, from the blocks of the operands there. -/
def outsAt (c : Dev nD) (t : Fin cfg0.N) : FVec F S512x512 .bf16 :=
  blockOut ((grid0.coords t) 1).val (iblk m c 0 t) (iblk m c 1 t) (iblk m c 2 t)

/-- The arrays as the region finds them; after the body each operand's buffer at its block and the result's at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The five scratch buffers, each held whole at something. -/
theorem scratch_eq (c : Dev nD) : (Pipeline.scopedRest (Ix := Unit) (Name := ℕ) (U := UR sig nD τ) (Lvl := ℕ) (Val := Elt F) spec0 c : sProp 𝕄)
    = iprop((∃ f, held (F := F) c (Memref.whole cc0_scratch0) f) ∗ (∃ f, held (F := F) c (Memref.whole cc0_scratch1) f) ∗ (∃ f, held (F := F) c (Memref.whole cc0_scratch2) f)
        ∗ (∃ f, held (F := F) c (Memref.whole cc0_scratch3) f) ∗ (∃ f, held (F := F) c (Memref.whole cc0_scratch4) f)) := by
  rw [scopedRest0_eq]
  dsimp only [held]
  simp only [View.set_whole, Memref.view_whole]

/-- The body at a grid point does what the proof data says. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2]
  rw [show (dats m 0 c).Φ t.succ = (dats m 0 c).Φ t.castSucc from rfl, show (dats m 0 c).owesAt () t.succ = (dats m 0 c).owesAt () t.castSucc from rfl,
    after0_0, after0_1, after0_2, after0_3]
  rw [show (dats m 0 c).Φ t.castSucc = iprop(Pipeline.scopedRest spec0 c ∗ ∃ r, prngReg c r) from rfl, scratch_eq]
  unfold owns
  iintro ⟨⟨⟨⟨%f6, H6⟩, ⟨%f7, H7⟩, ⟨%f8, H8⟩, ⟨%f9, H9⟩, ⟨%f10, H10⟩⟩, Hg⟩, Ho, ⟨%d0, %X2, %h2, H2⟩, ⟨%d1, %X3, %h3, H3⟩, ⟨%d2, %X4, %h4, H4⟩, ⟨%d3, %f5, -, H5⟩⟩
  iapply wp_wand_r
  isplitl [H2 H3 H4 H5 H6 H7 H8 H9 H10]
  · iapply (bodyRun 𝒱₀ c none (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3))
      _ (Memref.isWhole_whole cc0_scratch0) _ (Memref.isWhole_whole cc0_scratch1) _ (Memref.isWhole_whole cc0_scratch2) _ (Memref.isWhole_whole cc0_scratch3) _ (Memref.isWhole_whole cc0_scratch4) X2 X3 X4 f5 f6 f7 f8 f9 f10)
    iframe H2 H3 H4 H5 H6 H7 H8 H9 H10
  · iintro %r ⟨H2, H3, H4, ⟨%g5, H5, %h5⟩, H6, H7, H8, H9, H10⟩
    iframe H6 H7 H8 H9 H10 Hg Ho
    isplitl [H2]
    · iexists _; iframe H2; ipureintro; exact h2
    isplitl [H3]
    · iexists _; iframe H3; ipureintro; exact h3
    isplitl [H4]
    · iexists _; iframe H4; ipureintro; exact h4
    iexists _; iframe H5; ipureintro
    refine h5.trans ?_
    unfold outsAt
    rw [← h2, ← h3, ← h4]
    rfl

set_option backward.isDefEq.respectTransparency.types false in
/-- Every run of the kernel's program ends, with each of the pipeline's arrays at what the proof data says, everything else at
    what the host's lines make of it, and every semaphore at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hmain := hmain m 𝒱₀) (hA := fun _ _ => rfl) (hΦ := fun _ _ => rfl)
    (Q' := _) (hQ' := fun _ h => h)

/-- The frame, at any arithmetic. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main m ρ)

end Cert.Flash

end
-- ==== Proof.Softmax.lean ====
module

public import Idealize.ShloMosaic.PureOps.Ideal
public import Idealize.ShloMosaic.PureOps.Ideal.Laws

/-! Softmax weights over the extended reals: one pass over all the keys, and tile by tile with a running maximum, have the same weighted mean. The
values need not be finite; the scores are. -/

@[expose] public section

noncomputable section

namespace Cert.Flash

open Idealize.ShloMosaic Finset

/-- The weight of key `k` for the query at position `n`, the scores being `t`: nothing after the query. -/
def wt (t : ℕ → ℝ) (n k : ℕ) : ℝ := if k ≤ n then Real.exp (t k) else 0

theorem wt_nonneg (t : ℕ → ℝ) (n k : ℕ) : 0 ≤ wt t n k := by
  unfold wt; split
  · exact (Real.exp_pos _).le
  · exact le_rfl

/-- The sum of the weights of the first `N` keys. -/
def total (t : ℕ → ℝ) (n N : ℕ) : ℝ := ∑ k ∈ range N, wt t n k

theorem total_pos (t : ℕ → ℝ) (n N : ℕ) (h : 0 < N) : 0 < total t n N := by
  refine Finset.sum_pos' (fun k _ => wt_nonneg t n k) ⟨0, mem_range.mpr h, ?_⟩
  unfold wt; rw [if_pos (Nat.zero_le _)]; exact Real.exp_pos _

/-- The weighted mean of the values `v`, over the first `N` keys. -/
def mean (v : ℕ → EReal) (t : ℕ → ℝ) (n N : ℕ) : EReal := (∑ k ∈ range N, v k * (wt t n k : EReal)) * ((1 / total t n N : ℝ) : EReal)

/-- A finite factor that is not negative comes out of a sum. -/
theorem sum_mul_coe (s : Finset ℕ) (f : ℕ → EReal) (c : ℝ) (hc : 0 ≤ c) : (∑ k ∈ s, f k) * (c : EReal) = ∑ k ∈ s, f k * (c : EReal) := by
  induction s using Finset.induction_on with
  | empty => simp
  | insert a s ha ih =>
    rw [sum_insert ha, sum_insert ha, ← ih, mul_comm, EReal.left_distrib_of_nonneg_of_ne_top (EReal.coe_nonneg.mpr hc) (EReal.coe_ne_top c), mul_comm, mul_comm _ (c : EReal), mul_comm (c : EReal) (∑ k ∈ s, f k)]

theorem sum_scaled (N : ℕ) (v : ℕ → EReal) (t : ℕ → ℝ) (n : ℕ) (c : ℝ) (hc : 0 ≤ c) :
    ∑ k ∈ range N, v k * ((wt t n k * c : ℝ) : EReal) = (∑ k ∈ range N, v k * (wt t n k : EReal)) * (c : EReal) := by
  rw [sum_mul_coe _ _ _ hc]
  exact sum_congr rfl fun k _ => by rw [EReal.coe_mul, mul_assoc]

theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [sum_insert ha, sum_insert ha, ih, EReal.coe_add]

theorem total_scaled (t : ℕ → ℝ) (n N : ℕ) (c : ℝ) : ∑ k ∈ range N, ((wt t n k * c : ℝ) : EReal) = ((total t n N * c : ℝ) : EReal) := by
  rw [coe_sum, ← sum_mul]; rfl

/-- Keys after the query do not count. -/
theorem sum_beyond (v : ℕ → EReal) (t : ℕ → ℝ) (n N N' : ℕ) (h : n < N) (h' : N ≤ N') :
    ∑ k ∈ range N, v k * (wt t n k : EReal) = ∑ k ∈ range N', v k * (wt t n k : EReal) := by
  refine sum_subset (range_mono h') fun k _ hk => ?_
  have : ¬ k ≤ n := by have := mem_range.not.mp hk; omega
  rw [wt, if_neg this, EReal.coe_zero, mul_zero]

theorem total_beyond (t : ℕ → ℝ) (n N N' : ℕ) (h : n < N) (h' : N ≤ N') : total t n N = total t n N' := by
  refine sum_subset (range_mono h') fun k _ hk => ?_
  have : ¬ k ≤ n := by have := mem_range.not.mp hk; omega
  rw [wt, if_neg this]

theorem mean_beyond (v : ℕ → EReal) (t : ℕ → ℝ) (n N N' : ℕ) (h : n < N) (h' : N ≤ N') : mean v t n N = mean v t n N' := by
  unfold mean; rw [sum_beyond v t n N N' h h', total_beyond t n N N' h h']

/-- A maximum of scores is a real number when none is `⊤` and one is not `⊥`. -/
theorem fold_max_real {ι : Type} (s : Finset ι) (b : EReal) (f : ι → EReal) (hb : b ≠ ⊤) (hf : ∀ i ∈ s, f i ≠ ⊤) (h : b ≠ ⊥ ∨ ∃ i ∈ s, f i ≠ ⊥) :
    ∃ r : ℝ, s.fold max b f = (r : EReal) := by
  have h1 : s.fold max b f ≠ ⊤ := by
    rw [← lt_top_iff_ne_top, Finset.fold_max_lt]
    exact ⟨lt_top_iff_ne_top.mpr hb, fun i hi => lt_top_iff_ne_top.mpr (hf i hi)⟩
  have h2 : s.fold max b f ≠ ⊥ := by
    rw [← bot_lt_iff_ne_bot, Finset.lt_fold_max]
    rcases h with h | ⟨i, hi, h⟩
    · exact .inl (bot_lt_iff_ne_bot.mpr h)
    · exact .inr ⟨i, hi, bot_lt_iff_ne_bot.mpr h⟩
  exact ⟨_, (EReal.coe_toReal h1 h2).symm⟩

theorem max_real (x y : EReal) (hx : x ≠ ⊤) (hy : y ≠ ⊤) (h : x ≠ ⊥ ∨ y ≠ ⊥) : ∃ r : ℝ, max x y = (r : EReal) := by
  refine ⟨_, (EReal.coe_toReal (x := max x y) ?_ ?_).symm⟩
  · rcases max_choice x y with e | e <;> rw [e] <;> assumption
  · rcases h with h | h
    · exact fun e => h (le_bot_iff.mp (e ▸ le_max_left x y))
    · exact fun e => h (le_bot_iff.mp (e ▸ le_max_right x y))

/-- The score of key `k` in the exponent of two, out of the way after the query. -/
def score2 (t : ℕ → ℝ) (n k : ℕ) : EReal := if k ≤ n then ((t k / Real.log 2 : ℝ) : EReal) else ⊥

/-- The score of key `k`, out of the way after the query. -/
def scoreE (t : ℕ → ℝ) (n k : ℕ) : EReal := if k ≤ n then (t k : EReal) else ⊥

theorem score2_ne_top (t : ℕ → ℝ) (n k : ℕ) : score2 t n k ≠ ⊤ := by
  unfold score2; split
  · exact EReal.coe_ne_top _
  · exact bot_ne_top

theorem scoreE_ne_top (t : ℕ → ℝ) (n k : ℕ) : scoreE t n k ≠ ⊤ := by
  unfold scoreE; split
  · exact EReal.coe_ne_top _
  · exact bot_ne_top

theorem log_two_ne : Real.log 2 ≠ 0 := (Real.log_pos (by norm_num)).ne'

theorem rpow_two (x : ℝ) : Real.rpow 2 x = Real.exp (x * Real.log 2) := by
  show (2 : ℝ) ^ x = _
  rw [Real.rpow_def_of_pos (by norm_num), mul_comm]

/-- A key's weight against a maximum, by powers of two. -/
theorem exp2_score2 (t : ℕ → ℝ) (n k : ℕ) (M : ℝ) : Ideal.exp2 (score2 t n k - (M : EReal)) = ((wt t n k * Real.exp (-(M * Real.log 2)) : ℝ) : EReal) := by
  unfold score2 wt
  split
  · rw [← EReal.coe_sub, Ideal.exp2_coe, rpow_two, sub_mul, div_mul_cancel₀ _ log_two_ne, sub_eq_add_neg, Real.exp_add]
  · rw [EReal.bot_sub, Ideal.exp2_bot, zero_mul, EReal.coe_zero]

/-- A key's weight against a maximum. -/
theorem exp_scoreE (t : ℕ → ℝ) (n k : ℕ) (M : ℝ) : Ideal.exp (scoreE t n k - (M : EReal)) = ((wt t n k * Real.exp (-M) : ℝ) : EReal) := by
  unfold scoreE wt
  split
  · rw [← EReal.coe_sub, Ideal.exp_coe, sub_eq_add_neg, Real.exp_add]
  · rw [EReal.bot_sub, Ideal.exp_bot, zero_mul, EReal.coe_zero]

/-- What has been gathered over the first `N` keys against the maximum `m`. -/
def gathered (v : ℕ → EReal) (t : ℕ → ℝ) (n N : ℕ) (m : ℝ) : EReal := ∑ k ∈ range N, v k * ((wt t n k * Real.exp (-(m * Real.log 2)) : ℝ) : EReal)

/-- One tile: the sum so far scaled to the new maximum, and the tile's own part. -/
theorem gathered_step (v : ℕ → EReal) (t : ℕ → ℝ) (n N L : ℕ) (m M : ℝ) :
    Ideal.exp2 ((m : EReal) - (M : EReal)) * gathered v t n N m + ∑ r : Fin L, v (N + r.val) * Ideal.exp2 (score2 t n (N + r.val) - (M : EReal)) = gathered v t n (N + L) M := by
  unfold gathered
  rw [sum_range_add, ← Fin.sum_univ_eq_sum_range (fun r => v (N + r) * ((wt t n (N + r) * Real.exp (-(M * Real.log 2)) : ℝ) : EReal)) L]
  congr 1
  · rw [sum_scaled _ _ _ _ _ (Real.exp_pos _).le, sum_scaled _ _ _ _ _ (Real.exp_pos _).le, mul_comm, mul_assoc, ← EReal.coe_sub, Ideal.exp2_coe, ← EReal.coe_mul, rpow_two, ← Real.exp_add]
    congr 3
    ring
  · exact sum_congr rfl fun r _ => by rw [exp2_score2]

/-- The first tile. -/
theorem gathered_first (v : ℕ → EReal) (t : ℕ → ℝ) (n L : ℕ) (M : ℝ) :
    ∑ r : Fin L, v r.val * Ideal.exp2 (score2 t n r.val - (M : EReal)) = gathered v t n L M := by
  unfold gathered
  rw [← Fin.sum_univ_eq_sum_range (fun r => v r * ((wt t n r * Real.exp (-(M * Real.log 2)) : ℝ) : EReal)) L]
  exact sum_congr rfl fun r _ => by rw [exp2_score2]

/-- What has been gathered, over the sum of the weights gathered alike, is the mean. -/
theorem gathered_div (v : ℕ → EReal) (t : ℕ → ℝ) (n N : ℕ) (m : ℝ) (h : 0 < N) :
    Ideal.div (gathered v t n N m) (gathered (fun _ => 1) t n N m) = mean v t n N := by
  have hE := Real.exp_pos (-(m * Real.log 2))
  have hW := total_pos t n N h
  have e : gathered (fun _ => 1) t n N m = ((total t n N * Real.exp (-(m * Real.log 2)) : ℝ) : EReal) := by
    unfold gathered; simp only [one_mul]; exact total_scaled t n N _
  rw [e, Ideal.div_coe (mul_pos hW hE).ne', gathered, sum_scaled _ _ _ _ _ hE.le, mul_assoc, ← EReal.coe_mul, mean]
  congr 2
  field_simp

/-- The mean in one pass: each weight divided by the sum of all, then the products summed. -/
theorem mean_one_pass (v : ℕ → EReal) (t : ℕ → ℝ) (n N : ℕ) (M : ℝ) (h : 0 < N) :
    ∑ k ∈ range N, v k * Ideal.div (Ideal.exp (scoreE t n k - (M : EReal))) (∑ k' ∈ range N, Ideal.exp (scoreE t n k' - (M : EReal))) = mean v t n N := by
  have hE := Real.exp_pos (-M)
  have hW := total_pos t n N h
  have e : ∑ k' ∈ range N, Ideal.exp (scoreE t n k' - (M : EReal)) = ((total t n N * Real.exp (-M) : ℝ) : EReal) := by
    rw [← total_scaled]; exact sum_congr rfl fun k _ => exp_scoreE t n k M
  have hd : ∀ k, Ideal.div (Ideal.exp (scoreE t n k - (M : EReal))) (∑ k' ∈ range N, Ideal.exp (scoreE t n k' - (M : EReal))) = ((wt t n k * (1 / total t n N) : ℝ) : EReal) := by
    intro k
    rw [e, exp_scoreE, Ideal.div_coe (mul_pos hW hE).ne', ← EReal.coe_mul]
    congr 1
    field_simp
  rw [sum_congr rfl fun k _ => by rw [hd k], sum_scaled _ _ _ _ _ (by positivity), mean]

end Cert.Flash
-- ==== Proof.Rows.lean ====
module

public import proofs.«01_k».proof.Proof.Softmax
public import Idealize.ShloMosaic.Lib.ValueIdx

/-! The scores and the values of one head as real arrays give them: what kernel and reference are compared through. -/

@[expose] public section

noncomputable section

namespace Cert.Flash

open Idealize.ShloMosaic Idealize.ShloMosaic.ValueIdx

/-- Arrays of 16384 positions, 8 heads and `w` features. -/
abbrev Heads (w : ℕ) : Shape := ⟨3, ![16384, 8, w]⟩

/-- Arrays of 16384 positions and 32 features. -/
abbrev Shared : Shape := ⟨2, ![16384, 32]⟩

/-- The scale of the scores. -/
def scale : ℝ := EReal.toReal (Ideal.ofBits .f32 0x3DD105EC#32)

theorem scale_eq : Ideal.ofBits .f32 0x3DD105EC#32 = (scale : EReal) := by
  have h : ∃ r : ℝ, Ideal.ofBits .f32 0x3DD105EC#32 = (r : EReal) := by
    have h1 : ¬ ((0x3DD105EC#32 : BitVec 32).extractLsb' 23 8).toNat = 2 ^ 8 - 1 := by decide
    have h2 : ¬ ((0x3DD105EC#32 : BitVec 32).extractLsb' 23 8).toNat = 0 := by decide
    unfold Ideal.ofBits Ideal.ieee
    dsimp only
    rw [if_neg h1, if_neg h2]
    exact ⟨_, rfl⟩
  obtain ⟨r, hr⟩ := h
  unfold scale
  rw [hr, EReal.toReal_coe]

/-- The score of key `k` for the query of head `h` at position `n`. -/
def rowScore (qr : (Heads 32).Idx → ℝ) (qn : (Heads 64).Idx → ℝ) (kr : Shared.Idx → ℝ) (kn : (Heads 64).Idx → ℝ) (h : Fin 8) (n k : Fin 16384) : ℝ :=
  ((∑ e : Fin 64, qn (ix3 n h e) * kn (ix3 k h e)) + ∑ e : Fin 32, kr (ix2 k e) * qr (ix3 n h e)) * scale

/-- The same over all numbers: nothing beyond the array. -/
def rowScores (qr : (Heads 32).Idx → ℝ) (qn : (Heads 64).Idx → ℝ) (kr : Shared.Idx → ℝ) (kn : (Heads 64).Idx → ℝ) (h : Fin 8) (n : Fin 16384) (k : ℕ) : ℝ :=
  if hk : k < 16384 then rowScore qr qn kr kn h n ⟨k, hk⟩ else 0

/-- Feature `d` of head `h`'s value at key `k`; the feature after the last one is 1 at every key, and those further on are 0. -/
def rowValue (v : (Heads 64).Idx → EReal) (h : Fin 8) (d k : ℕ) : EReal :=
  if hd : d < 64 then (if hk : k < 16384 then v (ix3 ⟨k, hk⟩ h ⟨d, hd⟩) else 0) else if d = 64 then 1 else 0

theorem rowScores_of (qr : (Heads 32).Idx → ℝ) (qn : (Heads 64).Idx → ℝ) (kr : Shared.Idx → ℝ) (kn : (Heads 64).Idx → ℝ) (h : Fin 8) (n k : Fin 16384) :
    rowScores qr qn kr kn h n k.val = rowScore qr qn kr kn h n k := dif_pos k.isLt

theorem rowValue_of (v : (Heads 64).Idx → EReal) (h : Fin 8) (d : Fin 64) (k : Fin 16384) : rowValue v h d.val k.val = v (ix3 k h d) := by
  unfold rowValue; rw [dif_pos d.isLt, dif_pos k.isLt]

end Cert.Flash
-- ==== Proof.Pack.lean ====
module

public import proofs.«01_k».proof.Proof.Rows
public import proofs.«01_k».proof.Proof.Gen.KernelIdeal.Frame
public import Idealize.ShloMosaic.Lib.ValueIdx
public import Idealize.ShloMosaic.Lib.ValueLayout
public import Idealize.ShloMosaic.Lib.StableHlo.Run
public import Idealize.ShloMosaic.PureOps.Ideal.Laws

/-! The arrays that the host's lines lay out for the kernel, read at an index over the extended reals. -/

@[expose] public section

set_option maxRecDepth 8192

noncomputable section

namespace Cert.Flash

open Idealize.ShloMosaic Idealize.ShloMosaic.ValueIdx Idealize.ShloMosaic.TcCoe Cert.KernelIdeal Cert.KernelIdeal.Gen

/-- Zeros between the two parts of a query or a key. -/
def gap : FVec Ideal S16384x8x32 .f32 := broadcastInDim S16384x8x32 ![] bcast_S_S16384x8x32 (constant S_ .f32 0x00000000#32)

/-- Two parts of a query or a key, zeros between them. -/
def joined (x : FVec Ideal S16384x8x32 .f32) (z : FVec Ideal S16384x8x64 .f32) : FVec Ideal S16384x8x128 .f32 :=
  concatenate S16384x8x128 2 [⟨S16384x8x32, x⟩, ⟨S16384x8x32, gap⟩, ⟨S16384x8x64, z⟩] concatenates_S16384x8x32_S16384x8x32_S16384x8x64_S16384x8x128_d2

/-- The factor on the queries. -/
def factorQ : FVec Ideal S_ .f32 := Host.divf (constant S_ .f32 0x3DD105EC#32) (Host.log (constant S_ .f32 0x40000000#32))

/-- The queries as laid out. -/
def packQ (a0 : FVec Ideal S16384x8x32 .f32) (a1 : FVec Ideal S16384x8x64 .f32) : FVec Ideal S16384x1024 .bf16 :=
  truncf .bf16 (mulf (shapeCast S16384x1024 (joined a0 a1) shapeCasts_S16384x8x128_S16384x1024) (broadcastInDim S16384x1024 ![] bcast_S_S16384x1024 factorQ)) bitsLt_bf16_f32

/-- The keys as laid out. -/
def packK (a2 : FVec Ideal S16384x32 .f32) (a3 : FVec Ideal S16384x8x64 .f32) : FVec Ideal S16384x1024 .bf16 :=
  truncf .bf16 (shapeCast S16384x1024 (joined (broadcastInDim S16384x8x32 ![0, 1, 2] bcast_S16384x1x32_S16384x8x32_0_1_2 (broadcastInDim S16384x1x32 ![0, 2] bcast_S16384x32_S16384x1x32_0_2 a2)) a3) shapeCasts_S16384x8x128_S16384x1024) bitsLt_bf16_f32

/-- The values with their ones. -/
def withOnes (a4 : FVec Ideal S16384x8x64 .f32) : FVec Ideal S16384x8x128 .f32 :=
  concatenate S16384x8x128 2 [⟨S16384x8x64, a4⟩, ⟨S16384x8x1, broadcastInDim S16384x8x1 ![] bcast_S_S16384x8x1 (constant S_ .f32 0x3F800000#32)⟩,
    ⟨S16384x8x63, broadcastInDim S16384x8x63 ![] bcast_S_S16384x8x63 (constant S_ .f32 0x00000000#32)⟩] concatenates_S16384x8x64_S16384x8x1_S16384x8x63_S16384x8x128_d2

/-- The values as laid out. -/
def packV (a4 : FVec Ideal S16384x8x64 .f32) : FVec Ideal S64x1024x256 .bf16 :=
  truncf .bf16 (transpose S64x1024x256 [0, 2, 1] (shapeCast S64x256x1024 (withOnes a4) shapeCasts_S16384x8x128_S64x256x1024) transposes_S64x256x1024_S64x1024x256_0_2_1) bitsLt_bf16_f32

variable (m : (ℓ : Loc nD τ sig) → Buf (Elt Ideal) ℓ) (c : Dev nD)

theorem V_queries : V m c main_v7 = packQ (m ((c.tc : Thread nD τ).loc main_arg0)) (m ((c.tc : Thread nD τ).loc main_arg1)) := by
  show StableHlo.after (List.flatten [hostOps0]) (fun b => m (c, b)) (Proc.devRef .tc main_v7) = _
  simp only [hostOps0, List.flatten_cons, List.flatten_nil, List.append_nil]
  after_results_simp
  rfl

theorem V_keys : V m c main_v12 = packK (m ((c.tc : Thread nD τ).loc main_arg2)) (m ((c.tc : Thread nD τ).loc main_arg3)) := by
  show StableHlo.after (List.flatten [hostOps0]) (fun b => m (c, b)) (Proc.devRef .tc main_v12) = _
  simp only [hostOps0, List.flatten_cons, List.flatten_nil, List.append_nil]
  after_results_simp
  rfl

theorem V_values : V m c main_v18 = packV (m ((c.tc : Thread nD τ).loc main_arg4)) := by
  show StableHlo.after (List.flatten [hostOps0]) (fun b => m (c, b)) (Proc.devRef .tc main_v18) = _
  simp only [hostOps0, List.flatten_cons, List.flatten_nil, List.append_nil]
  after_results_simp
  rfl

end Cert.Flash
-- ==== Proof.PackAt.lean ====
module

public import proofs.«01_k».proof.Proof.Pack
public import proofs.«01_k».proof.Proof.Softmax

/-! The laid-out queries, keys and values entry by entry, and the score a query and a key make. -/

@[expose] public section

set_option maxRecDepth 8192

noncomputable section

namespace Cert.Flash

open Idealize.ShloMosaic Idealize.ShloMosaic.ValueIdx Cert.KernelIdeal Cert.KernelIdeal.Gen

theorem zero_bits : (Ideal.ofBits .f32 0x00000000#32 : EReal) = 0 := by simp [Ideal.ofBits, Ideal.ieee]

theorem one_bits : (Ideal.ofBits .f32 0x3F800000#32 : EReal) = 1 := by
  simp [Ideal.ofBits, Ideal.ieee]
  rw [← EReal.coe_mul, ← EReal.coe_one]
  exact congrArg _ (by norm_num)

theorem two_bits : (Ideal.ofBits .f32 0x40000000#32 : EReal) = ((2 : ℝ) : EReal) := by
  simp [Ideal.ofBits, Ideal.ieee]
  rw [← EReal.coe_mul]
  exact congrArg _ (by norm_num)

theorem gap_at (i : S16384x8x32.Idx) : gap i = (0 : EReal) := zero_bits

theorem joined_left (x : FVec Ideal S16384x8x32 .f32) (z : FVec Ideal S16384x8x64 .f32) (n : Fin 16384) (h : Fin 8) (e : Fin 32) (e' : Fin 128) (he : e'.val = e.val) :
    joined x z (ix3 n h e') = x (ix3 n h e) := by
  unfold joined
  refine concatenate_apply_piece 2 [⟨S16384x8x32, x⟩, ⟨S16384x8x32, gap⟩, ⟨S16384x8x64, z⟩] _ (ix3 n h e') 0 (by exact (show 0 < 3 by decide)) S16384x8x32 x rfl rfl 0 rfl (ix3 n h e)
    (fun b hb => ?_) ?_
  · fin_cases b
    · rfl
    · rfl
    · exact absurd rfl hb
  · show 0 + e.val = e'.val
    omega

theorem joined_mid (x : FVec Ideal S16384x8x32 .f32) (z : FVec Ideal S16384x8x64 .f32) (n : Fin 16384) (h : Fin 8) (e : Fin 32) (e' : Fin 128) (he : e'.val = 32 + e.val) :
    joined x z (ix3 n h e') = (0 : EReal) := by
  unfold joined
  refine (concatenate_apply_piece 2 [⟨S16384x8x32, x⟩, ⟨S16384x8x32, gap⟩, ⟨S16384x8x64, z⟩] _ (ix3 n h e') 1 (by exact (show 1 < 3 by decide)) S16384x8x32 gap rfl rfl 32 rfl (ix3 n h e)
    (fun b hb => ?_) ?_).trans (gap_at _)
  · fin_cases b
    · rfl
    · rfl
    · exact absurd rfl hb
  · show 32 + e.val = e'.val
    omega

theorem joined_right (x : FVec Ideal S16384x8x32 .f32) (z : FVec Ideal S16384x8x64 .f32) (n : Fin 16384) (h : Fin 8) (e : Fin 64) (e' : Fin 128) (he : e'.val = 64 + e.val) :
    joined x z (ix3 n h e') = z (ix3 n h e) := by
  unfold joined
  refine concatenate_apply_piece 2 [⟨S16384x8x32, x⟩, ⟨S16384x8x32, gap⟩, ⟨S16384x8x64, z⟩] _ (ix3 n h e') 2 (by exact (show 2 < 3 by decide)) S16384x8x64 z rfl rfl 64 rfl (ix3 n h e)
    (fun b hb => ?_) ?_
  · fin_cases b
    · rfl
    · rfl
    · exact absurd rfl hb
  · show 64 + e.val = e'.val
    omega

theorem factorQ_at : factorQ ix0 = ((scale * (1 / Real.log 2) : ℝ) : EReal) := by
  show Ideal.div (Ideal.ofBits .f32 0x3DD105EC#32) (Ideal.log (Ideal.ofBits .f32 0x40000000#32)) = _
  rw [scale_eq, two_bits, Ideal.log_coe, if_neg (by norm_num), Ideal.div_coe log_two_ne, ← EReal.coe_mul]

/-- Feature `e` of head `h` lies in column `128 h + e`. -/
theorem packQ_at (a0 : FVec Ideal S16384x8x32 .f32) (a1 : FVec Ideal S16384x8x64 .f32) (n : Fin 16384) (h : Fin 8) (e : Fin 128) (col : Fin 1024) (hcol : col.val = 128 * h.val + e.val) :
    packQ a0 a1 (ix2 n col) = (joined a0 a1 (ix3 n h e) : EReal) * ((scale * (1 / Real.log 2) : ℝ) : EReal) := by
  unfold packQ
  refine congrArg₂ (fun x y : EReal => x * y) ?_ ?_
  · exact shapeCast_apply _ _ _ (ix3 n h e) (by
      rw [Shape.rowMajor_val_three, Shape.rowMajor_val_two]
      show (n.val * 8 + h.val) * 128 + e.val = n.val * 1024 + col.val
      omega)
  · exact (broadcastInDim_apply _ _ _ _ ix0 fun a => a.elim0).trans factorQ_at

theorem packK_at (a2 : FVec Ideal S16384x32 .f32) (a3 : FVec Ideal S16384x8x64 .f32) (n : Fin 16384) (h : Fin 8) (e : Fin 128) (col : Fin 1024) (hcol : col.val = 128 * h.val + e.val) :
    packK a2 a3 (ix2 n col) = joined (broadcastInDim S16384x8x32 ![0, 1, 2] bcast_S16384x1x32_S16384x8x32_0_1_2 (broadcastInDim S16384x1x32 ![0, 2] bcast_S16384x32_S16384x1x32_0_2 a2)) a3 (ix3 n h e) := by
  unfold packK
  refine (show _ = shapeCast S16384x1024 (joined (broadcastInDim S16384x8x32 ![0, 1, 2] bcast_S16384x1x32_S16384x8x32_0_1_2 (broadcastInDim S16384x1x32 ![0, 2] bcast_S16384x32_S16384x1x32_0_2 a2)) a3) shapeCasts_S16384x8x128_S16384x1024 (ix2 n col) from rfl).trans ?_
  exact shapeCast_apply (t := S16384x1024) _ _ (ix2 n col) (ix3 n h e) (by
    rw [Shape.rowMajor_val_three, Shape.rowMajor_val_two]
    show (n.val * 8 + h.val) * 128 + e.val = n.val * 1024 + col.val
    omega)

theorem shared_at (a2 : FVec Ideal S16384x32 .f32) (n : Fin 16384) (h : Fin 8) (e : Fin 32) :
    broadcastInDim S16384x8x32 ![0, 1, 2] bcast_S16384x1x32_S16384x8x32_0_1_2 (broadcastInDim S16384x1x32 ![0, 2] bcast_S16384x32_S16384x1x32_0_2 a2) (ix3 n h e) = a2 (ix2 n e) :=
  (broadcastInDim_apply _ _ _ _ (ix3 n (0 : Fin 1) e) fun a => by fin_cases a <;> rfl).trans
    (broadcastInDim_apply _ _ _ _ (ix2 n e) fun a => by fin_cases a <;> rfl)

theorem withOnes_at (a4 : FVec Ideal S16384x8x64 .f32) (n : Fin 16384) (h : Fin 8) (d : Fin 128) : withOnes a4 (ix3 n h d) = rowValue a4 h d.val n.val := by
  have hd := d.isLt
  unfold withOnes rowValue
  by_cases h1 : d.val < 64
  · rw [dif_pos h1, dif_pos n.isLt]
    refine concatenate_apply_piece 2 [⟨S16384x8x64, a4⟩, ⟨S16384x8x1, _⟩, ⟨S16384x8x63, _⟩] _ (ix3 n h d) 0 (by exact (show 0 < 3 by decide)) S16384x8x64 a4 rfl rfl 0 rfl (ix3 n h ⟨d.val, h1⟩)
      (fun b hb => ?_) ?_
    · fin_cases b
      · rfl
      · rfl
      · exact absurd rfl hb
    · show 0 + d.val = d.val
      omega
  rw [dif_neg h1]
  by_cases h2 : d.val = 64
  · rw [if_pos h2]
    refine (concatenate_apply_piece 2 [⟨S16384x8x64, a4⟩, ⟨S16384x8x1, _⟩, ⟨S16384x8x63, _⟩] _ (ix3 n h d) 1 (by exact (show 1 < 3 by decide)) S16384x8x1 _ rfl rfl 64 rfl (ix3 n h (0 : Fin 1))
      (fun b hb => ?_) ?_).trans one_bits
    · fin_cases b
      · rfl
      · rfl
      · exact absurd rfl hb
    · show 64 + 0 = d.val
      omega
  · rw [if_neg h2]
    refine (concatenate_apply_piece 2 [⟨S16384x8x64, a4⟩, ⟨S16384x8x1, _⟩, ⟨S16384x8x63, _⟩] _ (ix3 n h d) 2 (by exact (show 2 < 3 by decide)) S16384x8x63 _ rfl rfl 65 rfl (ix3 n h (⟨d.val - 65, by omega⟩ : Fin 63))
      (fun b hb => ?_) ?_).trans zero_bits
    · fin_cases b
      · rfl
      · rfl
      · exact absurd rfl hb
    · show 65 + (d.val - 65) = d.val
      omega

theorem packV_at (a4 : FVec Ideal S16384x8x64 .f32) (j : Fin 64) (r : Fin 256) (n : Fin 16384) (hn : n.val = 256 * j.val + r.val) (h : Fin 8) (d : Fin 128) (col : Fin 1024) (hcol : col.val = 128 * h.val + d.val) :
    packV a4 (ix3 j col r) = rowValue a4 h d.val n.val := by
  rw [← withOnes_at]
  unfold packV
  refine (show _ = transpose S64x1024x256 [0, 2, 1] (shapeCast S64x256x1024 (withOnes a4) shapeCasts_S16384x8x128_S64x256x1024) transposes_S64x256x1024_S64x1024x256_0_2_1 (ix3 j col r) from rfl).trans ?_
  refine (transpose_apply [0, 2, 1] _ _ (ix3 j col r) (ix3 j r col) fun b => by fin_cases b <;> rfl).trans ?_
  exact shapeCast_apply (t := S64x256x1024) _ _ (ix3 j r col) (ix3 n h d) (by
    rw [Shape.rowMajor_val_three, Shape.rowMajor_val_three]
    show (n.val * 8 + h.val) * 128 + d.val = (j.val * 256 + r.val) * 1024 + col.val
    omega)

/-- A sum over 128 features: the first 32, the next 32 and the last 64. -/
theorem sum_parts (f : Fin 128 → EReal) (x y : Fin 32 → EReal) (z : Fin 64 → EReal) (hx : ∀ e : Fin 32, f ⟨e.val, by omega⟩ = x e)
    (hy : ∀ e : Fin 32, f ⟨32 + e.val, by omega⟩ = y e) (hz : ∀ e : Fin 64, f ⟨64 + e.val, by omega⟩ = z e) :
    ∑ e : Fin 128, f e = (∑ e, x e) + ((∑ e, y e) + ∑ e, z e) := by
  refine (Fin.sum_univ_add (a := 32) (b := 96) f).trans (congrArg₂ (· + ·) (Finset.sum_congr rfl fun e _ => hx e) ?_)
  refine (Fin.sum_univ_add (a := 32) (b := 64) fun i : Fin (32 + 64) => f (Fin.natAdd 32 i)).trans
    (congrArg₂ (· + ·) (Finset.sum_congr rfl fun e _ => hy e) (Finset.sum_congr rfl fun e _ => ?_))
  refine Eq.trans (congrArg f (Fin.ext ?_)) (hz e)
  show 32 + (32 + e.val) = 64 + e.val
  omega

/-- The laid-out query and key of a head make the score of that head, over the logarithm of 2. -/
theorem packed_score (qr : (Heads 32).Idx → ℝ) (qn : (Heads 64).Idx → ℝ) (kr : Shared.Idx → ℝ) (kn : (Heads 64).Idx → ℝ) (h : Fin 8) (n k : Fin 16384)
    (col : Fin 128 → Fin 1024) (hcol : ∀ e, (col e).val = 128 * h.val + e.val) :
    (∑ e : Fin 128, (packK (fun i => (kr i : EReal)) (fun i => (kn i : EReal)) (ix2 k (col e)) : EReal) * (packQ (fun i => (qr i : EReal)) (fun i => (qn i : EReal)) (ix2 n (col e)) : EReal))
      = ((rowScores qr qn kr kn h n k.val / Real.log 2 : ℝ) : EReal) := by
  rw [rowScores_of]
  refine (sum_parts _ (fun e => ((kr (ix2 k e) * (qr (ix3 n h e) * (scale * (1 / Real.log 2))) : ℝ) : EReal)) (fun _ => ((0 : ℝ) : EReal))
    (fun e => ((kn (ix3 k h e) * (qn (ix3 n h e) * (scale * (1 / Real.log 2))) : ℝ) : EReal)) ?_ ?_ ?_).trans ?_
  · intro e
    rw [packK_at _ _ k h _ _ (hcol _), packQ_at _ _ n h _ _ (hcol _), joined_left _ _ k h e _ rfl, joined_left _ _ n h e _ rfl, shared_at]
    rw [← EReal.coe_mul, ← EReal.coe_mul]
  · intro e
    rw [packK_at _ _ k h _ _ (hcol _), joined_mid _ _ k h e _ rfl, zero_mul, EReal.coe_zero]
  · intro e
    rw [packK_at _ _ k h _ _ (hcol _), packQ_at _ _ n h _ _ (hcol _), joined_right _ _ k h e _ rfl, joined_right _ _ n h e _ rfl]
    rw [← EReal.coe_mul, ← EReal.coe_mul]
  · rw [coe_sum, coe_sum, coe_sum, ← EReal.coe_add, ← EReal.coe_add]
    refine congrArg _ ?_
    unfold rowScore
    rw [Finset.sum_const_zero, zero_add, add_mul, add_div, add_comm]
    refine congrArg₂ (· + ·) ?_ ?_
    · rw [Finset.sum_mul, Finset.sum_div]
      exact Finset.sum_congr rfl fun e _ => by ring
    · rw [Finset.sum_mul, Finset.sum_div]
      exact Finset.sum_congr rfl fun e _ => by ring

end Cert.Flash
-- ==== Proof.AtIndex.lean ====
module

public import proofs.«01_k».proof.Proof.Masked
public import Idealize.ShloMosaic.Lib.ValueIdx
public import Idealize.ShloMosaic.Lib.ValueLayout
public import Idealize.ShloMosaic.PureOps.Ideal.Laws

/-! What a step computes, read at an index over the extended reals. -/

@[expose] public section

set_option maxRecDepth 8192

noncomputable section

namespace Cert.Flash

open Idealize.ShloMosaic Idealize.ShloMosaic.ValueIdx Cert.KernelIdeal Cert.KernelIdeal.Gen

/-- A score: a key's row times a query's row. -/
theorem score_at (q : FVec Ideal S512x128 .bf16) (kt : FVec Ideal S256x128 .bf16) (r : Fin 256) (c : Fin 512) :
    score q kt (ix4 (0 : Fin 1) (0 : Fin 1) r c) = ∑ e : Fin 128, kt (ix2 r e) * q (ix2 c e) := by
  unfold score k0_pay1
  refine (shapeCast_apply _ _ _ (ix2 r c) (by
    rw [Shape.rowMajor_val_four, Shape.rowMajor_val_two]
    show r.val * 512 + c.val = ((0 * 1 + 0) * 256 + r.val) * 512 + c.val
    omega)).trans ?_
  simp only [matmul]
  rw [Ideal.matmul_constant_zero_apply]
  refine ((contrEquiv1 dot_S256x128_S512x128_S256x512_1_1_0_0_n_n 128 rfl rfl).symm.sum_comp _).symm.trans ?_
  refine Finset.sum_congr rfl fun e _ => ?_
  have he := contrEquiv1_symm_val dot_S256x128_S512x128_S256x512_1_1_0_0_n_n 128 rfl rfl e
  rw [shapeCast_self]
  refine congrArg₂ (· * ·) (congrArg kt (funext fun a => Fin.ext ?_)) (congrArg q (funext fun a => Fin.ext ?_))
  · fin_cases a
    · rfl
    · exact he
  · fin_cases a
    · rfl
    · exact he

/-- The strip of a column, and where the column lies in it. -/
theorem colMax_at (s : FVec Ideal S1x1x256x512 .f32) (o : ℕ) (h : ∀ k, ![0, 0, 0, o] k + ![1, 1, 256, 128] k ≤ S1x1x256x512.size k) (c : Fin 512) (q : Fin 128) (hc : c.val = o + q.val) :
    k0_pay14 (strip s o h) (ix2 (0 : Fin 1) q) = (Finset.univ : Finset (Fin 256)).fold max ⊥ fun r => s (ix4 (0 : Fin 1) (0 : Fin 1) r c) := by
  unfold k0_pay14
  refine (shapeCast_apply _ _ _ (ix1 q) (by
    rw [Shape.rowMajor_val_one, Shape.rowMajor_val_two]
    show q.val = 0 * 128 + q.val
    omega)).trans ?_
  refine (Ideal.multiReduction_maximumf_single _ _ _ _ _ _).trans ?_
  have hb : (FloatOps.ofBits .f32 0xFF800000#32 : Ideal .f32) = (⊥ : EReal) := by
    show Ideal.ofBits .f32 0xFF800000#32 = ⊥
    simp [Ideal.ofBits, Ideal.ieee]
  rw [hb]
  refine congrArg (fun f => Finset.fold max ⊥ f Finset.univ) (funext fun r => ?_)
  refine (shapeCast_apply _ _ _ (ix4 (0 : Fin 1) (0 : Fin 1) r q) (by
    rw [Shape.rowMajor_val_four, Shape.rowMajor_val_two]
    show ((0 * 1 + 0) * 256 + r.val) * 128 + q.val = r.val * 128 + q.val
    omega)).trans ?_
  refine congrArg s (funext fun a => Fin.ext ?_)
  fin_cases a
  · rfl
  · rfl
  · show 0 + 1 * r.val = r.val; omega
  · show o + 1 * q.val = c.val; omega

/-- The running maximum after a tile. -/
theorem maxRow_at (m : FVec Ideal S1x1x512 .f32) (s : FVec Ideal S1x1x256x512 .f32) (c : Fin 512) :
    maxRow m s (ix2 (0 : Fin 1) c) = max (m (ix3 (0 : Fin 1) (0 : Fin 1) c)) ((Finset.univ : Finset (Fin 256)).fold max ⊥ fun r => s (ix4 (0 : Fin 1) (0 : Fin 1) r c)) := by
  have hc := c.isLt
  unfold maxRow k0_pay17
  refine congrArg₂ max ?_ ?_
  · unfold k0_pay13
    exact shapeCast_apply _ _ _ (ix3 (0 : Fin 1) (0 : Fin 1) c) (by
      rw [Shape.rowMajor_val_three, Shape.rowMajor_val_two]
      show (0 * 1 + 0) * 512 + c.val = 0 * 512 + c.val
      omega)
  · have piece : ∀ (k : ℕ) (hk : k < 4) (pre : ℕ) (q : Fin 128) (x : FVec Ideal S1x128 .f32) (xs : List ((s : Shape) × (s.Idx → Ideal .f32)))
        (hxs : xs.map (·.1) = [S1x128, S1x128, S1x128, S1x128]) (hcat : Shape.Concatenates (xs.map (·.1)) S1x512 1) (hlen : k < xs.length) (hx : xs[k] = ⟨S1x128, x⟩)
        (hpre : pre = 128 * k) (hq : pre + q.val = c.val), concatenate S1x512 1 xs hcat (ix2 (0 : Fin 1) c) = x (ix2 (0 : Fin 1) q) := by
      intro k hk pre q x xs hxs hcat hlen hx hpre hq
      refine concatenate_apply_piece 1 xs hcat _ k hlen S1x128 x hx rfl pre ?_ _ (fun b hb => ?_) hq
      · rw [List.map_take, hxs, hpre]
        interval_cases k <;> rfl
      · fin_cases b
        · rfl
        · exact absurd rfl hb
    rcases Nat.lt_or_ge c.val 128 with h1 | h1
    · exact (piece 0 (by decide) 0 ⟨c.val, h1⟩ _ _ rfl _ (by exact (show 0 < 4 by decide)) rfl rfl (by show 0 + c.val = c.val; omega)).trans (colMax_at s 0 _ c ⟨c.val, h1⟩ (by show c.val = 0 + c.val; omega))
    rcases Nat.lt_or_ge c.val 256 with h2 | h2
    · exact (piece 1 (by decide) 128 ⟨c.val - 128, by omega⟩ _ _ rfl _ (by exact (show 1 < 4 by decide)) rfl rfl (by show 128 + (c.val - 128) = c.val; omega)).trans (colMax_at s 128 _ c ⟨c.val - 128, by omega⟩ (by show c.val = 128 + (c.val - 128); omega))
    rcases Nat.lt_or_ge c.val 384 with h3 | h3
    · exact (piece 2 (by decide) 256 ⟨c.val - 256, by omega⟩ _ _ rfl _ (by exact (show 2 < 4 by decide)) rfl rfl (by show 256 + (c.val - 256) = c.val; omega)).trans (colMax_at s 256 _ c ⟨c.val - 256, by omega⟩ (by show c.val = 256 + (c.val - 256); omega))
    · exact (piece 3 (by decide) 384 ⟨c.val - 384, by omega⟩ _ _ rfl _ (by exact (show 3 < 4 by decide)) rfl rfl (by show 384 + (c.val - 384) = c.val; omega)).trans (colMax_at s 384 _ c ⟨c.val - 384, by omega⟩ (by show c.val = 384 + (c.val - 384); omega))

/-- The running maximum as stored. -/
theorem maxOf_at (m : FVec Ideal S1x1x512 .f32) (s : FVec Ideal S1x1x256x512 .f32) (c : Fin 512) :
    maxOf m s (ix3 (0 : Fin 1) (0 : Fin 1) c) = maxRow m s (ix2 (0 : Fin 1) c) := by
  unfold maxOf k0_pay18
  exact shapeCast_apply _ _ _ (ix2 (0 : Fin 1) c) (by
    rw [Shape.rowMajor_val_three, Shape.rowMajor_val_two]
    show 0 * 512 + c.val = (0 * 1 + 0) * 512 + c.val
    omega)

/-- The factor of a step. -/
theorem factor_at (m : FVec Ideal S1x1x512 .f32) (s : FVec Ideal S1x1x256x512 .f32) (c : Fin 512) :
    factor m s (ix4 (0 : Fin 1) (0 : Fin 1) (0 : Fin 1) c) = Ideal.exp2 (m (ix3 (0 : Fin 1) (0 : Fin 1) c) - maxRow m s (ix2 (0 : Fin 1) c)) := by
  unfold factor k0_pay19
  refine (shapeCast_apply _ _ _ (ix2 (0 : Fin 1) c) (by
    rw [Shape.rowMajor_val_four, Shape.rowMajor_val_two]
    show 0 * 512 + c.val = ((0 * 1 + 0) * 1 + 0) * 512 + c.val
    omega)).trans ?_
  refine congrArg Ideal.exp2 (congrArg (· - maxRow m s (ix2 (0 : Fin 1) c)) ?_)
  unfold k0_pay13
  exact shapeCast_apply _ _ _ (ix3 (0 : Fin 1) (0 : Fin 1) c) (by
    rw [Shape.rowMajor_val_three, Shape.rowMajor_val_two]
    show (0 * 1 + 0) * 512 + c.val = 0 * 512 + c.val
    omega)

/-- A tile's weights, in one array. -/
def weightOf (mr : FVec Ideal S1x512 .f32) (s : FVec Ideal S1x1x256x512 .f32) : FVec Ideal S1x1x256x512 .bf16 :=
  fun y => Ideal.exp2 (s y - mr (ix2 (0 : Fin 1) (⟨(y 3).val, (y 3).isLt⟩ : Fin 512)))

theorem band_at (mr : FVec Ideal S1x512 .f32) (s : FVec Ideal S1x1x256x512 .f32) (o : ℕ) (h : ∀ k, ![0, 0, o, 0] k + ![1, 1, 64, 512] k ≤ S1x1x256x512.size k) :
    k0_pay41 mr (band s o h) = VecWindow.window (s := S1x1x256x512) (weightOf mr s) ![0, 0, o, 0] ![1, 1, 64, 512] h := by
  funext y
  obtain ⟨a, b, r, c, rfl⟩ : ∃ (a : Fin 1) (b : Fin 1) (r : Fin 64) (c : Fin 512), y = ix4 a b r c := ⟨y 0, y 1, y 2, y 3, eq_ix4 y⟩
  have ha := a.isLt
  have hb := b.isLt
  unfold k0_pay41
  refine (shapeCast_apply _ _ _ (ix2 r c) (by
    rw [Shape.rowMajor_val_four, Shape.rowMajor_val_two]
    show r.val * 512 + c.val = ((a.val * 1 + b.val) * 64 + r.val) * 512 + c.val
    omega)).trans ?_
  refine congrArg Ideal.exp2 (congrArg₂ (fun x y : EReal => x - y) ?_ ?_)
  · refine (shapeCast_apply _ _ _ (ix4 a b r c) (by
      rw [Shape.rowMajor_val_four, Shape.rowMajor_val_two]
      show ((a.val * 1 + b.val) * 64 + r.val) * 512 + c.val = r.val * 512 + c.val
      omega)).trans ?_
    rfl
  · refine (broadcastTo_apply _ _ _ (ix2 (0 : Fin 1) c) fun k => ?_).trans (congrArg mr (funext fun k => Fin.ext ?_))
    · fin_cases k
      · rfl
      · rfl
    · fin_cases k
      · rfl
      · show c.val = 0 + 1 * c.val; omega

theorem weights_eq (mr : FVec Ideal S1x512 .f32) (s : FVec Ideal S1x1x256x512 .f32) : weights mr s = weightOf mr s := by
  unfold weights
  rw [band_at, band_at, band_at, band_at]
  exact stack_window _ _ _ _ _

/-- The weighted sum with a tile taken in. -/
theorem gather_at (σ : St Ideal) (vt : FVec Ideal S1x128x256 .bf16) (d : Fin 128) (c : Fin 512) :
    gather σ vt (ix3 (0 : Fin 1) d c) = σ.al (ix4 (0 : Fin 1) (0 : Fin 1) (0 : Fin 1) c) * σ.acc (ix3 (0 : Fin 1) d c)
      + ∑ r : Fin 256, vt (ix3 (0 : Fin 1) d r) * σ.p (ix4 (0 : Fin 1) (0 : Fin 1) r c) := by
  unfold gather k0_pay6
  refine (shapeCast_apply _ _ _ (ix2 d c) (by
    rw [Shape.rowMajor_val_three, Shape.rowMajor_val_two]
    show d.val * 512 + c.val = (0 * 128 + d.val) * 512 + c.val
    omega)).trans ?_
  refine congrArg₂ (· + ·) (congrArg₂ (· * ·) ?_ ?_) ?_
  · refine (broadcastTo_apply _ _ _ (ix2 (0 : Fin 1) c) fun k => ?_).trans (shapeCast_apply _ _ _ (ix4 (0 : Fin 1) (0 : Fin 1) (0 : Fin 1) c) (by
      rw [Shape.rowMajor_val_four, Shape.rowMajor_val_two]
      show ((0 * 1 + 0) * 1 + 0) * 512 + c.val = 0 * 512 + c.val
      omega))
    fin_cases k
    · rfl
    · rfl
  · exact shapeCast_apply _ _ _ (ix3 (0 : Fin 1) d c) (by
      rw [Shape.rowMajor_val_three, Shape.rowMajor_val_two]
      show (0 * 128 + d.val) * 512 + c.val = d.val * 512 + c.val
      omega)
  · simp only [matmul]
    rw [Ideal.matmul_constant_zero_apply]
    refine ((contrEquiv1 dot_S128x256_S256x512_S128x512_1_0_0_1_n_n 256 rfl rfl).symm.sum_comp _).symm.trans ?_
    refine Finset.sum_congr rfl fun r _ => ?_
    have hr := contrEquiv1_symm_val dot_S128x256_S256x512_S128x512_1_0_0_1_n_n 256 rfl rfl r
    refine congrArg₂ (· * ·) ((congrArg _ (funext fun a => Fin.ext ?_)).trans (shapeCast_apply _ _ (ix2 d r) (ix3 (0 : Fin 1) d r) (by
        rw [Shape.rowMajor_val_three, Shape.rowMajor_val_two]
        show (0 * 128 + d.val) * 256 + r.val = d.val * 256 + r.val
        omega))) ((congrArg _ (funext fun a => Fin.ext ?_)).trans (shapeCast_apply _ _ (ix2 r c) (ix4 (0 : Fin 1) (0 : Fin 1) r c) (by
        rw [Shape.rowMajor_val_four, Shape.rowMajor_val_two]
        show ((0 * 1 + 0) * 256 + r.val) * 512 + c.val = r.val * 512 + c.val
        omega)))
    · fin_cases a
      · rfl
      · exact hr
    · fin_cases a
      · exact hr
      · rfl

/-- A query's result: each feature's sum over the sum of the weights, which row 64 holds. -/
theorem outOf_at (acc : FVec Ideal S1x128x512 .f32) (c : Fin 512) (d : Fin 128) :
    k0_pay381 (F := Ideal) acc (ix2 c d) = Ideal.div (acc (ix3 (0 : Fin 1) d c)) (acc (ix3 (0 : Fin 1) (64 : Fin 128) c)) := by
  unfold k0_pay381
  have cast : ∀ d : Fin 128, shapeCast S128x512 acc shapeCasts_S1x128x512_S128x512 (ix2 d c) = acc (ix3 (0 : Fin 1) d c) := fun d =>
    shapeCast_apply _ _ _ (ix3 (0 : Fin 1) d c) (by
      rw [Shape.rowMajor_val_three, Shape.rowMajor_val_two]
      show (0 * 128 + d.val) * 512 + c.val = d.val * 512 + c.val
      omega)
  have turned : ∀ x : FVec Ideal S128x512 .f32, truncf .bf16 (transpose S512x128 [1, 0] x transposes_S128x512_p1_0_S512x128) bitsLt_bf16_f32 (ix2 c d) = x (ix2 d c) := fun x =>
by
    show transpose S512x128 [1, 0] x transposes_S128x512_p1_0_S512x128 (ix2 c d) = x (ix2 d c)
    refine transpose_apply [1, 0] x transposes_S128x512_p1_0_S512x128 (ix2 c d) (ix2 d c) fun b => ?_
    fin_cases b
    · rfl
    · rfl
  refine (turned _).trans ?_
  refine congrArg₂ Ideal.div (cast d) ?_
  refine (broadcastTo_apply _ _ _ (ix2 (0 : Fin 1) c) fun k => ?_).trans ?_
  · fin_cases k
    · rfl
    · rfl
  refine (extractStridedSlice_apply _ _ _ _ (ix2 (64 : Fin 128) c) fun k => ?_).trans (cast 64)
  fin_cases k
  · rfl
  · show c.val = 0 + c.val; omega

end Cert.Flash
-- ==== Proof.Means.lean ====
module

public import proofs.«01_k».proof.Proof.Softmax
public import proofs.«01_k».proof.Proof.AtIndex
public import proofs.«01_k».proof.Proof.Body

/-! The sweep over the key tiles leaves each query the weighted mean of the values, over the extended reals. -/

@[expose] public section

set_option maxRecDepth 8192

noncomputable section

namespace Cert.Flash

open Idealize.ShloMosaic Idealize.ShloMosaic.ValueIdx Cert.KernelIdeal Cert.KernelIdeal.Gen

theorem minus_inf : (Scalar.ofBits .f32 0xFF800000#32 : Ideal .f32) = (⊥ : EReal) := by
  show Ideal.ofBits .f32 0xFF800000#32 = ⊥
  simp [Ideal.ofBits, Ideal.ieee]

theorem zero_f32 : (Scalar.ofBits .f32 0x00000000#32 : Ideal .f32) = (0 : EReal) := by
  show Ideal.ofBits .f32 0x00000000#32 = 0
  simp [Ideal.ofBits, Ideal.ieee]

theorem zero_bf16 : (Scalar.ofBits .bf16 0x0000#16 : Ideal .bf16) = (0 : EReal) := by
  show Ideal.ofBits .bf16 0x0000#16 = 0
  simp [Ideal.ofBits, Ideal.ieee]

/-- The masked scores of tile `j`. -/
theorem masked_at (b j : ℕ) (s : FVec Ideal S1x1x256x512 .f32) (c : Fin 512) (t : ℕ → ℝ)
    (hs : ∀ r : Fin 256, s (ix4 (0 : Fin 1) (0 : Fin 1) r c) = ((t (256 * j + r.val) / Real.log 2 : ℝ) : EReal)) (r : Fin 256) :
    masked b j s (ix4 (0 : Fin 1) (0 : Fin 1) r c) = score2 t (512 * b + c.val) (256 * j + r.val) := by
  show (if 256 * j + r.val ≤ 512 * b + c.val then s (ix4 (0 : Fin 1) (0 : Fin 1) r c) else Scalar.ofBits .f32 0xFF800000#32) = _
  unfold score2
  split
  · exact hs r
  · exact minus_inf

section Sweep

variable (b : ℕ) (q : FVec Ideal S512x128 .bf16) (kt : ℕ → FVec Ideal S256x128 .bf16) (vt : ℕ → FVec Ideal S1x128x256 .bf16) (N : ℕ) (c : Fin 512) (t : ℕ → ℝ) (v : ℕ → ℕ → EReal)

/-- A column of the new running maximum. -/
theorem max_after (j : ℕ) (hs : ∀ r : Fin 256, score q (kt j) (ix4 (0 : Fin 1) (0 : Fin 1) r c) = ((t (256 * j + r.val) / Real.log 2 : ℝ) : EReal)) :
    (sweep b q kt vt (j + 1)).m (ix3 (0 : Fin 1) (0 : Fin 1) c)
      = max ((sweep b q kt vt j).m (ix3 (0 : Fin 1) (0 : Fin 1) c)) ((Finset.univ : Finset (Fin 256)).fold max ⊥ fun r => score2 t (512 * b + c.val) (256 * j + r.val)) := by
  refine (maxOf_at (sweep b q kt vt j).m (masked b j (sweep b q kt vt j).s) c).trans ((maxRow_at _ _ c).trans ?_)
  refine congrArg (fun f => max _ (Finset.fold max ⊥ f Finset.univ)) (funext fun r => ?_)
  rw [sweep_s]
  exact masked_at b j _ c t hs r

/-- What is gathered with a tile's own weights, in terms of the state before it. -/
theorem gather_after (j : ℕ) (hs : ∀ r : Fin 256, score q (kt j) (ix4 (0 : Fin 1) (0 : Fin 1) r c) = ((t (256 * j + r.val) / Real.log 2 : ℝ) : EReal))
    (d : Fin 128) (hv : ∀ r : Fin 256, vt j (ix3 (0 : Fin 1) d r) = v d.val (256 * j + r.val)) :
    gather (sweep b q kt vt (j + 1)) (vt j) (ix3 (0 : Fin 1) d c)
      = Ideal.exp2 ((sweep b q kt vt j).m (ix3 (0 : Fin 1) (0 : Fin 1) c) - (sweep b q kt vt (j + 1)).m (ix3 (0 : Fin 1) (0 : Fin 1) c))
          * gather (sweep b q kt vt j) (vt (j - 1)) (ix3 (0 : Fin 1) d c)
        + ∑ r : Fin 256, v d.val (256 * j + r.val) * Ideal.exp2 (score2 t (512 * b + c.val) (256 * j + r.val) - (sweep b q kt vt (j + 1)).m (ix3 (0 : Fin 1) (0 : Fin 1) c)) := by
  have hM : (sweep b q kt vt (j + 1)).m (ix3 (0 : Fin 1) (0 : Fin 1) c) = maxRow (sweep b q kt vt j).m (masked b j (sweep b q kt vt j).s) (ix2 (0 : Fin 1) c) := maxOf_at _ _ c
  rw [gather_at, hM]
  refine congrArg₂ (· + ·) (congrArg₂ (· * ·) (factor_at _ _ c) rfl) (Finset.sum_congr rfl fun r _ => congrArg₂ (· * ·) (hv r) ?_)
  refine (congrFun (weights_eq _ _) _).trans ?_
  refine congrArg (fun x : EReal => Ideal.exp2 (x - maxRow (sweep b q kt vt j).m (masked b j (sweep b q kt vt j).s) (ix2 (0 : Fin 1) c))) ?_
  rw [sweep_s]
  exact masked_at b j _ c t hs r

/-- Nothing is gathered before the first tile. -/
theorem gather_start (d : Fin 128) : gather (sweep b q kt vt 0) (vt (0 - 1)) (ix3 (0 : Fin 1) d c) = 0 := by
  rw [gather_at]
  have h1 : (sweep b q kt vt 0).acc (ix3 (0 : Fin 1) d c) = (0 : EReal) := zero_f32
  have h2 : ∀ r : Fin 256, (sweep b q kt vt 0).p (ix4 (0 : Fin 1) (0 : Fin 1) r c) = (0 : EReal) := fun r => zero_bf16
  rw [h1, mul_zero, zero_add]
  exact Finset.sum_eq_zero fun r _ => by rw [h2 r, mul_zero]

/-- After `j + 1` tiles: the running maximum is a real number, and the sums gathered are over the keys of those tiles. -/
theorem sweep_gathered (hs : ∀ j < N, ∀ r : Fin 256, score q (kt j) (ix4 (0 : Fin 1) (0 : Fin 1) r c) = ((t (256 * j + r.val) / Real.log 2 : ℝ) : EReal))
    (hv : ∀ j < N, ∀ (d : Fin 128) (r : Fin 256), vt j (ix3 (0 : Fin 1) d r) = v d.val (256 * j + r.val)) (j : ℕ) (hj : j < N) :
    ∃ m : ℝ, (sweep b q kt vt (j + 1)).m (ix3 (0 : Fin 1) (0 : Fin 1) c) = (m : EReal)
      ∧ ∀ d : Fin 128, gather (sweep b q kt vt (j + 1)) (vt j) (ix3 (0 : Fin 1) d c) = gathered (v d.val) t (512 * b + c.val) (256 * (j + 1)) m := by
  induction j with
  | zero =>
    obtain ⟨r, hr⟩ := fold_max_real (Finset.univ : Finset (Fin 256)) ⊥ (fun r => score2 t (512 * b + c.val) (256 * 0 + r.val)) bot_ne_top (fun _ _ => score2_ne_top _ _ _)
      (.inr ⟨0, Finset.mem_univ _, by
        show score2 t (512 * b + c.val) 0 ≠ ⊥
        unfold score2; rw [if_pos (Nat.zero_le _)]; exact EReal.coe_ne_bot _⟩)
    have hm0 : (sweep b q kt vt 0).m (ix3 (0 : Fin 1) (0 : Fin 1) c) = (⊥ : EReal) := minus_inf
    have hm : (sweep b q kt vt (0 + 1)).m (ix3 (0 : Fin 1) (0 : Fin 1) c) = (r : EReal) := by
      rw [max_after b q kt vt c t 0 (hs 0 hj), hm0, hr]; exact max_eq_right bot_le
    refine ⟨r, hm, fun d => ?_⟩
    rw [gather_after b q kt vt c t v 0 (hs 0 hj) d (hv 0 hj d), gather_start, mul_zero, zero_add, hm]
    simp only [Nat.mul_zero, Nat.zero_add, Nat.mul_one]
    exact gathered_first _ _ _ _ _
  | succ j ih =>
    obtain ⟨m, hm, hg⟩ := ih (by omega)
    obtain ⟨r, hr⟩ := max_real (m : EReal) ((Finset.univ : Finset (Fin 256)).fold max ⊥ fun r => score2 t (512 * b + c.val) (256 * (j + 1) + r.val)) (EReal.coe_ne_top _)
      (by
        rw [← lt_top_iff_ne_top, Finset.fold_max_lt]
        exact ⟨bot_lt_top, fun i _ => lt_top_iff_ne_top.mpr (score2_ne_top _ _ _)⟩) (.inl (EReal.coe_ne_bot _))
    have hM : (sweep b q kt vt (j + 1 + 1)).m (ix3 (0 : Fin 1) (0 : Fin 1) c) = (r : EReal) := by
      rw [max_after b q kt vt c t (j + 1) (hs (j + 1) hj), hm, hr]
    refine ⟨r, hM, fun d => ?_⟩
    rw [gather_after b q kt vt c t v (j + 1) (hs (j + 1) hj) d (hv (j + 1) hj d), hm, hM, Nat.add_sub_cancel, hg d]
    exact gathered_step _ _ _ _ _ _ _

end Sweep

/-- A head's result for a query of the block. -/
theorem headOut_at (b : ℕ) (q : ℕ → FVec Ideal S512x128 .bf16) (K : FVec Ideal S16384x512 .bf16) (V : FVec Ideal S64x512x256 .bf16) (a : ℕ) (c : Fin 512) (d : Fin 128) (t : ℕ → ℝ) (v : ℕ → ℕ → EReal)
    (hs : ∀ j < 2 * b + 2, ∀ r : Fin 256, score (q a) (kTile K j a) (ix4 (0 : Fin 1) (0 : Fin 1) r c) = ((t (256 * j + r.val) / Real.log 2 : ℝ) : EReal))
    (hv : ∀ j < 2 * b + 2, ∀ (d : Fin 128) (r : Fin 256), vTile V j a (ix3 (0 : Fin 1) d r) = v d.val (256 * j + r.val)) (h1 : ∀ k, v 64 k = 1) (hb : b < 32) :
    headOut b q K V a (ix2 c d) = mean (v d.val) t (512 * b + c.val) 16384 := by
  obtain ⟨m, -, hg⟩ := sweep_gathered b (q a) (fun j => kTile K j a) (fun j => vTile V j a) (2 * b + 2) c t v hs hv (2 * b + 1) (by omega)
  have hc := c.isLt
  refine (outOf_at _ c d).trans ?_
  have hg' := hg d
  have hg1 := hg (64 : Fin 128)
  refine (congrArg₂ Ideal.div hg' hg1).trans ?_
  rw [show v (64 : Fin 128).val = fun _ => 1 from funext fun k => h1 k, gathered_div _ _ _ _ _ (by omega)]
  exact mean_beyond _ _ _ _ _ (by omega) (by omega)

end Cert.Flash
-- ==== Proof.KernelValue.lean ====
module

public import proofs.«01_k».proof.Proof.PackAt
public import proofs.«01_k».proof.Proof.Means
public import proofs.«01_k».proof.Proof.Run
public import Idealize.ShloMosaic.Lib.Pipeline.ValueKit

/-! What the kernel's run leaves in its result, at an index: the average of a head's values under the weights of its scores. -/

@[expose] public section

set_option maxRecDepth 8192

noncomputable section

namespace Cert.Flash

open Idealize.ShloMosaic hiding ix2 ix3
open Idealize.ShloMosaic.ValueIdx Idealize.ShloMosaic.TcCoe Cert.KernelIdeal Cert.KernelIdeal.Gen

theorem index0 : ∀ t : Fin grid0.N, win0_0.index t = ![((grid0.coords t) 1).val, ((grid0.coords t) 0).val] := by decide +kernel
theorem index1 : ∀ t : Fin grid0.N, win0_1.index t = ![0, ((grid0.coords t) 0).val] := by decide +kernel
theorem index2 : ∀ t : Fin grid0.N, win0_2.index t = ![0, ((grid0.coords t) 0).val, 0] := by decide +kernel
theorem index3 : ∀ t : Fin grid0.N, win0_3.index t = ![((grid0.coords t) 1).val, ((grid0.coords t) 0).val] := by decide +kernel

variable (m : (ℓ : Loc nD τ sig) → Buf (Elt Ideal) ℓ) (c : Dev nD)

/-- The block of queries at a point, in the array. -/
theorem block0_at (t : Fin grid0.N) (r : Fin 512) (s : Fin 512) (n : Fin 16384) (col : Fin 1024) (hn : n.val = 512 * ((grid0.coords t) 1).val + r.val) (hc : col.val = 512 * ((grid0.coords t) 0).val + s.val) :
    (iblk m c 0 t : FVec Ideal S512x512 .bf16) (ix2 r s) = (V m c main_v7 : FVec Ideal S16384x1024 .bf16) (ix2 n col) := by
  show (V m c main_v7 : FVec Ideal S16384x1024 .bf16) ((win0_0.rect t).emb (ix2 r s)) = _
  refine congrArg _ (funext fun a => Fin.ext ?_)
  refine (Pipeline.Window.rect_emb_val win0_0 t (ix2 r s) a).trans ?_
  rw [index0]
  fin_cases a
  · show ((grid0.coords t) 1).val * 512 + r.val = n.val
    omega
  · show ((grid0.coords t) 0).val * 512 + s.val = col.val
    omega

/-- The block of keys at a point. -/
theorem block1_at (t : Fin grid0.N) (r : Fin 16384) (s : Fin 512) (col : Fin 1024) (hc : col.val = 512 * ((grid0.coords t) 0).val + s.val) :
    (iblk m c 1 t : FVec Ideal S16384x512 .bf16) (ix2 r s) = (V m c main_v12 : FVec Ideal S16384x1024 .bf16) (ix2 r col) := by
  show (V m c main_v12 : FVec Ideal S16384x1024 .bf16) ((win0_1.rect t).emb (ix2 r s)) = _
  refine congrArg _ (funext fun a => Fin.ext ?_)
  refine (Pipeline.Window.rect_emb_val win0_1 t (ix2 r s) a).trans ?_
  rw [index1]
  fin_cases a
  · show 0 * 16384 + r.val = r.val
    omega
  · show ((grid0.coords t) 0).val * 512 + s.val = col.val
    omega

/-- The block of values at a point. -/
theorem block2_at (t : Fin grid0.N) (j : Fin 64) (s : Fin 512) (r : Fin 256) (col : Fin 1024) (hc : col.val = 512 * ((grid0.coords t) 0).val + s.val) :
    (iblk m c 2 t : FVec Ideal S64x512x256 .bf16) (ix3 j s r) = (V m c main_v18 : FVec Ideal S64x1024x256 .bf16) (ix3 j col r) := by
  show (V m c main_v18 : FVec Ideal S64x1024x256 .bf16) ((win0_2.rect t).emb (ix3 j s r)) = _
  refine congrArg _ (funext fun a => Fin.ext ?_)
  refine (Pipeline.Window.rect_emb_val win0_2 t (ix3 j s r) a).trans ?_
  rw [index2]
  fin_cases a
  · show 0 * 64 + j.val = j.val
    omega
  · show ((grid0.coords t) 0).val * 512 + s.val = col.val
    omega
  · show 0 * 256 + r.val = r.val
    omega

/-- A key tile, in its block. -/
theorem kTile_at (K : FVec Ideal S16384x512 .bf16) (j a : ℕ) (hj : j < 64) (ha : a < 4) (r : Fin 256) (e : Fin 128) :
    kTile K j a (ix2 r e) = K (ix2 ⟨256 * j + r.val, by omega⟩ ⟨128 * a + e.val, by omega⟩) := by
  have h : ∀ k : Fin 2, ![256 * j, 128 * a] k + ![256, 128] k ≤ S16384x512.size k := fun k => by
    fin_cases k
    · show 256 * j + 256 ≤ 16384
      omega
    · show 128 * a + 128 ≤ 512
      omega
  unfold kTile
  rw [dif_pos h]
  refine congrArg K (funext fun k => Fin.ext ?_)
  fin_cases k
  · show 256 * j + 1 * r.val = 256 * j + r.val
    omega
  · show 128 * a + 1 * e.val = 128 * a + e.val
    omega

/-- A value tile, in its block. -/
theorem vTile_at (W : FVec Ideal S64x512x256 .bf16) (j a : ℕ) (hj : j < 64) (ha : a < 4) (d : Fin 128) (r : Fin 256) :
    vTile W j a (ix3 (0 : Fin 1) d r) = W (ix3 ⟨j, hj⟩ ⟨128 * a + d.val, by omega⟩ r) := by
  have h : ∀ k : Fin 3, ![j, 128 * a, 0] k + ![1, 128, 256] k ≤ S64x512x256.size k := fun k => by
    fin_cases k
    · show j + 1 ≤ 64
      omega
    · show 128 * a + 128 ≤ 512
      omega
    · show 0 + 256 ≤ 256
      omega
  unfold vTile
  rw [dif_pos h]
  refine congrArg W (funext fun k => Fin.ext ?_)
  fin_cases k
  · show j + 1 * 0 = j
    omega
  · show 128 * a + 1 * d.val = 128 * a + d.val
    omega
  · show 0 + 1 * r.val = r.val
    omega

/-- A query tile, in its block. -/
theorem qTile_at (Q : FVec Ideal S512x512 .bf16) (a : ℕ) (ha : a < 4) (r : Fin 512) (e : Fin 128) :
    qTile Q a (ix2 r e) = Q (ix2 r ⟨128 * a + e.val, by omega⟩) := by
  have h : ∀ k : Fin 2, ![0, 128 * a] k + ![512, 128] k ≤ S512x512.size k := fun k => by
    fin_cases k
    · show 0 + 512 ≤ 512
      omega
    · show 128 * a + 128 ≤ 512
      omega
  unfold qTile
  rw [dif_pos h]
  refine congrArg Q (funext fun k => Fin.ext ?_)
  fin_cases k
  · show 0 + 1 * r.val = r.val
    omega
  · show 128 * a + 1 * e.val = 128 * a + e.val
    omega

/-- The array of averages, feature by feature of every head. -/
def averages (qr : (Heads 32).Idx → ℝ) (qn : (Heads 64).Idx → ℝ) (kr : Shared.Idx → ℝ) (kn : (Heads 64).Idx → ℝ) (v : (Heads 64).Idx → EReal) : FVec Ideal S16384x1024 .bf16 := fun i =>
  mean (rowValue v ⟨(i 1).val / 128, Nat.div_lt_of_lt_mul (i 1).isLt⟩ ((i 1).val % 128)) (rowScores qr qn kr kn ⟨(i 1).val / 128, Nat.div_lt_of_lt_mul (i 1).isLt⟩ (i 0)) (i 0).val 16384

theorem averages_at (qr : (Heads 32).Idx → ℝ) (qn : (Heads 64).Idx → ℝ) (kr : Shared.Idx → ℝ) (kn : (Heads 64).Idx → ℝ) (v : (Heads 64).Idx → EReal) (n : Fin 16384) (h : Fin 8) (d : Fin 128) (col : Fin 1024)
    (hcol : col.val = 128 * h.val + d.val) : averages qr qn kr kn v (ix2 n col) = mean (rowValue v h d.val) (rowScores qr qn kr kn h n) n.val 16384 := by
  have e1 : (⟨col.val / 128, Nat.div_lt_of_lt_mul col.isLt⟩ : Fin 8) = h := Fin.ext (by show col.val / 128 = h.val; omega)
  have e2 : col.val % 128 = d.val := by omega
  show mean (rowValue v ⟨col.val / 128, _⟩ (col.val % 128)) (rowScores qr qn kr kn ⟨col.val / 128, _⟩ n) n.val 16384 = _
  rw [e1, e2]

variable (qr : (Heads 32).Idx → ℝ) (qn : (Heads 64).Idx → ℝ) (kr : Shared.Idx → ℝ) (kn : (Heads 64).Idx → ℝ)

theorem blockOut_at (b : ℕ) (Q : FVec Ideal S512x512 .bf16) (K : FVec Ideal S16384x512 .bf16) (W : FVec Ideal S64x512x256 .bf16) (r s : Fin 512) :
    blockOut b Q K W (ix2 r s) = headOut b (qTile Q) K W (s.val / 128) (ix2 r ⟨s.val % 128, Nat.mod_lt _ (by decide)⟩) := rfl

/-- The block a query block's run leaves, when the three blocks hold group `g` of the laid-out queries, keys and values. -/
theorem blockOut_eq (v : (Heads 64).Idx → EReal) (b g : ℕ) (hb : b < 32) (hg : g < 2) (Q : FVec Ideal S512x512 .bf16) (K : FVec Ideal S16384x512 .bf16) (W : FVec Ideal S64x512x256 .bf16)
    (hQ : ∀ (r s : Fin 512) (n : Fin 16384) (col : Fin 1024), n.val = 512 * b + r.val → col.val = 512 * g + s.val → Q (ix2 r s) = packQ (fun i => (qr i : EReal)) (fun i => (qn i : EReal)) (ix2 n col))
    (hK : ∀ (r : Fin 16384) (s : Fin 512) (col : Fin 1024), col.val = 512 * g + s.val → K (ix2 r s) = packK (fun i => (kr i : EReal)) (fun i => (kn i : EReal)) (ix2 r col))
    (hW : ∀ (j : Fin 64) (s : Fin 512) (r : Fin 256) (col : Fin 1024), col.val = 512 * g + s.val → W (ix3 j s r) = packV v (ix3 j col r))
    (r s : Fin 512) (n : Fin 16384) (col : Fin 1024) (hn : n.val = 512 * b + r.val) (hc : col.val = 512 * g + s.val) :
    blockOut b Q K W (ix2 r s) = averages qr qn kr kn v (ix2 n col) := by
  have hs := s.isLt
  have hd : s.val % 128 < 128 := Nat.mod_lt _ (by decide)
  obtain ⟨a, haa⟩ : ∃ a, s.val / 128 = a := ⟨_, rfl⟩
  have ha : a < 4 := by omega
  rw [averages_at qr qn kr kn _ n ⟨4 * g + a, by omega⟩ ⟨s.val % 128, hd⟩ col (by show col.val = 128 * (4 * g + a) + s.val % 128; omega)]
  rw [blockOut_at, haa, hn]
  refine headOut_at b _ _ _ a r ⟨s.val % 128, hd⟩ _ (rowValue v ⟨4 * g + a, by omega⟩) ?_ ?_ (fun k => ?_) hb
  · intro j hj x
    rw [score_at]
    have := packed_score qr qn kr kn ⟨4 * g + a, by omega⟩ n ⟨256 * j + x.val, by omega⟩ (fun e => ⟨512 * g + (128 * a + e.val), by omega⟩) (fun e => by show 512 * g + (128 * a + e.val) = 128 * (4 * g + a) + e.val; omega)
    refine Eq.trans (Finset.sum_congr rfl fun e _ => ?_) this
    rw [kTile_at _ _ _ (by omega) ha, qTile_at _ _ ha]
    rw [hK _ _ ⟨512 * g + (128 * a + e.val), by omega⟩ rfl, hQ _ _ n ⟨512 * g + (128 * a + e.val), by omega⟩ hn rfl]
  · intro j hj d x
    rw [vTile_at _ _ _ (by omega) ha]
    rw [hW _ _ _ ⟨512 * g + (128 * a + d.val), by omega⟩ rfl]
    exact packV_at _ ⟨j, by omega⟩ x ⟨256 * j + x.val, by omega⟩ rfl ⟨4 * g + a, by omega⟩ d _ (by show 512 * g + (128 * a + d.val) = 128 * (4 * g + a) + d.val; omega)
  · unfold rowValue
    rw [dif_neg (by decide), if_pos rfl]

/-- The block that the body leaves at a point. -/
theorem outsAt_at (h0 : m ((c.tc : Thread nD τ).loc main_arg0) = fun i => (qr i : EReal)) (h1 : m ((c.tc : Thread nD τ).loc main_arg1) = fun i => (qn i : EReal))
    (h2 : m ((c.tc : Thread nD τ).loc main_arg2) = fun i => (kr i : EReal)) (h3 : m ((c.tc : Thread nD τ).loc main_arg3) = fun i => (kn i : EReal))
    (t : Fin grid0.N) (r s : Fin 512) (n : Fin 16384) (col : Fin 1024) (hn : n.val = 512 * ((grid0.coords t) 1).val + r.val) (hc : col.val = 512 * ((grid0.coords t) 0).val + s.val) :
    outsAt m c t (ix2 r s) = averages qr qn kr kn (m ((c.tc : Thread nD τ).loc main_arg4)) (ix2 n col) := by
  refine blockOut_eq qr qn kr kn _ _ _ ((grid0.coords t) 1).isLt ((grid0.coords t) 0).isLt _ _ _ ?_ ?_ ?_ r s n col hn hc
  · intro r s n col hn hc
    rw [block0_at m c t r s n col hn hc, V_queries, h0, h1]
  · intro r s col hc
    rw [block1_at m c t r s col hc, V_keys, h2, h3]
  · intro j s r col hc
    rw [block2_at m c t j s r col hc, V_values]

/-- The array the region leaves. -/
theorem region_result (h0 : m ((c.tc : Thread nD τ).loc main_arg0) = fun i => (qr i : EReal)) (h1 : m ((c.tc : Thread nD τ).loc main_arg1) = fun i => (qn i : EReal))
    (h2 : m ((c.tc : Thread nD τ).loc main_arg2) = fun i => (kr i : EReal)) (h3 : m ((c.tc : Thread nD τ).loc main_arg3) = fun i => (kn i : EReal)) :
    (dats m 0 c).arrAt 3 cfg0.N = averages qr qn kr kn (m ((c.tc : Thread nD τ).loc main_arg4)) := by
  refine (dats m 0 c).arrAt_eq_of_covers 3 _ (by decide +kernel) fun t _ y => ?_
  have hb : ((grid0.coords t) 1).val < 32 := ((grid0.coords t) 1).isLt
  have hg : ((grid0.coords t) 0).val < 2 := ((grid0.coords t) 0).isLt
  have hy0 : (y 0).val < 512 := (y 0).isLt
  have hy1 : (y 1).val < 512 := (y 1).isLt
  refine Eq.trans (b := outsAt m c t (ix2 ⟨(y 0).val, hy0⟩ ⟨(y 1).val, hy1⟩)) ?_ ?_
  · rw [after0_3]
    refine (show _ = outsAt m c t (fun a => y a) from rfl).trans (congrArg _ (funext fun a => ?_))
    fin_cases a <;> rfl
  refine (outsAt_at m c qr qn kr kn h0 h1 h2 h3 t _ _ ⟨512 * ((grid0.coords t) 1).val + (y 0).val, by omega⟩ ⟨512 * ((grid0.coords t) 0).val + (y 1).val, by omega⟩ rfl rfl).trans ?_
  refine congrArg _ (funext fun a => Fin.ext ?_)
  refine Eq.trans ?_ (Pipeline.Window.rect_emb_val win0_3 t y a).symm
  rw [index3]
  fin_cases a
  · show 512 * ((grid0.coords t) 1).val + (y 0).val = ((grid0.coords t) 1).val * 512 + (y 0).val
    omega
  · show 512 * ((grid0.coords t) 0).val + (y 1).val = ((grid0.coords t) 0).val * 512 + (y 1).val
    omega

/-- The host's last lines: the 64 features of each head out of its 128 columns. -/
def picked (x : FVec Ideal S16384x1024 .bf16) : FVec Ideal S16384x8x64 .bf16 :=
  extractStridedSlice S16384x8x64 ![0, 0, 0] (shapeCast S16384x8x128 x shapeCasts_S16384x1024_S16384x8x128) slices_S16384x8x128_S16384x8x64_0_0_0

theorem picked_at (x : FVec Ideal S16384x1024 .bf16) (n : Fin 16384) (h : Fin 8) (d : Fin 64) : picked x (ix3 n h d) = x (ix2 n ⟨128 * h.val + d.val, by omega⟩) := by
  unfold picked
  refine (extractStridedSlice_apply _ _ _ (ix3 n h d) (ix3 n h (⟨d.val, by omega⟩ : Fin 128)) fun a => ?_).trans ?_
  · fin_cases a
    · show n.val = 0 + n.val
      omega
    · show h.val = 0 + h.val
      omega
    · show d.val = 0 + d.val
      omega
  exact shapeCast_apply (t := S16384x8x128) _ _ (ix3 n h (⟨d.val, by omega⟩ : Fin 128)) (ix2 n (⟨128 * h.val + d.val, by omega⟩ : Fin 1024)) (by
    rw [Shape.rowMajor_val_three, Shape.rowMajor_val_two]
    show n.val * 1024 + (128 * h.val + d.val) = (n.val * 8 + h.val) * 128 + d.val
    omega)

/-- The result after the host's last lines. -/
theorem tail_result : Pipeline.afterTail₀ cfgs (dats m) 0 (V0 m) [hostOps1] c main_v21 = picked ((dats m 0 c).arrAt 3 cfg0.N) := by
  have w : Pipeline.withArrays (cfgs 0).spec c (V0 m c) (fun w => (dats m 0 c).arrAt w (cfgs 0).N) (Proc.devRef .tc main_v19) = (dats m 0 c).arrAt 3 cfg0.N :=
    Pipeline.withArrays_arr spec0 (by decide) c (V0 m c) (fun w => (dats m 0 c).arrAt w (cfgs 0).N) 3
  unfold Pipeline.afterTail₀
  simp only [hostOps1, List.flatten_cons, List.flatten_nil, List.append_nil]
  after_results_simp
  rw [← w]
  rfl

end Cert.Flash
-- ==== Proof.RefValue.lean ====
module

public import proofs.«01_k».proof.Proof.Rows
public import proofs.«01_k».proof.Proof.Gen.ReferenceIdeal.Run
public import Idealize.ShloMosaic.Lib.ValueIdx
public import Idealize.ShloMosaic.Lib.ValueLayout
public import Idealize.ShloMosaic.PureOps.Ideal.Laws

/-! The reference's result, read at an index over the extended reals: the weighted mean of the values. -/

@[expose] public section

set_option maxRecDepth 8192

noncomputable section

namespace Cert.Flash.Ref

open Idealize.ShloMosaic Idealize.ShloMosaic.ValueIdx Idealize.ShloMosaic.TcCoe Cert.ReferenceIdeal Cert.ReferenceIdeal.Gen

/-- Whether a key comes no later than the query. -/
def seen : IVec S8x16384x16384 1 :=
  broadcastInDim S8x16384x16384 ![0, 1, 2] bcast_S1x16384x16384_S8x16384x16384_0_1_2 (cmpi .sle (broadcastInDim S1x16384x16384 ![0, 1, 2] bcast_S1x1x16384_S1x16384x16384_0_1_2 (broadcastInDim S1x1x16384 ![2] bcast_S16384_S1x1x16384_2 (iotaInDim S16384 32 0))) (broadcastInDim S1x16384x16384 ![0, 1, 2] bcast_S1x16384x1_S1x16384x16384_0_1_2 (broadcastInDim S1x16384x1 ![1] bcast_S16384_S1x16384x1_1 (iotaInDim S16384 32 0))))

/-- The scaled scores. -/
def scaled (a0 : FVec Ideal S16384x8x32 .f32) (a1 : FVec Ideal S16384x8x64 .f32) (a2 : FVec Ideal S16384x32 .f32) (a3 : FVec Ideal S16384x8x64 .f32) : FVec Ideal S8x16384x16384 .f32 :=
  mulf (addf (Host.dotGeneral dot_S16384x8x64_S16384x8x64_S8x16384x16384_2_2_0_0_1_1 none a1 a3) (transpose S8x16384x16384 [2, 1, 0] (Host.dotGeneral dot_S16384x32_S16384x8x32_S16384x16384x8_1_2_0_01_n_n none a2 a0) transposes_S16384x16384x8_S8x16384x16384_2_1_0)) (broadcastInDim S8x16384x16384 ![] bcast_S_S8x16384x16384 (constant S_ .f32 0x3DD105EC#32))

/-- The masked scores. -/
def masked (s : FVec Ideal S8x16384x16384 .f32) : FVec Ideal S8x16384x16384 .f32 :=
  select seen s (broadcastInDim S8x16384x16384 ![] bcast_S_S8x16384x16384 (id (constant S_ .f32 0xFF800000#32)))

/-- The largest score of each query. -/
def largest (s : FVec Ideal S8x16384x16384 .f32) : FVec Ideal S8x16384 .f32 :=
  maximumf (broadcastInDim S8x16384 ![] bcast_S_S8x16384 (constant S_ .f32 0xFF800000#32)) (Host.reduce FloatOps.maximumf s (constant S_ .f32 0xFF800000#32) reducesTo_S8x16384x16384_S8x16384_d2 h_S_)

/-- A number per query, over all its keys. -/
def spread (x : FVec Ideal S8x16384 .f32) : FVec Ideal S8x16384x16384 .f32 :=
  broadcastInDim S8x16384x16384 ![0, 1, 2] bcast_S8x16384x1_S8x16384x16384_0_1_2 (broadcastInDim S8x16384x1 ![0, 1] bcast_S8x16384_S8x16384x1_0_1 x)

/-- The weights before they are divided by their sum. -/
def raw (s : FVec Ideal S8x16384x16384 .f32) : FVec Ideal S8x16384x16384 .f32 := Host.exp (subf s (spread (largest s)))

/-- The weights' sums. -/
def sums (e : FVec Ideal S8x16384x16384 .f32) : FVec Ideal S8x16384 .f32 := Host.reduceAdd e (constant S_ .f32 0x00000000#32) reducesTo_S8x16384x16384_S8x16384_d2 h_S_

/-- The result, from the weights and the values. -/
def mixed (e : FVec Ideal S8x16384x16384 .f32) (a4 : FVec Ideal S16384x8x64 .f32) : FVec Ideal S16384x8x64 .bf16 :=
  truncf .bf16 (transpose S16384x8x64 [2, 0, 1] (Host.dotGeneral dot_S16384x8x64_S8x16384x16384_S8x64x16384_0_2_2_1_1_0 none a4 (Host.divf e (spread (sums e)))) transposes_S8x64x16384_S16384x8x64_2_0_1) bitsLt_bf16_f32

theorem result_eq (m : (ℓ : Loc nD τ sig) → Buf (Elt Ideal) ℓ) (c : Dev nD) :
    Value.res_main_v26 (F := Ideal) m c = mixed (raw (masked (scaled (m ((c.tc : Thread nD τ).loc main_arg0)) (m ((c.tc : Thread nD τ).loc main_arg1)) (m ((c.tc : Thread nD τ).loc main_arg2)) (m ((c.tc : Thread nD τ).loc main_arg3))))) (m ((c.tc : Thread nD τ).loc main_arg4)) := rfl

theorem minus_inf : (Ideal.ofBits .f32 0xFF800000#32 : EReal) = ⊥ := by simp [Ideal.ofBits, Ideal.ieee]

theorem seen_at (h : Fin 8) (n k : Fin 16384) : seen (ix3 h n k) = IntOp.cmpi .sle (BitVec.ofNat 32 k.val) (BitVec.ofNat 32 n.val) := by
  unfold seen
  refine (broadcastInDim_apply _ _ _ _ (ix3 (0 : Fin 1) n k) fun a => by fin_cases a <;> rfl).trans ?_
  refine congrArg₂ (IntOp.cmpi .sle) ?_ ?_
  · refine (broadcastInDim_apply _ _ _ _ (ix3 (0 : Fin 1) (0 : Fin 1) k) fun a => by fin_cases a <;> rfl).trans ?_
    refine (broadcastInDim_apply _ _ _ _ (ix1 k) fun a => by fin_cases a; rfl).trans ?_
    rfl
  · refine (broadcastInDim_apply _ _ _ _ (ix3 (0 : Fin 1) n (0 : Fin 1)) fun a => by fin_cases a <;> rfl).trans ?_
    refine (broadcastInDim_apply _ _ _ _ (ix1 n) fun a => by fin_cases a; rfl).trans ?_
    rfl

theorem select_seen (h : Fin 8) (n k : Fin 16384) (x y : EReal) : Scalar.select (seen (ix3 h n k)) x y = if k.val ≤ n.val then x else y := by
  rw [seen_at]
  have t : ∀ i : Fin 16384, (BitVec.ofNat 32 i.val).toInt = i.val := by
    intro i
    have := i.isLt
    rw [BitVec.toInt_eq_toNat_of_lt (by rw [BitVec.toNat_ofNat]; omega), BitVec.toNat_ofNat, Nat.mod_eq_of_lt (by omega)]
  have c : ((BitVec.ofNat 32 k.val).sle (BitVec.ofNat 32 n.val) = true) ↔ k.val ≤ n.val := by
    rw [BitVec.sle_iff_toInt_le, t, t]; omega
  show (if BitVec.ofBool _ = 1 then x else y) = _
  by_cases h : k.val ≤ n.val
  · rw [if_pos h]
    have := c.2 h
    dsimp only
    rw [this]; rfl
  · rw [if_neg h]
    have : (BitVec.ofNat 32 k.val).sle (BitVec.ofNat 32 n.val) = false := by
      rw [← Bool.not_eq_true]; exact fun hh => h (c.1 hh)
    dsimp only
    rw [this]; rfl

theorem scaled_at (a0 : FVec Ideal S16384x8x32 .f32) (a1 : FVec Ideal S16384x8x64 .f32) (a2 : FVec Ideal S16384x32 .f32) (a3 : FVec Ideal S16384x8x64 .f32) (h : Fin 8) (n k : Fin 16384) :
    scaled a0 a1 a2 a3 (ix3 h n k) = ((∑ e : Fin 64, a1 (ix3 n h e) * a3 (ix3 k h e)) + ∑ e : Fin 32, a2 (ix2 k e) * a0 (ix3 n h e)) * (scale : EReal) := by
  unfold scaled
  refine congrArg₂ (· * ·) (congrArg₂ (· + ·) ?_ ?_) ?_
  · simp only [Host.dotGeneral]
    rw [Ideal.dotGeneral_apply]
    refine ((contrEquiv1 dot_S16384x8x64_S16384x8x64_S8x16384x16384_2_2_0_0_1_1 64 rfl rfl).symm.sum_comp _).symm.trans ?_
    refine Finset.sum_congr rfl fun e _ => ?_
    have he := contrEquiv1_symm_val dot_S16384x8x64_S16384x8x64_S8x16384x16384_2_2_0_0_1_1 64 rfl rfl e
    refine congrArg₂ (· * ·) (congrArg a1 (funext fun a => Fin.ext ?_)) (congrArg a3 (funext fun a => Fin.ext ?_))
    · fin_cases a
      · rfl
      · rfl
      · exact he
    · fin_cases a
      · rfl
      · rfl
      · exact he
  · refine (transpose_apply [2, 1, 0] _ transposes_S16384x16384x8_S8x16384x16384_2_1_0 (ix3 h n k) (ix3 k n h) fun b => ?_).trans ?_
    · fin_cases b <;> rfl
    simp only [Host.dotGeneral]
    rw [Ideal.dotGeneral_apply]
    refine ((contrEquiv1 dot_S16384x32_S16384x8x32_S16384x16384x8_1_2_0_01_n_n 32 rfl rfl).symm.sum_comp _).symm.trans ?_
    refine Finset.sum_congr rfl fun e _ => ?_
    have he := contrEquiv1_symm_val dot_S16384x32_S16384x8x32_S16384x16384x8_1_2_0_01_n_n 32 rfl rfl e
    refine congrArg₂ (· * ·) (congrArg a2 (funext fun a => Fin.ext ?_)) (congrArg a0 (funext fun a => Fin.ext ?_))
    · fin_cases a
      · rfl
      · exact he
    · fin_cases a
      · rfl
      · rfl
      · exact he
  · exact scale_eq

theorem spread_at (x : FVec Ideal S8x16384 .f32) (h : Fin 8) (n k : Fin 16384) : spread x (ix3 h n k) = x (ix2 h n) := by
  unfold spread
  refine (broadcastInDim_apply _ _ _ _ (ix3 h n (0 : Fin 1)) fun a => by fin_cases a <;> rfl).trans ?_
  exact broadcastInDim_apply _ _ _ _ (ix2 h n) fun a => by fin_cases a <;> rfl

theorem reduces_last : S8x16384x16384.Reduces [2] S8x16384 := by decide

theorem lift_at (h : Fin 8) (n k : Fin 16384) : reduces_last.lift (ix2 h n) k = ix3 h n k := by
  funext a
  refine Fin.ext ?_
  fin_cases a <;> rfl

/-- A query's largest score is a real number when none of its scores is `⊤` and one is not `⊥`. -/
theorem largest_real (s : FVec Ideal S8x16384x16384 .f32) (h : Fin 8) (n : Fin 16384) (k0 : Fin 16384) (h1 : ∀ k : Fin 16384, s (ix3 h n k) ≠ (⊤ : EReal)) (h2 : s (ix3 h n k0) ≠ (⊥ : EReal)) :
    ∃ M : ℝ, largest s (ix2 h n) = (M : EReal) := by
  have e1 : largest s (ix2 h n) = max (Ideal.ofBits .f32 0xFF800000#32) (Host.reduce (FloatOps.maximumf (F := Ideal) (φ := .f32)) s (constant S_ .f32 0xFF800000#32) reducesTo_S8x16384x16384_S8x16384_d2 h_S_ (ix2 h n)) := by
    unfold largest
    rw [maximumf_apply]
    rfl
  have e2 : Host.reduce (FloatOps.maximumf (F := Ideal) (φ := .f32)) s (constant S_ .f32 0xFF800000#32) reducesTo_S8x16384x16384_S8x16384_d2 h_S_ (ix2 h n)
      = (Finset.univ : Finset (Fin (S8x16384x16384.size 2))).fold (max : EReal → EReal → EReal) (Ideal.ofBits .f32 0xFF800000#32) (s ∘ reduces_last.lift (ix2 h n)) := by
    have e : (FloatOps.maximumf (F := Ideal) (φ := .f32)) = (max : EReal → EReal → EReal) := rfl
    rw [e]
    exact Host.reduce_eq_fold_single (max : EReal → EReal → EReal) s _ reducesTo_S8x16384x16384_S8x16384_d2 reduces_last h_S_ (ix2 h n)
  have at_ : ∀ k : Fin 16384, (s ∘ reduces_last.lift (ix2 h n)) k = s (ix3 h n k) := fun k => congrArg s (lift_at h n k)
  obtain ⟨r, hr⟩ := fold_max_real (Finset.univ : Finset (Fin (S8x16384x16384.size 2))) (Ideal.ofBits .f32 0xFF800000#32) (s ∘ reduces_last.lift (ix2 h n))
    (by rw [minus_inf]; exact bot_ne_top) (fun k _ => (at_ k).trans_ne (h1 k)) (.inr ⟨k0, Finset.mem_univ _, (at_ k0).trans_ne h2⟩)
  refine ⟨r, e1.trans ((congrArg₂ (max : EReal → EReal → EReal) minus_inf (e2.trans hr)).trans (max_eq_right bot_le))⟩

theorem sums_at (e : FVec Ideal S8x16384x16384 .f32) (h : Fin 8) (n : Fin 16384) : sums e (ix2 h n) = ∑ k : Fin 16384, e (ix3 h n k) := by
  unfold sums
  refine (Ideal.hostReduceAdd_single reducesTo_S8x16384x16384_S8x16384_d2 reduces_last e _ (ix2 h n)).trans ?_
  have z : (constant (F := Ideal) S_ .f32 0x00000000#32 (Shape.Idx.first h_S_) : EReal) = 0 := by
    show Ideal.ofBits .f32 0x00000000#32 = 0
    simp [Ideal.ofBits, Ideal.ieee]
  rw [z, zero_add]
  exact Finset.sum_congr rfl fun k _ => congrArg e (lift_at h n k)

theorem hostDivf_apply {s : Shape} {φ : FTy} (x y : FVec Ideal s φ) (i : s.Idx) : Host.divf x y i = Ideal.div (x i) (y i) := rfl

theorem hostExp_apply {s : Shape} {φ : FTy} (x : FVec Ideal s φ) (i : s.Idx) : Host.exp x i = Ideal.exp (x i) := rfl

theorem mixed_at (e : FVec Ideal S8x16384x16384 .f32) (a4 : FVec Ideal S16384x8x64 .f32) (n : Fin 16384) (h : Fin 8) (d : Fin 64) :
    mixed e a4 (ix3 n h d) = ∑ k : Fin 16384, a4 (ix3 k h d) * Ideal.div (e (ix3 h n k)) (∑ k' : Fin 16384, e (ix3 h n k')) := by
  unfold mixed
  have turned : ∀ x : FVec Ideal S8x64x16384 .f32, truncf .bf16 (transpose S16384x8x64 [2, 0, 1] x transposes_S8x64x16384_S16384x8x64_2_0_1) bitsLt_bf16_f32 (ix3 n h d) = x (ix3 h d n) := fun x => by
    show transpose S16384x8x64 [2, 0, 1] x transposes_S8x64x16384_S16384x8x64_2_0_1 (ix3 n h d) = x (ix3 h d n)
    refine transpose_apply [2, 0, 1] x transposes_S8x64x16384_S16384x8x64_2_0_1 (ix3 n h d) (ix3 h d n) fun b => ?_
    fin_cases b <;> rfl
  refine (turned _).trans ?_
  simp only [Host.dotGeneral]
  rw [Ideal.dotGeneral_apply]
  refine ((contrEquiv1 dot_S16384x8x64_S8x16384x16384_S8x64x16384_0_2_2_1_1_0 16384 rfl rfl).symm.sum_comp _).symm.trans ?_
  refine Finset.sum_congr rfl fun k _ => ?_
  have hk := contrEquiv1_symm_val dot_S16384x8x64_S8x16384x16384_S8x64x16384_0_2_2_1_1_0 16384 rfl rfl k
  have hl : dot_S16384x8x64_S8x16384x16384_S8x64x16384_0_2_2_1_1_0.lhsIdx (ix3 h d n) ((contrEquiv1 dot_S16384x8x64_S8x16384x16384_S8x64x16384_0_2_2_1_1_0 16384 rfl rfl).symm k) = ix3 k h d := by
    refine funext fun a => Fin.ext ?_
    fin_cases a
    · exact hk
    · rfl
    · rfl
  have hr : dot_S16384x8x64_S8x16384x16384_S8x64x16384_0_2_2_1_1_0.rhsIdx (ix3 h d n) ((contrEquiv1 dot_S16384x8x64_S8x16384x16384_S8x64x16384_0_2_2_1_1_0 16384 rfl rfl).symm k) = ix3 h n k := by
    refine funext fun a => Fin.ext ?_
    fin_cases a
    · rfl
    · rfl
    · exact hk
  rw [hl, hr, hostDivf_apply, spread_at, sums_at]

/-- The weighted mean that real scores give. -/
theorem mixed_of_scores (s : FVec Ideal S8x16384x16384 .f32) (a4 : FVec Ideal S16384x8x64 .f32) (t : ℕ → ℝ) (n : Fin 16384) (h : Fin 8) (d : Fin 64) (hs : ∀ k : Fin 16384, s (ix3 h n k) = (t k.val : EReal)) :
    mixed (raw (masked s)) a4 (ix3 n h d) = mean (rowValue a4 h d.val) t n.val 16384 := by
  have hm : ∀ k : Fin 16384, masked s (ix3 h n k) = scoreE t n.val k.val := by
    intro k
    refine (select_seen h n k _ _).trans ?_
    unfold scoreE
    split
    · exact hs k
    · exact minus_inf
  generalize masked s = s' at hm
  obtain ⟨M, hM⟩ := largest_real s' h n 0 (fun k => by rw [hm k]; exact scoreE_ne_top _ _ _) (by
    rw [hm 0]; unfold scoreE; rw [if_pos (show (0 : Fin 16384).val ≤ n.val from Nat.zero_le _)]; exact EReal.coe_ne_bot _)
  have he : ∀ k : Fin 16384, raw s' (ix3 h n k) = Ideal.exp (scoreE t n.val k.val - (M : EReal)) := by
    intro k
    unfold raw
    rw [hostExp_apply, subf_apply, spread_at, hM, hm k]
  rw [mixed_at, ← mean_one_pass _ _ _ 16384 M (by omega),
    ← Fin.sum_univ_eq_sum_range (fun k => rowValue a4 h d.val k * Ideal.div (Ideal.exp (scoreE t n.val k - (M : EReal))) _) 16384,
    ← Fin.sum_univ_eq_sum_range (fun k => Ideal.exp (scoreE t n.val k - (M : EReal))) 16384]
  refine Finset.sum_congr rfl fun k _ => ?_
  rw [rowValue_of, he k, Finset.sum_congr rfl fun k' _ => he k']

/-- The reference's result, its queries and keys being real. -/
theorem value_at (qr : S16384x8x32.Idx → ℝ) (qn : S16384x8x64.Idx → ℝ) (kr : S16384x32.Idx → ℝ) (kn : S16384x8x64.Idx → ℝ) (a4 : FVec Ideal S16384x8x64 .f32) (n : Fin 16384) (h : Fin 8) (d : Fin 64) :
    mixed (raw (masked (scaled (fun i => (qr i : EReal)) (fun i => (qn i : EReal)) (fun i => (kr i : EReal)) (fun i => (kn i : EReal))))) a4 (ix3 n h d)
      = mean (rowValue a4 h d.val) (rowScores qr qn kr kn h n) n.val 16384 := by
  refine mixed_of_scores _ a4 _ n h d fun k => ?_
  rw [scaled_at, rowScores_of, rowScore, EReal.coe_mul, EReal.coe_add, ← coe_sum, ← coe_sum]
  refine congrArg (· * (scale : EReal)) (congrArg₂ (· + ·) (Finset.sum_congr rfl fun e _ => ?_) (Finset.sum_congr rfl fun e _ => ?_))
  · exact (EReal.coe_mul _ _).symm
  · exact (EReal.coe_mul _ _).symm

end Cert.Flash.Ref
-- ==== Proof.Finite.lean ====
module

public import proofs.«01_k».proof.Proof.Gen.Pre_finite
public import proofs.«01_k».proof.Proof.Rows
public import Idealize.ShloMosaic.Lib.ReduceAll
public import Idealize.ShloMosaic.Lib.ValueIdx
public import Idealize.ShloMosaic.Lib.ValueLayout
public import Idealize.ShloMosaic.PureOps.Ideal.Laws

/-! What the precondition says: every entry of the queries and the keys is a real number. -/

@[expose] public section

set_option maxRecDepth 8192

noncomputable section

namespace Cert.Flash

open Idealize.ShloMosaic Cert.Pre_finite

theorem inf_bits : (Ideal.ofBits .f32 0x7F800000#32 : EReal) = ⊤ := by simp [Ideal.ofBits, Ideal.ieee]

/-- A number whose absolute value is below infinity is real. -/
theorem real_of_abs_lt (x : EReal) (h : Ideal.cmp .olt (max x (-x)) (Ideal.ofBits .f32 0x7F800000#32) = 1#1) : x = ((x.toReal : ℝ) : EReal) := by
  rw [inf_bits] at h
  have h1 : max x (-x) < ⊤ := by
    by_contra hn
    unfold Ideal.cmp at h
    simp only [decide_eq_false hn] at h
    exact absurd h (by decide)
  have h2 := max_lt_iff.1 h1
  refine (EReal.coe_toReal (ne_of_lt h2.1) fun hb => ?_).symm
  rw [hb] at h2
  exact absurd h2.2 (by simp)

/-- An array all of whose absolute values are below infinity is an array of reals. -/
theorem real_of_all {s : Shape} {axes : List (Fin s.rank)} (x : FVec Ideal s .f32) (hb : S_.BroadcastsInDim s (![] : Fin 0 → Fin s.rank)) (hr : s.ReducesTo axes S_) (hu : 0 < S_.numel)
    (h : Host.reduce IntOp.andi (cmpf .olt (Host.absf x) (broadcastInDim s ![] hb (constant S_ .f32 0x7F800000#32))) (constantI S_ 1 1#1) hr hu ValueIdx.ix0 = 1#1) :
    x = fun i => ((EReal.toReal (x i) : ℝ) : EReal) := by
  haveI : Subsingleton S_.Idx := ⟨fun a b => funext fun k => k.elim0⟩
  funext i
  exact real_of_abs_lt (x i) (Host.reduce_andi_all _ _ hr hu ValueIdx.ix0 h i)

theorem real_of_finite (a0 : FVec Ideal S16384x8x32 .f32) (a1 : FVec Ideal S16384x8x64 .f32) (a2 : FVec Ideal S16384x32 .f32) (a3 a4 : FVec Ideal S16384x8x64 .f32)
    (h : Cert.Pre_finite.fn (F := Ideal) a0 a1 a2 a3 a4 = fun _ => 1#1) :
    a0 = (fun i => ((EReal.toReal (a0 i) : ℝ) : EReal)) ∧ a1 = (fun i => ((EReal.toReal (a1 i) : ℝ) : EReal)) ∧ a2 = (fun i => ((EReal.toReal (a2 i) : ℝ) : EReal)) ∧ a3 = (fun i => ((EReal.toReal (a3 i) : ℝ) : EReal)) := by
  have e := congrFun h ValueIdx.ix0
  unfold Cert.Pre_finite.fn Cert.Pre_finite.fn_part1 at e
  dsimp only at e
  obtain ⟨e, h3⟩ := IntOp.andi_eq_one.1 e
  obtain ⟨e, h2⟩ := IntOp.andi_eq_one.1 e
  obtain ⟨h0, h1⟩ := IntOp.andi_eq_one.1 e
  exact ⟨real_of_all a0 _ _ _ h0, real_of_all a1 _ _ _ h1, real_of_all a2 _ _ _ h2, real_of_all a3 _ _ _ h3⟩

end Cert.Flash
-- ==== Proof.Fox.State.lean ====
module

public import proofs.«01_k».proof.Proof.Gen.Kernel2Ideal.Skeleton
public import proofs.«01_k».proof.Proof.Windows

/-! What one head's scratch holds between two steps of the sweep over the key tiles, and how a step changes it.

    Before a step, a head has the scores of the tile at hand; the weights, and the factor to rescale by, that the step before
    left; the running maximum; and the weighted sum of the value rows up to the step before. -/

@[expose] public section

noncomputable section

namespace Cert.Fox

open Cert.Flash

open Idealize.ShloMosaic Cert.Kernel2Ideal Cert.Kernel2Ideal.Gen

section Stack

variable {α : Type}

/-- Four bands of 64 rows, one below the other. -/
def stack (c0 c1 c2 c3 : S1x1x64x512.Idx → α) : S1x1x256x512.Idx → α :=
  VecWindow.put (s := S1x1x256x512) (VecWindow.put (s := S1x1x256x512) (VecWindow.put (s := S1x1x256x512) (VecWindow.put (s := S1x1x256x512)
    (fun _ => c0 fun k => ⟨0, by revert k; decide⟩) ![0, 0, 0, 0] ![1, 1, 64, 512] c0) ![0, 0, 64, 0] ![1, 1, 64, 512] c1) ![0, 0, 128, 0] ![1, 1, 64, 512] c2) ![0, 0, 192, 0] ![1, 1, 64, 512] c3

/-- The window of a head is what the four stores of bands put into it. -/
theorem window_stack (x : S2x4x256x512.Idx → α) (b a : ℕ) (c0 c1 c2 c3 : S1x1x64x512.Idx → α) (inb : ∀ k, ![b, a, 0, 0] k + ![1, 1, 256, 512] k ≤ S2x4x256x512.size k) :
    VecWindow.window (s := S2x4x256x512) (VecWindow.put (s := S2x4x256x512) (VecWindow.put (s := S2x4x256x512) (VecWindow.put (s := S2x4x256x512) (VecWindow.put (s := S2x4x256x512)
      x ![b, a, 0, 0] ![1, 1, 64, 512] c0) ![b, a, 64, 0] ![1, 1, 64, 512] c1) ![b, a, 128, 0] ![1, 1, 64, 512] c2) ![b, a, 192, 0] ![1, 1, 64, 512] c3)
      ![b, a, 0, 0] ![1, 1, 256, 512] inb = stack c0 c1 c2 c3 := by
  funext y
  unfold stack VecWindow.window
  have h0 : (y 0).val < 1 := (y 0).isLt
  have h1 : (y 1).val < 1 := (y 1).isLt
  have h2 : (y 2).val < 256 := (y 2).isLt
  have h3 : (y 3).val < 512 := (y 3).isLt
  set z := (Rect.unit (s := S2x4x256x512) ![b, a, 0, 0] ![1, 1, 256, 512] inb).emb y with hz
  have e0 : (z 0).val = b + 1 * (y 0).val := rfl
  have e1 : (z 1).val = a + 1 * (y 1).val := rfl
  have e2 : (z 2).val = 0 + 1 * (y 2).val := rfl
  have e3 : (z 3).val = 0 + 1 * (y 3).val := rfl
  have pos : ∀ (x : S2x4x256x512.Idx → α) (x' : S1x1x256x512.Idx → α) (r : ℕ) (c : S1x1x64x512.Idx → α), r ≤ (y 2).val → (y 2).val < r + 64 →
      VecWindow.put (s := S2x4x256x512) x ![b, a, r, 0] ![1, 1, 64, 512] c z = VecWindow.put (s := S1x1x256x512) x' ![0, 0, r, 0] ![1, 1, 64, 512] c y := by
    intro x x' r c hl hu
    rw [put_pos (s := S2x4x256x512) x _ _ c z (fun k => by fin_cases k <;> simp [e0, e1, e2, e3] <;> omega),
      put_pos (s := S1x1x256x512) x' _ _ c y (fun k => by fin_cases k <;> simp <;> omega)]
    refine congrArg c (funext fun k => Fin.ext ?_)
    fin_cases k
    · show (z 0).val - b = (y 0).val - 0; omega
    · show (z 1).val - a = (y 1).val - 0; omega
    · show (z 2).val - r = (y 2).val - r; omega
    · show (z 3).val - 0 = (y 3).val - 0; omega
  have neg : ∀ (x : S2x4x256x512.Idx → α) (r : ℕ) (c : S1x1x64x512.Idx → α), (y 2).val < r → VecWindow.put (s := S2x4x256x512) x ![b, a, r, 0] ![1, 1, 64, 512] c z = x z := by
    intro x r c hl; exact put_neg (s := S2x4x256x512) x _ _ c z 2 (.inl (by show (z 2).val < r; omega))
  have neg' : ∀ (x : S1x1x256x512.Idx → α) (r : ℕ) (c : S1x1x64x512.Idx → α), (y 2).val < r → VecWindow.put (s := S1x1x256x512) x ![0, 0, r, 0] ![1, 1, 64, 512] c y = x y := by
    intro x r c hl; exact put_neg (s := S1x1x256x512) x _ _ c y 2 (.inl hl)
  rcases Nat.lt_or_ge (y 2).val 192 with l3 | g3
  · rw [neg _ 192 _ l3, neg' _ 192 _ l3]
    rcases Nat.lt_or_ge (y 2).val 128 with l2 | g2
    · rw [neg _ 128 _ l2, neg' _ 128 _ l2]
      rcases Nat.lt_or_ge (y 2).val 64 with l1 | g1
      · rw [neg _ 64 _ l1, neg' _ 64 _ l1]
        exact pos _ _ 0 c0 (by omega) (by omega)
      · exact pos _ _ 64 c1 g1 (by omega)
    · exact pos _ _ 128 c2 g2 (by omega)
  · exact pos _ _ 192 c3 g3 (by omega)

/-- The four bands of an array, one below the other, are the array. -/
theorem stack_window (g : S1x1x256x512.Idx → α) (i0 i1 i2 i3) :
    stack (VecWindow.window (s := S1x1x256x512) g ![0, 0, 0, 0] ![1, 1, 64, 512] i0) (VecWindow.window (s := S1x1x256x512) g ![0, 0, 64, 0] ![1, 1, 64, 512] i1)
      (VecWindow.window (s := S1x1x256x512) g ![0, 0, 128, 0] ![1, 1, 64, 512] i2) (VecWindow.window (s := S1x1x256x512) g ![0, 0, 192, 0] ![1, 1, 64, 512] i3) = g := by
  funext y
  have h0 : (y 0).val < 1 := (y 0).isLt
  have h1 : (y 1).val < 1 := (y 1).isLt
  have h2 : (y 2).val < 256 := (y 2).isLt
  have h3 : (y 3).val < 512 := (y 3).isLt
  have out : ∀ r : ℕ, (∃ k : Fin 4, (y k).val < ![0, 0, r, 0] k ∨ ![0, 0, r, 0] k + ![1, 1, 64, 512] k ≤ (y k).val) → (y 2).val < r ∨ r + 64 ≤ (y 2).val := by
    rintro r ⟨k, hk⟩
    fin_cases k <;> simp at hk <;> omega
  unfold stack
  refine put_window_eq (s := S1x1x256x512) _ g _ _ i3 y fun o3 => ?_
  refine put_window_eq (s := S1x1x256x512) _ g _ _ i2 y fun o2 => ?_
  refine put_window_eq (s := S1x1x256x512) _ g _ _ i1 y fun o1 => ?_
  refine put_window_eq (s := S1x1x256x512) _ g _ _ i0 y fun o0 => ?_
  have := out _ o0; have := out _ o1; have := out _ o2; have := out _ o3
  omega

/-- A band or a strip of the window put last is one of what was put. -/
theorem part_put (x : S2x4x256x512.Idx → α) (b a r c h w : ℕ) (v : S1x1x256x512.Idx → α)
    (inb : ∀ k, ![b, a, r, c] k + ![1, 1, h, w] k ≤ S2x4x256x512.size k) (inb' : ∀ k, ![0, 0, r, c] k + ![1, 1, h, w] k ≤ S1x1x256x512.size k) :
    VecWindow.window (s := S2x4x256x512) (VecWindow.put (s := S2x4x256x512) x ![b, a, 0, 0] ![1, 1, 256, 512] v) ![b, a, r, c] ![1, 1, h, w] inb
      = VecWindow.window (s := S1x1x256x512) v ![0, 0, r, c] ![1, 1, h, w] inb' :=
  window_put_inside (s := S2x4x256x512) x _ _ _ _ ![0, 0, r, c] inb v (fun k => by fin_cases k <;> simp) inb'

/-- A band or a strip of a head's window is one of what that window holds. -/
theorem part_window (x : S2x4x256x512.Idx → α) (b a : ℕ) (v : S1x1x256x512.Idx → α) (inb0 : ∀ k, ![b, a, 0, 0] k + ![1, 1, 256, 512] k ≤ S2x4x256x512.size k)
    (hv : VecWindow.window (s := S2x4x256x512) x ![b, a, 0, 0] ![1, 1, 256, 512] inb0 = v) (r c h w : ℕ)
    (inb : ∀ k, ![b, a, r, c] k + ![1, 1, h, w] k ≤ S2x4x256x512.size k) (inb' : ∀ k, ![0, 0, r, c] k + ![1, 1, h, w] k ≤ S1x1x256x512.size k) :
    VecWindow.window (s := S2x4x256x512) x ![b, a, r, c] ![1, 1, h, w] inb = VecWindow.window (s := S1x1x256x512) v ![0, 0, r, c] ![1, 1, h, w] inb' := by
  subst hv
  exact window_inside (s := S2x4x256x512) x _ _ _ _ ![0, 0, r, c] inb0 inb (fun k => by fin_cases k <;> simp) inb'

end Stack

variable {F : FTy → Type} [FloatOps F]

/-- What a head's scratch holds between two steps. -/
structure St (F : FTy → Type) where
  /-- the scores of the tile at hand, key by query -/
  s : FVec F S1x1x256x512 .f32
  /-- the weights of the step before -/
  p : FVec F S1x1x256x512 .bf16
  /-- the running maximum per query -/
  m : FVec F S1x1x512 .f32
  /-- the factor of the step before -/
  al : FVec F S1x1x1x512 .f32
  /-- the weighted sum, feature by query -/
  acc : FVec F S1x128x512 .f32

/-- A tile's scores: its key rows against the query rows. -/
def score (q : FVec F S512x128 .bf16) (kt : FVec F S256x128 .bf16) : FVec F S1x1x256x512 .f32 := k0_pay1 q kt

/-- A strip of 128 queries of a tile's scores. -/
def strip (s : FVec F S1x1x256x512 .f32) (c : ℕ) (h : ∀ k, ![0, 0, 0, c] k + ![1, 1, 256, 128] k ≤ S1x1x256x512.size k := by decide) : FVec F S1x1x256x128 .f32 :=
  VecWindow.window (s := S1x1x256x512) s ![0, 0, 0, c] ![1, 1, 256, 128] h

/-- A band of 64 keys of a tile's scores. -/
def band (s : FVec F S1x1x256x512 .f32) (r : ℕ) (h : ∀ k, ![0, 0, r, 0] k + ![1, 1, 64, 512] k ≤ S1x1x256x512.size k := by decide) : FVec F S1x1x64x512 .f32 :=
  VecWindow.window (s := S1x1x256x512) s ![0, 0, r, 0] ![1, 1, 64, 512] h

/-- The running maximum after a tile, as a row. -/
def maxRow (m : FVec F S1x1x512 .f32) (s : FVec F S1x1x256x512 .f32) : FVec F S1x512 .f32 :=
  k0_pay17 (k0_pay13 m) (k0_pay14 (strip s 0)) (k0_pay14 (strip s 128)) (k0_pay14 (strip s 256)) (strip s 384)

/-- The running maximum after a tile, as stored. -/
def maxOf (m : FVec F S1x1x512 .f32) (s : FVec F S1x1x256x512 .f32) : FVec F S1x1x512 .f32 :=
  k0_pay18 (k0_pay13 m) (k0_pay14 (strip s 0)) (k0_pay14 (strip s 128)) (k0_pay14 (strip s 256)) (strip s 384)

/-- The factor that takes sums relative to the maximum before a tile to sums relative to the one after. -/
def factor (m : FVec F S1x1x512 .f32) (s : FVec F S1x1x256x512 .f32) : FVec F S1x1x1x512 .f32 :=
  k0_pay19 (k0_pay13 m) (k0_pay14 (strip s 0)) (k0_pay14 (strip s 128)) (k0_pay14 (strip s 256)) (strip s 384)

/-- A tile's weights relative to a maximum. -/
def weights (mr : FVec F S1x512 .f32) (s : FVec F S1x1x256x512 .f32) : FVec F S1x1x256x512 .bf16 :=
  stack (k0_pay41 mr (band s 0)) (k0_pay41 mr (band s 64)) (k0_pay41 mr (band s 128)) (k0_pay41 mr (band s 192))

/-- The weighted sum with the step before's tile taken in. -/
def gather (σ : St F) (vt : FVec F S1x128x256 .bf16) : FVec F S1x128x512 .f32 := k0_pay6 σ.al σ.acc vt σ.p

/-- One step on tile scores `sm` (those at hand, masked or not), the next tile's scores being `next` and the step before's value tile `vt`. -/
def advance (sm next : FVec F S1x1x256x512 .f32) (vt : FVec F S1x128x256 .bf16) (σ : St F) : St F where
  s := next
  p := weights (maxRow σ.m sm) sm
  m := maxOf σ.m sm
  al := factor σ.m sm
  acc := gather σ vt

/-- What the five scratch buffers hold before a step whose scores lie in slot `b`, the step before's weights in slot `b'`. -/
structure Holds (b b' : ℕ) (x6 : FVec F S2x4x256x512 .f32) (x7 : FVec F S2x4x256x512 .bf16) (x8 : FVec F S4x1x512 .f32) (x9 : FVec F S2x4x1x512 .f32)
    (x10 : FVec F S4x128x512 .f32) (σ : ℕ → St F) : Prop where
  s : ∀ a inb, VecWindow.window (s := S2x4x256x512) x6 ![b, a, 0, 0] ![1, 1, 256, 512] inb = (σ a).s
  p : ∀ a inb, VecWindow.window (s := S2x4x256x512) x7 ![b', a, 0, 0] ![1, 1, 256, 512] inb = (σ a).p
  m : ∀ a inb, VecWindow.window (s := S4x1x512) x8 ![a, 0, 0] ![1, 1, 512] inb = (σ a).m
  al : ∀ a inb, VecWindow.window (s := S2x4x1x512) x9 ![b', a, 0, 0] ![1, 1, 1, 512] inb = (σ a).al
  acc : ∀ a inb, VecWindow.window (s := S4x128x512) x10 ![a, 0, 0] ![1, 128, 512] inb = (σ a).acc

/-- A band or a strip of a head's scores, in the slot at hand. -/
theorem Holds.part {b b' : ℕ} {x6 : FVec F S2x4x256x512 .f32} {x7 : FVec F S2x4x256x512 .bf16} {x8 : FVec F S4x1x512 .f32} {x9 : FVec F S2x4x1x512 .f32}
    {x10 : FVec F S4x128x512 .f32} {σ : ℕ → St F} (h : Holds b b' x6 x7 x8 x9 x10 σ) (a r c hh w : ℕ)
    (inb0 : ∀ k, ![b, a, 0, 0] k + ![1, 1, 256, 512] k ≤ S2x4x256x512.size k)
    (inb : ∀ k, ![b, a, r, c] k + ![1, 1, hh, w] k ≤ S2x4x256x512.size k) (inb' : ∀ k, ![0, 0, r, c] k + ![1, 1, hh, w] k ≤ S1x1x256x512.size k) :
    VecWindow.window (s := S2x4x256x512) x6 ![b, a, r, c] ![1, 1, hh, w] inb = VecWindow.window (s := S1x1x256x512) (σ a).s ![0, 0, r, c] ![1, 1, hh, w] inb' :=
  part_window x6 b a _ inb0 (h.s a inb0) r c hh w inb inb'

end Cert.Fox

end
-- ==== Proof.Fox.TripRun.lean ====
module

public import proofs.«01_k».proof.Proof.Fox.State
public import Idealize.ShloMosaic.Lib.Exec
public import Idealize.ShloMosaic.Lib.Tactic
public import Idealize.ShloMosaic.Lib.Pipeline.Kit

/-! One trip of the sweep's loop, run once at symbolic contents: two steps, the scores' slot being 0 in the first and 1 in the
    second. The run finds what each scratch buffer is written with. -/

@[expose] public section

set_option maxRecDepth 8192
set_option maxHeartbeats 4000000

noncomputable section

namespace Cert.Fox

open Cert.Flash

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources the run is stated over. -/
local notation "𝕄" => MT nD τ sig Unit (Elt F) ℕ (UR sig nD τ) ℕ

section Trip

variable (𝒱 : Variants) (c : Dev nD) (bd : Option 𝒱.V) (i : grid0.Coords)
  (arg2 : Memref sig .tc .vmem S512x512 .bf16) (harg2 : arg2.IsWhole)
  (arg3 : Memref sig .tc .vmem S16384x128 .bf16) (harg3 : arg3.IsWhole)
  (arg4 : Memref sig .tc .vmem S64x128x256 .bf16) (harg4 : arg4.IsWhole)
  (arg5 : Memref sig .tc .vmem S512x512 .bf16) (harg5 : arg5.IsWhole)
  (arg6 : Memref sig .tc .vmem S2x4x256x512 .f32) (harg6 : arg6.IsWhole)
  (arg7 : Memref sig .tc .vmem S2x4x256x512 .bf16) (harg7 : arg7.IsWhole)
  (arg8 : Memref sig .tc .vmem S4x1x512 .f32) (harg8 : arg8.IsWhole)
  (arg9 : Memref sig .tc .vmem S2x4x1x512 .f32) (harg9 : arg9.IsWhole)
  (arg10 : Memref sig .tc .vmem S4x128x512 .f32) (harg10 : arg10.IsWhole)
  (arg1 : BitVec 32) (qv : ℕ → FVec F S512x128 .bf16) (c0_i32_42 c0_i32_43 c1_i32 v55 : BitVec 32)

/-- A buffer held whole at given contents. -/
abbrev held {s : Shape} {e : EltTy} (m : Memref sig .tc .vmem s e) (f : BufTy.Contents (Elt F) m.view.ty) : sProp 𝕄 :=
  m.view.loc (c : Thread nD τ) ↦[m.view.set]{fullShare} f

/-- What a trip needs: the keys and the value rows to read, the five scratch buffers to rewrite. -/
abbrev tripRes (X3 : BufTy.Contents (Elt F) arg3.view.ty) (X4 : BufTy.Contents (Elt F) arg4.view.ty)
  (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) : sProp 𝕄 :=
  iprop(held c arg3 X3 ∗ held c arg4 X4 ∗ held c arg6 f6 ∗ held c arg7 f7 ∗ held c arg8 f8 ∗ held c arg9 f9 ∗ held c arg10 f10)

/-- A trip of the loop. -/
abbrev tripProg (k : Fin (k0_t1_loop i).trips) (acc : BitVec 32) : Prog (TpuEff nD τ sig (Elt F) Λ₀ .tc) (BitVec 32) :=
  k0_t1_body (F := F) i arg2 harg2 arg3 harg3 arg4 harg4 arg5 harg5 arg6 harg6 arg7 harg7 arg8 harg8 arg9 harg9 arg10 harg10 arg1 (qv 0) (qv 1) (qv 2) (qv 3) c0_i32_42 c0_i32_43 c1_i32 v55 k acc

set_option backward.proofsInPublic true in
/-- The trip's run: each scratch buffer's writes, as found. -/
def tripRun (X3 : BufTy.Contents (Elt F) arg3.view.ty) (X4 : BufTy.Contents (Elt F) arg4.view.ty)
  (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (k : Fin (k0_t1_loop i).trips) (acc : BitVec 32) :
    Σ' (L6 : List (View.Piece (Elt F) S2x4x256x512 .f32)) (L7 : List (View.Piece (Elt F) S2x4x256x512 .bf16)) (L8 : List (View.Piece (Elt F) S4x1x512 .f32)) (L9 : List (View.Piece (Elt F) S2x4x1x512 .f32)), { L10 : List (View.Piece (Elt F) S4x128x512 .f32) //
      ∀ (E : Set ℕ), tripRes c arg3 arg4 arg6 arg7 arg8 arg9 arg10 X3 X4 f6 f7 f8 f9 f10
        ⊢ wp frame (wpE (defs₀ (F := F)) 𝒱 (c : Thread nD τ) bd) E (tripProg i arg2 harg2 arg3 harg3 arg4 harg4 arg5 harg5 arg6 harg6 arg7 harg7 arg8 harg8 arg9 harg9 arg10 harg10 arg1 qv c0_i32_42 c0_i32_43 c1_i32 v55 k acc)
          (fun _ => tripRes c arg3 arg4 arg6 arg7 arg8 arg9 arg10 X3 X4 (arg6.view.writes (Elt F) f6 L6) (arg7.view.writes (Elt F) f7 L7) (arg8.view.writes (Elt F) f8 L8) (arg9.view.writes (Elt F) f9 L9) (arg10.view.writes (Elt F) f10 L10)) } := by
  refine ⟨?_, ?_, ?_, ?_, ?_, fun E => ?run⟩
  case run =>
    dsimp only [tripProg]
    unfold k0_t1_body
    iintro ⟨H3, H4, H6, H7, H8, H9, H10⟩
    sl_exec
    sl_step
    sl_close

end Trip

end Cert.Fox

end
-- ==== Proof.Fox.TripTiles.lean ====
module

public import proofs.«01_k».proof.Proof.Fox.TripRun

/-! What a trip of the loop reads of the keys and the values, and what it makes of the heads' states. -/

@[expose] public section

set_option maxRecDepth 8192
set_option maxHeartbeats 4000000

noncomputable section

namespace Cert.Fox

open Cert.Flash

open Cert.Kernel2Ideal Cert.Kernel2Ideal.Gen
open Idealize.ShloMosaic Idealize.ShloMosaic.TcCoe Idealize.ShloMosaic.Tactic

variable {F : FTy → Type} [FloatOps F]

/-- The key and value tiles a trip reads: the next tile's keys and the value tile of the step before, for each of its two steps. The heads share them. -/
structure TripTiles (i : grid0.Coords) (k : Fin (k0_t1_loop i).trips) (K : FVec F S16384x128 .bf16) (V : FVec F S64x128x256 .bf16)
    (kt1 kt2 : FVec F S256x128 .bf16) (vt1 vt2 : FVec F S1x128x256 .bf16) : Prop where
  k10 : ∀ inb, VecWindow.window (s := S16384x128) K (k0_off1 i k) ![256, 128] inb = kt1
  v10 : ∀ inb, VecWindow.window (s := S64x128x256) V (k0_off2 i k) ![1, 128, 256] inb = vt1
  k20 : ∀ inb, VecWindow.window (s := S16384x128) K (k0_off3 i k) ![256, 128] inb = kt2
  v20 : ∀ inb, VecWindow.window (s := S64x128x256) V (k0_off4 i k) ![1, 128, 256] inb = vt2

/-- What a trip makes of the heads' states: two steps. -/
def trip2 (qv : ℕ → FVec F S512x128 .bf16) (kt1 kt2 : FVec F S256x128 .bf16) (vt1 vt2 : FVec F S1x128x256 .bf16) (σ : ℕ → St F) (a : ℕ) : St F :=
  advance (score (qv a) kt1) (score (qv a) kt2) vt2 (advance (σ a).s (score (qv a) kt1) vt1 (σ a))

end Cert.Fox

end
-- ==== Proof.Fox.TripHolds.lean ====
module

public import proofs.«01_k».proof.Proof.Fox.TripTiles

/-! A trip's writes, read window by window: the states two steps on. -/

@[expose] public section

set_option maxRecDepth 8192
set_option maxHeartbeats 4000000

noncomputable section

namespace Cert.Fox

open Cert.Flash

open Cert.Kernel2Ideal Cert.Kernel2Ideal.Gen
open Idealize.ShloMosaic Idealize.ShloMosaic.TcCoe Idealize.ShloMosaic.Tactic

variable {F : FTy → Type} [FloatOps F]

section Trip

variable (𝒱 : Variants) (c : Dev nD) (bd : Option 𝒱.V) (i : grid0.Coords)
  (arg2 : Memref sig .tc .vmem S512x512 .bf16) (harg2 : arg2.IsWhole)
  (arg3 : Memref sig .tc .vmem S16384x128 .bf16) (harg3 : arg3.IsWhole)
  (arg4 : Memref sig .tc .vmem S64x128x256 .bf16) (harg4 : arg4.IsWhole)
  (arg5 : Memref sig .tc .vmem S512x512 .bf16) (harg5 : arg5.IsWhole)
  (arg6 : Memref sig .tc .vmem S2x4x256x512 .f32) (harg6 : arg6.IsWhole)
  (arg7 : Memref sig .tc .vmem S2x4x256x512 .bf16) (harg7 : arg7.IsWhole)
  (arg8 : Memref sig .tc .vmem S4x1x512 .f32) (harg8 : arg8.IsWhole)
  (arg9 : Memref sig .tc .vmem S2x4x1x512 .f32) (harg9 : arg9.IsWhole)
  (arg10 : Memref sig .tc .vmem S4x128x512 .f32) (harg10 : arg10.IsWhole)
  (arg1 : BitVec 32) (qv : ℕ → FVec F S512x128 .bf16) (c0_i32_42 c0_i32_43 c1_i32 v55 : BitVec 32)
  (X3 : BufTy.Contents (Elt F) arg3.view.ty) (X4 : BufTy.Contents (Elt F) arg4.view.ty)
  (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (k : Fin (k0_t1_loop i).trips) (acc : BitVec 32)
  (kt1 kt2 : FVec F S256x128 .bf16) (vt1 vt2 : FVec F S1x128x256 .bf16) (σ : ℕ → St F)
  (hT : TripTiles i k (arg3.view.read (Elt F) X3) (arg4.view.read (Elt F) X4) kt1 kt2 vt1 vt2)
  (hH : Holds 0 1 (arg6.view.read (Elt F) f6) (arg7.view.read (Elt F) f7) (arg8.view.read (Elt F) f8) (arg9.view.read (Elt F) f9) (arg10.view.read (Elt F) f10) σ)

include hT hH in
theorem trip_s0 (inb) : VecWindow.window (s := S2x4x256x512) (arg6.view.read (Elt F) (arg6.view.writes (Elt F) f6 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).1)) ![0, 0, 0, 0] ![1, 1, 256, 512] inb
    = (trip2 qv kt1 kt2 vt1 vt2 σ 0).s := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k20, hT.v10, hT.v20]
  rfl

include hT hH in
theorem trip_s1 (inb) : VecWindow.window (s := S2x4x256x512) (arg6.view.read (Elt F) (arg6.view.writes (Elt F) f6 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).1)) ![0, 1, 0, 0] ![1, 1, 256, 512] inb
    = (trip2 qv kt1 kt2 vt1 vt2 σ 1).s := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k20, hT.v10, hT.v20]
  rfl

include hT hH in
theorem trip_s2 (inb) : VecWindow.window (s := S2x4x256x512) (arg6.view.read (Elt F) (arg6.view.writes (Elt F) f6 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).1)) ![0, 2, 0, 0] ![1, 1, 256, 512] inb
    = (trip2 qv kt1 kt2 vt1 vt2 σ 2).s := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k20, hT.v10, hT.v20]
  rfl

include hT hH in
theorem trip_s3 (inb) : VecWindow.window (s := S2x4x256x512) (arg6.view.read (Elt F) (arg6.view.writes (Elt F) f6 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).1)) ![0, 3, 0, 0] ![1, 1, 256, 512] inb
    = (trip2 qv kt1 kt2 vt1 vt2 σ 3).s := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k20, hT.v10, hT.v20]
  rfl

include hT hH in
theorem trip_p0 (inb) : VecWindow.window (s := S2x4x256x512) (arg7.view.read (Elt F) (arg7.view.writes (Elt F) f7 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.1)) ![1, 0, 0, 0] ![1, 1, 256, 512] inb
    = (trip2 qv kt1 kt2 vt1 vt2 σ 0).p := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k20, hT.v10, hT.v20]
  rfl

include hT hH in
theorem trip_p1 (inb) : VecWindow.window (s := S2x4x256x512) (arg7.view.read (Elt F) (arg7.view.writes (Elt F) f7 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.1)) ![1, 1, 0, 0] ![1, 1, 256, 512] inb
    = (trip2 qv kt1 kt2 vt1 vt2 σ 1).p := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k20, hT.v10, hT.v20]
  rfl

include hT hH in
theorem trip_p2 (inb) : VecWindow.window (s := S2x4x256x512) (arg7.view.read (Elt F) (arg7.view.writes (Elt F) f7 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.1)) ![1, 2, 0, 0] ![1, 1, 256, 512] inb
    = (trip2 qv kt1 kt2 vt1 vt2 σ 2).p := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k20, hT.v10, hT.v20]
  rfl

include hT hH in
theorem trip_p3 (inb) : VecWindow.window (s := S2x4x256x512) (arg7.view.read (Elt F) (arg7.view.writes (Elt F) f7 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.1)) ![1, 3, 0, 0] ![1, 1, 256, 512] inb
    = (trip2 qv kt1 kt2 vt1 vt2 σ 3).p := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k20, hT.v10, hT.v20]
  rfl

include hT hH in
theorem trip_m0 (inb) : VecWindow.window (s := S4x1x512) (arg8.view.read (Elt F) (arg8.view.writes (Elt F) f8 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.2.1)) ![0, 0, 0] ![1, 1, 512] inb
    = (trip2 qv kt1 kt2 vt1 vt2 σ 0).m := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k20, hT.v10, hT.v20]
  rfl

include hT hH in
theorem trip_m1 (inb) : VecWindow.window (s := S4x1x512) (arg8.view.read (Elt F) (arg8.view.writes (Elt F) f8 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.2.1)) ![1, 0, 0] ![1, 1, 512] inb
    = (trip2 qv kt1 kt2 vt1 vt2 σ 1).m := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k20, hT.v10, hT.v20]
  rfl

include hT hH in
theorem trip_m2 (inb) : VecWindow.window (s := S4x1x512) (arg8.view.read (Elt F) (arg8.view.writes (Elt F) f8 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.2.1)) ![2, 0, 0] ![1, 1, 512] inb
    = (trip2 qv kt1 kt2 vt1 vt2 σ 2).m := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k20, hT.v10, hT.v20]
  rfl

include hT hH in
theorem trip_m3 (inb) : VecWindow.window (s := S4x1x512) (arg8.view.read (Elt F) (arg8.view.writes (Elt F) f8 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.2.1)) ![3, 0, 0] ![1, 1, 512] inb
    = (trip2 qv kt1 kt2 vt1 vt2 σ 3).m := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k20, hT.v10, hT.v20]
  rfl

include hT hH in
theorem trip_al0 (inb) : VecWindow.window (s := S2x4x1x512) (arg9.view.read (Elt F) (arg9.view.writes (Elt F) f9 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.2.2.1)) ![1, 0, 0, 0] ![1, 1, 1, 512] inb
    = (trip2 qv kt1 kt2 vt1 vt2 σ 0).al := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k20, hT.v10, hT.v20]
  rfl

include hT hH in
theorem trip_al1 (inb) : VecWindow.window (s := S2x4x1x512) (arg9.view.read (Elt F) (arg9.view.writes (Elt F) f9 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.2.2.1)) ![1, 1, 0, 0] ![1, 1, 1, 512] inb
    = (trip2 qv kt1 kt2 vt1 vt2 σ 1).al := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k20, hT.v10, hT.v20]
  rfl

include hT hH in
theorem trip_al2 (inb) : VecWindow.window (s := S2x4x1x512) (arg9.view.read (Elt F) (arg9.view.writes (Elt F) f9 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.2.2.1)) ![1, 2, 0, 0] ![1, 1, 1, 512] inb
    = (trip2 qv kt1 kt2 vt1 vt2 σ 2).al := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k20, hT.v10, hT.v20]
  rfl

include hT hH in
theorem trip_al3 (inb) : VecWindow.window (s := S2x4x1x512) (arg9.view.read (Elt F) (arg9.view.writes (Elt F) f9 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.2.2.1)) ![1, 3, 0, 0] ![1, 1, 1, 512] inb
    = (trip2 qv kt1 kt2 vt1 vt2 σ 3).al := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k20, hT.v10, hT.v20]
  rfl

include hT hH in
theorem trip_acc0 (inb) : VecWindow.window (s := S4x128x512) (arg10.view.read (Elt F) (arg10.view.writes (Elt F) f10 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.2.2.2.1)) ![0, 0, 0] ![1, 128, 512] inb
    = (trip2 qv kt1 kt2 vt1 vt2 σ 0).acc := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k20, hT.v10, hT.v20]
  rfl

include hT hH in
theorem trip_acc1 (inb) : VecWindow.window (s := S4x128x512) (arg10.view.read (Elt F) (arg10.view.writes (Elt F) f10 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.2.2.2.1)) ![1, 0, 0] ![1, 128, 512] inb
    = (trip2 qv kt1 kt2 vt1 vt2 σ 1).acc := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k20, hT.v10, hT.v20]
  rfl

include hT hH in
theorem trip_acc2 (inb) : VecWindow.window (s := S4x128x512) (arg10.view.read (Elt F) (arg10.view.writes (Elt F) f10 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.2.2.2.1)) ![2, 0, 0] ![1, 128, 512] inb
    = (trip2 qv kt1 kt2 vt1 vt2 σ 2).acc := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k20, hT.v10, hT.v20]
  rfl

include hT hH in
theorem trip_acc3 (inb) : VecWindow.window (s := S4x128x512) (arg10.view.read (Elt F) (arg10.view.writes (Elt F) f10 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.2.2.2.1)) ![3, 0, 0] ![1, 128, 512] inb
    = (trip2 qv kt1 kt2 vt1 vt2 σ 3).acc := by
  unfold tripRun; dsimp only; sl_unfold_run_names
  simp (decide := true) only [readCov_window, readAt_window, read_writes_put, window_put_apart, VecWindow.window_put_same, window_stack, part_put, hH.part, hH.s, hH.p, hH.m, hH.al, hH.acc, hT.k10, hT.k20, hT.v10, hT.v20]
  rfl

include hT hH in
/-- A trip of the loop takes states held to states held: two steps on. -/
theorem trip_holds : Holds 0 1 (arg6.view.read (Elt F) (arg6.view.writes (Elt F) f6 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).1)) (arg7.view.read (Elt F) (arg7.view.writes (Elt F) f7 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.1)) (arg8.view.read (Elt F) (arg8.view.writes (Elt F) f8 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.2.1)) (arg9.view.read (Elt F) (arg9.view.writes (Elt F) f9 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.2.2.1)) (arg10.view.read (Elt F) (arg10.view.writes (Elt F) f10 (tripRun 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc).2.2.2.2.1))
    (trip2 qv kt1 kt2 vt1 vt2 σ) where
  s a inb := by
    have ha : a < 4 := by have : a + 1 ≤ 4 := inb 1; omega
    obtain rfl | rfl | rfl | rfl : a = 0 ∨ a = 1 ∨ a = 2 ∨ a = 3 := by omega
    · exact trip_s0 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
    · exact trip_s1 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
    · exact trip_s2 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
    · exact trip_s3 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
  p a inb := by
    have ha : a < 4 := by have : a + 1 ≤ 4 := inb 1; omega
    obtain rfl | rfl | rfl | rfl : a = 0 ∨ a = 1 ∨ a = 2 ∨ a = 3 := by omega
    · exact trip_p0 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
    · exact trip_p1 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
    · exact trip_p2 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
    · exact trip_p3 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
  m a inb := by
    have ha : a < 4 := by have : a + 1 ≤ 4 := inb 0; omega
    obtain rfl | rfl | rfl | rfl : a = 0 ∨ a = 1 ∨ a = 2 ∨ a = 3 := by omega
    · exact trip_m0 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
    · exact trip_m1 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
    · exact trip_m2 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
    · exact trip_m3 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
  al a inb := by
    have ha : a < 4 := by have : a + 1 ≤ 4 := inb 1; omega
    obtain rfl | rfl | rfl | rfl : a = 0 ∨ a = 1 ∨ a = 2 ∨ a = 3 := by omega
    · exact trip_al0 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
    · exact trip_al1 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
    · exact trip_al2 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
    · exact trip_al3 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
  acc a inb := by
    have ha : a < 4 := by have : a + 1 ≤ 4 := inb 0; omega
    obtain rfl | rfl | rfl | rfl : a = 0 ∨ a = 1 ∨ a = 2 ∨ a = 3 := by omega
    · exact trip_acc0 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
    · exact trip_acc1 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
    · exact trip_acc2 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb
    · exact trip_acc3 𝒱 c bd i arg2 harg2 arg3 harg3 arg4 harg4 arg5 harg5 arg6 harg6 arg7 harg7 arg8 harg8 arg9 harg9 arg10 harg10 arg1 qv c0_i32_42 c0_i32_43 c1_i32 v55 X3 X4 f6 f7 f8 f9 f10 k acc kt1 kt2 vt1 vt2 σ hT hH inb

end Trip

end Cert.Fox

end
-- ==== Proof.Fox.Masked.lean ====
module

public import proofs.«01_k».proof.Proof.Fox.State
public import Idealize.ShloMosaic.Lib.ValueLayout

/-! The step on a masked tile: the comparison of positions as the words have it, and the same as a step on masked scores. -/

@[expose] public section

set_option maxRecDepth 8192

noncomputable section

namespace Cert.Fox

open Cert.Flash

open Idealize.ShloMosaic Idealize.ShloMosaic.ValueIdx Cert.Kernel2Ideal Cert.Kernel2Ideal.Gen

variable {F : FTy → Type} [FloatOps F]

/-- Scores with those of keys past their query taken out: tile `j` of the keys against block `b` of the queries. -/
def masked (b j : ℕ) (s : FVec F S1x1x256x512 .f32) : FVec F S1x1x256x512 .f32 :=
  fun y => if 256 * j + (y 2).val ≤ 512 * b + (y 3).val then s y else Scalar.ofBits .f32 0xFF800000#32

/-- A strip, with the comparison in words. -/
def stripSel (kb qb : BitVec 32) (x : FVec F S256x128 .f32) : FVec F S256x128 .f32 :=
  select (cmpi .sle (addi (broadcast S256x128 kb) (iota .tc S256x128 32 [0] iota_S256x128_d0_w32)) (addi (broadcast S256x128 qb) (iota .tc S256x128 32 [1] iota_S256x128_d1_w32)))
    x (broadcast S256x128 (Scalar.ofBits .f32 0xFF800000#32))

/-- A band, with the comparison in words. -/
def bandSel (kb qb : BitVec 32) (x : FVec F S64x512 .f32) : FVec F S64x512 .f32 :=
  select (cmpi .sle (addi (broadcast S64x512 kb) (iota .tc S64x512 32 [0] iota_S64x512_d0_w32)) (addi (broadcast S64x512 qb) (iota .tc S64x512 32 [1] iota_S64x512_d1_w32)))
    x (broadcast S64x512 (Scalar.ofBits .f32 0xFF800000#32))

/-- The position of the first key, `r` rows into tile `j`. -/
abbrev keyAt (j : BitVec 32) (r : BitVec 32) : BitVec 32 := Scalar.addi (Scalar.muli j 256#32) r

/-- The position of the first query, `r` columns into block `b`. -/
abbrev queryAt (b : BitVec 32) (r : BitVec 32) : BitVec 32 := Scalar.addi (Scalar.muli b 512#32) r

/-- The maxima of a strip of a masked tile. -/
def stripMaxW (b j r : BitVec 32) (x : FVec F S1x1x256x128 .f32) : FVec F S1x128 .f32 :=
  shapeCast S1x128 (multiReduction .maximumf [0] S128 (stripSel (keyAt j 0#32) (queryAt b r) (shapeCast S256x128 x shapeCasts_S1x1x256x128_S256x128)) 0xFF800000#32 reduces_S256x128_S128 (.inl rfl) rfl) shapeCasts_S128_S1x128

/-- The running maximum after a masked tile, as a row. -/
def maxRowW (b j : BitVec 32) (m : FVec F S1x1x512 .f32) (s : FVec F S1x1x256x512 .f32) : FVec F S1x512 .f32 :=
  maximumf (k0_pay13 m) (concatenate S1x512 1 [⟨S1x128, stripMaxW b j 0#32 (strip s 0)⟩, ⟨S1x128, stripMaxW b j 128#32 (strip s 128)⟩, ⟨S1x128, stripMaxW b j 256#32 (strip s 256)⟩,
    ⟨S1x128, stripMaxW b j 384#32 (strip s 384)⟩] concatenates_S1x128_S1x128_S1x128_S1x128_S1x512_d1)

/-- The weights of a band of a masked tile. -/
def bandW (b j r : BitVec 32) (mr : FVec F S1x512 .f32) (x : FVec F S1x1x64x512 .f32) : FVec F S1x1x64x512 .bf16 :=
  shapeCast S1x1x64x512 (truncf .bf16 (exp2 (subf (bandSel (keyAt j r) (queryAt b 0#32) (shapeCast S64x512 x shapeCasts_S1x1x64x512_S64x512)) (broadcastTo S64x512 mr broadcasts_S1x512_S64x512))) bitsLt_bf16_f32) shapeCasts_S64x512_S1x1x64x512

/-- The step on a masked tile, as the words have it. -/
def advanceW (b j : BitVec 32) (next : FVec F S1x1x256x512 .f32) (vt : FVec F S1x128x256 .bf16) (σ : St F) : St F where
  s := next
  p := stack (bandW b j 0#32 (maxRowW b j σ.m σ.s) (band σ.s 0)) (bandW b j 64#32 (maxRowW b j σ.m σ.s) (band σ.s 64)) (bandW b j 128#32 (maxRowW b j σ.m σ.s) (band σ.s 128)) (bandW b j 192#32 (maxRowW b j σ.m σ.s) (band σ.s 192))
  m := shapeCast S1x1x512 (maxRowW b j σ.m σ.s) shapeCasts_S1x512_S1x1x512
  al := shapeCast S1x1x1x512 (exp2 (subf (k0_pay13 σ.m) (maxRowW b j σ.m σ.s))) shapeCasts_S1x512_S1x1x1x512
  acc := gather σ vt

/-- The comparison of words is that of the numbers they stand for. -/
theorem sle_word (b j r r' : ℕ) (hb : b < 32) (hj : j < 64) (hr : r < 256) (hr' : r' < 512) (x y : F .f32) (kb qb : BitVec 32) (o o' : ℕ) (ho : o + o' = r)
    (p p' : ℕ) (hp : p + p' = r') (hk : kb = keyAt (BitVec.ofNat 32 j) (BitVec.ofNat 32 o)) (hq : qb = queryAt (BitVec.ofNat 32 b) (BitVec.ofNat 32 p)) :
    Scalar.select (IntOp.cmpi .sle (IntOp.addi kb (BitVec.ofNat 32 o')) (IntOp.addi qb (BitVec.ofNat 32 p'))) x y = if 256 * j + r ≤ 512 * b + r' then x else y := by
  have e1 : IntOp.addi kb (BitVec.ofNat 32 o') = BitVec.ofNat 32 (256 * j + r) := by
    subst hk ho
    show BitVec.ofNat 32 j * 256#32 + BitVec.ofNat 32 o + BitVec.ofNat 32 o' = _
    rw [show (256#32 : BitVec 32) = BitVec.ofNat 32 256 from rfl, ← BitVec.ofNat_mul, ← BitVec.ofNat_add, ← BitVec.ofNat_add]
    congr 1; omega
  have e2 : IntOp.addi qb (BitVec.ofNat 32 p') = BitVec.ofNat 32 (512 * b + r') := by
    subst hq hp
    show BitVec.ofNat 32 b * 512#32 + BitVec.ofNat 32 p + BitVec.ofNat 32 p' = _
    rw [show (512#32 : BitVec 32) = BitVec.ofNat 32 512 from rfl, ← BitVec.ofNat_mul, ← BitVec.ofNat_add, ← BitVec.ofNat_add]
    congr 1; omega
  rw [e1, e2]
  have t : ∀ n : ℕ, n < 2 ^ 31 → (BitVec.ofNat 32 n).toInt = n := by
    intro n hn
    rw [BitVec.toInt_eq_toNat_of_lt (by rw [BitVec.toNat_ofNat]; omega), BitVec.toNat_ofNat, Nat.mod_eq_of_lt (by omega)]
  have c : ((BitVec.ofNat 32 (256 * j + r)).sle (BitVec.ofNat 32 (512 * b + r')) = true) ↔ 256 * j + r ≤ 512 * b + r' := by
    rw [BitVec.sle_iff_toInt_le, t _ (by omega), t _ (by omega)]; omega
  show (if BitVec.ofBool _ = 1 then x else y) = _
  by_cases h : 256 * j + r ≤ 512 * b + r'
  · rw [if_pos h]
    have := c.2 h
    dsimp only
    rw [this]; rfl
  · rw [if_neg h]
    have : (BitVec.ofNat 32 (256 * j + r)).sle (BitVec.ofNat 32 (512 * b + r')) = false := by
      rw [← Bool.not_eq_true]; exact fun hh => h (c.1 hh)
    dsimp only
    rw [this]; rfl

/-- A strip with the comparison in words is the masked tile's strip. -/
theorem stripSel_eq (b j : ℕ) (hb : b < 32) (hj : j < 64) (s : FVec F S1x1x256x512 .f32) (r : ℕ) (h : ∀ k, ![0, 0, 0, r] k + ![1, 1, 256, 128] k ≤ S1x1x256x512.size k) :
    stripSel (keyAt (BitVec.ofNat 32 j) 0#32) (queryAt (BitVec.ofNat 32 b) (BitVec.ofNat 32 r)) (shapeCast S256x128 (strip s r h) shapeCasts_S1x1x256x128_S256x128)
      = shapeCast S256x128 (strip (masked b j s) r h) shapeCasts_S1x1x256x128_S256x128 := by
  have hr : r + 128 ≤ 512 := h 3
  funext y
  obtain ⟨p, q, rfl⟩ : ∃ (p : Fin 256) (q : Fin 128), y = ix2 p q := ⟨y 0, y 1, eq_ix2 y⟩
  have cast : ∀ x : FVec F S1x1x256x128 .f32, shapeCast S256x128 x shapeCasts_S1x1x256x128_S256x128 (ix2 p q) = x (ix4 (0 : Fin 1) (0 : Fin 1) p q) := fun x =>
    shapeCast_apply x _ _ _ (by
      rw [Shape.rowMajor_val_four, Shape.rowMajor_val_two]
      show ((0 * 1 + 0) * 256 + p.val) * 128 + q.val = p.val * 128 + q.val
      omega)
  have hp := p.isLt
  have hq := q.isLt
  refine Eq.trans ?_ (cast _).symm
  refine Eq.trans (congrArg (fun t => Scalar.select (IntOp.cmpi .sle (IntOp.addi _ (BitVec.ofNat 32 (0 * 256 + p.val))) (IntOp.addi _ (BitVec.ofNat 32 (0 * 128 + q.val)))) t _) (cast (strip s r h))) ?_
  exact sle_word b j (0 + 1 * p.val) (r + 1 * q.val) hb hj (by omega) (by omega) _ _ _ _ 0 (0 * 256 + p.val) (by omega) r (0 * 128 + q.val) (by omega) rfl rfl

/-- A band with the comparison in words is the masked tile's band. -/
theorem bandSel_eq (b j : ℕ) (hb : b < 32) (hj : j < 64) (s : FVec F S1x1x256x512 .f32) (r : ℕ) (h : ∀ k, ![0, 0, r, 0] k + ![1, 1, 64, 512] k ≤ S1x1x256x512.size k) :
    bandSel (keyAt (BitVec.ofNat 32 j) (BitVec.ofNat 32 r)) (queryAt (BitVec.ofNat 32 b) 0#32) (shapeCast S64x512 (band s r h) shapeCasts_S1x1x64x512_S64x512)
      = shapeCast S64x512 (band (masked b j s) r h) shapeCasts_S1x1x64x512_S64x512 := by
  have hr : r + 64 ≤ 256 := h 2
  funext y
  obtain ⟨p, q, rfl⟩ : ∃ (p : Fin 64) (q : Fin 512), y = ix2 p q := ⟨y 0, y 1, eq_ix2 y⟩
  have cast : ∀ x : FVec F S1x1x64x512 .f32, shapeCast S64x512 x shapeCasts_S1x1x64x512_S64x512 (ix2 p q) = x (ix4 (0 : Fin 1) (0 : Fin 1) p q) := fun x =>
    shapeCast_apply x _ _ _ (by
      rw [Shape.rowMajor_val_four, Shape.rowMajor_val_two]
      show ((0 * 1 + 0) * 64 + p.val) * 512 + q.val = p.val * 512 + q.val
      omega)
  have hp := p.isLt
  have hq := q.isLt
  refine Eq.trans ?_ (cast _).symm
  refine Eq.trans (congrArg (fun t => Scalar.select (IntOp.cmpi .sle (IntOp.addi _ (BitVec.ofNat 32 (0 * 64 + p.val))) (IntOp.addi _ (BitVec.ofNat 32 (0 * 512 + q.val)))) t _) (cast (band s r h))) ?_
  exact sle_word b j (r + 1 * p.val) (0 + 1 * q.val) hb hj (by omega) (by omega) _ _ _ _ r (0 * 64 + p.val) (by omega) 0 (0 * 512 + q.val) (by omega) rfl rfl

/-- The step on a masked tile is a step on the masked scores. -/
theorem advanceW_eq (b j : ℕ) (hb : b < 32) (hj : j < 64) (next : FVec F S1x1x256x512 .f32) (vt : FVec F S1x128x256 .bf16) (σ : St F) :
    advanceW (BitVec.ofNat 32 b) (BitVec.ofNat 32 j) next vt σ = advance (masked b j σ.s) next vt σ := by
  have hs : ∀ (r : ℕ) (h), stripMaxW (BitVec.ofNat 32 b) (BitVec.ofNat 32 j) (BitVec.ofNat 32 r) (strip σ.s r h) = k0_pay14 (strip (masked b j σ.s) r h) := by
    intro r h
    unfold stripMaxW
    rw [stripSel_eq b j hb hj]
    rfl
  have hm : maxRowW (BitVec.ofNat 32 b) (BitVec.ofNat 32 j) σ.m σ.s = maxRow σ.m (masked b j σ.s) := by
    unfold maxRowW
    rw [hs 0, hs 128, hs 256, hs 384]
    rfl
  have hb : ∀ (r : ℕ) (h) (mr), bandW (BitVec.ofNat 32 b) (BitVec.ofNat 32 j) (BitVec.ofNat 32 r) mr (band σ.s r h) = k0_pay41 mr (band (masked b j σ.s) r h) := by
    intro r h mr
    unfold bandW
    rw [bandSel_eq b j hb hj]
    rfl
  unfold advanceW
  rw [hm, hb 0, hb 64, hb 128, hb 192]
  rfl

end Cert.Fox

end
-- ==== Proof.Fox.Sweep.lean ====
module

public import proofs.«01_k».proof.Proof.Fox.TripTiles
public import proofs.«01_k».proof.Proof.Fox.Masked

/-! The sweep of one block of queries over the key tiles, state by state, and where the tiles lie that a trip of the loop reads. -/

@[expose] public section

set_option maxRecDepth 8192

noncomputable section

namespace Cert.Fox

open Cert.Flash

open Idealize.ShloMosaic Idealize.ShloMosaic.ValueIdx Idealize.ShloMosaic.Tactic Cert.Kernel2Ideal Cert.Kernel2Ideal.Gen

variable {F : FTy → Type} [FloatOps F]

/-- Tile `j` of the key rows: 256 rows. -/
def kTile (K : FVec F S16384x128 .bf16) (j : ℕ) : FVec F S256x128 .bf16 :=
  if h : ∀ k, ![256 * j, 0] k + ![256, 128] k ≤ S16384x128.size k then VecWindow.window (s := S16384x128) K ![256 * j, 0] ![256, 128] h else fun _ => Scalar.ofBits .bf16 0x0000#16

/-- Tile `j` of the value rows, feature by key. -/
def vTile (V : FVec F S64x128x256 .bf16) (j : ℕ) : FVec F S1x128x256 .bf16 :=
  if h : ∀ k, ![j, 0, 0] k + ![1, 128, 256] k ≤ S64x128x256.size k then VecWindow.window (s := S64x128x256) V ![j, 0, 0] ![1, 128, 256] h else fun _ => Scalar.ofBits .bf16 0x0000#16

/-- Head `a`'s columns of a block of queries. -/
def qTile (Q : FVec F S512x512 .bf16) (a : ℕ) : FVec F S512x128 .bf16 :=
  if h : ∀ k, ![0, 128 * a] k + ![512, 128] k ≤ S512x512.size k then VecWindow.window (s := S512x512) Q ![0, 128 * a] ![512, 128] h else fun _ => Scalar.ofBits .bf16 0x0000#16

theorem window_kTile (K : FVec F S16384x128 .bf16) (off : Fin 2 → ℕ) (inb) (j : ℕ) (h : off = ![256 * j, 0]) :
    VecWindow.window (s := S16384x128) K off ![256, 128] inb = kTile K j := by
  subst h; exact (dif_pos inb).symm

theorem window_vTile (V : FVec F S64x128x256 .bf16) (off : Fin 3 → ℕ) (inb) (j : ℕ) (h : off = ![j, 0, 0]) :
    VecWindow.window (s := S64x128x256) V off ![1, 128, 256] inb = vTile V j := by
  subst h; exact (dif_pos inb).symm

theorem window_qTile (Q : FVec F S512x512 .bf16) (off : Fin 2 → ℕ) (inb) (a : ℕ) (h : off = ![0, 128 * a]) :
    VecWindow.window (s := S512x512) Q off ![512, 128] inb = qTile Q a := by
  subst h; exact (dif_pos inb).symm

/-- A head's state before step `j` of the sweep of query block `b`: each step on the tile's masked scores. -/
def sweep (b : ℕ) (q : FVec F S512x128 .bf16) (kt : ℕ → FVec F S256x128 .bf16) (vt : ℕ → FVec F S1x128x256 .bf16) : ℕ → St F
  | 0 => ⟨score q (kt 0), fun _ => Scalar.ofBits .bf16 0x0000#16, fun _ => Scalar.ofBits .f32 0xFF800000#32, fun _ => Scalar.ofBits .f32 0x3F800000#32, fun _ => Scalar.ofBits .f32 0x00000000#32⟩
  | j + 1 => advance (masked b j (sweep b q kt vt j).s) (score q (kt (j + 1))) (vt (j - 1)) (sweep b q kt vt j)

/-- The scores at hand are those of the tile whose turn it is. -/
theorem sweep_s (b : ℕ) (q : FVec F S512x128 .bf16) (kt : ℕ → FVec F S256x128 .bf16) (vt : ℕ → FVec F S1x128x256 .bf16) (j : ℕ) :
    (sweep b q kt vt j).s = score q (kt j) := by
  cases j <;> rfl

/-- A tile that lies before every query of the block is not changed by the mask. -/
theorem masked_before (b j : ℕ) (s : FVec F S1x1x256x512 .f32) (h : j < 2 * b) : masked b j s = s := by
  funext y
  have h2 : (y 2).val < 256 := (y 2).isLt
  exact if_pos (by omega)

/-- The heads' states of the sweep. -/
def states (b : ℕ) (q : ℕ → FVec F S512x128 .bf16) (K : FVec F S16384x128 .bf16) (V : FVec F S64x128x256 .bf16) (j a : ℕ) : St F :=
  sweep b (q a) (kTile K) (vTile V) j

/-- A trip on tiles before the block takes the states two steps on. -/
theorem states_trip (b k : ℕ) (hk : k < b) (q : ℕ → FVec F S512x128 .bf16) (K : FVec F S16384x128 .bf16) (V : FVec F S64x128x256 .bf16) :
    trip2 q (kTile K (2 * k + 1)) (kTile K (2 * k + 2)) (vTile V (2 * k - 1)) (vTile V (2 * k)) (states b q K V (2 * k)) = states b q K V (2 * (k + 1)) := by
  funext a
  show _ = advance (masked b (2 * k + 1) (advance (masked b (2 * k) _) _ _ _).s) _ (vTile V (2 * k + 1 - 1)) (advance (masked b (2 * k) _) _ _ _)
  rw [masked_before b (2 * k) _ (by omega), masked_before b (2 * k + 1) _ (by omega)]
  rfl

theorem trips_eq : ∀ i : grid0.Coords, (k0_t1_loop i).trips = (i 1).val := by decide +kernel

theorem off2_at (i : grid0.Coords) (k : Fin (k0_t1_loop i).trips) : k0_off2 i k = ![2 * k.val - 1, 0, 0] := by
  have hk : k.val < 31 := Nat.lt_of_lt_of_le k.isLt (k0_t1_abs i).2.1
  have z : Affine.IsInt 0#32 0 := Affine.ofNat _ (by omega)
  have o : Affine.IsInt 1#32 1 := Affine.ofNat _ (by omega)
  have t : Affine.IsInt 2#32 2 := Affine.ofNat _ (by omega)
  have hi : Affine.IsInt (Scf.iv 0#32 1#32 k.val) (k.val : Int) := Affine.iv z o k.val (by omega)
  have hv : Affine.IsInt _ (2 * (k.val : Int)) := Affine.muli t hi (by omega)
  have hu : Affine.IsInt _ (2 * (k.val : Int) - 1) := Affine.subi hv o (by omega)
  have hm : Affine.IsInt _ (max (2 * (k.val : Int) - 1) 0) := Affine.maxsi hu z (by omega)
  have hw := Affine.indexCast hm
  exact Affine.vec_cons hw (by omega) rfl

theorem off10_at0 : ∀ i : grid0.Coords, k0_off10 i 0#32 = ![2 * (i 1).val - 1, 0, 0] := by decide +kernel
theorem off10_at1 : ∀ i : grid0.Coords, k0_off10 i 1#32 = ![2 * (i 1).val, 0, 0] := by decide +kernel

/-- The tiles a trip reads. -/
theorem tripTiles (i : grid0.Coords) (k : Fin (k0_t1_loop i).trips) (K : FVec F S16384x128 .bf16) (V : FVec F S64x128x256 .bf16) :
    TripTiles i k K V (kTile K (2 * k.val + 1)) (kTile K (2 * k.val + 2)) (vTile V (2 * k.val - 1)) (vTile V (2 * k.val)) where
  k10 inb := window_kTile K _ inb _ ((k0_off1_eq i k).trans (by congr 1; omega))
  v10 inb := window_vTile V _ inb _ (off2_at i k)
  k20 inb := window_kTile K _ inb _ ((k0_off3_eq i k).trans (by congr 1; omega))
  v20 inb := window_vTile V _ inb _ (k0_off4_eq i k)

/-- A window of one value inside a window of one value. -/
theorem window_put_const {α : Type} {s : Shape} (x : s.Idx → α) (off size off' size' : Fin s.rank → ℕ) (inb' : ∀ a, off' a + size' a ≤ s.size a)
    (w : ((a : Fin s.rank) → Fin (size a)) → α) (c : α) (hw : ∀ y, w y = c) (h : ∀ a, off a ≤ off' a ∧ off' a + size' a ≤ off a + size a) :
    VecWindow.window (VecWindow.put x off size w) off' size' inb' = fun _ => c := by
  rw [VecWindow.window_put_of_inside x off size off' size' inb' w h]
  exact funext fun y => hw _

/-- A head's block of outputs: its weighted sums over their own row of weights' sums, query by feature. -/
def outOf (acc : FVec F S1x128x512 .f32) : FVec F S512x128 .bf16 := k0_pay381 acc

/-- What a query block's run leaves for head `a`. -/
def headOut (b : ℕ) (q : ℕ → FVec F S512x128 .bf16) (K : FVec F S16384x128 .bf16) (V : FVec F S64x128x256 .bf16) (a : ℕ) : FVec F S512x128 .bf16 :=
  outOf (gather (states b q K V (2 * b + 2) a) (vTile V (2 * b + 1)))

/-- The output block of a query block's run: four heads side by side. -/
def blockOut (b : ℕ) (Q : FVec F S512x512 .bf16) (K : FVec F S16384x128 .bf16) (V : FVec F S64x128x256 .bf16) : FVec F S512x512 .bf16 :=
  fun y => headOut b (qTile Q) K V ((y 1).val / 128) (ix2 (y 0) ⟨(y 1).val % 128, Nat.mod_lt _ (by decide)⟩)

/-- Four heads' blocks stored side by side are the output block. -/
theorem put_heads (x : FVec F S512x512 .bf16) (h : ℕ → FVec F S512x128 .bf16) :
    VecWindow.put (s := S512x512) (VecWindow.put (s := S512x512) (VecWindow.put (s := S512x512) (VecWindow.put (s := S512x512) x ![0, 0] ![512, 128] (h 0)) ![0, 128] ![512, 128] (h 1)) ![0, 256] ![512, 128] (h 2)) ![0, 384] ![512, 128] (h 3)
      = fun y => h ((y 1).val / 128) (ix2 (y 0) ⟨(y 1).val % 128, Nat.mod_lt _ (by decide)⟩) := by
  funext y
  obtain ⟨p, q, rfl⟩ : ∃ (p : Fin 512) (q : Fin 512), y = ix2 p q := ⟨y 0, y 1, eq_ix2 y⟩
  have hp := p.isLt
  have hq := q.isLt
  have hit : ∀ (x : FVec F S512x512 .bf16) (a : ℕ) (c : FVec F S512x128 .bf16), 128 * a ≤ q.val → q.val < 128 * a + 128 → c = h a →
      VecWindow.put (s := S512x512) x ![0, 128 * a] ![512, 128] c (ix2 p q) = h (q.val / 128) (ix2 p ⟨q.val % 128, Nat.mod_lt _ (by decide)⟩) := by
    intro x a c hl hu hc
    subst hc
    have ea : q.val / 128 = a := by omega
    rw [put_pos (s := S512x512) x _ _ (h a) _ (fun k => by
      match k with
      | ⟨0, _⟩ => exact ⟨Nat.zero_le _, by show p.val < 0 + 512; omega⟩
      | ⟨1, _⟩ => exact ⟨hl, hu⟩), ea]
    refine congrArg (h a) (funext fun k => ?_)
    match k with
    | ⟨0, _⟩ => exact Fin.ext (by show p.val - 0 = p.val; omega)
    | ⟨1, _⟩ => exact Fin.ext (by show q.val - 128 * a = q.val % 128; omega)
  have miss : ∀ (x : FVec F S512x512 .bf16) (r : ℕ) (c : FVec F S512x128 .bf16), q.val < r → VecWindow.put (s := S512x512) x ![0, r] ![512, 128] c (ix2 p q) = x (ix2 p q) :=
    fun x r c hl => put_neg (s := S512x512) x _ _ c _ 1 (.inl hl)
  show _ = h (q.val / 128) (ix2 p ⟨q.val % 128, _⟩)
  rcases Nat.lt_or_ge q.val 384 with l3 | g3
  · rw [miss _ 384 _ l3]
    rcases Nat.lt_or_ge q.val 256 with l2 | g2
    · rw [miss _ 256 _ l2]
      rcases Nat.lt_or_ge q.val 128 with l1 | g1
      · rw [miss _ 128 _ l1]
        exact hit _ 0 _ (by omega) (by omega) rfl
      · exact hit _ 1 _ (by omega) (by omega) rfl
    · exact hit _ 2 _ (by omega) (by omega) rfl
  · exact hit _ 3 _ (by omega) (by omega) rfl

end Cert.Fox

end
-- ==== Proof.Fox.Body.lean ====
module

public import proofs.«01_k».proof.Proof.Fox.TripHolds
public import proofs.«01_k».proof.Proof.Fox.Sweep
public import Idealize.ShloMosaic.Lib.LoopRemainder

/-! The loop by its trips, and the body's run around it: what the output block is written with, as found. -/

@[expose] public section

set_option maxRecDepth 8192
set_option maxHeartbeats 4000000

noncomputable section

namespace Cert.Fox

open Cert.Flash

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources the run is stated over. -/
local notation "𝕄" => MT nD τ sig Unit (Elt F) ℕ (UR sig nD τ) ℕ

/-- Four values by number. -/
def pick {α : Type} (x0 x1 x2 x3 : α) : ℕ → α
  | 0 => x0
  | 1 => x1
  | 2 => x2
  | _ => x3

section Body

variable (𝒱 : Variants) (c : Dev nD) (bd : Option 𝒱.V) (i : grid0.Coords)
  (arg2 : Memref sig .tc .vmem S512x512 .bf16) (harg2 : arg2.IsWhole)
  (arg3 : Memref sig .tc .vmem S16384x128 .bf16) (harg3 : arg3.IsWhole)
  (arg4 : Memref sig .tc .vmem S64x128x256 .bf16) (harg4 : arg4.IsWhole)
  (arg5 : Memref sig .tc .vmem S512x512 .bf16) (harg5 : arg5.IsWhole)
  (arg6 : Memref sig .tc .vmem S2x4x256x512 .f32) (harg6 : arg6.IsWhole)
  (arg7 : Memref sig .tc .vmem S2x4x256x512 .bf16) (harg7 : arg7.IsWhole)
  (arg8 : Memref sig .tc .vmem S4x1x512 .f32) (harg8 : arg8.IsWhole)
  (arg9 : Memref sig .tc .vmem S2x4x1x512 .f32) (harg9 : arg9.IsWhole)
  (arg10 : Memref sig .tc .vmem S4x128x512 .f32) (harg10 : arg10.IsWhole)
  (X2 : BufTy.Contents (Elt F) arg2.view.ty) (X3 : BufTy.Contents (Elt F) arg3.view.ty) (X4 : BufTy.Contents (Elt F) arg4.view.ty)
  (f5 : BufTy.Contents (Elt F) arg5.view.ty)
  (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty)

/-- The body on its arguments. -/
abbrev bodyProg : Prog (TpuEff nD τ sig (Elt F) Λ₀ .tc) PUnit := cc0_flash_prompt (F := F) i arg2 harg2 arg3 harg3 arg4 harg4 arg5 harg5 arg6 harg6 arg7 harg7 arg8 harg8 arg9 harg9 arg10 harg10

/-- What a block's run leaves: the operands as they were, the output block found, the scratch at some contents. -/
abbrev bodyPost : sProp 𝕄 :=
  iprop(held c arg2 X2 ∗ held c arg3 X3 ∗ held c arg4 X4
    ∗ (∃ f, held c arg5 f ∗ ⌜arg5.view.read (Elt F) f = blockOut (i 1).val (arg2.view.read (Elt F) X2) (arg3.view.read (Elt F) X3) (arg4.view.read (Elt F) X4)⌝)
    ∗ (∃ f, held c arg6 f) ∗ (∃ f, held c arg7 f) ∗ (∃ f, held c arg8 f) ∗ (∃ f, held c arg9 f) ∗ (∃ f, held c arg10 f))

/-- What the loop keeps: the scratch holds the sweep's states. -/
abbrev loopInv (k : ℕ) : sProp 𝕄 :=
  iprop(held c arg3 X3 ∗ held c arg4 X4 ∗ ∃ g6 g7 g8 g9 g10, held c arg6 g6 ∗ held c arg7 g7 ∗ held c arg8 g8 ∗ held c arg9 g9 ∗ held c arg10 g10
    ∗ ⌜Holds 0 1 (arg6.view.read (Elt F) g6) (arg7.view.read (Elt F) g7) (arg8.view.read (Elt F) g8) (arg9.view.read (Elt F) g9) (arg10.view.read (Elt F) g10)
      (states (i 1).val (qTile (arg2.view.read (Elt F) X2)) (arg3.view.read (Elt F) X3) (arg4.view.read (Elt F) X4) (2 * k))⌝)

include X2 X3 X4 in
/-- A trip keeps what the loop keeps. -/
theorem tripStep (arg1 c0_i32_42 c0_i32_43 c1_i32 v55 : BitVec 32) (k : Fin (k0_t1_loop i).trips) (acc : BitVec 32) :
    loopInv c i arg2 arg3 arg4 arg6 arg7 arg8 arg9 arg10 X2 X3 X4 k.val
      ⊢ wp Idealize.ShloMosaic.frame (wpE (defs₀ (F := F)) 𝒱 (c : Thread nD τ) bd) Set.univ (tripProg i arg2 harg2 arg3 harg3 arg4 harg4 arg5 harg5 arg6 harg6 arg7 harg7 arg8 harg8 arg9 harg9 arg10 harg10 arg1 (qTile (arg2.view.read (Elt F) X2)) c0_i32_42 c0_i32_43 c1_i32 v55 k acc)
          (fun _ => loopInv c i arg2 arg3 arg4 arg6 arg7 arg8 arg9 arg10 X2 X3 X4 (k.val + 1)) := by
  iintro ⟨H3, H4, %g6, %g7, %g8, %g9, %g10, H6, H7, H8, H9, H10, %hH⟩
  iapply wp_wand_r
  isplitl [H3 H4 H6 H7 H8 H9 H10]
  · iapply ((tripRun 𝒱 c bd i arg2 harg2 arg3 harg3 arg4 harg4 arg5 harg5 arg6 harg6 arg7 harg7 arg8 harg8 arg9 harg9 arg10 harg10 arg1 (qTile (arg2.view.read (Elt F) X2)) c0_i32_42 c0_i32_43 c1_i32 v55 X3 X4 g6 g7 g8 g9 g10 k acc).2.2.2.2.2 Set.univ)
    iframe H3 H4 H6 H7 H8 H9 H10
  · iintro %r ⟨H3, H4, H6, H7, H8, H9, H10⟩
    iframe H3 H4
    iexists _, _, _, _, _
    iframe H6 H7 H8 H9 H10
    ipureintro
    have h := trip_holds 𝒱 c bd i arg2 harg2 arg3 harg3 arg4 harg4 arg5 harg5 arg6 harg6 arg7 harg7 arg8 harg8 arg9 harg9 arg10 harg10 arg1 (qTile (arg2.view.read (Elt F) X2)) c0_i32_42 c0_i32_43 c1_i32 v55 X3 X4 g6 g7 g8 g9 g10 k acc _ _ _ _ _
      (tripTiles i k (arg3.view.read (Elt F) X3) (arg4.view.read (Elt F) X4)) hH
    rwa [states_trip (i 1).val k.val (k.isLt.trans_eq (trips_eq i))] at h

/-- The states left after the two masked tiles, as the words have them. -/
def lastW (i : grid0.Coords) (q : FVec F S512x128 .bf16) (kt : FVec F S256x128 .bf16) (v0 v1 : FVec F S1x128x256 .bf16) (σ : St F) (x : FVec F S1x1x256x512 .f32) : St F :=
  advanceW (BitVec.ofNat 32 (i 1).val) (Scalar.addi (Scalar.muli 2#32 (BitVec.ofNat 32 (i 1).val)) 1#32) x v1
    (advanceW (BitVec.ofNat 32 (i 1).val) (Scalar.addi (Scalar.muli 2#32 (BitVec.ofNat 32 (i 1).val)) 0#32) (score q kt) v0 σ)

theorem pay219_eq (x : FVec F S512x128 .bf16) : k0_pay219 x = x := shapeCast_self x _
theorem pay220_eq (x : FVec F S512x128 .bf16) : k0_pay220 x = x := shapeCast_self x _
theorem pay221_eq (x : FVec F S512x128 .bf16) : k0_pay221 x = x := shapeCast_self x _
theorem pay222_eq (x : FVec F S512x128 .bf16) : k0_pay222 x = x := shapeCast_self x _

/-- The words of the two tiles' numbers. -/
theorem word_tile (i : grid0.Coords) (r : ℕ) : Scalar.addi (Scalar.muli 2#32 (BitVec.ofNat 32 (i 1).val)) (BitVec.ofNat 32 r) = BitVec.ofNat 32 (2 * (i 1).val + r) := by
  show BitVec.ofNat 32 2 * BitVec.ofNat 32 (i 1).val + BitVec.ofNat 32 r = _
  rw [← BitVec.ofNat_mul, ← BitVec.ofNat_add]

/-- The heads' outputs, as the words have them. -/
theorem headOut_word (i : grid0.Coords) (q : ℕ → FVec F S512x128 .bf16) (K : FVec F S16384x128 .bf16) (V : FVec F S64x128x256 .bf16) (a : ℕ) :
    headOut (i 1).val q K V a = outOf (gather (lastW i (q a) (kTile K (2 * (i 1).val + 1)) (vTile V (2 * (i 1).val - 1)) (vTile V (2 * (i 1).val)) (states (i 1).val q K V (2 * (i 1).val) a)
      (score (q a) (kTile K (2 * (i 1).val + 2)))) (vTile V (2 * (i 1).val + 1))) := by
  have hi : (i 1).val < 32 := (i 1).isLt
  unfold lastW
  rw [show (1#32 : BitVec 32) = BitVec.ofNat 32 1 from rfl, show (0#32 : BitVec 32) = BitVec.ofNat 32 0 from rfl, word_tile, word_tile, advanceW_eq _ _ hi (by omega), advanceW_eq _ _ hi (by omega)]
  rfl

section Words

variable (Q : FVec F S512x512 .bf16) (K : FVec F S16384x128 .bf16) (V : FVec F S64x128x256 .bf16)

theorem q0 (inb) : VecWindow.window (s := S512x512) Q ![0, 0] ![512, 128] inb = qTile Q 0 := window_qTile Q _ inb 0 rfl
theorem k00 (inb) : VecWindow.window (s := S16384x128) K ![0, 0] ![256, 128] inb = kTile K 0 := window_kTile K _ inb 0 rfl
theorem kl0 (i : grid0.Coords) (inb) : VecWindow.window (s := S16384x128) K (k0_off9 i) ![256, 128] inb = kTile K (2 * (i 1).val + 1) :=
  window_kTile K _ inb _ ((k0_off9_eq i).trans (by congr 1; omega))
theorem va0 (i : grid0.Coords) (inb) : VecWindow.window (s := S64x128x256) V (k0_off10 i 0#32) ![1, 128, 256] inb = vTile V (2 * (i 1).val - 1) := window_vTile V _ inb _ (off10_at0 i)
theorem vb0 (i : grid0.Coords) (inb) : VecWindow.window (s := S64x128x256) V (k0_off10 i 1#32) ![1, 128, 256] inb = vTile V (2 * (i 1).val) := window_vTile V _ inb _ (off10_at1 i)
theorem vc0 (i : grid0.Coords) (inb) : VecWindow.window (s := S64x128x256) V (k0_off11 i) ![1, 128, 256] inb = vTile V (2 * (i 1).val + 1) := window_vTile V _ inb _ (k0_off11_eq i)
theorem q1 (inb) : VecWindow.window (s := S512x512) Q ![0, 128] ![512, 128] inb = qTile Q 1 := window_qTile Q _ inb 1 rfl
theorem q2 (inb) : VecWindow.window (s := S512x512) Q ![0, 256] ![512, 128] inb = qTile Q 2 := window_qTile Q _ inb 2 rfl
theorem q3 (inb) : VecWindow.window (s := S512x512) Q ![0, 384] ![512, 128] inb = qTile Q 3 := window_qTile Q _ inb 3 rfl

end Words

set_option backward.proofsInPublic true in
/-- The body's run. -/
theorem bodyRun :
      iprop(held c arg2 X2 ∗ held c arg3 X3 ∗ held c arg4 X4 ∗ held c arg5 f5 ∗ held c arg6 f6 ∗ held c arg7 f7 ∗ held c arg8 f8 ∗ held c arg9 f9 ∗ held c arg10 f10)
        ⊢ wp Idealize.ShloMosaic.frame (wpE (defs₀ (F := F)) 𝒱 (c : Thread nD τ) bd) Set.univ (bodyProg i arg2 harg2 arg3 harg3 arg4 harg4 arg5 harg5 arg6 harg6 arg7 harg7 arg8 harg8 arg9 harg9 arg10 harg10)
          (fun _ => bodyPost c i arg2 arg3 arg4 arg5 arg6 arg7 arg8 arg9 arg10 X2 X3 X4) := by
  dsimp only [bodyProg]
  rw [cc0_flash_prompt_eq_skeleton]
  unfold cc0_flash_prompt_skel
  iintro ⟨H2, H3, H4, H5, H6, H7, H8, H9, H10⟩
  sl_exec
  sl_for (fun k _ => loopInv c i arg2 arg3 arg4 arg6 arg7 arg8 arg9 arg10 X2 X3 X4 k) $$ [H3 H4 H6 H7 H8 H9 H10]
  · intro k acc
    sl_unfold_run_names
    simp only [readAt_window, pay219_eq, pay220_eq, pay221_eq, pay222_eq, q0, q1, q2, q3]
    exact tripStep 𝒱 c bd i arg2 harg2 arg3 harg3 arg4 harg4 arg5 harg5 arg6 harg6 arg7 harg7 arg8 harg8 arg9 harg9 arg10 harg10 X2 X3 X4 _ _ _ _ _ k acc
  · unfold loopInv
    iframe H3 H4
    iexists _, _, _, _, _
    iframe H6 H7 H8 H9 H10
    ipureintro
    refine ⟨fun a inb => ?_, fun a inb => ?_, fun a inb => ?_, fun a inb => ?_, fun a inb => ?_⟩
    · have ha : a < 4 := by have : a + 1 ≤ 4 := inb 1; omega
      obtain rfl | rfl | rfl | rfl : a = 0 ∨ a = 1 ∨ a = 2 ∨ a = 3 := by omega
      all_goals
        sl_unfold_run_names
        simp (decide := true) only [readAt_window, read_writes_put, window_put_apart, VecWindow.window_put_same, pay219_eq, pay220_eq, pay221_eq, pay222_eq, q0, q1, q2, q3, k00]
        rfl
    · have ha : a < 4 := by have : a + 1 ≤ 4 := inb 1; omega
      rw [read_writes_put]
      exact window_put_const (s := S2x4x256x512) _ _ _ _ _ inb _ _ (fun _ => rfl) fun k => by fin_cases k <;> simp <;> omega
    · have ha : a < 4 := by have : a + 1 ≤ 4 := inb 0; omega
      sl_unfold_run_names
      rw [read_writes_put]
      exact window_put_const (s := S4x1x512) _ _ _ _ _ inb _ _ (fun _ => rfl) fun k => by fin_cases k <;> simp <;> omega
    · have ha : a < 4 := by have : a + 1 ≤ 4 := inb 1; omega
      rw [read_writes_put]
      exact window_put_const (s := S2x4x1x512) _ _ _ _ _ inb _ _ (fun _ => rfl) fun k => by fin_cases k <;> simp <;> omega
    · have ha : a < 4 := by have : a + 1 ≤ 4 := inb 0; omega
      sl_unfold_run_names
      rw [read_writes_put]
      exact window_put_const (s := S4x128x512) _ _ _ _ _ inb _ _ (fun _ => rfl) fun k => by fin_cases k <;> simp <;> omega
  iintro %acc HI
  icases HI with ⟨H3, H4, %g6, %g7, %g8, %g9, %g10, H6, H7, H8, H9, H10, %hH⟩
  sl_exec
  sl_step
  unfold bodyPost
  iframe H2 H3 H4
  isplitl [H5]
  · iexists _
    iframe H5
    ipureintro
    have ht : Scf.trips (k0_t1_loop i).lb (k0_t1_loop i).ub (k0_t1_loop i).st = (i 1).val := trips_eq i
    rw [ht] at hH
    refine Eq.trans ?_ (put_heads (arg5.view.read (Elt F) f5) (headOut (i 1).val (qTile (arg2.view.read (Elt F) X2)) (arg3.view.read (Elt F) X3) (arg4.view.read (Elt F) X4)))
    rw [headOut_word, headOut_word, headOut_word, headOut_word]
    sl_unfold_run_names
    simp (decide := true) only [readCov_window, readAt_window, read_writes_put, window_put_apart, VecWindow.window_put_same, window_stack, part_put, hH.part, hH.s, hH.p, hH.m, hH.al, hH.acc,
      pay219_eq, pay220_eq, pay221_eq, pay222_eq, q0, q1, q2, q3, kl0, va0, vb0, vc0]
    rfl
  · isplitl [H6]
    · iexists _; iexact H6
    isplitl [H7]
    · iexists _; iexact H7
    isplitl [H8]
    · iexists _; iexact H8
    isplitl [H9]
    · iexists _; iexact H9
    iexists _; iexact H10

end Body

end Cert.Fox

end
-- ==== Proof.Fox.Run.lean ====
module

public import proofs.«01_k».proof.Proof.Fox.Body
public import proofs.«01_k».proof.Proof.Gen.Kernel2Ideal.Frame
public import Idealize.ShloMosaic.PureOps.BitExact
public import Idealize.ShloMosaic.PureOps.Ideal

/-! The kernel's run: at every grid point the body leaves the block of `blockOut`, so the pipeline ends with the output array
    made of those blocks, the arguments as they were and every semaphore at zero. -/

@[expose] public section

set_option maxRecDepth 8192

noncomputable section

namespace Cert.Fox

open Cert.Flash

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The resources the run is stated over. -/
local notation "𝕄" => MT nD τ sig Unit (Elt F) ℕ (UR sig nD τ) ℕ

/-- Nothing here needs a measure on loops. -/
abbrev 𝒱₀ : Variants := Variants.none

variable (m : (ℓ : Loc nD τ sig) → Buf (Elt F) ℓ) (ρ : Dev nD → PrngReg)

/-- The block of the output at a grid point, from the blocks of the operands there. -/
def outsAt (c : Dev nD) (t : Fin cfg0.N) : FVec F S512x512 .bf16 :=
  blockOut ((grid0.coords t) 1).val (iblk m c 0 t) (iblk m c 1 t) (iblk m c 2 t)

/-- The arrays as the region finds them; after the body each operand's buffer at its block and the result's at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The five scratch buffers, each held whole at something. -/
theorem scratch_eq (c : Dev nD) : (Pipeline.scopedRest (Ix := Unit) (Name := ℕ) (U := UR sig nD τ) (Lvl := ℕ) (Val := Elt F) spec0 c : sProp 𝕄)
    = iprop((∃ f, held (F := F) c (Memref.whole cc0_scratch0) f) ∗ (∃ f, held (F := F) c (Memref.whole cc0_scratch1) f) ∗ (∃ f, held (F := F) c (Memref.whole cc0_scratch2) f)
        ∗ (∃ f, held (F := F) c (Memref.whole cc0_scratch3) f) ∗ (∃ f, held (F := F) c (Memref.whole cc0_scratch4) f)) := by
  rw [scopedRest0_eq]
  dsimp only [held]
  simp only [View.set_whole, Memref.view_whole]

/-- The body at a grid point does what the proof data says. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2]
  rw [show (dats m 0 c).Φ t.succ = (dats m 0 c).Φ t.castSucc from rfl, show (dats m 0 c).owesAt () t.succ = (dats m 0 c).owesAt () t.castSucc from rfl,
    after0_0, after0_1, after0_2, after0_3]
  rw [show (dats m 0 c).Φ t.castSucc = iprop(Pipeline.scopedRest spec0 c ∗ ∃ r, prngReg c r) from rfl, scratch_eq]
  unfold owns
  iintro ⟨⟨⟨⟨%f6, H6⟩, ⟨%f7, H7⟩, ⟨%f8, H8⟩, ⟨%f9, H9⟩, ⟨%f10, H10⟩⟩, Hg⟩, Ho, ⟨%d0, %X2, %h2, H2⟩, ⟨%d1, %X3, %h3, H3⟩, ⟨%d2, %X4, %h4, H4⟩, ⟨%d3, %f5, -, H5⟩⟩
  iapply wp_wand_r
  isplitl [H2 H3 H4 H5 H6 H7 H8 H9 H10]
  · iapply (bodyRun 𝒱₀ c none (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3))
      _ (Memref.isWhole_whole cc0_scratch0) _ (Memref.isWhole_whole cc0_scratch1) _ (Memref.isWhole_whole cc0_scratch2) _ (Memref.isWhole_whole cc0_scratch3) _ (Memref.isWhole_whole cc0_scratch4) X2 X3 X4 f5 f6 f7 f8 f9 f10)
    iframe H2 H3 H4 H5 H6 H7 H8 H9 H10
  · iintro %r ⟨H2, H3, H4, ⟨%g5, H5, %h5⟩, H6, H7, H8, H9, H10⟩
    iframe H6 H7 H8 H9 H10 Hg Ho
    isplitl [H2]
    · iexists _; iframe H2; ipureintro; exact h2
    isplitl [H3]
    · iexists _; iframe H3; ipureintro; exact h3
    isplitl [H4]
    · iexists _; iframe H4; ipureintro; exact h4
    iexists _; iframe H5; ipureintro
    refine h5.trans ?_
    unfold outsAt
    rw [← h2, ← h3, ← h4]
    rfl

set_option backward.isDefEq.respectTransparency.types false in
/-- Every run of the kernel's program ends, with each of the pipeline's arrays at what the proof data says, everything else at
    what the host's lines make of it, and every semaphore at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hmain := hmain m 𝒱₀) (hA := fun _ _ => rfl) (hΦ := fun _ _ => rfl)
    (Q' := _) (hQ' := fun _ h => h)

/-- The frame, at any arithmetic. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) fun _ _ => rfl) (run_main m ρ)

end Cert.Fox

end
-- ==== Proof.Fox.Rows.lean ====
module

public import proofs.«01_k».proof.Proof.Rows

/-! Forgetting attention: the scores and the values of one head as real arrays give them. -/

@[expose] public section

noncomputable section

namespace Cert.Fox

open Cert.Flash

open Idealize.ShloMosaic Idealize.ShloMosaic.ValueIdx

/-- Arrays of 16384 positions, 2 groups of heads and 64 features. -/
abbrev Groups : Shape := ⟨3, ![16384, 2, 64]⟩

/-- A number per position and head. -/
abbrev Gates : Shape := ⟨2, ![16384, 8]⟩

/-- The group that a head belongs to. -/
def groupOf (h : Fin 8) : Fin 2 := ⟨h.val / 4, Nat.div_lt_of_lt_mul h.isLt⟩

/-- The score of key `k` for the query of head `h` at position `n`: what the gates let through between the two is added. -/
def foxScore (q : (Heads 64).Idx → ℝ) (kk : Groups.Idx → ℝ) (cum : Gates.Idx → ℝ) (h : Fin 8) (n k : Fin 16384) : ℝ :=
  (∑ e : Fin 64, q (ix3 n h e) * kk (ix3 k (groupOf h) e)) * (1 / 8) + cum (ix2 n h) - cum (ix2 k h)

/-- The same over all numbers: nothing beyond the array. -/
def foxScores (q : (Heads 64).Idx → ℝ) (kk : Groups.Idx → ℝ) (cum : Gates.Idx → ℝ) (h : Fin 8) (n : Fin 16384) (k : ℕ) : ℝ :=
  if hk : k < 16384 then foxScore q kk cum h n ⟨k, hk⟩ else 0

theorem foxScores_of (q : (Heads 64).Idx → ℝ) (kk : Groups.Idx → ℝ) (cum : Gates.Idx → ℝ) (h : Fin 8) (n k : Fin 16384) :
    foxScores q kk cum h n k.val = foxScore q kk cum h n k := dif_pos k.isLt

/-- A group's values, once for each of its heads. -/
def perHead (v : Groups.Idx → EReal) : (Heads 64).Idx → EReal := fun i => v (ix3 (i 0) (groupOf (i 1)) (i 2))

end Cert.Fox
-- ==== Proof.Fox.Pack.lean ====
module

public import proofs.«01_k».proof.Proof.Fox.Rows
public import proofs.«01_k».proof.Proof.Gen.Kernel2Ideal.Frame
public import Idealize.ShloMosaic.Lib.ValueIdx
public import Idealize.ShloMosaic.Lib.ValueLayout
public import Idealize.ShloMosaic.Lib.StableHlo.Run
public import Idealize.ShloMosaic.PureOps.Ideal.Laws

/-! Forgetting attention: the arrays that the host's lines lay out for the kernel. -/

@[expose] public section

set_option maxRecDepth 8192

noncomputable section

namespace Cert.Fox

open Idealize.ShloMosaic Idealize.ShloMosaic.ValueIdx Idealize.ShloMosaic.TcCoe Cert.Kernel2Ideal Cert.Kernel2Ideal.Gen

/-- The logarithm of 2. -/
def logTwo : FVec Ideal S_ .f32 := Host.log (constant S_ .f32 0x40000000#32)

/-- The gates' sums over the logarithm of 2. -/
def gates (a3 : FVec Ideal S16384x8 .f32) : FVec Ideal S16384x8 .f32 := Host.divf a3 (broadcastInDim S16384x8 ![] bcast_S_S16384x8 logTwo)

/-- The nearest short number. -/
def near (x : FVec Ideal S16384x8 .f32) : FVec Ideal S16384x8 .f32 := extf .f32 (truncf .bf16 x bitsLt_bf16_f32) bitsLt_bf16_f32

/-- What a first part leaves. -/
def rest1 (a3 : FVec Ideal S16384x8 .f32) : FVec Ideal S16384x8 .f32 := subf (gates a3) (near (gates a3))

/-- What two parts leave. -/
def rest2 (a3 : FVec Ideal S16384x8 .f32) : FVec Ideal S16384x8 .f32 := subf (rest1 a3) (near (rest1 a3))

/-- A column more. -/
def column (x : FVec Ideal S16384x8 .f32) : FVec Ideal S16384x8x1 .f32 := broadcastInDim S16384x8x1 ![0, 1] bcast_S16384x8_S16384x8x1_0_1 x

/-- The gates' sums in three parts. -/
def parts (a3 : FVec Ideal S16384x8 .f32) : FVec Ideal S16384x8x3 .f32 :=
  concatenate S16384x8x3 2 [⟨S16384x8x1, column (near (gates a3))⟩, ⟨S16384x8x1, column (near (rest1 a3))⟩, ⟨S16384x8x1, column (near (rest2 a3))⟩] concatenates_S16384x8x1_S16384x8x1_S16384x8x1_S16384x8x3_d2

/-- Ones where a head finds its own parts among those of its group. -/
def own : FVec Ideal S16384x8x12 .f32 :=
  broadcastInDim S16384x8x12 ![0, 1, 2] bcast_S1x8x12_S16384x8x12_0_1_2 (broadcastInDim S1x8x12 ![1, 2] bcast_S8x12_S1x8x12_1_2 (shapeCast S8x12 (broadcastInDim S2x4x4x3 ![0, 1, 2, 3] bcast_S1x4x4x1_S2x4x4x3_0_1_2_3
    (broadcastInDim S1x4x4x1 ![1, 2] bcast_S4x4_S1x4x4x1_1_2 (uitofp .f32 (cmpi .eq (iotaInDim S4x4 32 0) (iotaInDim S4x4 32 1))))) shapeCasts_S2x4x4x3_S8x12))

/-- Zeros. -/
def pad : FVec Ideal S16384x8x49 .f32 := broadcastInDim S16384x8x49 ![] bcast_S_S16384x8x49 (constant S_ .f32 0x00000000#32)

/-- Ones. -/
def units : FVec Ideal S16384x2x3 .f32 := broadcastInDim S16384x2x3 ![] bcast_S_S16384x2x3 (constant S_ .f32 0x3F800000#32)

/-- The queries, times their factor. -/
def scaledQ (a0 : FVec Ideal S16384x8x64 .f32) : FVec Ideal S16384x8x64 .f32 :=
  mulf a0 (broadcastInDim S16384x8x64 ![] bcast_S_S16384x8x64 (Host.divf (constant S_ .f32 0x3E000000#32) logTwo))

/-- The queries' features. -/
def joinQ (a0 : FVec Ideal S16384x8x64 .f32) (a3 : FVec Ideal S16384x8 .f32) : FVec Ideal S16384x8x128 .f32 :=
  concatenate S16384x8x128 2 [⟨S16384x8x64, scaledQ a0⟩, ⟨S16384x8x3, parts a3⟩, ⟨S16384x8x12, own⟩, ⟨S16384x8x49, pad⟩] concatenates_S16384x8x64_S16384x8x3_S16384x8x12_S16384x8x49_S16384x8x128_d2

/-- The queries as laid out. -/
def packQ (a0 : FVec Ideal S16384x8x64 .f32) (a3 : FVec Ideal S16384x8 .f32) : FVec Ideal S16384x1024 .bf16 :=
  truncf .bf16 (shapeCast S16384x1024 (joinQ a0 a3) shapeCasts_S16384x8x128_S16384x1024) bitsLt_bf16_f32

/-- The parts of a group's heads, negated. -/
def against (a3 : FVec Ideal S16384x8 .f32) : FVec Ideal S16384x2x12 .f32 := Host.negf (shapeCast S16384x2x12 (parts a3) shapeCasts_S16384x8x3_S16384x2x12)

/-- Zeros. -/
def padK : FVec Ideal S16384x2x49 .f32 := extractStridedSlice S16384x2x49 ![0, 0, 0] pad slices_S16384x8x49_S16384x2x49_0_0_0

/-- The keys' features. -/
def joinK (a1 : FVec Ideal S16384x2x64 .f32) (a3 : FVec Ideal S16384x8 .f32) : FVec Ideal S16384x2x128 .f32 :=
  concatenate S16384x2x128 2 [⟨S16384x2x64, a1⟩, ⟨S16384x2x3, units⟩, ⟨S16384x2x12, against a3⟩, ⟨S16384x2x49, padK⟩] concatenates_S16384x2x64_S16384x2x3_S16384x2x12_S16384x2x49_S16384x2x128_d2

/-- The keys as laid out. -/
def packK (a1 : FVec Ideal S16384x2x64 .f32) (a3 : FVec Ideal S16384x8 .f32) : FVec Ideal S16384x256 .bf16 :=
  truncf .bf16 (shapeCast S16384x256 (joinK a1 a3) shapeCasts_S16384x2x128_S16384x256) bitsLt_bf16_f32

/-- The values with their ones. -/
def joinV (a2 : FVec Ideal S16384x2x64 .f32) : FVec Ideal S16384x2x128 .f32 :=
  concatenate S16384x2x128 2 [⟨S16384x2x64, a2⟩, ⟨S16384x2x1, extractStridedSlice S16384x2x1 ![0, 0, 0] units slices_S16384x2x3_S16384x2x1_0_0_0⟩,
    ⟨S16384x2x63, broadcastInDim S16384x2x63 ![] bcast_S_S16384x2x63 (constant S_ .f32 0x00000000#32)⟩] concatenates_S16384x2x64_S16384x2x1_S16384x2x63_S16384x2x128_d2

/-- The values as laid out. -/
def packV (a2 : FVec Ideal S16384x2x64 .f32) : FVec Ideal S64x256x256 .bf16 :=
  truncf .bf16 (transpose S64x256x256 [0, 2, 1] (shapeCast S64x256x256 (joinV a2) shapeCasts_S16384x2x128_S64x256x256) transposes_S64x256x256_S64x256x256_0_2_1) bitsLt_bf16_f32

variable (m : (ℓ : Loc nD τ sig) → Buf (Elt Ideal) ℓ) (c : Dev nD)

theorem V_queries : V m c main_v31 = packQ (m ((c.tc : Thread nD τ).loc main_arg0)) (m ((c.tc : Thread nD τ).loc main_arg3)) := by
  show StableHlo.after (List.flatten [hostOps0]) (fun b => m (c, b)) (Proc.devRef .tc main_v31) = _
  simp only [hostOps0, List.flatten_cons, List.flatten_nil, List.append_nil]
  after_results_simp
  rfl

theorem V_keys : V m c main_v38 = packK (m ((c.tc : Thread nD τ).loc main_arg1)) (m ((c.tc : Thread nD τ).loc main_arg3)) := by
  show StableHlo.after (List.flatten [hostOps0]) (fun b => m (c, b)) (Proc.devRef .tc main_v38) = _
  simp only [hostOps0, List.flatten_cons, List.flatten_nil, List.append_nil]
  after_results_simp
  rfl

theorem V_values : V m c main_v44 = packV (m ((c.tc : Thread nD τ).loc main_arg2)) := by
  show StableHlo.after (List.flatten [hostOps0]) (fun b => m (c, b)) (Proc.devRef .tc main_v44) = _
  simp only [hostOps0, List.flatten_cons, List.flatten_nil, List.append_nil]
  after_results_simp
  rfl

end Cert.Fox
-- ==== Proof.Fox.PackAt.lean ====
module

public import proofs.«01_k».proof.Proof.Fox.Pack
public import proofs.«01_k».proof.Proof.PackAt
public import proofs.«01_k».proof.Proof.Softmax

/-! Forgetting attention: the laid-out queries, keys and values entry by entry, and the score a query and a key make. Over the
    extended reals the first part of a real number is the number, and nothing is left for the other two. -/

@[expose] public section

set_option maxRecDepth 8192

noncomputable section

namespace Cert.Fox

open Idealize.ShloMosaic Idealize.ShloMosaic.ValueIdx Cert.Kernel2Ideal Cert.Kernel2Ideal.Gen
open Cert.Flash (Heads rowValue zero_bits one_bits two_bits log_two_ne coe_sum)

theorem eighth_bits : (Ideal.ofBits .f32 0x3E000000#32 : EReal) = ((1 / 8 : ℝ) : EReal) := by
  simp [Ideal.ofBits, Ideal.ieee]
  rw [← EReal.coe_mul]
  exact congrArg _ (by norm_num)

theorem logTwo_at : logTwo ix0 = ((Real.log 2 : ℝ) : EReal) := by
  show Ideal.log (Ideal.ofBits .f32 0x40000000#32) = _
  rw [two_bits, Ideal.log_coe, if_neg (by norm_num)]

variable (cum : Gates.Idx → ℝ)

theorem gates_at (n : Fin 16384) (h : Fin 8) : gates (fun i => (cum i : EReal)) (ix2 n h) = ((cum (ix2 n h) * (1 / Real.log 2) : ℝ) : EReal) := by
  unfold gates
  refine (show _ = Ideal.div (cum (ix2 n h) : EReal) (broadcastInDim S16384x8 ![] bcast_S_S16384x8 logTwo (ix2 n h)) from rfl).trans ?_
  rw [show broadcastInDim S16384x8 ![] bcast_S_S16384x8 logTwo (ix2 n h) = ((Real.log 2 : ℝ) : EReal) from (broadcastInDim_apply _ _ _ _ ix0 fun a => a.elim0).trans logTwo_at]
  rw [Ideal.div_coe log_two_ne, ← EReal.coe_mul]

theorem near_at (x : FVec Ideal S16384x8 .f32) (i : S16384x8.Idx) : near x i = x i := rfl

theorem rest1_at (n : Fin 16384) (h : Fin 8) : rest1 (fun i => (cum i : EReal)) (ix2 n h) = ((0 : ℝ) : EReal) := by
  refine (show _ = (gates (fun i => (cum i : EReal)) (ix2 n h) : EReal) - gates (fun i => (cum i : EReal)) (ix2 n h) from rfl).trans ?_
  rw [gates_at, ← EReal.coe_sub, sub_self]

theorem rest2_at (n : Fin 16384) (h : Fin 8) : rest2 (fun i => (cum i : EReal)) (ix2 n h) = ((0 : ℝ) : EReal) := by
  refine (show _ = (rest1 (fun i => (cum i : EReal)) (ix2 n h) : EReal) - rest1 (fun i => (cum i : EReal)) (ix2 n h) from rfl).trans ?_
  rw [rest1_at, ← EReal.coe_sub, sub_self]

theorem column_at (x : FVec Ideal S16384x8 .f32) (n : Fin 16384) (h : Fin 8) : column x (ix3 n h (0 : Fin 1)) = x (ix2 n h) :=
  broadcastInDim_apply _ _ _ _ (ix2 n h) fun a => by fin_cases a <;> rfl

/-- A part of the gates' sum at a position: all of it, or nothing. -/
def part (n : Fin 16384) (h : Fin 8) (p : ℕ) : ℝ := if p = 0 then cum (ix2 n h) * (1 / Real.log 2) else 0

theorem parts_at (n : Fin 16384) (h : Fin 8) (p : Fin 3) : parts (fun i => (cum i : EReal)) (ix3 n h p) = ((part cum n h p.val : ℝ) : EReal) := by
  unfold parts
  generalize hx : column (near (gates fun i => (cum i : EReal))) = x
  generalize hy : column (near (rest1 fun i => (cum i : EReal))) = y
  generalize hz : column (near (rest2 fun i => (cum i : EReal))) = z
  obtain ⟨p, hp⟩ := p
  match p, hp with
  | 0, hp =>
    refine (concatenate_apply_piece 2 [⟨S16384x8x1, x⟩, ⟨S16384x8x1, y⟩, ⟨S16384x8x1, z⟩] _ (ix3 n h (⟨0, hp⟩ : Fin 3)) 0 (by exact (show 0 < 3 by decide)) S16384x8x1 x rfl rfl 0 rfl (ix3 n h (0 : Fin 1))
      (fun b hb => ?_) rfl).trans ?_
    · fin_cases b
      · rfl
      · rfl
      · exact absurd rfl hb
    · rw [← hx, column_at, near_at, gates_at]; rfl
  | 1, hp =>
    refine (concatenate_apply_piece 2 [⟨S16384x8x1, x⟩, ⟨S16384x8x1, y⟩, ⟨S16384x8x1, z⟩] _ (ix3 n h (⟨1, hp⟩ : Fin 3)) 1 (by exact (show 1 < 3 by decide)) S16384x8x1 y rfl rfl 1 rfl (ix3 n h (0 : Fin 1))
      (fun b hb => ?_) rfl).trans ?_
    · fin_cases b
      · rfl
      · rfl
      · exact absurd rfl hb
    · rw [← hy, column_at, near_at, rest1_at]; rfl
  | 2, hp =>
    refine (concatenate_apply_piece 2 [⟨S16384x8x1, x⟩, ⟨S16384x8x1, y⟩, ⟨S16384x8x1, z⟩] _ (ix3 n h (⟨2, hp⟩ : Fin 3)) 2 (by exact (show 2 < 3 by decide)) S16384x8x1 z rfl rfl 2 rfl (ix3 n h (0 : Fin 1))
      (fun b hb => ?_) rfl).trans ?_
    · fin_cases b
      · rfl
      · rfl
      · exact absurd rfl hb
    · rw [← hz, column_at, near_at, rest2_at]; rfl
  | p + 3, hp => exact absurd hp (by omega)

/-- Whether two of four numbers are one, as a number. -/
theorem same_at (j a : Fin 4) : (uitofp (F := Ideal) .f32 (cmpi .eq (iotaInDim S4x4 32 0) (iotaInDim S4x4 32 1)) (ix2 j a) : EReal) = (((if j.val = a.val then 1 else 0 : ℝ)) : EReal) := by
  have e : cmpi .eq (iotaInDim S4x4 32 0) (iotaInDim S4x4 32 1) (ix2 j a) = if j.val = a.val then 1#1 else 0#1 := by
    fin_cases j <;> fin_cases a <;> rfl
  refine (show _ = (((cmpi .eq (iotaInDim S4x4 32 0) (iotaInDim S4x4 32 1) (ix2 j a)).toNat : ℝ) : EReal) from rfl).trans ?_
  rw [e]
  split <;> simp

theorem own_at (n : Fin 16384) (h : Fin 8) (p : Fin 12) : own (ix3 n h p) = (((if h.val % 4 = p.val / 3 then 1 else 0 : ℝ)) : EReal) := by
  unfold own
  refine (broadcastInDim_apply _ _ _ _ (ix3 (0 : Fin 1) h p) fun a => by fin_cases a <;> rfl).trans ?_
  refine (broadcastInDim_apply _ _ _ _ (ix2 h p) fun a => by fin_cases a <;> rfl).trans ?_
  refine (shapeCast_apply (t := S8x12) _ _ (ix2 h p) (ix4 (⟨h.val / 4, by omega⟩ : Fin 2) (⟨h.val % 4, by omega⟩ : Fin 4) (⟨p.val / 3, by omega⟩ : Fin 4) (⟨p.val % 3, by omega⟩ : Fin 3)) (by
    rw [Shape.rowMajor_val_four, Shape.rowMajor_val_two]
    show ((h.val / 4 * 4 + h.val % 4) * 4 + p.val / 3) * 3 + p.val % 3 = h.val * 12 + p.val
    omega)).trans ?_
  refine (broadcastInDim_apply _ _ _ _ (ix4 (0 : Fin 1) (⟨h.val % 4, by omega⟩ : Fin 4) (⟨p.val / 3, by omega⟩ : Fin 4) (0 : Fin 1)) fun a => by fin_cases a <;> rfl).trans ?_
  refine (broadcastInDim_apply _ _ _ _ (ix2 (⟨h.val % 4, by omega⟩ : Fin 4) (⟨p.val / 3, by omega⟩ : Fin 4)) fun a => by fin_cases a <;> rfl).trans ?_
  exact same_at _ _

theorem scaledQ_at (q : (Heads 64).Idx → ℝ) (i : S16384x8x64.Idx) : scaledQ (fun i => (q i : EReal)) i = ((q i * (1 / 8 * (1 / Real.log 2)) : ℝ) : EReal) := by
  unfold scaledQ
  rw [EReal.coe_mul]
  refine congrArg (fun y : EReal => (q i : EReal) * y) ?_
  refine (broadcastInDim_apply _ _ _ _ ix0 fun a => a.elim0).trans ?_
  refine (show _ = Ideal.div (Ideal.ofBits .f32 0x3E000000#32) (logTwo ix0) from rfl).trans ?_
  rw [logTwo_at, eighth_bits, Ideal.div_coe log_two_ne, ← EReal.coe_mul]

/-- Four pieces side by side, read in the first. -/
theorem four_1 {w : ℕ} (x : FVec Ideal ⟨3, ![16384, w, 64]⟩ .f32) (y : FVec Ideal ⟨3, ![16384, w, 3]⟩ .f32) (z : FVec Ideal ⟨3, ![16384, w, 12]⟩ .f32) (u : FVec Ideal ⟨3, ![16384, w, 49]⟩ .f32)
    (hc) (n : Fin 16384) (h : Fin w) (e : Fin 64) (e' : Fin 128) (he : e'.val = e.val) :
    concatenate ⟨3, ![16384, w, 128]⟩ 2 [⟨⟨3, ![16384, w, 64]⟩, x⟩, ⟨⟨3, ![16384, w, 3]⟩, y⟩, ⟨⟨3, ![16384, w, 12]⟩, z⟩, ⟨⟨3, ![16384, w, 49]⟩, u⟩] hc (ix3 n h e') = x (ix3 n h e) := by
  refine concatenate_apply_piece 2 [⟨⟨3, ![16384, w, 64]⟩, x⟩, ⟨⟨3, ![16384, w, 3]⟩, y⟩, ⟨⟨3, ![16384, w, 12]⟩, z⟩, ⟨⟨3, ![16384, w, 49]⟩, u⟩] _ (ix3 n h e') 0 (by exact (show 0 < 4 by decide)) ⟨3, ![16384, w, 64]⟩ x rfl rfl 0 rfl (ix3 n h e)
    (fun b hb => ?_) ?_
  · fin_cases b
    · rfl
    · rfl
    · exact absurd rfl hb
  · show 0 + e.val = e'.val
    omega

/-- Read in the second. -/
theorem four_2 {w : ℕ} (x : FVec Ideal ⟨3, ![16384, w, 64]⟩ .f32) (y : FVec Ideal ⟨3, ![16384, w, 3]⟩ .f32) (z : FVec Ideal ⟨3, ![16384, w, 12]⟩ .f32) (u : FVec Ideal ⟨3, ![16384, w, 49]⟩ .f32)
    (hc) (n : Fin 16384) (h : Fin w) (e : Fin 3) (e' : Fin 128) (he : e'.val = 64 + e.val) :
    concatenate ⟨3, ![16384, w, 128]⟩ 2 [⟨⟨3, ![16384, w, 64]⟩, x⟩, ⟨⟨3, ![16384, w, 3]⟩, y⟩, ⟨⟨3, ![16384, w, 12]⟩, z⟩, ⟨⟨3, ![16384, w, 49]⟩, u⟩] hc (ix3 n h e') = y (ix3 n h e) := by
  refine concatenate_apply_piece 2 [⟨⟨3, ![16384, w, 64]⟩, x⟩, ⟨⟨3, ![16384, w, 3]⟩, y⟩, ⟨⟨3, ![16384, w, 12]⟩, z⟩, ⟨⟨3, ![16384, w, 49]⟩, u⟩] _ (ix3 n h e') 1 (by exact (show 1 < 4 by decide)) ⟨3, ![16384, w, 3]⟩ y rfl rfl 64 rfl (ix3 n h e)
    (fun b hb => ?_) ?_
  · fin_cases b
    · rfl
    · rfl
    · exact absurd rfl hb
  · show 64 + e.val = e'.val
    omega

/-- Read in the third. -/
theorem four_3 {w : ℕ} (x : FVec Ideal ⟨3, ![16384, w, 64]⟩ .f32) (y : FVec Ideal ⟨3, ![16384, w, 3]⟩ .f32) (z : FVec Ideal ⟨3, ![16384, w, 12]⟩ .f32) (u : FVec Ideal ⟨3, ![16384, w, 49]⟩ .f32)
    (hc) (n : Fin 16384) (h : Fin w) (e : Fin 12) (e' : Fin 128) (he : e'.val = 67 + e.val) :
    concatenate ⟨3, ![16384, w, 128]⟩ 2 [⟨⟨3, ![16384, w, 64]⟩, x⟩, ⟨⟨3, ![16384, w, 3]⟩, y⟩, ⟨⟨3, ![16384, w, 12]⟩, z⟩, ⟨⟨3, ![16384, w, 49]⟩, u⟩] hc (ix3 n h e') = z (ix3 n h e) := by
  refine concatenate_apply_piece 2 [⟨⟨3, ![16384, w, 64]⟩, x⟩, ⟨⟨3, ![16384, w, 3]⟩, y⟩, ⟨⟨3, ![16384, w, 12]⟩, z⟩, ⟨⟨3, ![16384, w, 49]⟩, u⟩] _ (ix3 n h e') 2 (by exact (show 2 < 4 by decide)) ⟨3, ![16384, w, 12]⟩ z rfl rfl 67 rfl (ix3 n h e)
    (fun b hb => ?_) ?_
  · fin_cases b
    · rfl
    · rfl
    · exact absurd rfl hb
  · show 67 + e.val = e'.val
    omega

/-- Read in the fourth. -/
theorem four_4 {w : ℕ} (x : FVec Ideal ⟨3, ![16384, w, 64]⟩ .f32) (y : FVec Ideal ⟨3, ![16384, w, 3]⟩ .f32) (z : FVec Ideal ⟨3, ![16384, w, 12]⟩ .f32) (u : FVec Ideal ⟨3, ![16384, w, 49]⟩ .f32)
    (hc) (n : Fin 16384) (h : Fin w) (e : Fin 49) (e' : Fin 128) (he : e'.val = 79 + e.val) :
    concatenate ⟨3, ![16384, w, 128]⟩ 2 [⟨⟨3, ![16384, w, 64]⟩, x⟩, ⟨⟨3, ![16384, w, 3]⟩, y⟩, ⟨⟨3, ![16384, w, 12]⟩, z⟩, ⟨⟨3, ![16384, w, 49]⟩, u⟩] hc (ix3 n h e') = u (ix3 n h e) := by
  refine concatenate_apply_piece 2 [⟨⟨3, ![16384, w, 64]⟩, x⟩, ⟨⟨3, ![16384, w, 3]⟩, y⟩, ⟨⟨3, ![16384, w, 12]⟩, z⟩, ⟨⟨3, ![16384, w, 49]⟩, u⟩] _ (ix3 n h e') 3 (by exact (show 3 < 4 by decide)) ⟨3, ![16384, w, 49]⟩ u rfl rfl 79 rfl (ix3 n h e)
    (fun b hb => ?_) ?_
  · fin_cases b
    · rfl
    · rfl
    · exact absurd rfl hb
  · show 79 + e.val = e'.val
    omega

/-- Feature `e` of head `h` lies in column `128 h + e`. -/
theorem packQ_at (a0 : FVec Ideal S16384x8x64 .f32) (a3 : FVec Ideal S16384x8 .f32) (n : Fin 16384) (h : Fin 8) (e : Fin 128) (col : Fin 1024) (hcol : col.val = 128 * h.val + e.val) :
    packQ a0 a3 (ix2 n col) = joinQ a0 a3 (ix3 n h e) := by
  unfold packQ
  refine (show _ = shapeCast S16384x1024 (joinQ a0 a3) shapeCasts_S16384x8x128_S16384x1024 (ix2 n col) from rfl).trans ?_
  exact shapeCast_apply (t := S16384x1024) _ _ (ix2 n col) (ix3 n h e) (by
    rw [Shape.rowMajor_val_three, Shape.rowMajor_val_two]
    show (n.val * 8 + h.val) * 128 + e.val = n.val * 1024 + col.val
    omega)

theorem packK_at (a1 : FVec Ideal S16384x2x64 .f32) (a3 : FVec Ideal S16384x8 .f32) (n : Fin 16384) (g : Fin 2) (e : Fin 128) (col : Fin 256) (hcol : col.val = 128 * g.val + e.val) :
    packK a1 a3 (ix2 n col) = joinK a1 a3 (ix3 n g e) := by
  unfold packK
  refine (show _ = shapeCast S16384x256 (joinK a1 a3) shapeCasts_S16384x2x128_S16384x256 (ix2 n col) from rfl).trans ?_
  exact shapeCast_apply (t := S16384x256) _ _ (ix2 n col) (ix3 n g e) (by
    rw [Shape.rowMajor_val_three, Shape.rowMajor_val_two]
    show (n.val * 2 + g.val) * 128 + e.val = n.val * 256 + col.val
    omega)

theorem against_at (n : Fin 16384) (g : Fin 2) (p : Fin 12) :
    against (fun i => (cum i : EReal)) (ix3 n g p) = ((-part cum n ⟨4 * g.val + p.val / 3, by omega⟩ (p.val % 3) : ℝ) : EReal) := by
  unfold against
  refine (show _ = -(shapeCast S16384x2x12 (parts (fun i => (cum i : EReal))) shapeCasts_S16384x8x3_S16384x2x12 (ix3 n g p) : EReal) from rfl).trans ?_
  rw [EReal.coe_neg]
  refine congrArg (fun y : EReal => -y) ?_
  refine (shapeCast_apply (t := S16384x2x12) _ _ (ix3 n g p) (ix3 n (⟨4 * g.val + p.val / 3, by omega⟩ : Fin 8) (⟨p.val % 3, by omega⟩ : Fin 3)) (by
    rw [Shape.rowMajor_val_three, Shape.rowMajor_val_three]
    show (n.val * 8 + (4 * g.val + p.val / 3)) * 3 + p.val % 3 = (n.val * 2 + g.val) * 12 + p.val
    omega)).trans ?_
  exact parts_at cum n _ _

theorem pad_at (i : S16384x8x49.Idx) : pad i = (0 : EReal) := zero_bits

theorem padK_at (i : S16384x2x49.Idx) : padK i = (0 : EReal) := zero_bits

theorem units_at (i : S16384x2x3.Idx) : units i = (1 : EReal) := one_bits

theorem joinV_at (a2 : FVec Ideal S16384x2x64 .f32) (n : Fin 16384) (h : Fin 8) (d : Fin 128) : joinV a2 (ix3 n (groupOf h) d) = rowValue (perHead a2) h d.val n.val := by
  have hd := d.isLt
  unfold joinV rowValue
  by_cases h1 : d.val < 64
  · rw [dif_pos h1, dif_pos n.isLt]
    refine (concatenate_apply_piece 2 [⟨S16384x2x64, a2⟩, ⟨S16384x2x1, _⟩, ⟨S16384x2x63, _⟩] _ (ix3 n (groupOf h) d) 0 (by exact (show 0 < 3 by decide)) S16384x2x64 a2 rfl rfl 0 rfl (ix3 n (groupOf h) ⟨d.val, h1⟩)
      (fun b hb => ?_) ?_).trans rfl
    · fin_cases b
      · rfl
      · rfl
      · exact absurd rfl hb
    · show 0 + d.val = d.val
      omega
  rw [dif_neg h1]
  by_cases h2 : d.val = 64
  · rw [if_pos h2]
    refine (concatenate_apply_piece 2 [⟨S16384x2x64, a2⟩, ⟨S16384x2x1, _⟩, ⟨S16384x2x63, _⟩] _ (ix3 n (groupOf h) d) 1 (by exact (show 1 < 3 by decide)) S16384x2x1 _ rfl rfl 64 rfl (ix3 n (groupOf h) (0 : Fin 1))
      (fun b hb => ?_) ?_).trans one_bits
    · fin_cases b
      · rfl
      · rfl
      · exact absurd rfl hb
    · show 64 + 0 = d.val
      omega
  · rw [if_neg h2]
    refine (concatenate_apply_piece 2 [⟨S16384x2x64, a2⟩, ⟨S16384x2x1, _⟩, ⟨S16384x2x63, _⟩] _ (ix3 n (groupOf h) d) 2 (by exact (show 2 < 3 by decide)) S16384x2x63 _ rfl rfl 65 rfl (ix3 n (groupOf h) (⟨d.val - 65, by omega⟩ : Fin 63))
      (fun b hb => ?_) ?_).trans zero_bits
    · fin_cases b
      · rfl
      · rfl
      · exact absurd rfl hb
    · show 65 + (d.val - 65) = d.val
      omega

theorem packV_at (a2 : FVec Ideal S16384x2x64 .f32) (j : Fin 64) (r : Fin 256) (n : Fin 16384) (hn : n.val = 256 * j.val + r.val) (h : Fin 8) (d : Fin 128) (col : Fin 256) (hcol : col.val = 128 * (groupOf h).val + d.val) :
    packV a2 (ix3 j col r) = rowValue (perHead a2) h d.val n.val := by
  rw [← joinV_at]
  unfold packV
  refine (show _ = transpose S64x256x256 [0, 2, 1] (shapeCast S64x256x256 (joinV a2) shapeCasts_S16384x2x128_S64x256x256) transposes_S64x256x256_S64x256x256_0_2_1 (ix3 j col r) from rfl).trans ?_
  refine (transpose_apply [0, 2, 1] _ _ (ix3 j col r) (ix3 j r col) fun b => by fin_cases b <;> rfl).trans ?_
  exact shapeCast_apply (t := S64x256x256) _ _ (ix3 j r col) (ix3 n (groupOf h) d) (by
    rw [Shape.rowMajor_val_three, Shape.rowMajor_val_three]
    show (n.val * 2 + (groupOf h).val) * 128 + d.val = (j.val * 256 + r.val) * 256 + col.val
    omega)

/-- A sum over 128 features: the first 64, the next 3, the next 12 and the last 49. -/
theorem sum_four (f : Fin 128 → EReal) (x : Fin 64 → EReal) (y : Fin 3 → EReal) (z : Fin 12 → EReal) (u : Fin 49 → EReal) (hx : ∀ e : Fin 64, f ⟨e.val, by omega⟩ = x e)
    (hy : ∀ e : Fin 3, f ⟨64 + e.val, by omega⟩ = y e) (hz : ∀ e : Fin 12, f ⟨67 + e.val, by omega⟩ = z e) (hu : ∀ e : Fin 49, f ⟨79 + e.val, by omega⟩ = u e) :
    ∑ e : Fin 128, f e = (∑ e, x e) + ((∑ e, y e) + ((∑ e, z e) + ∑ e, u e)) := by
  refine (Fin.sum_univ_add (a := 64) (b := 64) f).trans (congrArg₂ (· + ·) (Finset.sum_congr rfl fun e _ => hx e) ?_)
  refine (Fin.sum_univ_add (a := 3) (b := 61) fun i : Fin (3 + 61) => f (Fin.natAdd 64 i)).trans (congrArg₂ (· + ·) (Finset.sum_congr rfl fun e _ => hy e) ?_)
  refine (Fin.sum_univ_add (a := 12) (b := 49) fun i : Fin (12 + 49) => f (Fin.natAdd 64 (Fin.natAdd 3 i))).trans
    (congrArg₂ (· + ·) (Finset.sum_congr rfl fun e _ => ?_) (Finset.sum_congr rfl fun e _ => ?_))
  · refine Eq.trans (congrArg f (Fin.ext ?_)) (hz e)
    show 64 + (3 + e.val) = 67 + e.val
    omega
  · refine Eq.trans (congrArg f (Fin.ext ?_)) (hu e)
    show 64 + (3 + (12 + e.val)) = 79 + e.val
    omega

/-- Of the parts of its group's heads a head finds its own. -/
theorem own_sum (n : Fin 16384) (h : Fin 8) :
    (∑ p : Fin 12, -part cum n ⟨4 * (groupOf h).val + p.val / 3, by have := (groupOf h).isLt; omega⟩ (p.val % 3) * (if h.val % 4 = p.val / 3 then 1 else 0 : ℝ)) = -(cum (ix2 n h) * (1 / Real.log 2)) := by
  refine (Finset.sum_eq_single (⟨3 * (h.val % 4), by omega⟩ : Fin 12) (fun p _ hp => ?_) fun hn => absurd (Finset.mem_univ _) hn).trans ?_
  · by_cases h1 : h.val % 4 = p.val / 3
    · have h2 : p.val % 3 ≠ 0 := fun h2 => hp (Fin.ext (by show p.val = 3 * (h.val % 4); omega))
      unfold part
      rw [if_neg h2, neg_zero, zero_mul]
    · rw [if_neg h1, mul_zero]
  · have e1 : 3 * (h.val % 4) / 3 = h.val % 4 := by omega
    have e2 : 3 * (h.val % 4) % 3 = 0 := by omega
    have e3 : (⟨4 * (groupOf h).val + 3 * (h.val % 4) / 3, by have := (groupOf h).isLt; omega⟩ : Fin 8) = h := Fin.ext (by show 4 * (h.val / 4) + 3 * (h.val % 4) / 3 = h.val; omega)
    show -part cum n ⟨4 * (groupOf h).val + 3 * (h.val % 4) / 3, _⟩ (3 * (h.val % 4) % 3) * (if h.val % 4 = 3 * (h.val % 4) / 3 then 1 else 0 : ℝ) = _
    rw [e3, if_pos e1.symm, mul_one]
    unfold part
    rw [if_pos e2]

/-- The laid-out query and key of a head make the score of that head, over the logarithm of 2. -/
theorem packed_score (q : (Heads 64).Idx → ℝ) (kk : Groups.Idx → ℝ) (h : Fin 8) (n k : Fin 16384)
    (colK : Fin 128 → Fin 256) (hcolK : ∀ e, (colK e).val = 128 * (groupOf h).val + e.val) (col : Fin 128 → Fin 1024) (hcol : ∀ e, (col e).val = 128 * h.val + e.val) :
    (∑ e : Fin 128, (packK (fun i => (kk i : EReal)) (fun i => (cum i : EReal)) (ix2 k (colK e)) : EReal) * (packQ (fun i => (q i : EReal)) (fun i => (cum i : EReal)) (ix2 n (col e)) : EReal))
      = ((foxScores q kk cum h n k.val / Real.log 2 : ℝ) : EReal) := by
  rw [foxScores_of]
  refine (sum_four _ (fun e => ((kk (ix3 k (groupOf h) e) * (q (ix3 n h e) * (1 / 8 * (1 / Real.log 2))) : ℝ) : EReal)) (fun p => ((part cum n h p.val : ℝ) : EReal))
    (fun p => ((-part cum k ⟨4 * (groupOf h).val + p.val / 3, by have := (groupOf h).isLt; omega⟩ (p.val % 3) * (if h.val % 4 = p.val / 3 then 1 else 0 : ℝ) : ℝ) : EReal)) (fun _ => ((0 : ℝ) : EReal)) ?_ ?_ ?_ ?_).trans ?_
  · intro e
    rw [packK_at _ _ k _ _ _ (hcolK _), packQ_at _ _ n h _ _ (hcol _)]
    unfold joinK joinQ
    rw [four_1 _ _ _ _ _ k (groupOf h) e _ rfl, four_1 _ _ _ _ _ n h e _ rfl, scaledQ_at, ← EReal.coe_mul]
  · intro e
    rw [packK_at _ _ k _ _ _ (hcolK _), packQ_at _ _ n h _ _ (hcol _)]
    unfold joinK joinQ
    rw [four_2 _ _ _ _ _ k (groupOf h) e _ rfl, four_2 _ _ _ _ _ n h e _ rfl, units_at, one_mul, parts_at]
  · intro e
    rw [packK_at _ _ k _ _ _ (hcolK _), packQ_at _ _ n h _ _ (hcol _)]
    unfold joinK joinQ
    rw [four_3 _ _ _ _ _ k (groupOf h) e _ rfl, four_3 _ _ _ _ _ n h e _ rfl, against_at, own_at, ← EReal.coe_mul]
  · intro e
    rw [packK_at _ _ k _ _ _ (hcolK _), packQ_at _ _ n h _ _ (hcol _)]
    unfold joinK joinQ
    rw [four_4 _ _ _ _ _ k (groupOf h) e _ rfl, four_4 _ _ _ _ _ n h e _ rfl, padK_at, zero_mul, EReal.coe_zero]
  · rw [coe_sum, coe_sum, coe_sum, coe_sum, ← EReal.coe_add, ← EReal.coe_add, ← EReal.coe_add]
    refine congrArg _ ?_
    rw [own_sum, Finset.sum_const_zero, Fin.sum_univ_three]
    unfold foxScore part
    rw [sub_div, add_div, Finset.sum_mul, Finset.sum_div]
    have e : (∑ e : Fin 64, kk (ix3 k (groupOf h) e) * (q (ix3 n h e) * (1 / 8 * (1 / Real.log 2)))) = ∑ e : Fin 64, q (ix3 n h e) * kk (ix3 k (groupOf h) e) * (1 / 8) / Real.log 2 :=
      Finset.sum_congr rfl fun e _ => by ring
    rw [e]
    simp
    ring

end Cert.Fox
-- ==== Proof.Fox.AtIndex.lean ====
module

public import proofs.«01_k».proof.Proof.Fox.Masked
public import Idealize.ShloMosaic.Lib.ValueIdx
public import Idealize.ShloMosaic.Lib.ValueLayout
public import Idealize.ShloMosaic.PureOps.Ideal.Laws

/-! What a step computes, read at an index over the extended reals. -/

@[expose] public section

set_option maxRecDepth 8192

noncomputable section

namespace Cert.Fox

open Cert.Flash

open Idealize.ShloMosaic Idealize.ShloMosaic.ValueIdx Cert.Kernel2Ideal Cert.Kernel2Ideal.Gen

/-- A score: a key's row times a query's row. -/
theorem score_at (q : FVec Ideal S512x128 .bf16) (kt : FVec Ideal S256x128 .bf16) (r : Fin 256) (c : Fin 512) :
    score q kt (ix4 (0 : Fin 1) (0 : Fin 1) r c) = ∑ e : Fin 128, kt (ix2 r e) * q (ix2 c e) := by
  unfold score k0_pay1
  refine (shapeCast_apply _ _ _ (ix2 r c) (by
    rw [Shape.rowMajor_val_four, Shape.rowMajor_val_two]
    show r.val * 512 + c.val = ((0 * 1 + 0) * 256 + r.val) * 512 + c.val
    omega)).trans ?_
  simp only [matmul]
  rw [Ideal.matmul_constant_zero_apply]
  refine ((contrEquiv1 dot_S256x128_S512x128_S256x512_1_1_0_0_n_n 128 rfl rfl).symm.sum_comp _).symm.trans ?_
  refine Finset.sum_congr rfl fun e _ => ?_
  have he := contrEquiv1_symm_val dot_S256x128_S512x128_S256x512_1_1_0_0_n_n 128 rfl rfl e
  rw [shapeCast_self]
  refine congrArg₂ (· * ·) (congrArg kt (funext fun a => Fin.ext ?_)) (congrArg q (funext fun a => Fin.ext ?_))
  · fin_cases a
    · rfl
    · exact he
  · fin_cases a
    · rfl
    · exact he

/-- The strip of a column, and where the column lies in it. -/
theorem colMax_at (s : FVec Ideal S1x1x256x512 .f32) (o : ℕ) (h : ∀ k, ![0, 0, 0, o] k + ![1, 1, 256, 128] k ≤ S1x1x256x512.size k) (c : Fin 512) (q : Fin 128) (hc : c.val = o + q.val) :
    k0_pay14 (strip s o h) (ix2 (0 : Fin 1) q) = (Finset.univ : Finset (Fin 256)).fold max ⊥ fun r => s (ix4 (0 : Fin 1) (0 : Fin 1) r c) := by
  unfold k0_pay14
  refine (shapeCast_apply _ _ _ (ix1 q) (by
    rw [Shape.rowMajor_val_one, Shape.rowMajor_val_two]
    show q.val = 0 * 128 + q.val
    omega)).trans ?_
  refine (Ideal.multiReduction_maximumf_single _ _ _ _ _ _).trans ?_
  have hb : (FloatOps.ofBits .f32 0xFF800000#32 : Ideal .f32) = (⊥ : EReal) := by
    show Ideal.ofBits .f32 0xFF800000#32 = ⊥
    simp [Ideal.ofBits, Ideal.ieee]
  rw [hb]
  refine congrArg (fun f => Finset.fold max ⊥ f Finset.univ) (funext fun r => ?_)
  refine (shapeCast_apply _ _ _ (ix4 (0 : Fin 1) (0 : Fin 1) r q) (by
    rw [Shape.rowMajor_val_four, Shape.rowMajor_val_two]
    show ((0 * 1 + 0) * 256 + r.val) * 128 + q.val = r.val * 128 + q.val
    omega)).trans ?_
  refine congrArg s (funext fun a => Fin.ext ?_)
  fin_cases a
  · rfl
  · rfl
  · show 0 + 1 * r.val = r.val; omega
  · show o + 1 * q.val = c.val; omega

/-- The running maximum after a tile. -/
theorem maxRow_at (m : FVec Ideal S1x1x512 .f32) (s : FVec Ideal S1x1x256x512 .f32) (c : Fin 512) :
    maxRow m s (ix2 (0 : Fin 1) c) = max (m (ix3 (0 : Fin 1) (0 : Fin 1) c)) ((Finset.univ : Finset (Fin 256)).fold max ⊥ fun r => s (ix4 (0 : Fin 1) (0 : Fin 1) r c)) := by
  have hc := c.isLt
  unfold maxRow k0_pay17
  refine congrArg₂ max ?_ ?_
  · unfold k0_pay13
    exact shapeCast_apply _ _ _ (ix3 (0 : Fin 1) (0 : Fin 1) c) (by
      rw [Shape.rowMajor_val_three, Shape.rowMajor_val_two]
      show (0 * 1 + 0) * 512 + c.val = 0 * 512 + c.val
      omega)
  · have piece : ∀ (k : ℕ) (hk : k < 4) (pre : ℕ) (q : Fin 128) (x : FVec Ideal S1x128 .f32) (xs : List ((s : Shape) × (s.Idx → Ideal .f32)))
        (hxs : xs.map (·.1) = [S1x128, S1x128, S1x128, S1x128]) (hcat : Shape.Concatenates (xs.map (·.1)) S1x512 1) (hlen : k < xs.length) (hx : xs[k] = ⟨S1x128, x⟩)
        (hpre : pre = 128 * k) (hq : pre + q.val = c.val), concatenate S1x512 1 xs hcat (ix2 (0 : Fin 1) c) = x (ix2 (0 : Fin 1) q) := by
      intro k hk pre q x xs hxs hcat hlen hx hpre hq
      refine concatenate_apply_piece 1 xs hcat _ k hlen S1x128 x hx rfl pre ?_ _ (fun b hb => ?_) hq
      · rw [List.map_take, hxs, hpre]
        interval_cases k <;> rfl
      · fin_cases b
        · rfl
        · exact absurd rfl hb
    rcases Nat.lt_or_ge c.val 128 with h1 | h1
    · exact (piece 0 (by decide) 0 ⟨c.val, h1⟩ _ _ rfl _ (by exact (show 0 < 4 by decide)) rfl rfl (by show 0 + c.val = c.val; omega)).trans (colMax_at s 0 _ c ⟨c.val, h1⟩ (by show c.val = 0 + c.val; omega))
    rcases Nat.lt_or_ge c.val 256 with h2 | h2
    · exact (piece 1 (by decide) 128 ⟨c.val - 128, by omega⟩ _ _ rfl _ (by exact (show 1 < 4 by decide)) rfl rfl (by show 128 + (c.val - 128) = c.val; omega)).trans (colMax_at s 128 _ c ⟨c.val - 128, by omega⟩ (by show c.val = 128 + (c.val - 128); omega))
    rcases Nat.lt_or_ge c.val 384 with h3 | h3
    · exact (piece 2 (by decide) 256 ⟨c.val - 256, by omega⟩ _ _ rfl _ (by exact (show 2 < 4 by decide)) rfl rfl (by show 256 + (c.val - 256) = c.val; omega)).trans (colMax_at s 256 _ c ⟨c.val - 256, by omega⟩ (by show c.val = 256 + (c.val - 256); omega))
    · exact (piece 3 (by decide) 384 ⟨c.val - 384, by omega⟩ _ _ rfl _ (by exact (show 3 < 4 by decide)) rfl rfl (by show 384 + (c.val - 384) = c.val; omega)).trans (colMax_at s 384 _ c ⟨c.val - 384, by omega⟩ (by show c.val = 384 + (c.val - 384); omega))

/-- The running maximum as stored. -/
theorem maxOf_at (m : FVec Ideal S1x1x512 .f32) (s : FVec Ideal S1x1x256x512 .f32) (c : Fin 512) :
    maxOf m s (ix3 (0 : Fin 1) (0 : Fin 1) c) = maxRow m s (ix2 (0 : Fin 1) c) := by
  unfold maxOf k0_pay18
  exact shapeCast_apply _ _ _ (ix2 (0 : Fin 1) c) (by
    rw [Shape.rowMajor_val_three, Shape.rowMajor_val_two]
    show 0 * 512 + c.val = (0 * 1 + 0) * 512 + c.val
    omega)

/-- The factor of a step. -/
theorem factor_at (m : FVec Ideal S1x1x512 .f32) (s : FVec Ideal S1x1x256x512 .f32) (c : Fin 512) :
    factor m s (ix4 (0 : Fin 1) (0 : Fin 1) (0 : Fin 1) c) = Ideal.exp2 (m (ix3 (0 : Fin 1) (0 : Fin 1) c) - maxRow m s (ix2 (0 : Fin 1) c)) := by
  unfold factor k0_pay19
  refine (shapeCast_apply _ _ _ (ix2 (0 : Fin 1) c) (by
    rw [Shape.rowMajor_val_four, Shape.rowMajor_val_two]
    show 0 * 512 + c.val = ((0 * 1 + 0) * 1 + 0) * 512 + c.val
    omega)).trans ?_
  refine congrArg Ideal.exp2 (congrArg (· - maxRow m s (ix2 (0 : Fin 1) c)) ?_)
  unfold k0_pay13
  exact shapeCast_apply _ _ _ (ix3 (0 : Fin 1) (0 : Fin 1) c) (by
    rw [Shape.rowMajor_val_three, Shape.rowMajor_val_two]
    show (0 * 1 + 0) * 512 + c.val = 0 * 512 + c.val
    omega)

/-- A tile's weights, in one array. -/
def weightOf (mr : FVec Ideal S1x512 .f32) (s : FVec Ideal S1x1x256x512 .f32) : FVec Ideal S1x1x256x512 .bf16 :=
  fun y => Ideal.exp2 (s y - mr (ix2 (0 : Fin 1) (⟨(y 3).val, (y 3).isLt⟩ : Fin 512)))

theorem band_at (mr : FVec Ideal S1x512 .f32) (s : FVec Ideal S1x1x256x512 .f32) (o : ℕ) (h : ∀ k, ![0, 0, o, 0] k + ![1, 1, 64, 512] k ≤ S1x1x256x512.size k) :
    k0_pay41 mr (band s o h) = VecWindow.window (s := S1x1x256x512) (weightOf mr s) ![0, 0, o, 0] ![1, 1, 64, 512] h := by
  funext y
  obtain ⟨a, b, r, c, rfl⟩ : ∃ (a : Fin 1) (b : Fin 1) (r : Fin 64) (c : Fin 512), y = ix4 a b r c := ⟨y 0, y 1, y 2, y 3, eq_ix4 y⟩
  have ha := a.isLt
  have hb := b.isLt
  unfold k0_pay41
  refine (shapeCast_apply _ _ _ (ix2 r c) (by
    rw [Shape.rowMajor_val_four, Shape.rowMajor_val_two]
    show r.val * 512 + c.val = ((a.val * 1 + b.val) * 64 + r.val) * 512 + c.val
    omega)).trans ?_
  refine congrArg Ideal.exp2 (congrArg₂ (fun x y : EReal => x - y) ?_ ?_)
  · refine (shapeCast_apply _ _ _ (ix4 a b r c) (by
      rw [Shape.rowMajor_val_four, Shape.rowMajor_val_two]
      show ((a.val * 1 + b.val) * 64 + r.val) * 512 + c.val = r.val * 512 + c.val
      omega)).trans ?_
    rfl
  · refine (broadcastTo_apply _ _ _ (ix2 (0 : Fin 1) c) fun k => ?_).trans (congrArg mr (funext fun k => Fin.ext ?_))
    · fin_cases k
      · rfl
      · rfl
    · fin_cases k
      · rfl
      · show c.val = 0 + 1 * c.val; omega

theorem weights_eq (mr : FVec Ideal S1x512 .f32) (s : FVec Ideal S1x1x256x512 .f32) : weights mr s = weightOf mr s := by
  unfold weights
  rw [band_at, band_at, band_at, band_at]
  exact stack_window _ _ _ _ _

/-- The weighted sum with a tile taken in. -/
theorem gather_at (σ : St Ideal) (vt : FVec Ideal S1x128x256 .bf16) (d : Fin 128) (c : Fin 512) :
    gather σ vt (ix3 (0 : Fin 1) d c) = σ.al (ix4 (0 : Fin 1) (0 : Fin 1) (0 : Fin 1) c) * σ.acc (ix3 (0 : Fin 1) d c)
      + ∑ r : Fin 256, vt (ix3 (0 : Fin 1) d r) * σ.p (ix4 (0 : Fin 1) (0 : Fin 1) r c) := by
  unfold gather k0_pay6
  refine (shapeCast_apply _ _ _ (ix2 d c) (by
    rw [Shape.rowMajor_val_three, Shape.rowMajor_val_two]
    show d.val * 512 + c.val = (0 * 128 + d.val) * 512 + c.val
    omega)).trans ?_
  refine congrArg₂ (· + ·) (congrArg₂ (· * ·) ?_ ?_) ?_
  · refine (broadcastTo_apply _ _ _ (ix2 (0 : Fin 1) c) fun k => ?_).trans (shapeCast_apply _ _ _ (ix4 (0 : Fin 1) (0 : Fin 1) (0 : Fin 1) c) (by
      rw [Shape.rowMajor_val_four, Shape.rowMajor_val_two]
      show ((0 * 1 + 0) * 1 + 0) * 512 + c.val = 0 * 512 + c.val
      omega))
    fin_cases k
    · rfl
    · rfl
  · exact shapeCast_apply _ _ _ (ix3 (0 : Fin 1) d c) (by
      rw [Shape.rowMajor_val_three, Shape.rowMajor_val_two]
      show (0 * 128 + d.val) * 512 + c.val = d.val * 512 + c.val
      omega)
  · simp only [matmul]
    rw [Ideal.matmul_constant_zero_apply]
    refine ((contrEquiv1 dot_S128x256_S256x512_S128x512_1_0_0_1_n_n 256 rfl rfl).symm.sum_comp _).symm.trans ?_
    refine Finset.sum_congr rfl fun r _ => ?_
    have hr := contrEquiv1_symm_val dot_S128x256_S256x512_S128x512_1_0_0_1_n_n 256 rfl rfl r
    refine congrArg₂ (· * ·) ((congrArg _ (funext fun a => Fin.ext ?_)).trans (shapeCast_apply _ _ (ix2 d r) (ix3 (0 : Fin 1) d r) (by
        rw [Shape.rowMajor_val_three, Shape.rowMajor_val_two]
        show (0 * 128 + d.val) * 256 + r.val = d.val * 256 + r.val
        omega))) ((congrArg _ (funext fun a => Fin.ext ?_)).trans (shapeCast_apply _ _ (ix2 r c) (ix4 (0 : Fin 1) (0 : Fin 1) r c) (by
        rw [Shape.rowMajor_val_four, Shape.rowMajor_val_two]
        show ((0 * 1 + 0) * 256 + r.val) * 512 + c.val = r.val * 512 + c.val
        omega)))
    · fin_cases a
      · rfl
      · exact hr
    · fin_cases a
      · exact hr
      · rfl

/-- A query's result: each feature's sum over the sum of the weights, which row 64 holds. -/
theorem outOf_at (acc : FVec Ideal S1x128x512 .f32) (c : Fin 512) (d : Fin 128) :
    k0_pay381 (F := Ideal) acc (ix2 c d) = Ideal.div (acc (ix3 (0 : Fin 1) d c)) (acc (ix3 (0 : Fin 1) (64 : Fin 128) c)) := by
  unfold k0_pay381
  have cast : ∀ d : Fin 128, shapeCast S128x512 acc shapeCasts_S1x128x512_S128x512 (ix2 d c) = acc (ix3 (0 : Fin 1) d c) := fun d =>
    shapeCast_apply _ _ _ (ix3 (0 : Fin 1) d c) (by
      rw [Shape.rowMajor_val_three, Shape.rowMajor_val_two]
      show (0 * 128 + d.val) * 512 + c.val = d.val * 512 + c.val
      omega)
  have turned : ∀ x : FVec Ideal S128x512 .f32, truncf .bf16 (transpose S512x128 [1, 0] x transposes_S128x512_p1_0_S512x128) bitsLt_bf16_f32 (ix2 c d) = x (ix2 d c) := fun x =>
by
    show transpose S512x128 [1, 0] x transposes_S128x512_p1_0_S512x128 (ix2 c d) = x (ix2 d c)
    refine transpose_apply [1, 0] x transposes_S128x512_p1_0_S512x128 (ix2 c d) (ix2 d c) fun b => ?_
    fin_cases b
    · rfl
    · rfl
  refine (turned _).trans ?_
  refine congrArg₂ Ideal.div (cast d) ?_
  refine (broadcastTo_apply _ _ _ (ix2 (0 : Fin 1) c) fun k => ?_).trans ?_
  · fin_cases k
    · rfl
    · rfl
  refine (extractStridedSlice_apply _ _ _ _ (ix2 (64 : Fin 128) c) fun k => ?_).trans (cast 64)
  fin_cases k
  · rfl
  · show c.val = 0 + c.val; omega

end Cert.Fox
-- ==== Proof.Fox.Means.lean ====
module

public import proofs.«01_k».proof.Proof.Softmax
public import proofs.«01_k».proof.Proof.Fox.AtIndex
public import proofs.«01_k».proof.Proof.Fox.Body

/-! The sweep over the key tiles leaves each query the weighted mean of the values, over the extended reals. -/

@[expose] public section

set_option maxRecDepth 8192

noncomputable section

namespace Cert.Fox

open Cert.Flash

open Idealize.ShloMosaic Idealize.ShloMosaic.ValueIdx Cert.Kernel2Ideal Cert.Kernel2Ideal.Gen

theorem minus_inf : (Scalar.ofBits .f32 0xFF800000#32 : Ideal .f32) = (⊥ : EReal) := by
  show Ideal.ofBits .f32 0xFF800000#32 = ⊥
  simp [Ideal.ofBits, Ideal.ieee]

theorem zero_f32 : (Scalar.ofBits .f32 0x00000000#32 : Ideal .f32) = (0 : EReal) := by
  show Ideal.ofBits .f32 0x00000000#32 = 0
  simp [Ideal.ofBits, Ideal.ieee]

theorem zero_bf16 : (Scalar.ofBits .bf16 0x0000#16 : Ideal .bf16) = (0 : EReal) := by
  show Ideal.ofBits .bf16 0x0000#16 = 0
  simp [Ideal.ofBits, Ideal.ieee]

/-- The masked scores of tile `j`. -/
theorem masked_at (b j : ℕ) (s : FVec Ideal S1x1x256x512 .f32) (c : Fin 512) (t : ℕ → ℝ)
    (hs : ∀ r : Fin 256, s (ix4 (0 : Fin 1) (0 : Fin 1) r c) = ((t (256 * j + r.val) / Real.log 2 : ℝ) : EReal)) (r : Fin 256) :
    masked b j s (ix4 (0 : Fin 1) (0 : Fin 1) r c) = score2 t (512 * b + c.val) (256 * j + r.val) := by
  show (if 256 * j + r.val ≤ 512 * b + c.val then s (ix4 (0 : Fin 1) (0 : Fin 1) r c) else Scalar.ofBits .f32 0xFF800000#32) = _
  unfold score2
  split
  · exact hs r
  · exact minus_inf

section Sweep

variable (b : ℕ) (q : FVec Ideal S512x128 .bf16) (kt : ℕ → FVec Ideal S256x128 .bf16) (vt : ℕ → FVec Ideal S1x128x256 .bf16) (N : ℕ) (c : Fin 512) (t : ℕ → ℝ) (v : ℕ → ℕ → EReal)

/-- A column of the new running maximum. -/
theorem max_after (j : ℕ) (hs : ∀ r : Fin 256, score q (kt j) (ix4 (0 : Fin 1) (0 : Fin 1) r c) = ((t (256 * j + r.val) / Real.log 2 : ℝ) : EReal)) :
    (sweep b q kt vt (j + 1)).m (ix3 (0 : Fin 1) (0 : Fin 1) c)
      = max ((sweep b q kt vt j).m (ix3 (0 : Fin 1) (0 : Fin 1) c)) ((Finset.univ : Finset (Fin 256)).fold max ⊥ fun r => score2 t (512 * b + c.val) (256 * j + r.val)) := by
  refine (maxOf_at (sweep b q kt vt j).m (masked b j (sweep b q kt vt j).s) c).trans ((maxRow_at _ _ c).trans ?_)
  refine congrArg (fun f => max _ (Finset.fold max ⊥ f Finset.univ)) (funext fun r => ?_)
  rw [sweep_s]
  exact masked_at b j _ c t hs r

/-- What is gathered with a tile's own weights, in terms of the state before it. -/
theorem gather_after (j : ℕ) (hs : ∀ r : Fin 256, score q (kt j) (ix4 (0 : Fin 1) (0 : Fin 1) r c) = ((t (256 * j + r.val) / Real.log 2 : ℝ) : EReal))
    (d : Fin 128) (hv : ∀ r : Fin 256, vt j (ix3 (0 : Fin 1) d r) = v d.val (256 * j + r.val)) :
    gather (sweep b q kt vt (j + 1)) (vt j) (ix3 (0 : Fin 1) d c)
      = Ideal.exp2 ((sweep b q kt vt j).m (ix3 (0 : Fin 1) (0 : Fin 1) c) - (sweep b q kt vt (j + 1)).m (ix3 (0 : Fin 1) (0 : Fin 1) c))
          * gather (sweep b q kt vt j) (vt (j - 1)) (ix3 (0 : Fin 1) d c)
        + ∑ r : Fin 256, v d.val (256 * j + r.val) * Ideal.exp2 (score2 t (512 * b + c.val) (256 * j + r.val) - (sweep b q kt vt (j + 1)).m (ix3 (0 : Fin 1) (0 : Fin 1) c)) := by
  have hM : (sweep b q kt vt (j + 1)).m (ix3 (0 : Fin 1) (0 : Fin 1) c) = maxRow (sweep b q kt vt j).m (masked b j (sweep b q kt vt j).s) (ix2 (0 : Fin 1) c) := maxOf_at _ _ c
  rw [gather_at, hM]
  refine congrArg₂ (· + ·) (congrArg₂ (· * ·) (factor_at _ _ c) rfl) (Finset.sum_congr rfl fun r _ => congrArg₂ (· * ·) (hv r) ?_)
  refine (congrFun (weights_eq _ _) _).trans ?_
  refine congrArg (fun x : EReal => Ideal.exp2 (x - maxRow (sweep b q kt vt j).m (masked b j (sweep b q kt vt j).s) (ix2 (0 : Fin 1) c))) ?_
  rw [sweep_s]
  exact masked_at b j _ c t hs r

/-- Nothing is gathered before the first tile. -/
theorem gather_start (d : Fin 128) : gather (sweep b q kt vt 0) (vt (0 - 1)) (ix3 (0 : Fin 1) d c) = 0 := by
  rw [gather_at]
  have h1 : (sweep b q kt vt 0).acc (ix3 (0 : Fin 1) d c) = (0 : EReal) := zero_f32
  have h2 : ∀ r : Fin 256, (sweep b q kt vt 0).p (ix4 (0 : Fin 1) (0 : Fin 1) r c) = (0 : EReal) := fun r => zero_bf16
  rw [h1, mul_zero, zero_add]
  exact Finset.sum_eq_zero fun r _ => by rw [h2 r, mul_zero]

/-- After `j + 1` tiles: the running maximum is a real number, and the sums gathered are over the keys of those tiles. -/
theorem sweep_gathered (hs : ∀ j < N, ∀ r : Fin 256, score q (kt j) (ix4 (0 : Fin 1) (0 : Fin 1) r c) = ((t (256 * j + r.val) / Real.log 2 : ℝ) : EReal))
    (hv : ∀ j < N, ∀ (d : Fin 128) (r : Fin 256), vt j (ix3 (0 : Fin 1) d r) = v d.val (256 * j + r.val)) (j : ℕ) (hj : j < N) :
    ∃ m : ℝ, (sweep b q kt vt (j + 1)).m (ix3 (0 : Fin 1) (0 : Fin 1) c) = (m : EReal)
      ∧ ∀ d : Fin 128, gather (sweep b q kt vt (j + 1)) (vt j) (ix3 (0 : Fin 1) d c) = gathered (v d.val) t (512 * b + c.val) (256 * (j + 1)) m := by
  induction j with
  | zero =>
    obtain ⟨r, hr⟩ := fold_max_real (Finset.univ : Finset (Fin 256)) ⊥ (fun r => score2 t (512 * b + c.val) (256 * 0 + r.val)) bot_ne_top (fun _ _ => score2_ne_top _ _ _)
      (.inr ⟨0, Finset.mem_univ _, by
        show score2 t (512 * b + c.val) 0 ≠ ⊥
        unfold score2; rw [if_pos (Nat.zero_le _)]; exact EReal.coe_ne_bot _⟩)
    have hm0 : (sweep b q kt vt 0).m (ix3 (0 : Fin 1) (0 : Fin 1) c) = (⊥ : EReal) := minus_inf
    have hm : (sweep b q kt vt (0 + 1)).m (ix3 (0 : Fin 1) (0 : Fin 1) c) = (r : EReal) := by
      rw [max_after b q kt vt c t 0 (hs 0 hj), hm0, hr]; exact max_eq_right bot_le
    refine ⟨r, hm, fun d => ?_⟩
    rw [gather_after b q kt vt c t v 0 (hs 0 hj) d (hv 0 hj d), gather_start, mul_zero, zero_add, hm]
    simp only [Nat.mul_zero, Nat.zero_add, Nat.mul_one]
    exact gathered_first _ _ _ _ _
  | succ j ih =>
    obtain ⟨m, hm, hg⟩ := ih (by omega)
    obtain ⟨r, hr⟩ := max_real (m : EReal) ((Finset.univ : Finset (Fin 256)).fold max ⊥ fun r => score2 t (512 * b + c.val) (256 * (j + 1) + r.val)) (EReal.coe_ne_top _)
      (by
        rw [← lt_top_iff_ne_top, Finset.fold_max_lt]
        exact ⟨bot_lt_top, fun i _ => lt_top_iff_ne_top.mpr (score2_ne_top _ _ _)⟩) (.inl (EReal.coe_ne_bot _))
    have hM : (sweep b q kt vt (j + 1 + 1)).m (ix3 (0 : Fin 1) (0 : Fin 1) c) = (r : EReal) := by
      rw [max_after b q kt vt c t (j + 1) (hs (j + 1) hj), hm, hr]
    refine ⟨r, hM, fun d => ?_⟩
    rw [gather_after b q kt vt c t v (j + 1) (hs (j + 1) hj) d (hv (j + 1) hj d), hm, hM, Nat.add_sub_cancel, hg d]
    exact gathered_step _ _ _ _ _ _ _

end Sweep

/-- A head's result for a query of the block. -/
theorem headOut_at (b : ℕ) (q : ℕ → FVec Ideal S512x128 .bf16) (K : FVec Ideal S16384x128 .bf16) (V : FVec Ideal S64x128x256 .bf16) (a : ℕ) (c : Fin 512) (d : Fin 128) (t : ℕ → ℝ) (v : ℕ → ℕ → EReal)
    (hs : ∀ j < 2 * b + 2, ∀ r : Fin 256, score (q a) (kTile K j) (ix4 (0 : Fin 1) (0 : Fin 1) r c) = ((t (256 * j + r.val) / Real.log 2 : ℝ) : EReal))
    (hv : ∀ j < 2 * b + 2, ∀ (d : Fin 128) (r : Fin 256), vTile V j (ix3 (0 : Fin 1) d r) = v d.val (256 * j + r.val)) (h1 : ∀ k, v 64 k = 1) (hb : b < 32) :
    headOut b q K V a (ix2 c d) = mean (v d.val) t (512 * b + c.val) 16384 := by
  obtain ⟨m, -, hg⟩ := sweep_gathered b (q a) (kTile K) (vTile V) (2 * b + 2) c t v hs hv (2 * b + 1) (by omega)
  have hc := c.isLt
  refine (outOf_at _ c d).trans ?_
  have hg' := hg d
  have hg1 := hg (64 : Fin 128)
  refine (congrArg₂ Ideal.div hg' hg1).trans ?_
  rw [show v (64 : Fin 128).val = fun _ => 1 from funext fun k => h1 k, gathered_div _ _ _ _ _ (by omega)]
  exact mean_beyond _ _ _ _ _ (by omega) (by omega)

end Cert.Fox
-- ==== Proof.Fox.KernelValue.lean ====
module

public import proofs.«01_k».proof.Proof.Fox.PackAt
public import proofs.«01_k».proof.Proof.Fox.Means
public import proofs.«01_k».proof.Proof.Fox.Run
public import Idealize.ShloMosaic.Lib.Pipeline.ValueKit

/-! Forgetting attention: what the kernel's run leaves in its result, at an index: the average of a head's values under the weights of its scores. -/

@[expose] public section

set_option maxRecDepth 8192

noncomputable section

namespace Cert.Fox

open Idealize.ShloMosaic hiding ix2 ix3
open Idealize.ShloMosaic.ValueIdx Idealize.ShloMosaic.TcCoe Cert.Kernel2Ideal Cert.Kernel2Ideal.Gen
open Cert.Flash (Heads rowValue mean)

theorem index0 : ∀ t : Fin grid0.N, win0_0.index t = ![((grid0.coords t) 1).val, ((grid0.coords t) 0).val] := by decide +kernel
theorem index1 : ∀ t : Fin grid0.N, win0_1.index t = ![0, ((grid0.coords t) 0).val] := by decide +kernel
theorem index2 : ∀ t : Fin grid0.N, win0_2.index t = ![0, ((grid0.coords t) 0).val, 0] := by decide +kernel
theorem index3 : ∀ t : Fin grid0.N, win0_3.index t = ![((grid0.coords t) 1).val, ((grid0.coords t) 0).val] := by decide +kernel

variable (m : (ℓ : Loc nD τ sig) → Buf (Elt Ideal) ℓ) (c : Dev nD)

/-- The block of queries at a point, in the array. -/
theorem block0_at (t : Fin grid0.N) (r : Fin 512) (s : Fin 512) (n : Fin 16384) (col : Fin 1024) (hn : n.val = 512 * ((grid0.coords t) 1).val + r.val) (hc : col.val = 512 * ((grid0.coords t) 0).val + s.val) :
    (iblk m c 0 t : FVec Ideal S512x512 .bf16) (ix2 r s) = (V m c main_v31 : FVec Ideal S16384x1024 .bf16) (ix2 n col) := by
  show (V m c main_v31 : FVec Ideal S16384x1024 .bf16) ((win0_0.rect t).emb (ix2 r s)) = _
  refine congrArg _ (funext fun a => Fin.ext ?_)
  refine (Pipeline.Window.rect_emb_val win0_0 t (ix2 r s) a).trans ?_
  rw [index0]
  fin_cases a
  · show ((grid0.coords t) 1).val * 512 + r.val = n.val
    omega
  · show ((grid0.coords t) 0).val * 512 + s.val = col.val
    omega

/-- The block of keys at a point. -/
theorem block1_at (t : Fin grid0.N) (r : Fin 16384) (s : Fin 128) (col : Fin 256) (hc : col.val = 128 * ((grid0.coords t) 0).val + s.val) :
    (iblk m c 1 t : FVec Ideal S16384x128 .bf16) (ix2 r s) = (V m c main_v38 : FVec Ideal S16384x256 .bf16) (ix2 r col) := by
  show (V m c main_v38 : FVec Ideal S16384x256 .bf16) ((win0_1.rect t).emb (ix2 r s)) = _
  refine congrArg _ (funext fun a => Fin.ext ?_)
  refine (Pipeline.Window.rect_emb_val win0_1 t (ix2 r s) a).trans ?_
  rw [index1]
  fin_cases a
  · show 0 * 16384 + r.val = r.val
    omega
  · show ((grid0.coords t) 0).val * 128 + s.val = col.val
    omega

/-- The block of values at a point. -/
theorem block2_at (t : Fin grid0.N) (j : Fin 64) (s : Fin 128) (r : Fin 256) (col : Fin 256) (hc : col.val = 128 * ((grid0.coords t) 0).val + s.val) :
    (iblk m c 2 t : FVec Ideal S64x128x256 .bf16) (ix3 j s r) = (V m c main_v44 : FVec Ideal S64x256x256 .bf16) (ix3 j col r) := by
  show (V m c main_v44 : FVec Ideal S64x256x256 .bf16) ((win0_2.rect t).emb (ix3 j s r)) = _
  refine congrArg _ (funext fun a => Fin.ext ?_)
  refine (Pipeline.Window.rect_emb_val win0_2 t (ix3 j s r) a).trans ?_
  rw [index2]
  fin_cases a
  · show 0 * 64 + j.val = j.val
    omega
  · show ((grid0.coords t) 0).val * 128 + s.val = col.val
    omega
  · show 0 * 256 + r.val = r.val
    omega

/-- A key tile, in its block. -/
theorem kTile_at (K : FVec Ideal S16384x128 .bf16) (j : ℕ) (hj : j < 64) (r : Fin 256) (e : Fin 128) :
    kTile K j (ix2 r e) = K (ix2 ⟨256 * j + r.val, by omega⟩ e) := by
  have h : ∀ k : Fin 2, ![256 * j, 0] k + ![256, 128] k ≤ S16384x128.size k := fun k => by
    fin_cases k
    · show 256 * j + 256 ≤ 16384
      omega
    · show 0 + 128 ≤ 128
      omega
  unfold kTile
  rw [dif_pos h]
  refine congrArg K (funext fun k => Fin.ext ?_)
  fin_cases k
  · show 256 * j + 1 * r.val = 256 * j + r.val
    omega
  · show 0 + 1 * e.val = e.val
    omega

/-- A value tile, in its block. -/
theorem vTile_at (W : FVec Ideal S64x128x256 .bf16) (j : ℕ) (hj : j < 64) (d : Fin 128) (r : Fin 256) :
    vTile W j (ix3 (0 : Fin 1) d r) = W (ix3 ⟨j, hj⟩ d r) := by
  have h : ∀ k : Fin 3, ![j, 0, 0] k + ![1, 128, 256] k ≤ S64x128x256.size k := fun k => by
    fin_cases k
    · show j + 1 ≤ 64
      omega
    · show 0 + 128 ≤ 128
      omega
    · show 0 + 256 ≤ 256
      omega
  unfold vTile
  rw [dif_pos h]
  refine congrArg W (funext fun k => Fin.ext ?_)
  fin_cases k
  · show j + 1 * 0 = j
    omega
  · show 0 + 1 * d.val = d.val
    omega
  · show 0 + 1 * r.val = r.val
    omega

/-- A query tile, in its block. -/
theorem qTile_at (Q : FVec Ideal S512x512 .bf16) (a : ℕ) (ha : a < 4) (r : Fin 512) (e : Fin 128) :
    qTile Q a (ix2 r e) = Q (ix2 r ⟨128 * a + e.val, by omega⟩) := by
  have h : ∀ k : Fin 2, ![0, 128 * a] k + ![512, 128] k ≤ S512x512.size k := fun k => by
    fin_cases k
    · show 0 + 512 ≤ 512
      omega
    · show 128 * a + 128 ≤ 512
      omega
  unfold qTile
  rw [dif_pos h]
  refine congrArg Q (funext fun k => Fin.ext ?_)
  fin_cases k
  · show 0 + 1 * r.val = r.val
    omega
  · show 128 * a + 1 * e.val = 128 * a + e.val
    omega

/-- The array of averages, feature by feature of every head. -/
def averages (q : (Heads 64).Idx → ℝ) (kk : Groups.Idx → ℝ) (cum : Gates.Idx → ℝ) (v : Groups.Idx → EReal) : FVec Ideal S16384x1024 .bf16 := fun i =>
  mean (rowValue (perHead v) ⟨(i 1).val / 128, Nat.div_lt_of_lt_mul (i 1).isLt⟩ ((i 1).val % 128)) (foxScores q kk cum ⟨(i 1).val / 128, Nat.div_lt_of_lt_mul (i 1).isLt⟩ (i 0)) (i 0).val 16384

theorem averages_at (q : (Heads 64).Idx → ℝ) (kk : Groups.Idx → ℝ) (cum : Gates.Idx → ℝ) (v : Groups.Idx → EReal) (n : Fin 16384) (h : Fin 8) (d : Fin 128) (col : Fin 1024)
    (hcol : col.val = 128 * h.val + d.val) : averages q kk cum v (ix2 n col) = mean (rowValue (perHead v) h d.val) (foxScores q kk cum h n) n.val 16384 := by
  have e1 : (⟨col.val / 128, Nat.div_lt_of_lt_mul col.isLt⟩ : Fin 8) = h := Fin.ext (by show col.val / 128 = h.val; omega)
  have e2 : col.val % 128 = d.val := by omega
  show mean (rowValue (perHead v) ⟨col.val / 128, _⟩ (col.val % 128)) (foxScores q kk cum ⟨col.val / 128, _⟩ n) n.val 16384 = _
  rw [e1, e2]

variable (q : (Heads 64).Idx → ℝ) (kk : Groups.Idx → ℝ) (cum : Gates.Idx → ℝ)

theorem blockOut_at (b : ℕ) (Q : FVec Ideal S512x512 .bf16) (K : FVec Ideal S16384x128 .bf16) (W : FVec Ideal S64x128x256 .bf16) (r s : Fin 512) :
    blockOut b Q K W (ix2 r s) = headOut b (qTile Q) K W (s.val / 128) (ix2 r ⟨s.val % 128, Nat.mod_lt _ (by decide)⟩) := rfl

/-- The block a query block's run leaves, when the three blocks hold group `g` of the laid-out queries, keys and values. -/
theorem blockOut_eq (v : Groups.Idx → EReal) (b g : ℕ) (hb : b < 32) (hg : g < 2) (Q : FVec Ideal S512x512 .bf16) (K : FVec Ideal S16384x128 .bf16) (W : FVec Ideal S64x128x256 .bf16)
    (hQ : ∀ (r s : Fin 512) (n : Fin 16384) (col : Fin 1024), n.val = 512 * b + r.val → col.val = 512 * g + s.val → Q (ix2 r s) = packQ (fun i => (q i : EReal)) (fun i => (cum i : EReal)) (ix2 n col))
    (hK : ∀ (r : Fin 16384) (s : Fin 128) (col : Fin 256), col.val = 128 * g + s.val → K (ix2 r s) = packK (fun i => (kk i : EReal)) (fun i => (cum i : EReal)) (ix2 r col))
    (hW : ∀ (j : Fin 64) (s : Fin 128) (r : Fin 256) (col : Fin 256), col.val = 128 * g + s.val → W (ix3 j s r) = packV v (ix3 j col r))
    (r s : Fin 512) (n : Fin 16384) (col : Fin 1024) (hn : n.val = 512 * b + r.val) (hc : col.val = 512 * g + s.val) :
    blockOut b Q K W (ix2 r s) = averages q kk cum v (ix2 n col) := by
  have hs := s.isLt
  have hd : s.val % 128 < 128 := Nat.mod_lt _ (by decide)
  obtain ⟨a, haa⟩ : ∃ a, s.val / 128 = a := ⟨_, rfl⟩
  have ha : a < 4 := by omega
  have hgr : (groupOf ⟨4 * g + a, by omega⟩).val = g := by show (4 * g + a) / 4 = g; omega
  rw [averages_at q kk cum _ n ⟨4 * g + a, by omega⟩ ⟨s.val % 128, hd⟩ col (by show col.val = 128 * (4 * g + a) + s.val % 128; omega)]
  rw [blockOut_at, haa, hn]
  refine headOut_at b _ _ _ a r ⟨s.val % 128, hd⟩ _ (rowValue (perHead v) ⟨4 * g + a, by omega⟩) ?_ ?_ (fun k => ?_) hb
  · intro j hj x
    rw [score_at]
    have := packed_score cum q kk ⟨4 * g + a, by omega⟩ n ⟨256 * j + x.val, by omega⟩ (fun e => ⟨128 * g + e.val, by omega⟩) (fun e => by rw [hgr]) (fun e => ⟨512 * g + (128 * a + e.val), by omega⟩)
      (fun e => by show 512 * g + (128 * a + e.val) = 128 * (4 * g + a) + e.val; omega)
    refine Eq.trans (Finset.sum_congr rfl fun e _ => ?_) this
    rw [kTile_at _ _ (by omega), qTile_at _ _ ha]
    rw [hK _ _ ⟨128 * g + e.val, by omega⟩ rfl, hQ _ _ n ⟨512 * g + (128 * a + e.val), by omega⟩ hn rfl]
  · intro j hj d x
    rw [vTile_at _ _ (by omega)]
    rw [hW _ _ _ ⟨128 * g + d.val, by omega⟩ rfl]
    exact packV_at _ ⟨j, by omega⟩ x ⟨256 * j + x.val, by omega⟩ rfl ⟨4 * g + a, by omega⟩ d _ (by rw [hgr])
  · unfold rowValue
    rw [dif_neg (by decide), if_pos rfl]

/-- The block that the body leaves at a point. -/
theorem outsAt_at (h0 : m ((c.tc : Thread nD τ).loc main_arg0) = fun i => (q i : EReal)) (h1 : m ((c.tc : Thread nD τ).loc main_arg1) = fun i => (kk i : EReal))
    (h3 : m ((c.tc : Thread nD τ).loc main_arg3) = fun i => (cum i : EReal))
    (t : Fin grid0.N) (r s : Fin 512) (n : Fin 16384) (col : Fin 1024) (hn : n.val = 512 * ((grid0.coords t) 1).val + r.val) (hc : col.val = 512 * ((grid0.coords t) 0).val + s.val) :
    outsAt m c t (ix2 r s) = averages q kk cum (m ((c.tc : Thread nD τ).loc main_arg2)) (ix2 n col) := by
  refine blockOut_eq q kk cum _ _ _ ((grid0.coords t) 1).isLt ((grid0.coords t) 0).isLt _ _ _ ?_ ?_ ?_ r s n col hn hc
  · intro r s n col hn hc
    rw [block0_at m c t r s n col hn hc, V_queries, h0, h3]
  · intro r s col hc
    rw [block1_at m c t r s col hc, V_keys, h1, h3]
  · intro j s r col hc
    rw [block2_at m c t j s r col hc, V_values]

/-- The array the region leaves. -/
theorem region_result (h0 : m ((c.tc : Thread nD τ).loc main_arg0) = fun i => (q i : EReal)) (h1 : m ((c.tc : Thread nD τ).loc main_arg1) = fun i => (kk i : EReal))
    (h3 : m ((c.tc : Thread nD τ).loc main_arg3) = fun i => (cum i : EReal)) :
    (dats m 0 c).arrAt 3 cfg0.N = averages q kk cum (m ((c.tc : Thread nD τ).loc main_arg2)) := by
  refine (dats m 0 c).arrAt_eq_of_covers 3 _ (by decide +kernel) fun t _ y => ?_
  have hb : ((grid0.coords t) 1).val < 32 := ((grid0.coords t) 1).isLt
  have hg : ((grid0.coords t) 0).val < 2 := ((grid0.coords t) 0).isLt
  have hy0 : (y 0).val < 512 := (y 0).isLt
  have hy1 : (y 1).val < 512 := (y 1).isLt
  refine Eq.trans (b := outsAt m c t (ix2 ⟨(y 0).val, hy0⟩ ⟨(y 1).val, hy1⟩)) ?_ ?_
  · rw [after0_3]
    refine (show _ = outsAt m c t (fun a => y a) from rfl).trans (congrArg _ (funext fun a => ?_))
    fin_cases a <;> rfl
  refine (outsAt_at m c q kk cum h0 h1 h3 t _ _ ⟨512 * ((grid0.coords t) 1).val + (y 0).val, by omega⟩ ⟨512 * ((grid0.coords t) 0).val + (y 1).val, by omega⟩ rfl rfl).trans ?_
  refine congrArg _ (funext fun a => Fin.ext ?_)
  refine Eq.trans ?_ (Pipeline.Window.rect_emb_val win0_3 t y a).symm
  rw [index3]
  fin_cases a
  · show 512 * ((grid0.coords t) 1).val + (y 0).val = ((grid0.coords t) 1).val * 512 + (y 0).val
    omega
  · show 512 * ((grid0.coords t) 0).val + (y 1).val = ((grid0.coords t) 0).val * 512 + (y 1).val
    omega

/-- The host's last lines: the 64 features of each head out of its 128 columns. -/
def picked (x : FVec Ideal S16384x1024 .bf16) : FVec Ideal S16384x8x64 .bf16 :=
  extractStridedSlice S16384x8x64 ![0, 0, 0] (shapeCast S16384x8x128 x shapeCasts_S16384x1024_S16384x8x128) slices_S16384x8x128_S16384x8x64_0_0_0

theorem picked_at (x : FVec Ideal S16384x1024 .bf16) (n : Fin 16384) (h : Fin 8) (d : Fin 64) : picked x (ix3 n h d) = x (ix2 n ⟨128 * h.val + d.val, by omega⟩) := by
  unfold picked
  refine (extractStridedSlice_apply _ _ _ (ix3 n h d) (ix3 n h (⟨d.val, by omega⟩ : Fin 128)) fun a => ?_).trans ?_
  · fin_cases a
    · show n.val = 0 + n.val
      omega
    · show h.val = 0 + h.val
      omega
    · show d.val = 0 + d.val
      omega
  exact shapeCast_apply (t := S16384x8x128) _ _ (ix3 n h (⟨d.val, by omega⟩ : Fin 128)) (ix2 n (⟨128 * h.val + d.val, by omega⟩ : Fin 1024)) (by
    rw [Shape.rowMajor_val_three, Shape.rowMajor_val_two]
    show n.val * 1024 + (128 * h.val + d.val) = (n.val * 8 + h.val) * 128 + d.val
    omega)

/-- The result after the host's last lines. -/
theorem tail_result : Pipeline.afterTail₀ cfgs (dats m) 0 (V0 m) [hostOps1] c main_v47 = picked ((dats m 0 c).arrAt 3 cfg0.N) := by
  have w : Pipeline.withArrays (cfgs 0).spec c (V0 m c) (fun w => (dats m 0 c).arrAt w (cfgs 0).N) (Proc.devRef .tc main_v45) = (dats m 0 c).arrAt 3 cfg0.N :=
    Pipeline.withArrays_arr spec0 (by decide) c (V0 m c) (fun w => (dats m 0 c).arrAt w (cfgs 0).N) 3
  unfold Pipeline.afterTail₀
  simp only [hostOps1, List.flatten_cons, List.flatten_nil, List.append_nil]
  after_results_simp
  rw [← w]
  rfl

end Cert.Fox
-- ==== Proof.Fox.RefValue.lean ====
module

public import proofs.«01_k».proof.Proof.RefValue
public import proofs.«01_k».proof.Proof.PackAt
public import proofs.«01_k».proof.Proof.Fox.PackAt
public import proofs.«01_k».proof.Proof.Gen.Reference2Ideal.Run

/-! Forgetting attention: the reference's result, read at an index over the extended reals. -/

@[expose] public section

set_option maxRecDepth 8192

noncomputable section

namespace Cert.Fox.Ref

open Idealize.ShloMosaic Idealize.ShloMosaic.ValueIdx Idealize.ShloMosaic.TcCoe Cert.Reference2Ideal Cert.Reference2Ideal.Gen
open Cert.Flash (Heads rowValue mean coe_sum)
open Cert.Flash.Ref (mixed raw masked spread spread_at mixed_of_scores)

/-- A group's keys or values, once for each of its heads. -/
def heads (x : FVec Ideal S16384x2x64 .f32) : FVec Ideal S16384x8x64 .f32 :=
  shapeCast S16384x8x64 (broadcastInDim S16384x2x4x64 ![0, 1, 2, 3] bcast_S16384x2x1x64_S16384x2x4x64_0_1_2_3 (broadcastInDim S16384x2x1x64 ![0, 1, 3] bcast_S16384x2x64_S16384x2x1x64_0_1_3 x)) shapeCasts_S16384x2x4x64_S16384x8x64

/-- The gates' sums, head by head. -/
def byHead (x : FVec Ideal S16384x8 .f32) : FVec Ideal S8x16384 .f32 := transpose S8x16384 [1, 0] x transposes_S16384x8_S8x16384_1_0

/-- A number per key, over all queries. -/
def overKeys (x : FVec Ideal S8x16384 .f32) : FVec Ideal S8x16384x16384 .f32 :=
  broadcastInDim S8x16384x16384 ![0, 1, 2] bcast_S8x1x16384_S8x16384x16384_0_1_2 (broadcastInDim S8x1x16384 ![0, 2] bcast_S8x16384_S8x1x16384_0_2 x)

/-- The scores. -/
def scores (a0 : FVec Ideal S16384x8x64 .f32) (a1 : FVec Ideal S16384x2x64 .f32) (a3 : FVec Ideal S16384x8 .f32) : FVec Ideal S8x16384x16384 .f32 :=
  subf (addf (mulf (Host.dotGeneral dot_S16384x8x64_S16384x8x64_S8x16384x16384_2_2_0_0_1_1 none a0 (heads a1)) (broadcastInDim S8x16384x16384 ![] bcast_S_S8x16384x16384 (constant S_ .f32 0x3E000000#32))) (spread (byHead a3))) (overKeys (byHead a3))

theorem result_eq (m : (ℓ : Loc nD τ sig) → Buf (Elt Ideal) ℓ) (c : Dev nD) :
    Value.res_main_v36 (F := Ideal) m c = mixed (raw (masked (scores (m ((c.tc : Thread nD τ).loc main_arg0)) (m ((c.tc : Thread nD τ).loc main_arg1)) (m ((c.tc : Thread nD τ).loc main_arg3))))) (heads (m ((c.tc : Thread nD τ).loc main_arg2))) := rfl

theorem heads_at (x : FVec Ideal S16384x2x64 .f32) (n : Fin 16384) (h : Fin 8) (e : Fin 64) : heads x (ix3 n h e) = x (ix3 n (groupOf h) e) := by
  unfold heads
  refine (shapeCast_apply (t := S16384x8x64) _ _ (ix3 n h e) (ix4 n (groupOf h) (⟨h.val % 4, by omega⟩ : Fin 4) e) (by
    rw [Shape.rowMajor_val_four, Shape.rowMajor_val_three]
    show ((n.val * 2 + h.val / 4) * 4 + h.val % 4) * 64 + e.val = (n.val * 8 + h.val) * 64 + e.val
    omega)).trans ?_
  refine (broadcastInDim_apply _ _ _ _ (ix4 n (groupOf h) (0 : Fin 1) e) fun a => by fin_cases a <;> rfl).trans ?_
  exact broadcastInDim_apply _ _ _ _ (ix3 n (groupOf h) e) fun a => by fin_cases a <;> rfl

theorem heads_eq (x : FVec Ideal S16384x2x64 .f32) : heads x = perHead x := by
  funext i
  have hi : i = ix3 (i 0) (i 1) (i 2) := funext fun a => by fin_cases a <;> rfl
  rw [hi]
  exact heads_at x (i 0) (i 1) (i 2)

theorem byHead_at (x : FVec Ideal S16384x8 .f32) (h : Fin 8) (n : Fin 16384) : byHead x (ix2 h n) = x (ix2 n h) :=
  transpose_apply [1, 0] x transposes_S16384x8_S8x16384_1_0 (ix2 h n) (ix2 n h) fun b => by fin_cases b <;> rfl

theorem overKeys_at (x : FVec Ideal S8x16384 .f32) (h : Fin 8) (n k : Fin 16384) : overKeys x (ix3 h n k) = x (ix2 h k) := by
  unfold overKeys
  refine (broadcastInDim_apply _ _ _ _ (ix3 h (0 : Fin 1) k) fun a => by fin_cases a <;> rfl).trans ?_
  exact broadcastInDim_apply _ _ _ _ (ix2 h k) fun a => by fin_cases a <;> rfl

theorem scores_at (a0 : FVec Ideal S16384x8x64 .f32) (a1 : FVec Ideal S16384x2x64 .f32) (a3 : FVec Ideal S16384x8 .f32) (h : Fin 8) (n k : Fin 16384) :
    scores a0 a1 a3 (ix3 h n k) = (∑ e : Fin 64, a0 (ix3 n h e) * a1 (ix3 k (groupOf h) e)) * ((1 / 8 : ℝ) : EReal) + a3 (ix2 n h) - a3 (ix2 k h) := by
  unfold scores
  refine congrArg₂ (fun x y : EReal => x - y) (congrArg₂ (fun x y : EReal => x + y) (congrArg₂ (fun x y : EReal => x * y) ?_ ?_) ?_) ?_
  · simp only [Host.dotGeneral]
    rw [Ideal.dotGeneral_apply]
    refine ((contrEquiv1 dot_S16384x8x64_S16384x8x64_S8x16384x16384_2_2_0_0_1_1 64 rfl rfl).symm.sum_comp _).symm.trans ?_
    refine Finset.sum_congr rfl fun e _ => ?_
    have he := contrEquiv1_symm_val dot_S16384x8x64_S16384x8x64_S8x16384x16384_2_2_0_0_1_1 64 rfl rfl e
    refine congrArg₂ (· * ·) (congrArg a0 (funext fun a => Fin.ext ?_)) ((congrArg (heads a1) (funext fun a => Fin.ext ?_)).trans (heads_at a1 k h e))
    · fin_cases a
      · rfl
      · rfl
      · exact he
    · fin_cases a
      · rfl
      · rfl
      · exact he
  · exact eighth_bits
  · exact (spread_at _ h n k).trans (byHead_at a3 h n)
  · exact (overKeys_at _ h n k).trans (byHead_at a3 h k)

/-- The reference's result, its queries, keys and gates being real. -/
theorem value_at (q : (Heads 64).Idx → ℝ) (kk : Groups.Idx → ℝ) (cum : Gates.Idx → ℝ) (a2 : FVec Ideal S16384x2x64 .f32) (n : Fin 16384) (h : Fin 8) (d : Fin 64) :
    mixed (raw (masked (scores (fun i => (q i : EReal)) (fun i => (kk i : EReal)) (fun i => (cum i : EReal))))) (heads a2) (ix3 n h d)
      = mean (rowValue (perHead a2) h d.val) (foxScores q kk cum h n) n.val 16384 := by
  rw [heads_eq]
  refine mixed_of_scores _ _ _ n h d fun k => ?_
  rw [scores_at, foxScores_of, foxScore, EReal.coe_sub, EReal.coe_add, EReal.coe_mul, ← coe_sum]
  refine congrArg (fun x : EReal => x * ((1 / 8 : ℝ) : EReal) + (cum (ix2 n h) : EReal) - (cum (ix2 k h) : EReal)) (Finset.sum_congr rfl fun e _ => ?_)
  exact (EReal.coe_mul _ _).symm

end Cert.Fox.Ref
-- ==== Proof.Fox.Finite.lean ====
module

public import proofs.«01_k».proof.Proof.Gen.Pre_finite2
public import proofs.«01_k».proof.Proof.Finite

/-! Forgetting attention: what the precondition says, every entry of the queries, the keys and the gates' sums is a real number. -/

@[expose] public section

set_option maxRecDepth 8192

noncomputable section

namespace Cert.Fox

open Idealize.ShloMosaic Cert.Pre_finite2
open Cert.Flash (real_of_all)

theorem real_of_finite (a0 : FVec Ideal S16384x8x64 .f32) (a1 a2 : FVec Ideal S16384x2x64 .f32) (a3 : FVec Ideal S16384x8 .f32)
    (h : Cert.Pre_finite2.fn (F := Ideal) a0 a1 a2 a3 = fun _ => 1#1) :
    a0 = (fun i => ((EReal.toReal (a0 i) : ℝ) : EReal)) ∧ a1 = (fun i => ((EReal.toReal (a1 i) : ℝ) : EReal)) ∧ a3 = (fun i => ((EReal.toReal (a3 i) : ℝ) : EReal)) := by
  have e := congrFun h ValueIdx.ix0
  unfold Cert.Pre_finite2.fn at e
  dsimp only at e
  obtain ⟨e, h3⟩ := IntOp.andi_eq_one.1 e
  obtain ⟨h0, h1⟩ := IntOp.andi_eq_one.1 e
  exact ⟨real_of_all a0 _ _ _ h0, real_of_all a1 _ _ _ h1, real_of_all a3 _ _ _ h3⟩

end Cert.Fox
-- ==== Proof.Ffn.Row.lean ====
module

public import Idealize.ShloMosaic.PureOps.Ideal.Laws

/-! The gated feed-forward layer on one row: its normalized features, and each feature of its result. -/

@[expose] public section

noncomputable section

namespace Cert.Ffn

open Idealize.ShloMosaic

/-- The number one. -/
def one : EReal := Ideal.ofBits .f32 0x3F800000#32

/-- The number one half. -/
def half : EReal := Ideal.ofBits .f32 0x3F000000#32

/-- The reciprocal of a row's root mean square. -/
def invRms (x : Fin 1024 → EReal) : EReal :=
  Ideal.rsqrt (Ideal.div (∑ e, x e * x e) (Ideal.ofBits .f32 0x44800000#32) + Ideal.ofBits .f32 0x358637BD#32)

/-- A feature of a row after its normalization. -/
def normAt (x g : Fin 1024 → EReal) (d : Fin 1024) : EReal := x d * invRms x * g d

/-- A normalized feature, scaled and shifted. -/
def hidden (x g sc sh : Fin 1024 → EReal) (d : Fin 1024) : EReal := normAt x g d * (one + sc d) + sh d

/-- The gated activation. -/
def gated (a b : EReal) : EReal := a * Ideal.div one (one + Ideal.exp (-a)) * b

/-- One unit of the layer, times its outgoing weight. -/
def unitAt (h : Fin 1024 → EReal) (wg wu : Fin 1024 → EReal) (wo : EReal) : EReal :=
  gated (∑ e, h e * wg e) (∑ e, h e * wu e) * wo

theorem unitAt_congr {h a a' b b' : Fin 1024 → EReal} {c c' : EReal} (ha : ∀ e, a e = a' e) (hb : ∀ e, b e = b' e) (hc : c = c') :
    unitAt h a b c = unitAt h a' b' c' := by
  rw [funext ha, funext hb, hc]

/-- A feature of the layer's result. -/
def layerAt (x gt : Fin 1024 → EReal) (h : Fin 1024 → EReal) (wg wu : Fin 1024 → Fin 2816 → EReal) (wo : Fin 2816 → Fin 1024 → EReal) (d : Fin 1024) : EReal :=
  x d + half * gt d * ∑ f : Fin 2816, unitAt h (fun e => wg e f) (fun e => wu e f) (wo f d)

theorem zero_bits : (Ideal.ofBits .f32 0x00000000#32 : EReal) = 0 := by simp [Ideal.ofBits, Ideal.ieee]

/-- The sum over the units is the sum over the first half of them and over the second. -/
theorem sum_halves (u : Fin 2816 → EReal) :
    (∑ f : Fin 1408, u ⟨f.val, by omega⟩) + ∑ f : Fin 1408, u ⟨1408 + f.val, by omega⟩ = ∑ f, u f :=
  (Fin.sum_univ_add (a := 1408) (b := 1408) u).symm

end Cert.Ffn
-- ==== Proof.Ffn.KernelAt.lean ====
module

public import proofs.«01_k».proof.Proof.Ffn.Row
public import proofs.«01_k».proof.Proof.Gen.Kernel3Ideal.Value
public import Idealize.ShloMosaic.Lib.ValueIdx
public import Idealize.ShloMosaic.Lib.ValueLayout
public import Idealize.ShloMosaic.Lib.Pipeline.ValueKit

/-! What the feed-forward kernel's body computes on a block of rows, at an index. -/

@[expose] public section

set_option maxRecDepth 8192

noncomputable section

namespace Cert.Ffn

open Idealize.ShloMosaic hiding ix2 ix3
open Idealize.ShloMosaic.ValueIdx Cert.Kernel3Ideal Cert.Kernel3Ideal.Gen

/-- A product with the incoming weights. -/
theorem inDot_at (h : FVec Ideal S512x1024 .bf16) (w : FVec Ideal S1024x1408 .bf16) (r : Fin 512) (f : Fin 1408) :
    matmul dot_S512x1024_S1024x1408_S512x1408_1_0_0_1_n_n none h (shapeCast S1024x1408 w shapeCasts_S1024x1408_S1024x1408) (constant S512x1408 .f32 0x00000000#32) (ix2 r f) = ∑ e : Fin 1024, h (ix2 r e) * w (ix2 e f) := by
  simp only [matmul]
  rw [Ideal.matmul_constant_zero_apply]
  refine ((contrEquiv1 dot_S512x1024_S1024x1408_S512x1408_1_0_0_1_n_n 1024 rfl rfl).symm.sum_comp _).symm.trans ?_
  refine Finset.sum_congr rfl fun e _ => ?_
  have he := contrEquiv1_symm_val dot_S512x1024_S1024x1408_S512x1408_1_0_0_1_n_n 1024 rfl rfl e
  rw [shapeCast_self]
  refine congrArg₂ (· * ·) (congrArg h (funext fun a => Fin.ext ?_)) (congrArg w (funext fun a => Fin.ext ?_))
  · fin_cases a
    · rfl
    · exact he
  · fin_cases a
    · exact he
    · rfl

/-- A product with the outgoing weights. -/
theorem outDot_at (h : FVec Ideal S512x1408 .bf16) (w : FVec Ideal S1408x1024 .bf16) (r : Fin 512) (d : Fin 1024) :
    matmul dot_S512x1408_S1408x1024_S512x1024_1_0_0_1_n_n none h (shapeCast S1408x1024 w shapeCasts_S1408x1024_S1408x1024) (constant S512x1024 .f32 0x00000000#32) (ix2 r d) = ∑ f : Fin 1408, h (ix2 r f) * w (ix2 f d) := by
  simp only [matmul]
  rw [Ideal.matmul_constant_zero_apply]
  refine ((contrEquiv1 dot_S512x1408_S1408x1024_S512x1024_1_0_0_1_n_n 1408 rfl rfl).symm.sum_comp _).symm.trans ?_
  refine Finset.sum_congr rfl fun e _ => ?_
  have he := contrEquiv1_symm_val dot_S512x1408_S1408x1024_S512x1024_1_0_0_1_n_n 1408 rfl rfl e
  rw [shapeCast_self]
  refine congrArg₂ (· * ·) (congrArg h (funext fun a => Fin.ext ?_)) (congrArg w (funext fun a => Fin.ext ?_))
  · fin_cases a
    · rfl
    · exact he
  · fin_cases a
    · exact he
    · rfl

/-- A row of the normalized block. -/
theorem hidden_at (x : FVec Ideal S1x512x1024 .f32) (g : FVec Ideal S1x1024 .f32) (sc sh : FVec Ideal S1x1x1024 .f32) (r : Fin 512) (d : Fin 1024) :
    (k0_pay1 (F := Ideal) x g sc sh (ix2 r d) : EReal) = hidden (fun e => x (ix3 (0 : Fin 1) r e)) (fun e => g (ix2 (0 : Fin 1) e)) (fun e => sc (ix3 (0 : Fin 1) (0 : Fin 1) e)) (fun e => sh (ix3 (0 : Fin 1) (0 : Fin 1) e)) d := by
  unfold k0_pay1
  dsimp only
  refine (truncf_apply _ _ _ _).trans ?_
  refine (shapeCast_apply _ _ (ix2 r d) (ix3 (0 : Fin 1) r d) (by
    rw [Shape.rowMajor_val_three, Shape.rowMajor_val_two]
    show (0 * 512 + r.val) * 1024 + d.val = r.val * 1024 + d.val
    omega)).trans ?_
  refine congrArg₂ (· + ·) (congrArg₂ (· * ·) (congrArg₂ (· * ·) (congrArg₂ (· * ·) rfl ?_) ?_) ?_) ?_
  · refine (broadcastTo_apply _ _ (ix3 (0 : Fin 1) r d) (ix3 (0 : Fin 1) r (0 : Fin 1)) fun a => by fin_cases a <;> rfl).trans ?_
    refine congrArg Ideal.rsqrt (congrArg₂ (· + ·) (congrArg₂ Ideal.div ?_ rfl) rfl)
    refine (shapeCast_apply _ _ (ix3 (0 : Fin 1) r (0 : Fin 1)) (ix2 (0 : Fin 1) r) (by
      rw [Shape.rowMajor_val_three, Shape.rowMajor_val_two]
      show 0 * 512 + r.val = (0 * 512 + r.val) * 1 + 0
      omega)).trans ?_
    refine (Ideal.multiReduction_add_single _ _ _ _ _ _).trans ?_
    refine Finset.sum_congr rfl fun k _ => ?_
    have e : (reduces_S1x512x1024_S1x512.lift (ix2 (0 : Fin 1) r) k : S1x512x1024.Idx) = ix3 (0 : Fin 1) r k := funext fun a => by fin_cases a <;> rfl
    rw [e]
    rfl
  · refine (broadcastTo_apply _ _ (ix3 (0 : Fin 1) r d) (ix3 (0 : Fin 1) (0 : Fin 1) d) fun a => by fin_cases a <;> rfl).trans ?_
    refine (shapeCast_apply _ _ (ix3 (0 : Fin 1) (0 : Fin 1) d) (ix2 (0 : Fin 1) d) (by
      rw [Shape.rowMajor_val_three, Shape.rowMajor_val_two]
      show 0 * 1024 + d.val = (0 * 1 + 0) * 1024 + d.val
      omega)).trans ?_
    rw [shapeCast_self]
  · exact broadcastTo_apply _ _ (ix3 (0 : Fin 1) r d) (ix3 (0 : Fin 1) (0 : Fin 1) d) fun a => by fin_cases a <;> rfl
  · exact broadcastTo_apply _ _ (ix3 (0 : Fin 1) r d) (ix3 (0 : Fin 1) (0 : Fin 1) d) fun a => by fin_cases a <;> rfl

/-- The kernel's gated activation of a block. -/
def gatedBlock (a b : FVec Ideal S512x1408 .f32) : FVec Ideal S512x1408 .f32 :=
  mulf (mulf a (divf (broadcast S512x1408 (Scalar.ofBits .f32 0x3F800000#32)) (addf (broadcast S512x1408 (Scalar.ofBits .f32 0x3F800000#32)) (exp (subf (broadcast S512x1408 (Scalar.ofBits .f32 0x00000000#32)) a))))) b

theorem gatedBlock_at (a b : FVec Ideal S512x1408 .f32) (i : S512x1408.Idx) : gatedBlock a b i = gated (a i) (b i) := by
  have h : (Ideal.ofBits .f32 0x00000000#32 : EReal) - a i = -a i := by rw [zero_bits, zero_sub]
  refine congrArg₂ (· * ·) (congrArg₂ (· * ·) rfl (congrArg₂ Ideal.div rfl (congrArg₂ (· + ·) rfl (congrArg Ideal.exp h)))) rfl

/-- Half of the units, times the outgoing weights. -/
theorem units_at (h : FVec Ideal S512x1024 .bf16) (a b : FVec Ideal S512x1408 .f32) (wg wu : FVec Ideal S1024x1408 .bf16) (wo : FVec Ideal S1408x1024 .bf16) (r : Fin 512) (d : Fin 1024)
    (ha : ∀ f, a (ix2 r f) = ∑ e : Fin 1024, h (ix2 r e) * wg (ix2 e f)) (hb : ∀ f, b (ix2 r f) = ∑ e : Fin 1024, h (ix2 r e) * wu (ix2 e f)) :
    matmul dot_S512x1408_S1408x1024_S512x1024_1_0_0_1_n_n none (truncf .bf16 (gatedBlock a b) bitsLt_bf16_f32 : FVec Ideal S512x1408 .bf16) (shapeCast S1408x1024 wo shapeCasts_S1408x1024_S1408x1024) (constant S512x1024 .f32 0x00000000#32) (ix2 r d)
      = ∑ f : Fin 1408, unitAt (fun e => h (ix2 r e)) (fun e => wg (ix2 e f)) (fun e => wu (ix2 e f)) (wo (ix2 f d)) := by
  refine (outDot_at _ _ _ _).trans (Finset.sum_congr rfl fun f _ => congrArg₂ (· * ·) ?_ rfl)
  refine (gatedBlock_at a b (ix2 r f)).trans ?_
  rw [ha, hb]

/-- The block the body stores. -/
theorem stored_at (x : FVec Ideal S1x512x1024 .f32) (g : FVec Ideal S1x1024 .f32) (sc sh gt : FVec Ideal S1x1x1024 .f32) (wg0 wu0 wg1 wu1 : FVec Ideal S1024x1408 .bf16) (wo0 wo1 : FVec Ideal S1408x1024 .bf16) (r : Fin 512) (d : Fin 1024) :
    k0_pay6 (F := Ideal) x (k0_pay1 x g sc sh) k0_pay2 (k0_pay3 x g sc sh wg0) (k0_pay4 x g sc sh wu0) (k0_pay5 x g sc sh wg0) wo0 wg1 wu1 wo1 gt (ix3 (0 : Fin 1) r d)
      = x (ix3 (0 : Fin 1) r d) + half * gt (ix3 (0 : Fin 1) (0 : Fin 1) d) *
        ((∑ f : Fin 1408, unitAt (fun e => k0_pay1 (F := Ideal) x g sc sh (ix2 r e)) (fun e => wg0 (ix2 e f)) (fun e => wu0 (ix2 e f)) (wo0 (ix2 f d)))
          + ∑ f : Fin 1408, unitAt (fun e => k0_pay1 (F := Ideal) x g sc sh (ix2 r e)) (fun e => wg1 (ix2 e f)) (fun e => wu1 (ix2 e f)) (wo1 (ix2 f d))) := by
  unfold k0_pay6 k0_pay5
  dsimp only
  refine congrArg₂ (· + ·) rfl (congrArg₂ (· * ·) ?_ ?_)
  · exact broadcastTo_apply _ _ (ix3 (0 : Fin 1) r d) (ix3 (0 : Fin 1) (0 : Fin 1) d) fun a => by fin_cases a <;> rfl
  refine (shapeCast_apply _ _ (ix3 (0 : Fin 1) r d) (ix2 r d) (by
    rw [Shape.rowMajor_val_three, Shape.rowMajor_val_two]
    show r.val * 1024 + d.val = (0 * 512 + r.val) * 1024 + d.val
    omega)).trans ?_
  refine congrArg₂ (· + ·) ?_ ?_
  · refine (congrArg₂ (· + ·) (show (k0_pay2 (F := Ideal) (ix2 r d) : EReal) = 0 from zero_bits) ?_).trans (zero_add _)
    exact units_at (k0_pay1 x g sc sh) (k0_pay3 x g sc sh wg0) (k0_pay4 x g sc sh wu0) wg0 wu0 wo0 r d (fun f => inDot_at _ _ _ _) (fun f => inDot_at _ _ _ _)
  · exact units_at (k0_pay1 x g sc sh) _ _ wg1 wu1 wo1 r d (fun f => inDot_at _ _ _ _) (fun f => inDot_at _ _ _ _)

theorem zero2 : (![0, 0] : Fin 2 → ℕ) = fun _ => 0 := funext fun a => by fin_cases a <;> rfl
theorem zero3 : (![0, 0, 0] : Fin 3 → ℕ) = fun _ => 0 := funext fun a => by fin_cases a <;> rfl

/-- The block the body leaves, from the blocks it reads. -/
theorem left_at (x0 : FVec Ideal S1x512x1024 .f32) (x1 x2 x3 : FVec Ideal S1x1x1024 .f32) (x4 : FVec Ideal S1x1024 .f32) (x5 x6 : FVec Ideal S1024x2816 .bf16) (x7 : FVec Ideal S2816x1024 .bf16) (r : Fin 512) (d : Fin 1024) :
    out0_8 (F := Ideal) x0 x1 x2 x3 x4 x5 x6 x7 (ix3 (0 : Fin 1) r d)
      = layerAt (fun e => x0 (ix3 (0 : Fin 1) r e)) (fun e => x3 (ix3 (0 : Fin 1) (0 : Fin 1) e)) (hidden (fun e => x0 (ix3 (0 : Fin 1) r e)) (fun e => x4 (ix2 (0 : Fin 1) e)) (fun e => x2 (ix3 (0 : Fin 1) (0 : Fin 1) e)) (fun e => x1 (ix3 (0 : Fin 1) (0 : Fin 1) e)))
        (fun e f => x5 (ix2 e f)) (fun e f => x6 (ix2 e f)) (fun f e => x7 (ix2 f e)) d := by
  unfold out0_8
  rw [View.canon_unit_zero zero3]
  have l0 : View.ld (Val := Elt Ideal) (e' := .f32) x0 r0_0 = x0 := View.ld_unit_zero (Val := Elt Ideal) (e := .f32) zero3 _ x0
  have l1 : View.ld (Val := Elt Ideal) (e' := .f32) x1 r0_2 = x1 := View.ld_unit_zero (Val := Elt Ideal) (e := .f32) zero3 _ x1
  have l2 : View.ld (Val := Elt Ideal) (e' := .f32) x2 r0_2 = x2 := View.ld_unit_zero (Val := Elt Ideal) (e := .f32) zero3 _ x2
  have l3 : View.ld (Val := Elt Ideal) (e' := .f32) x3 r0_2 = x3 := View.ld_unit_zero (Val := Elt Ideal) (e := .f32) zero3 _ x3
  have l4 : View.ld (Val := Elt Ideal) (e' := .f32) x4 r0_1 = x4 := View.ld_unit_zero (Val := Elt Ideal) (e := .f32) zero2 _ x4
  rw [l0, l1, l2, l3, l4]
  refine (stored_at x0 x4 x2 x1 x3 _ _ _ _ _ _ r d).trans ?_
  unfold layerAt
  refine congrArg₂ (· + ·) rfl (congrArg₂ (· * ·) rfl ?_)
  rw [← sum_halves]
  have hh : (fun e => k0_pay1 (F := Ideal) x0 x4 x2 x1 (ix2 r e)) = hidden (fun e => x0 (ix3 (0 : Fin 1) r e)) (fun e => x4 (ix2 (0 : Fin 1) e)) (fun e => x2 (ix3 (0 : Fin 1) (0 : Fin 1) e)) (fun e => x1 (ix3 (0 : Fin 1) (0 : Fin 1) e)) := funext fun e => hidden_at x0 x4 x2 x1 r e
  rw [hh]
  have cols0 : ∀ (w : FVec Ideal S1024x2816 .bf16) (e : Fin 1024) (f : Fin 1408), View.ld (Val := Elt Ideal) (e' := .bf16) w r0_3 (ix2 e f) = w (ix2 e (⟨f.val, by omega⟩ : Fin 2816)) := fun w e f =>
    View.ld_unit_apply_of (Val := Elt Ideal) (S := S1024x2816) (e := .bf16) w ![0, 0] S1024x1408.size inb_S1024x2816_S1024x1408_0_0 (ix2 e f) (ix2 e (⟨f.val, by omega⟩ : Fin 2816)) fun a => by
      fin_cases a
      · show e.val = 0 + e.val
        omega
      · show f.val = 0 + f.val
        omega
  have cols1 : ∀ (w : FVec Ideal S1024x2816 .bf16) (e : Fin 1024) (f : Fin 1408), View.ld (Val := Elt Ideal) (e' := .bf16) w r0_5 (ix2 e f) = w (ix2 e (⟨1408 + f.val, by omega⟩ : Fin 2816)) := fun w e f =>
    View.ld_unit_apply_of (Val := Elt Ideal) (S := S1024x2816) (e := .bf16) w ![0, 1408] S1024x1408.size inb_S1024x2816_S1024x1408_0_1408 (ix2 e f) (ix2 e (⟨1408 + f.val, by omega⟩ : Fin 2816)) fun a => by
      fin_cases a
      · show e.val = 0 + e.val
        omega
      · rfl
  have rows0 : ∀ (w : FVec Ideal S2816x1024 .bf16) (f : Fin 1408) (e : Fin 1024), View.ld (Val := Elt Ideal) (e' := .bf16) w r0_4 (ix2 f e) = w (ix2 (⟨f.val, by omega⟩ : Fin 2816) e) := fun w f e =>
    View.ld_unit_apply_of (Val := Elt Ideal) (S := S2816x1024) (e := .bf16) w ![0, 0] S1408x1024.size inb_S2816x1024_S1408x1024_0_0 (ix2 f e) (ix2 (⟨f.val, by omega⟩ : Fin 2816) e) fun a => by
      fin_cases a
      · show f.val = 0 + f.val
        omega
      · show e.val = 0 + e.val
        omega
  have rows1 : ∀ (w : FVec Ideal S2816x1024 .bf16) (f : Fin 1408) (e : Fin 1024), View.ld (Val := Elt Ideal) (e' := .bf16) w r0_6 (ix2 f e) = w (ix2 (⟨1408 + f.val, by omega⟩ : Fin 2816) e) := fun w f e =>
    View.ld_unit_apply_of (Val := Elt Ideal) (S := S2816x1024) (e := .bf16) w ![1408, 0] S1408x1024.size inb_S2816x1024_S1408x1024_1408_0 (ix2 f e) (ix2 (⟨1408 + f.val, by omega⟩ : Fin 2816) e) fun a => by
      fin_cases a
      · rfl
      · show e.val = 0 + e.val
        omega
  refine congrArg₂ (· + ·) (Finset.sum_congr rfl fun f _ => ?_) (Finset.sum_congr rfl fun f _ => ?_)
  · exact unitAt_congr (fun e => cols0 x5 e f) (fun e => cols0 x6 e f) (rows0 x7 f d)
  · exact unitAt_congr (fun e => cols1 x5 e f) (fun e => cols1 x6 e f) (rows1 x7 f d)

end Cert.Ffn
-- ==== Proof.Ffn.KernelValue.lean ====
module

public import proofs.«01_k».proof.Proof.Ffn.KernelAt

/-! What the feed-forward kernel's run leaves in its result, at an index. -/

@[expose] public section

set_option maxRecDepth 8192

noncomputable section

namespace Cert.Ffn

open Idealize.ShloMosaic hiding ix1 ix2 ix3
open Idealize.ShloMosaic.ValueIdx Idealize.ShloMosaic.TcCoe Cert.Kernel3Ideal Cert.Kernel3Ideal.Gen

theorem index0 : ∀ t : Fin grid0.N, win0_0.index t = ![0, t.val, 0] := by decide +kernel
theorem index1 : ∀ t : Fin grid0.N, win0_1.index t = ![0, 0, 0] := by decide +kernel
theorem index2 : ∀ t : Fin grid0.N, win0_2.index t = ![0, 0, 1] := by decide +kernel
theorem index3 : ∀ t : Fin grid0.N, win0_3.index t = ![0, 0, 2] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![0, t.val, 0] := by decide +kernel
theorem points : grid0.N = 32 := by decide +kernel

variable (m : (ℓ : Loc nD τ sig) → Buf (Elt Ideal) ℓ) (c : Dev nD)

/-! ### The arrays the host's lines prepare -/

theorem gains_at (e : Fin 1024) : (V m c main_v0 : FVec Ideal S1x1024 .f32) (ix2 (0 : Fin 1) e) = (m ((c.tc : Thread nD τ).loc main_arg2) : FVec Ideal S1024 .f32) (ix1 e) := by
  have h : V m c main_v0 = broadcastInDim S1x1024 ![1] bcast_S1024_S1x1024_1 (m ((c.tc : Thread nD τ).loc main_arg2) : FVec Ideal S1024 .f32) := by
    show StableHlo.after (List.flatten [hostOps0]) (fun b => m (c, b)) (Proc.devRef .tc main_v0) = _
    simp only [hostOps0, List.flatten_cons, List.flatten_nil, List.append_nil]
    after_results_simp
  rw [h]
  exact broadcastInDim_apply _ _ _ _ (ix1 e) fun a => by fin_cases a <;> rfl

theorem gates_at (e : Fin 1024) (f : Fin 2816) (k : Fin 5632) (hk : k.val = f.val) :
    (V m c main_v2 : FVec Ideal S1024x2816 .bf16) (ix2 e f) = (m ((c.tc : Thread nD τ).loc main_arg3) : FVec Ideal S1024x5632 .f32) (ix2 e k) := by
  have h : V m c main_v2 = truncf (F := Ideal) .bf16 (extractStridedSlice S1024x2816 ![0, 0] (m ((c.tc : Thread nD τ).loc main_arg3) : FVec Ideal S1024x5632 .f32) slices_S1024x5632_S1024x2816_0_0) bitsLt_bf16_f32 := by
    show StableHlo.after (List.flatten [hostOps0]) (fun b => m (c, b)) (Proc.devRef .tc main_v2) = _
    simp only [hostOps0, List.flatten_cons, List.flatten_nil, List.append_nil]
    after_results_simp
  rw [h]
  refine (truncf_apply (F := Ideal) .bf16 _ bitsLt_bf16_f32 (ix2 e f)).trans ?_
  refine (extractStridedSlice_apply _ _ _ (ix2 e f) (ix2 e k) fun a => ?_)
  fin_cases a
  · show e.val = 0 + e.val
    omega
  · show k.val = 0 + f.val
    omega

theorem ups_at (e : Fin 1024) (f : Fin 2816) (k : Fin 5632) (hk : k.val = 2816 + f.val) :
    (V m c main_v4 : FVec Ideal S1024x2816 .bf16) (ix2 e f) = (m ((c.tc : Thread nD τ).loc main_arg3) : FVec Ideal S1024x5632 .f32) (ix2 e k) := by
  have h : V m c main_v4 = truncf (F := Ideal) .bf16 (extractStridedSlice S1024x2816 ![0, 2816] (m ((c.tc : Thread nD τ).loc main_arg3) : FVec Ideal S1024x5632 .f32) slices_S1024x5632_S1024x2816_0_2816) bitsLt_bf16_f32 := by
    show StableHlo.after (List.flatten [hostOps0]) (fun b => m (c, b)) (Proc.devRef .tc main_v4) = _
    simp only [hostOps0, List.flatten_cons, List.flatten_nil, List.append_nil]
    after_results_simp
  rw [h]
  refine (truncf_apply (F := Ideal) .bf16 _ bitsLt_bf16_f32 (ix2 e f)).trans ?_
  refine (extractStridedSlice_apply _ _ _ (ix2 e f) (ix2 e k) fun a => ?_)
  fin_cases a
  · show e.val = 0 + e.val
    omega
  · show k.val = 2816 + f.val
    omega

theorem downs_at (f : Fin 2816) (e : Fin 1024) :
    (V m c main_v5 : FVec Ideal S2816x1024 .bf16) (ix2 f e) = (m ((c.tc : Thread nD τ).loc main_arg4) : FVec Ideal S2816x1024 .f32) (ix2 f e) := by
  have h : V m c main_v5 = truncf (F := Ideal) .bf16 (m ((c.tc : Thread nD τ).loc main_arg4) : FVec Ideal S2816x1024 .f32) bitsLt_bf16_f32 := by
    show StableHlo.after (List.flatten [hostOps0]) (fun b => m (c, b)) (Proc.devRef .tc main_v5) = _
    simp only [hostOps0, List.flatten_cons, List.flatten_nil, List.append_nil]
    after_results_simp
  rw [h]
  rfl

/-! ### The blocks at a point -/

theorem block0_at (t : Fin grid0.N) (r : Fin 512) (e : Fin 1024) (n : Fin 16384) (hn : n.val = 512 * t.val + r.val) :
    (iblk m c 0 t : FVec Ideal S1x512x1024 .f32) (ix3 (0 : Fin 1) r e) = (m ((c.tc : Thread nD τ).loc main_arg0) : FVec Ideal S1x16384x1024 .f32) (ix3 (0 : Fin 1) n e) := by
  rw [← V_main_arg0 m c]
  show (V m c main_arg0 : FVec Ideal S1x16384x1024 .f32) ((win0_0.rect t).emb (ix3 (0 : Fin 1) r e)) = _
  refine congrArg _ (funext fun a => Fin.ext ?_)
  refine (Pipeline.Window.rect_emb_val win0_0 t (ix3 (0 : Fin 1) r e) a).trans ?_
  rw [index0]
  fin_cases a
  · rfl
  · show t.val * 512 + r.val = n.val
    omega
  · show 0 * 1024 + e.val = e.val
    omega

theorem block1_at (t : Fin grid0.N) (e : Fin 1024) (k : Fin 9216) (hk : k.val = e.val) :
    (iblk m c 1 t : FVec Ideal S1x1x1024 .f32) (ix3 (0 : Fin 1) (0 : Fin 1) e) = (m ((c.tc : Thread nD τ).loc main_arg1) : FVec Ideal S1x1x9216 .f32) (ix3 (0 : Fin 1) (0 : Fin 1) k) := by
  rw [← V_main_arg1 m c]
  show (V m c main_arg1 : FVec Ideal S1x1x9216 .f32) ((win0_1.rect t).emb (ix3 (0 : Fin 1) (0 : Fin 1) e)) = _
  refine congrArg _ (funext fun a => Fin.ext ?_)
  refine (Pipeline.Window.rect_emb_val win0_1 t (ix3 (0 : Fin 1) (0 : Fin 1) e) a).trans ?_
  rw [index1]
  fin_cases a
  · rfl
  · rfl
  · show 0 * 1024 + e.val = k.val
    omega

theorem block2_at (t : Fin grid0.N) (e : Fin 1024) (k : Fin 9216) (hk : k.val = 1024 + e.val) :
    (iblk m c 2 t : FVec Ideal S1x1x1024 .f32) (ix3 (0 : Fin 1) (0 : Fin 1) e) = (m ((c.tc : Thread nD τ).loc main_arg1) : FVec Ideal S1x1x9216 .f32) (ix3 (0 : Fin 1) (0 : Fin 1) k) := by
  rw [← V_main_arg1 m c]
  show (V m c main_arg1 : FVec Ideal S1x1x9216 .f32) ((win0_2.rect t).emb (ix3 (0 : Fin 1) (0 : Fin 1) e)) = _
  refine congrArg _ (funext fun a => Fin.ext ?_)
  refine (Pipeline.Window.rect_emb_val win0_2 t (ix3 (0 : Fin 1) (0 : Fin 1) e) a).trans ?_
  rw [index2]
  fin_cases a
  · rfl
  · rfl
  · show 1 * 1024 + e.val = k.val
    omega

theorem block3_at (t : Fin grid0.N) (e : Fin 1024) (k : Fin 9216) (hk : k.val = 2048 + e.val) :
    (iblk m c 3 t : FVec Ideal S1x1x1024 .f32) (ix3 (0 : Fin 1) (0 : Fin 1) e) = (m ((c.tc : Thread nD τ).loc main_arg1) : FVec Ideal S1x1x9216 .f32) (ix3 (0 : Fin 1) (0 : Fin 1) k) := by
  rw [← V_main_arg1 m c]
  show (V m c main_arg1 : FVec Ideal S1x1x9216 .f32) ((win0_3.rect t).emb (ix3 (0 : Fin 1) (0 : Fin 1) e)) = _
  refine congrArg _ (funext fun a => Fin.ext ?_)
  refine (Pipeline.Window.rect_emb_val win0_3 t (ix3 (0 : Fin 1) (0 : Fin 1) e) a).trans ?_
  rw [index3]
  fin_cases a
  · rfl
  · rfl
  · show 2 * 1024 + e.val = k.val
    omega

theorem block4_at (t : Fin grid0.N) (e : Fin 1024) :
    (iblk m c 4 t : FVec Ideal S1x1024 .f32) (ix2 (0 : Fin 1) e) = (m ((c.tc : Thread nD τ).loc main_arg2) : FVec Ideal S1024 .f32) (ix1 e) := by
  rw [← gains_at m c e]
  show (V m c main_v0 : FVec Ideal S1x1024 .f32) ((win0_4.rect t).emb (ix2 (0 : Fin 1) e)) = _
  refine congrArg _ (funext fun a => Fin.ext ?_)
  refine (Pipeline.Window.rect_emb_val win0_4 t (ix2 (0 : Fin 1) e) a).trans ?_
  rw [index4]
  fin_cases a
  · rfl
  · show 0 * 1024 + e.val = e.val
    omega

theorem block5_at (t : Fin grid0.N) (e : Fin 1024) (f : Fin 2816) (k : Fin 5632) (hk : k.val = f.val) :
    (iblk m c 5 t : FVec Ideal S1024x2816 .bf16) (ix2 e f) = (m ((c.tc : Thread nD τ).loc main_arg3) : FVec Ideal S1024x5632 .f32) (ix2 e k) := by
  rw [← gates_at m c e f k hk]
  show (V m c main_v2 : FVec Ideal S1024x2816 .bf16) ((win0_5.rect t).emb (ix2 e f)) = _
  refine congrArg _ (funext fun a => Fin.ext ?_)
  refine (Pipeline.Window.rect_emb_val win0_5 t (ix2 e f) a).trans ?_
  rw [index5]
  fin_cases a
  · show 0 * 1024 + e.val = e.val
    omega
  · show 0 * 2816 + f.val = f.val
    omega

theorem block6_at (t : Fin grid0.N) (e : Fin 1024) (f : Fin 2816) (k : Fin 5632) (hk : k.val = 2816 + f.val) :
    (iblk m c 6 t : FVec Ideal S1024x2816 .bf16) (ix2 e f) = (m ((c.tc : Thread nD τ).loc main_arg3) : FVec Ideal S1024x5632 .f32) (ix2 e k) := by
  rw [← ups_at m c e f k hk]
  show (V m c main_v4 : FVec Ideal S1024x2816 .bf16) ((win0_6.rect t).emb (ix2 e f)) = _
  refine congrArg _ (funext fun a => Fin.ext ?_)
  refine (Pipeline.Window.rect_emb_val win0_6 t (ix2 e f) a).trans ?_
  rw [index6]
  fin_cases a
  · show 0 * 1024 + e.val = e.val
    omega
  · show 0 * 2816 + f.val = f.val
    omega

theorem block7_at (t : Fin grid0.N) (f : Fin 2816) (e : Fin 1024) :
    (iblk m c 7 t : FVec Ideal S2816x1024 .bf16) (ix2 f e) = (m ((c.tc : Thread nD τ).loc main_arg4) : FVec Ideal S2816x1024 .f32) (ix2 f e) := by
  rw [← downs_at m c f e]
  show (V m c main_v5 : FVec Ideal S2816x1024 .bf16) ((win0_7.rect t).emb (ix2 f e)) = _
  refine congrArg _ (funext fun a => Fin.ext ?_)
  refine (Pipeline.Window.rect_emb_val win0_7 t (ix2 f e) a).trans ?_
  rw [index7]
  fin_cases a
  · show 0 * 2816 + f.val = f.val
    omega
  · show 0 * 1024 + e.val = e.val
    omega

/-- The layer's result. -/
def result (a0 : FVec Ideal S1x16384x1024 .f32) (a1 : FVec Ideal S1x1x9216 .f32) (a2 : FVec Ideal S1024 .f32) (a3 : FVec Ideal S1024x5632 .f32) (a4 : FVec Ideal S2816x1024 .f32) : FVec Ideal S1x16384x1024 .f32 := fun i =>
  layerAt (fun e => a0 (ix3 (0 : Fin 1) (i 1) e)) (fun e => a1 (ix3 (0 : Fin 1) (0 : Fin 1) (⟨2048 + e.val, by omega⟩ : Fin 9216)))
    (hidden (fun e => a0 (ix3 (0 : Fin 1) (i 1) e)) (fun e => a2 (ix1 e)) (fun e => a1 (ix3 (0 : Fin 1) (0 : Fin 1) (⟨1024 + e.val, by omega⟩ : Fin 9216))) (fun e => a1 (ix3 (0 : Fin 1) (0 : Fin 1) (⟨e.val, by omega⟩ : Fin 9216))))
    (fun e f => a3 (ix2 e (⟨f.val, by omega⟩ : Fin 5632))) (fun e f => a3 (ix2 e (⟨2816 + f.val, by omega⟩ : Fin 5632))) (fun f e => a4 (ix2 f e)) (i 2)

/-- The block left at a point. -/
theorem leftAt (t : Fin grid0.N) (r : Fin 512) (d : Fin 1024) (n : Fin 16384) (hn : n.val = 512 * t.val + r.val) :
    (dats m 0 c).after 8 t (ix3 (0 : Fin 1) r d) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix3 (0 : Fin 1) n d) := by
  rw [after0_8]
  refine (left_at _ _ _ _ _ _ _ _ r d).trans ?_
  have e0 : (fun e => (iblk m c 0 t : FVec Ideal S1x512x1024 .f32) (ix3 (0 : Fin 1) r e)) = _ := funext fun e => block0_at m c t r e n hn
  have e1 : (fun e => (iblk m c 1 t : FVec Ideal S1x1x1024 .f32) (ix3 (0 : Fin 1) (0 : Fin 1) e)) = _ := funext fun e => block1_at m c t e ⟨e.val, by omega⟩ rfl
  have e2 : (fun e => (iblk m c 2 t : FVec Ideal S1x1x1024 .f32) (ix3 (0 : Fin 1) (0 : Fin 1) e)) = _ := funext fun e => block2_at m c t e ⟨1024 + e.val, by omega⟩ rfl
  have e3 : (fun e => (iblk m c 3 t : FVec Ideal S1x1x1024 .f32) (ix3 (0 : Fin 1) (0 : Fin 1) e)) = _ := funext fun e => block3_at m c t e ⟨2048 + e.val, by omega⟩ rfl
  have e4 : (fun e => (iblk m c 4 t : FVec Ideal S1x1024 .f32) (ix2 (0 : Fin 1) e)) = _ := funext fun e => block4_at m c t e
  have e5 : (fun e f => (iblk m c 5 t : FVec Ideal S1024x2816 .bf16) (ix2 e f)) = _ := funext fun e => funext fun f => block5_at m c t e f ⟨f.val, by omega⟩ rfl
  have e6 : (fun e f => (iblk m c 6 t : FVec Ideal S1024x2816 .bf16) (ix2 e f)) = _ := funext fun e => funext fun f => block6_at m c t e f ⟨2816 + f.val, by omega⟩ rfl
  have e7 : (fun f e => (iblk m c 7 t : FVec Ideal S2816x1024 .bf16) (ix2 f e)) = _ := funext fun f => funext fun e => block7_at m c t f e
  rw [e0, e1, e2, e3, e4, e5, e6, e7]
  rfl

/-- The array the region leaves. -/
theorem region_result : (dats m 0 c).arrAt 8 cfg0.N = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 8 _ (by decide +kernel) fun t _ y => ?_
  have ht : t.val < 32 := lt_of_lt_of_eq t.isLt points
  have hy0 : (y 0).val < 1 := (y 0).isLt
  have hy1 : (y 1).val < 512 := (y 1).isLt
  have hy2 : (y 2).val < 1024 := (y 2).isLt
  refine Eq.trans (b := (dats m 0 c).after 8 t (ix3 (0 : Fin 1) ⟨(y 1).val, hy1⟩ ⟨(y 2).val, hy2⟩)) ?_ ?_
  · refine (show _ = (dats m 0 c).after 8 t (fun a => y a) from rfl).trans (congrArg _ (funext fun a => ?_))
    fin_cases a
    · exact Fin.ext (by show (y 0).val = 0; omega)
    · rfl
    · rfl
  refine (leftAt m c t _ _ ⟨512 * t.val + (y 1).val, by omega⟩ rfl).trans ?_
  refine congrArg _ (funext fun a => Fin.ext ?_)
  refine Eq.trans ?_ (Pipeline.Window.rect_emb_val win0_8 t y a).symm
  rw [index8]
  fin_cases a
  · show 0 = 0 * 1 + (y 0).val
    omega
  · show 512 * t.val + (y 1).val = t.val * 512 + (y 1).val
    omega
  · show (y 2).val = 0 * 1024 + (y 2).val
    omega

end Cert.Ffn
-- ==== Proof.Ffn.RefAt.lean ====
module

public import proofs.«01_k».proof.Proof.Ffn.Row
public import proofs.«01_k».proof.Proof.Gen.Reference3Ideal.Run
public import Idealize.ShloMosaic.Lib.ValueIdx
public import Idealize.ShloMosaic.Lib.ValueLayout

/-! The feed-forward reference's result, read at an index over the extended reals. -/

@[expose] public section

set_option maxRecDepth 8192

noncomputable section

namespace Cert.Ffn.Ref

open Idealize.ShloMosaic
open Idealize.ShloMosaic.ValueIdx Idealize.ShloMosaic.TcCoe Cert.Reference3Ideal Cert.Reference3Ideal.Gen

/-- The rows after their normalization, their scale and their shift. -/
def normed (a0 : FVec Ideal S1x16384x1024 .f32) (a1 : FVec Ideal S1x1x9216 .f32) (a2 : FVec Ideal S1024 .f32) : FVec Ideal S1x16384x1024 .f32 :=
  addf (mulf (mulf (mulf a0 (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf a0 a0) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32)))))) (broadcastInDim S1x16384x1024 ![0, 1, 2] bcast_S1x1x1024_S1x16384x1024_0_1_2 (broadcastInDim S1x1x1024 ![2] bcast_S1024_S1x1x1024_2 a2))) (broadcastInDim S1x16384x1024 ![0, 1, 2] bcast_S1x1x1024_S1x16384x1024_0_1_2 (addf (broadcastInDim S1x1x1024 ![] bcast_S_S1x1x1024 (constant S_ .f32 0x3F800000#32)) (extractStridedSlice S1x1x1024 ![0, 0, 1024] a1 slices_S1x1x9216_S1x1x1024_0_0_1024)))) (broadcastInDim S1x16384x1024 ![0, 1, 2] bcast_S1x1x1024_S1x16384x1024_0_1_2 (extractStridedSlice S1x1x1024 ![0, 0, 0] a1 slices_S1x1x9216_S1x1x1024_0_0_0))

/-- The units' inputs. -/
def inputs (h : FVec Ideal S1x16384x1024 .f32) (a3 : FVec Ideal S1024x5632 .f32) : FVec Ideal S1x16384x5632 .f32 :=
  Host.dotGeneral dot_S1x16384x1024_S1024x5632_S1x16384x5632_2_0_01_1_n_n none h a3

/-- The gated activation. -/
def activated (p : FVec Ideal S1x16384x5632 .f32) : FVec Ideal S1x16384x2816 .f32 :=
  mulf (mulf (extractStridedSlice S1x16384x2816 ![0, 0, 0] p slices_S1x16384x5632_S1x16384x2816_0_0_0) (Host.divf (broadcastInDim S1x16384x2816 ![] bcast_S_S1x16384x2816 (constant S_ .f32 0x3F800000#32)) (addf (broadcastInDim S1x16384x2816 ![] bcast_S_S1x16384x2816 (constant S_ .f32 0x3F800000#32)) (Host.exp (Host.negf (extractStridedSlice S1x16384x2816 ![0, 0, 0] p slices_S1x16384x5632_S1x16384x2816_0_0_0)))))) (extractStridedSlice S1x16384x2816 ![0, 0, 2816] p slices_S1x16384x5632_S1x16384x2816_0_0_2816)

/-- The result, from the activation. -/
def added (a0 : FVec Ideal S1x16384x1024 .f32) (a1 : FVec Ideal S1x1x9216 .f32) (u : FVec Ideal S1x16384x2816 .f32) (a4 : FVec Ideal S2816x1024 .f32) : FVec Ideal S1x16384x1024 .f32 :=
  addf a0 (mulf (broadcastInDim S1x16384x1024 ![0, 1, 2] bcast_S1x1x1024_S1x16384x1024_0_1_2 (mulf (broadcastInDim S1x1x1024 ![] bcast_S_S1x1x1024 (constant S_ .f32 0x3F000000#32)) (extractStridedSlice S1x1x1024 ![0, 0, 2048] a1 slices_S1x1x9216_S1x1x1024_0_0_2048))) (Host.dotGeneral dot_S1x16384x2816_S2816x1024_S1x16384x1024_2_0_01_1_n_n none u a4))

theorem result_eq (m : (ℓ : Loc nD τ sig) → Buf (Elt Ideal) ℓ) (c : Dev nD) :
    Value.res_main_v32 (F := Ideal) m c = added (m ((c.tc : Thread nD τ).loc main_arg0)) (m ((c.tc : Thread nD τ).loc main_arg1))
      (activated (inputs (normed (m ((c.tc : Thread nD τ).loc main_arg0)) (m ((c.tc : Thread nD τ).loc main_arg1)) (m ((c.tc : Thread nD τ).loc main_arg2))) (m ((c.tc : Thread nD τ).loc main_arg3)))) (m ((c.tc : Thread nD τ).loc main_arg4)) := rfl

theorem column_at (o : ℕ) (a1 : FVec Ideal S1x1x9216 .f32) (h : S1x1x9216.Slices ![0, 0, o] S1x1x1024) (d : Fin 1024) (k : Fin 9216) (hk : k.val = o + d.val) :
    extractStridedSlice S1x1x1024 ![0, 0, o] a1 h (ix3 (0 : Fin 1) (0 : Fin 1) d) = a1 (ix3 (0 : Fin 1) (0 : Fin 1) k) := by
  refine extractStridedSlice_apply _ _ _ _ _ fun a => ?_
  fin_cases a
  · rfl
  · rfl
  · exact hk

theorem reduces_rows : S1x16384x1024.Reduces [2] S1x16384 := by decide

theorem normed_at (a0 : FVec Ideal S1x16384x1024 .f32) (a1 : FVec Ideal S1x1x9216 .f32) (a2 : FVec Ideal S1024 .f32) (n : Fin 16384) (d : Fin 1024) :
    normed a0 a1 a2 (ix3 (0 : Fin 1) n d) = hidden (fun e => a0 (ix3 (0 : Fin 1) n e)) (fun e => a2 (ix1 e)) (fun e => a1 (ix3 (0 : Fin 1) (0 : Fin 1) (⟨1024 + e.val, by omega⟩ : Fin 9216))) (fun e => a1 (ix3 (0 : Fin 1) (0 : Fin 1) (⟨e.val, by omega⟩ : Fin 9216))) d := by
  unfold normed
  refine congrArg₂ (· + ·) (congrArg₂ (· * ·) (congrArg₂ (· * ·) (congrArg₂ (· * ·) rfl ?_) ?_) ?_) ?_
  · refine (broadcastInDim_apply _ _ _ _ (ix3 (0 : Fin 1) n (0 : Fin 1)) fun a => by fin_cases a <;> rfl).trans ?_
    refine congrArg Ideal.rsqrt (congrArg₂ (· + ·) (congrArg₂ Ideal.div ?_ rfl) rfl)
    refine (broadcastInDim_apply _ _ _ _ (ix2 (0 : Fin 1) n) fun a => by fin_cases a <;> rfl).trans ?_
    refine (Ideal.hostReduceAdd_single _ reduces_rows _ _ _).trans ?_
    refine (congrArg₂ (· + ·) zero_bits (Finset.sum_congr rfl fun k _ => ?_)).trans (zero_add _)
    have e : (reduces_rows.lift (ix2 (0 : Fin 1) n) k : S1x16384x1024.Idx) = ix3 (0 : Fin 1) n k := funext fun a => by fin_cases a <;> rfl
    rw [e]
    rfl
  · refine (broadcastInDim_apply _ _ _ _ (ix3 (0 : Fin 1) (0 : Fin 1) d) fun a => by fin_cases a <;> rfl).trans ?_
    exact broadcastInDim_apply _ _ _ _ (ix1 d) fun a => by fin_cases a <;> rfl
  · refine (broadcastInDim_apply _ _ _ _ (ix3 (0 : Fin 1) (0 : Fin 1) d) fun a => by fin_cases a <;> rfl).trans ?_
    exact congrArg₂ (· + ·) rfl (column_at 1024 a1 _ d _ rfl)
  · refine (broadcastInDim_apply _ _ _ _ (ix3 (0 : Fin 1) (0 : Fin 1) d) fun a => by fin_cases a <;> rfl).trans ?_
    exact column_at 0 a1 _ d _ (by show d.val = 0 + d.val; omega)

theorem inputs_at (h : FVec Ideal S1x16384x1024 .f32) (a3 : FVec Ideal S1024x5632 .f32) (n : Fin 16384) (f : Fin 5632) :
    inputs h a3 (ix3 (0 : Fin 1) n f) = ∑ e : Fin 1024, h (ix3 (0 : Fin 1) n e) * a3 (ix2 e f) := by
  unfold inputs
  simp only [Host.dotGeneral]
  rw [Ideal.dotGeneral_apply]
  refine ((contrEquiv1 dot_S1x16384x1024_S1024x5632_S1x16384x5632_2_0_01_1_n_n 1024 rfl rfl).symm.sum_comp _).symm.trans ?_
  refine Finset.sum_congr rfl fun e _ => ?_
  have he := contrEquiv1_symm_val dot_S1x16384x1024_S1024x5632_S1x16384x5632_2_0_01_1_n_n 1024 rfl rfl e
  refine congrArg₂ (· * ·) (congrArg h (funext fun a => Fin.ext ?_)) (congrArg a3 (funext fun a => Fin.ext ?_))
  · fin_cases a
    · rfl
    · rfl
    · exact he
  · fin_cases a
    · exact he
    · rfl

theorem outputs_at (u : FVec Ideal S1x16384x2816 .f32) (a4 : FVec Ideal S2816x1024 .f32) (n : Fin 16384) (d : Fin 1024) :
    Host.dotGeneral dot_S1x16384x2816_S2816x1024_S1x16384x1024_2_0_01_1_n_n none u a4 (ix3 (0 : Fin 1) n d) = ∑ f : Fin 2816, u (ix3 (0 : Fin 1) n f) * a4 (ix2 f d) := by
  simp only [Host.dotGeneral]
  rw [Ideal.dotGeneral_apply]
  refine ((contrEquiv1 dot_S1x16384x2816_S2816x1024_S1x16384x1024_2_0_01_1_n_n 2816 rfl rfl).symm.sum_comp _).symm.trans ?_
  refine Finset.sum_congr rfl fun e _ => ?_
  have he := contrEquiv1_symm_val dot_S1x16384x2816_S2816x1024_S1x16384x1024_2_0_01_1_n_n 2816 rfl rfl e
  refine congrArg₂ (· * ·) (congrArg u (funext fun a => Fin.ext ?_)) (congrArg a4 (funext fun a => Fin.ext ?_))
  · fin_cases a
    · rfl
    · rfl
    · exact he
  · fin_cases a
    · exact he
    · rfl

theorem half_at (o : ℕ) (p : FVec Ideal S1x16384x5632 .f32) (h : S1x16384x5632.Slices ![0, 0, o] S1x16384x2816) (n : Fin 16384) (f : Fin 2816) (k : Fin 5632) (hk : k.val = o + f.val) :
    extractStridedSlice S1x16384x2816 ![0, 0, o] p h (ix3 (0 : Fin 1) n f) = p (ix3 (0 : Fin 1) n k) := by
  refine extractStridedSlice_apply _ _ _ _ _ fun a => ?_
  fin_cases a
  · rfl
  · show n.val = 0 + n.val
    omega
  · exact hk

theorem activated_at (p : FVec Ideal S1x16384x5632 .f32) (n : Fin 16384) (f : Fin 2816) :
    activated p (ix3 (0 : Fin 1) n f) = gated (p (ix3 (0 : Fin 1) n (⟨f.val, by omega⟩ : Fin 5632))) (p (ix3 (0 : Fin 1) n (⟨2816 + f.val, by omega⟩ : Fin 5632))) := by
  have e0 := half_at 0 p slices_S1x16384x5632_S1x16384x2816_0_0_0 n f (⟨f.val, by omega⟩ : Fin 5632) (by show f.val = 0 + f.val; omega)
  have e1 := half_at 2816 p slices_S1x16384x5632_S1x16384x2816_0_0_2816 n f (⟨2816 + f.val, by omega⟩ : Fin 5632) rfl
  unfold activated
  refine congrArg₂ (· * ·) (congrArg₂ (· * ·) e0 (congrArg₂ Ideal.div rfl (congrArg₂ (· + ·) rfl (congrArg Ideal.exp (congrArg (fun z : EReal => -z) e0))))) e1

theorem value_at (a0 : FVec Ideal S1x16384x1024 .f32) (a1 : FVec Ideal S1x1x9216 .f32) (a2 : FVec Ideal S1024 .f32) (a3 : FVec Ideal S1024x5632 .f32) (a4 : FVec Ideal S2816x1024 .f32) (n : Fin 16384) (d : Fin 1024) :
    added a0 a1 (activated (inputs (normed a0 a1 a2) a3)) a4 (ix3 (0 : Fin 1) n d)
      = layerAt (fun e => a0 (ix3 (0 : Fin 1) n e)) (fun e => a1 (ix3 (0 : Fin 1) (0 : Fin 1) (⟨2048 + e.val, by omega⟩ : Fin 9216)))
        (hidden (fun e => a0 (ix3 (0 : Fin 1) n e)) (fun e => a2 (ix1 e)) (fun e => a1 (ix3 (0 : Fin 1) (0 : Fin 1) (⟨1024 + e.val, by omega⟩ : Fin 9216))) (fun e => a1 (ix3 (0 : Fin 1) (0 : Fin 1) (⟨e.val, by omega⟩ : Fin 9216))))
        (fun e f => a3 (ix2 e (⟨f.val, by omega⟩ : Fin 5632))) (fun e f => a3 (ix2 e (⟨2816 + f.val, by omega⟩ : Fin 5632))) (fun f e => a4 (ix2 f e)) d := by
  unfold added layerAt
  refine congrArg₂ (· + ·) rfl (congrArg₂ (· * ·) ?_ ?_)
  · refine (broadcastInDim_apply _ _ _ _ (ix3 (0 : Fin 1) (0 : Fin 1) d) fun a => by fin_cases a <;> rfl).trans ?_
    exact congrArg₂ (· * ·) rfl (column_at 2048 a1 _ d _ rfl)
  · refine (outputs_at _ _ _ _).trans (Finset.sum_congr rfl fun f _ => ?_)
    unfold unitAt
    rw [activated_at, inputs_at, inputs_at]
    simp only [normed_at]

end Cert.Ffn.Ref
-- ==== Proof.Ffn.FinalKernel.lean ====
module

public import proofs.«01_k».proof.Proof.Ffn.Row
public import proofs.«01_k».proof.Proof.Gen.Kernel4Ideal.Frame
public import Idealize.ShloMosaic.Lib.ValueIdx
public import Idealize.ShloMosaic.Lib.ValueLayout
public import Idealize.ShloMosaic.Lib.Pipeline.ValueKit

/-! What the last normalization's run leaves in its result, at an index. -/

@[expose] public section

set_option maxRecDepth 8192

noncomputable section

namespace Cert.Final

open Idealize.ShloMosaic hiding ix1 ix2 ix3
open Idealize.ShloMosaic.ValueIdx Idealize.ShloMosaic.TcCoe Cert.Ffn Cert.Kernel4Ideal Cert.Kernel4Ideal.Gen

/-- A row of the normalized block. -/
theorem stored_at (x : FVec Ideal S512x1024 .f32) (g : FVec Ideal S1x1024 .f32) (r : Fin 512) (d : Fin 1024) :
    (k0_pay1 (F := Ideal) x g (ix2 r d) : EReal) = normAt (fun e => x (ix2 r e)) (fun e => g (ix2 (0 : Fin 1) e)) d := by
  unfold k0_pay1
  dsimp only
  rw [shapeCast_self, shapeCast_self]
  refine congrArg₂ (· * ·) (congrArg₂ (· * ·) rfl ?_) ?_
  · refine (broadcastTo_apply _ _ (ix2 r d) (ix2 r (0 : Fin 1)) fun a => by fin_cases a <;> rfl).trans ?_
    refine congrArg Ideal.rsqrt (congrArg₂ (· + ·) (congrArg₂ Ideal.div ?_ rfl) rfl)
    refine (shapeCast_apply _ _ (ix2 r (0 : Fin 1)) (ix1 r) (by
      rw [Shape.rowMajor_val_one, Shape.rowMajor_val_two]
      show r.val = r.val * 1 + 0
      omega)).trans ?_
    refine (Ideal.multiReduction_add_single _ _ _ _ _ _).trans ?_
    refine Finset.sum_congr rfl fun k _ => ?_
    have e : (reduces_S512x1024_S512.lift (ix1 r) k : S512x1024.Idx) = ix2 r k := funext fun a => by fin_cases a <;> rfl
    rw [e]
    rfl
  · exact broadcastTo_apply _ _ (ix2 r d) (ix2 (0 : Fin 1) d) fun a => by fin_cases a <;> rfl

theorem zero2 : (![0, 0] : Fin 2 → ℕ) = fun _ => 0 := funext fun a => by fin_cases a <;> rfl

theorem left_at (x : FVec Ideal S512x1024 .f32) (g : FVec Ideal S1x1024 .f32) (r : Fin 512) (d : Fin 1024) :
    (out0_2 (F := Ideal) x g (ix2 r d) : EReal) = normAt (fun e => x (ix2 r e)) (fun e => g (ix2 (0 : Fin 1) e)) d := by
  unfold out0_2
  rw [View.canon_unit_zero zero2]
  have l0 : View.ld (Val := Elt Ideal) (e' := .f32) x r0_0 = x := View.ld_unit_zero (Val := Elt Ideal) (e := .f32) zero2 _ x
  have l1 : View.ld (Val := Elt Ideal) (e' := .f32) g r0_1 = g := View.ld_unit_zero (Val := Elt Ideal) (e := .f32) zero2 _ g
  rw [l0, l1]
  exact stored_at x g r d

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel
theorem points : grid0.N = 32 := by decide +kernel

variable (m : (ℓ : Loc nD τ sig) → Buf (Elt Ideal) ℓ) (c : Dev nD)

theorem rows_at (n : Fin 16384) (e : Fin 1024) : (V m c main_v0 : FVec Ideal S16384x1024 .f32) (ix2 n e) = (m ((c.tc : Thread nD τ).loc main_arg0) : FVec Ideal S1x16384x1024 .f32) (ix3 (0 : Fin 1) n e) := by
  have h : V m c main_v0 = shapeCast S16384x1024 (m ((c.tc : Thread nD τ).loc main_arg0) : FVec Ideal S1x16384x1024 .f32) shapeCasts_S1x16384x1024_S16384x1024 := by
    show StableHlo.after (List.flatten [hostOps0]) (fun b => m (c, b)) (Proc.devRef .tc main_v0) = _
    simp only [hostOps0, List.flatten_cons, List.flatten_nil, List.append_nil]
    after_results_simp
    rfl
  rw [h]
  exact shapeCast_apply _ _ (ix2 n e) (ix3 (0 : Fin 1) n e) (by
    rw [Shape.rowMajor_val_three, Shape.rowMajor_val_two]
    show (0 * 16384 + n.val) * 1024 + e.val = n.val * 1024 + e.val
    omega)

theorem gains_at (e : Fin 1024) : (V m c main_v1 : FVec Ideal S1x1024 .f32) (ix2 (0 : Fin 1) e) = (m ((c.tc : Thread nD τ).loc main_arg1) : FVec Ideal S1024 .f32) (ix1 e) := by
  have h : V m c main_v1 = broadcastInDim S1x1024 ![1] bcast_S1024_S1x1024_1 (m ((c.tc : Thread nD τ).loc main_arg1) : FVec Ideal S1024 .f32) := by
    show StableHlo.after (List.flatten [hostOps0]) (fun b => m (c, b)) (Proc.devRef .tc main_v1) = _
    simp only [hostOps0, List.flatten_cons, List.flatten_nil, List.append_nil]
    after_results_simp
  rw [h]
  exact broadcastInDim_apply _ _ _ _ (ix1 e) fun a => by fin_cases a <;> rfl

theorem block0_at (t : Fin grid0.N) (r : Fin 512) (e : Fin 1024) (n : Fin 16384) (hn : n.val = 512 * t.val + r.val) :
    (iblk m c 0 t : FVec Ideal S512x1024 .f32) (ix2 r e) = (m ((c.tc : Thread nD τ).loc main_arg0) : FVec Ideal S1x16384x1024 .f32) (ix3 (0 : Fin 1) n e) := by
  rw [← rows_at m c n e]
  show (V m c main_v0 : FVec Ideal S16384x1024 .f32) ((win0_0.rect t).emb (ix2 r e)) = _
  refine congrArg _ (funext fun a => Fin.ext ?_)
  refine (Pipeline.Window.rect_emb_val win0_0 t (ix2 r e) a).trans ?_
  rw [index0]
  fin_cases a
  · show t.val * 512 + r.val = n.val
    omega
  · show 0 * 1024 + e.val = e.val
    omega

theorem block1_at (t : Fin grid0.N) (e : Fin 1024) :
    (iblk m c 1 t : FVec Ideal S1x1024 .f32) (ix2 (0 : Fin 1) e) = (m ((c.tc : Thread nD τ).loc main_arg1) : FVec Ideal S1024 .f32) (ix1 e) := by
  rw [← gains_at m c e]
  show (V m c main_v1 : FVec Ideal S1x1024 .f32) ((win0_1.rect t).emb (ix2 (0 : Fin 1) e)) = _
  refine congrArg _ (funext fun a => Fin.ext ?_)
  refine (Pipeline.Window.rect_emb_val win0_1 t (ix2 (0 : Fin 1) e) a).trans ?_
  rw [index1]
  fin_cases a
  · rfl
  · show 0 * 1024 + e.val = e.val
    omega

/-- The normalized rows. -/
def result (a0 : FVec Ideal S1x16384x1024 .f32) (a1 : FVec Ideal S1024 .f32) : FVec Ideal S16384x1024 .f32 := fun i =>
  normAt (fun e => a0 (ix3 (0 : Fin 1) (i 0) e)) (fun e => a1 (ix1 e)) (i 1)

theorem leftAt (t : Fin grid0.N) (r : Fin 512) (d : Fin 1024) (n : Fin 16384) (hn : n.val = 512 * t.val + r.val) :
    (dats m 0 c).after 2 t (ix2 r d) = result (m ((c.tc : Thread nD τ).loc main_arg0)) (m ((c.tc : Thread nD τ).loc main_arg1)) (ix2 n d) := by
  rw [after0_2]
  refine (left_at _ _ r d).trans ?_
  have e0 : (fun e => (iblk m c 0 t : FVec Ideal S512x1024 .f32) (ix2 r e)) = _ := funext fun e => block0_at m c t r e n hn
  have e1 : (fun e => (iblk m c 1 t : FVec Ideal S1x1024 .f32) (ix2 (0 : Fin 1) e)) = _ := funext fun e => block1_at m c t e
  rw [e0, e1]
  rfl

/-- The array the region leaves. -/
theorem region_result : (dats m 0 c).arrAt 2 cfg0.N = result (m ((c.tc : Thread nD τ).loc main_arg0)) (m ((c.tc : Thread nD τ).loc main_arg1)) := by
  refine (dats m 0 c).arrAt_eq_of_covers 2 _ (by decide +kernel) fun t _ y => ?_
  have ht : t.val < 32 := lt_of_lt_of_eq t.isLt points
  have hy0 : (y 0).val < 512 := (y 0).isLt
  have hy1 : (y 1).val < 1024 := (y 1).isLt
  refine Eq.trans (b := (dats m 0 c).after 2 t (ix2 ⟨(y 0).val, hy0⟩ ⟨(y 1).val, hy1⟩)) ?_ ?_
  · refine (show _ = (dats m 0 c).after 2 t (fun a => y a) from rfl).trans (congrArg _ (funext fun a => ?_))
    fin_cases a <;> rfl
  refine (leftAt m c t _ _ ⟨512 * t.val + (y 0).val, by omega⟩ rfl).trans ?_
  refine congrArg _ (funext fun a => Fin.ext ?_)
  refine Eq.trans ?_ (Pipeline.Window.rect_emb_val win0_2 t y a).symm
  rw [index2]
  fin_cases a
  · show 512 * t.val + (y 0).val = t.val * 512 + (y 0).val
    omega
  · show (y 1).val = 0 * 1024 + (y 1).val
    omega

/-- The host's last line. -/
def shaped (x : FVec Ideal S16384x1024 .f32) : FVec Ideal S1x16384x1024 .f32 := shapeCast S1x16384x1024 x shapeCasts_S16384x1024_S1x16384x1024

theorem shaped_at (x : FVec Ideal S16384x1024 .f32) (n : Fin 16384) (d : Fin 1024) : shaped x (ix3 (0 : Fin 1) n d) = x (ix2 n d) :=
  shapeCast_apply _ _ (ix3 (0 : Fin 1) n d) (ix2 n d) (by
    rw [Shape.rowMajor_val_three, Shape.rowMajor_val_two]
    show n.val * 1024 + d.val = (0 * 16384 + n.val) * 1024 + d.val
    omega)

/-- The result after the host's last line. -/
theorem tail_result : Pipeline.afterTail₀ cfgs (dats m) 0 (V0 m) [hostOps1] c main_v3 = shaped ((dats m 0 c).arrAt 2 cfg0.N) := by
  have w : Pipeline.withArrays (cfgs 0).spec c (V0 m c) (fun w => (dats m 0 c).arrAt w (cfgs 0).N) (Proc.devRef .tc main_v2) = (dats m 0 c).arrAt 2 cfg0.N :=
    Pipeline.withArrays_arr spec0 (by decide) c (V0 m c) (fun w => (dats m 0 c).arrAt w (cfgs 0).N) 2
  unfold Pipeline.afterTail₀
  simp only [hostOps1, List.flatten_cons, List.flatten_nil, List.append_nil]
  after_results_simp
  rw [← w]
  rfl

end Cert.Final
-- ==== Proof.Ffn.SampleKernel.lean ====
module

public import proofs.«01_k».proof.Proof.Ffn.Row
public import proofs.«01_k».proof.Proof.Gen.Kernel5Ideal.Frame
public import Idealize.ShloMosaic.Lib.ValueIdx
public import Idealize.ShloMosaic.Lib.ValueLayout
public import Idealize.ShloMosaic.Lib.Pipeline.ValueKit

/-! What the last normalization of the samples leaves in its result, at an index. -/

@[expose] public section

set_option maxRecDepth 8192

noncomputable section

namespace Cert.Sample

open Idealize.ShloMosaic hiding ix1 ix2 ix3
open Idealize.ShloMosaic.ValueIdx Idealize.ShloMosaic.TcCoe Cert.Ffn Cert.Kernel5Ideal Cert.Kernel5Ideal.Gen

/-- A row of the normalized block. -/
theorem stored_at (x : FVec Ideal S512x1024 .f32) (g : FVec Ideal S1x1024 .f32) (r : Fin 512) (d : Fin 1024) :
    (k0_pay1 (F := Ideal) x g (ix2 r d) : EReal) = normAt (fun e => x (ix2 r e)) (fun e => g (ix2 (0 : Fin 1) e)) d := by
  unfold k0_pay1
  dsimp only
  rw [shapeCast_self, shapeCast_self]
  refine congrArg₂ (· * ·) (congrArg₂ (· * ·) rfl ?_) ?_
  · refine (broadcastTo_apply _ _ (ix2 r d) (ix2 r (0 : Fin 1)) fun a => by fin_cases a <;> rfl).trans ?_
    refine congrArg Ideal.rsqrt (congrArg₂ (· + ·) (congrArg₂ Ideal.div ?_ rfl) rfl)
    refine (shapeCast_apply _ _ (ix2 r (0 : Fin 1)) (ix1 r) (by
      rw [Shape.rowMajor_val_one, Shape.rowMajor_val_two]
      show r.val = r.val * 1 + 0
      omega)).trans ?_
    refine (Ideal.multiReduction_add_single _ _ _ _ _ _).trans ?_
    refine Finset.sum_congr rfl fun k _ => ?_
    have e : (reduces_S512x1024_S512.lift (ix1 r) k : S512x1024.Idx) = ix2 r k := funext fun a => by fin_cases a <;> rfl
    rw [e]
    rfl
  · exact broadcastTo_apply _ _ (ix2 r d) (ix2 (0 : Fin 1) d) fun a => by fin_cases a <;> rfl

theorem zero2 : (![0, 0] : Fin 2 → ℕ) = fun _ => 0 := funext fun a => by fin_cases a <;> rfl

theorem left_at (x : FVec Ideal S512x1024 .f32) (g : FVec Ideal S1x1024 .f32) (r : Fin 512) (d : Fin 1024) :
    (out0_2 (F := Ideal) x g (ix2 r d) : EReal) = normAt (fun e => x (ix2 r e)) (fun e => g (ix2 (0 : Fin 1) e)) d := by
  unfold out0_2
  rw [View.canon_unit_zero zero2]
  have l0 : View.ld (Val := Elt Ideal) (e' := .f32) x r0_0 = x := View.ld_unit_zero (Val := Elt Ideal) (e := .f32) zero2 _ x
  have l1 : View.ld (Val := Elt Ideal) (e' := .f32) g r0_1 = g := View.ld_unit_zero (Val := Elt Ideal) (e := .f32) zero2 _ g
  rw [l0, l1]
  exact stored_at x g r d

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel
theorem points : grid0.N = 2 := by decide +kernel

/-- The sequence of a row. -/
def seq (n : Fin 1024) : Fin 128 := ⟨n.val / 8, by omega⟩

/-- The position of a row in its sequence. -/
def pos (n : Fin 1024) : Fin 8 := ⟨n.val % 8, by omega⟩

variable (m : (ℓ : Loc nD τ sig) → Buf (Elt Ideal) ℓ) (c : Dev nD)

theorem rows_at (n : Fin 1024) (e : Fin 1024) : (V m c main_v0 : FVec Ideal S1024x1024 .f32) (ix2 n e) = (m ((c.tc : Thread nD τ).loc main_arg0) : FVec Ideal S128x8x1024 .f32) (ix3 (seq n) (pos n) e) := by
  have h : V m c main_v0 = shapeCast S1024x1024 (m ((c.tc : Thread nD τ).loc main_arg0) : FVec Ideal S128x8x1024 .f32) shapeCasts_S128x8x1024_S1024x1024 := by
    show StableHlo.after (List.flatten [hostOps0]) (fun b => m (c, b)) (Proc.devRef .tc main_v0) = _
    simp only [hostOps0, List.flatten_cons, List.flatten_nil, List.append_nil]
    after_results_simp
    rfl
  rw [h]
  exact shapeCast_apply _ _ (ix2 n e) (ix3 (seq n) (pos n) e) (by
    rw [Shape.rowMajor_val_three, Shape.rowMajor_val_two]
    show (n.val / 8 * 8 + n.val % 8) * 1024 + e.val = n.val * 1024 + e.val
    omega)

theorem gains_at (e : Fin 1024) : (V m c main_v1 : FVec Ideal S1x1024 .f32) (ix2 (0 : Fin 1) e) = (m ((c.tc : Thread nD τ).loc main_arg1) : FVec Ideal S1024 .f32) (ix1 e) := by
  have h : V m c main_v1 = broadcastInDim S1x1024 ![1] bcast_S1024_S1x1024_1 (m ((c.tc : Thread nD τ).loc main_arg1) : FVec Ideal S1024 .f32) := by
    show StableHlo.after (List.flatten [hostOps0]) (fun b => m (c, b)) (Proc.devRef .tc main_v1) = _
    simp only [hostOps0, List.flatten_cons, List.flatten_nil, List.append_nil]
    after_results_simp
  rw [h]
  exact broadcastInDim_apply _ _ _ _ (ix1 e) fun a => by fin_cases a <;> rfl

theorem block0_at (t : Fin grid0.N) (r : Fin 512) (e : Fin 1024) (n : Fin 1024) (hn : n.val = 512 * t.val + r.val) :
    (iblk m c 0 t : FVec Ideal S512x1024 .f32) (ix2 r e) = (m ((c.tc : Thread nD τ).loc main_arg0) : FVec Ideal S128x8x1024 .f32) (ix3 (seq n) (pos n) e) := by
  rw [← rows_at m c n e]
  show (V m c main_v0 : FVec Ideal S1024x1024 .f32) ((win0_0.rect t).emb (ix2 r e)) = _
  refine congrArg _ (funext fun a => Fin.ext ?_)
  refine (Pipeline.Window.rect_emb_val win0_0 t (ix2 r e) a).trans ?_
  rw [index0]
  fin_cases a
  · show t.val * 512 + r.val = n.val
    omega
  · show 0 * 1024 + e.val = e.val
    omega

theorem block1_at (t : Fin grid0.N) (e : Fin 1024) :
    (iblk m c 1 t : FVec Ideal S1x1024 .f32) (ix2 (0 : Fin 1) e) = (m ((c.tc : Thread nD τ).loc main_arg1) : FVec Ideal S1024 .f32) (ix1 e) := by
  rw [← gains_at m c e]
  show (V m c main_v1 : FVec Ideal S1x1024 .f32) ((win0_1.rect t).emb (ix2 (0 : Fin 1) e)) = _
  refine congrArg _ (funext fun a => Fin.ext ?_)
  refine (Pipeline.Window.rect_emb_val win0_1 t (ix2 (0 : Fin 1) e) a).trans ?_
  rw [index1]
  fin_cases a
  · rfl
  · show 0 * 1024 + e.val = e.val
    omega

/-- The normalized rows. -/
def result (a0 : FVec Ideal S128x8x1024 .f32) (a1 : FVec Ideal S1024 .f32) : FVec Ideal S1024x1024 .f32 := fun i =>
  normAt (fun e => a0 (ix3 (seq (i 0)) (pos (i 0)) e)) (fun e => a1 (ix1 e)) (i 1)

theorem leftAt (t : Fin grid0.N) (r : Fin 512) (d : Fin 1024) (n : Fin 1024) (hn : n.val = 512 * t.val + r.val) :
    (dats m 0 c).after 2 t (ix2 r d) = result (m ((c.tc : Thread nD τ).loc main_arg0)) (m ((c.tc : Thread nD τ).loc main_arg1)) (ix2 n d) := by
  rw [after0_2]
  refine (left_at _ _ r d).trans ?_
  have e0 : (fun e => (iblk m c 0 t : FVec Ideal S512x1024 .f32) (ix2 r e)) = _ := funext fun e => block0_at m c t r e n hn
  have e1 : (fun e => (iblk m c 1 t : FVec Ideal S1x1024 .f32) (ix2 (0 : Fin 1) e)) = _ := funext fun e => block1_at m c t e
  rw [e0, e1]
  rfl

/-- The array the region leaves. -/
theorem region_result : (dats m 0 c).arrAt 2 cfg0.N = result (m ((c.tc : Thread nD τ).loc main_arg0)) (m ((c.tc : Thread nD τ).loc main_arg1)) := by
  refine (dats m 0 c).arrAt_eq_of_covers 2 _ (by decide +kernel) fun t _ y => ?_
  have ht : t.val < 2 := lt_of_lt_of_eq t.isLt points
  have hy0 : (y 0).val < 512 := (y 0).isLt
  have hy1 : (y 1).val < 1024 := (y 1).isLt
  refine Eq.trans (b := (dats m 0 c).after 2 t (ix2 ⟨(y 0).val, hy0⟩ ⟨(y 1).val, hy1⟩)) ?_ ?_
  · refine (show _ = (dats m 0 c).after 2 t (fun a => y a) from rfl).trans (congrArg _ (funext fun a => ?_))
    fin_cases a <;> rfl
  refine (leftAt m c t _ _ ⟨512 * t.val + (y 0).val, by omega⟩ rfl).trans ?_
  refine congrArg _ (funext fun a => Fin.ext ?_)
  refine Eq.trans ?_ (Pipeline.Window.rect_emb_val win0_2 t y a).symm
  rw [index2]
  fin_cases a
  · show 512 * t.val + (y 0).val = t.val * 512 + (y 0).val
    omega
  · show (y 1).val = 0 * 1024 + (y 1).val
    omega

/-- The host's last line. -/
def shaped (x : FVec Ideal S1024x1024 .f32) : FVec Ideal S128x8x1024 .f32 := shapeCast S128x8x1024 x shapeCasts_S1024x1024_S128x8x1024

theorem shaped_at (x : FVec Ideal S1024x1024 .f32) (b : Fin 128) (s : Fin 8) (d : Fin 1024) : shaped x (ix3 b s d) = x (ix2 ⟨8 * b.val + s.val, by omega⟩ d) :=
  shapeCast_apply _ _ (ix3 b s d) (ix2 _ d) (by
    rw [Shape.rowMajor_val_three, Shape.rowMajor_val_two]
    show (8 * b.val + s.val) * 1024 + d.val = (b.val * 8 + s.val) * 1024 + d.val
    omega)

theorem seq_of (b : Fin 128) (s : Fin 8) (h : 8 * b.val + s.val < 1024) : seq ⟨8 * b.val + s.val, h⟩ = b := Fin.ext (by show (8 * b.val + s.val) / 8 = b.val; omega)

theorem pos_of (b : Fin 128) (s : Fin 8) (h : 8 * b.val + s.val < 1024) : pos ⟨8 * b.val + s.val, h⟩ = s := Fin.ext (by show (8 * b.val + s.val) % 8 = s.val; omega)

theorem result_shaped (a0 : FVec Ideal S128x8x1024 .f32) (a1 : FVec Ideal S1024 .f32) (b : Fin 128) (s : Fin 8) (d : Fin 1024) :
    shaped (result a0 a1) (ix3 b s d) = normAt (fun e => a0 (ix3 b s e)) (fun e => a1 (ix1 e)) d := by
  rw [shaped_at]
  show normAt (fun e => a0 (ix3 (seq ⟨8 * b.val + s.val, _⟩) (pos ⟨8 * b.val + s.val, _⟩) e)) _ d = _
  rw [seq_of, pos_of]

/-- The result after the host's last line. -/
theorem tail_result : Pipeline.afterTail₀ cfgs (dats m) 0 (V0 m) [hostOps1] c main_v3 = shaped ((dats m 0 c).arrAt 2 cfg0.N) := by
  have w : Pipeline.withArrays (cfgs 0).spec c (V0 m c) (fun w => (dats m 0 c).arrAt w (cfgs 0).N) (Proc.devRef .tc main_v2) = (dats m 0 c).arrAt 2 cfg0.N :=
    Pipeline.withArrays_arr spec0 (by decide) c (V0 m c) (fun w => (dats m 0 c).arrAt w (cfgs 0).N) 2
  unfold Pipeline.afterTail₀
  simp only [hostOps1, List.flatten_cons, List.flatten_nil, List.append_nil]
  after_results_simp
  rw [← w]
  rfl

end Cert.Sample
-- ==== Proof.Ffn.FinalRef.lean ====
module

public import proofs.«01_k».proof.Proof.Ffn.Row
public import proofs.«01_k».proof.Proof.Gen.Reference4Ideal.Run
public import Idealize.ShloMosaic.Lib.ValueIdx
public import Idealize.ShloMosaic.Lib.ValueLayout

/-! The last normalization's reference, read at an index over the extended reals. -/

@[expose] public section

set_option maxRecDepth 8192

noncomputable section

namespace Cert.Final.Ref

open Idealize.ShloMosaic
open Idealize.ShloMosaic.ValueIdx Cert.Ffn Cert.Reference4Ideal Cert.Reference4Ideal.Gen

/-- The normalized rows. -/
def normed (a0 : FVec Ideal S1x16384x1024 .f32) (a1 : FVec Ideal S1024 .f32) : FVec Ideal S1x16384x1024 .f32 :=
  mulf (mulf a0 (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf a0 a0) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32)))))) (broadcastInDim S1x16384x1024 ![0, 1, 2] bcast_S1x1x1024_S1x16384x1024_0_1_2 (broadcastInDim S1x1x1024 ![2] bcast_S1024_S1x1x1024_2 a1))

theorem reduces_rows : S1x16384x1024.Reduces [2] S1x16384 := by decide

theorem value_at (a0 : FVec Ideal S1x16384x1024 .f32) (a1 : FVec Ideal S1024 .f32) (n : Fin 16384) (d : Fin 1024) :
    normed a0 a1 (ix3 (0 : Fin 1) n d) = normAt (fun e => a0 (ix3 (0 : Fin 1) n e)) (fun e => a1 (ix1 e)) d := by
  unfold normed
  refine congrArg₂ (· * ·) (congrArg₂ (· * ·) rfl ?_) ?_
  · refine (broadcastInDim_apply _ _ _ _ (ix3 (0 : Fin 1) n (0 : Fin 1)) fun a => by fin_cases a <;> rfl).trans ?_
    refine congrArg Ideal.rsqrt (congrArg₂ (· + ·) (congrArg₂ Ideal.div ?_ rfl) rfl)
    refine (broadcastInDim_apply _ _ _ _ (ix2 (0 : Fin 1) n) fun a => by fin_cases a <;> rfl).trans ?_
    refine (Ideal.hostReduceAdd_single _ reduces_rows _ _ _).trans ?_
    refine (congrArg₂ (· + ·) zero_bits (Finset.sum_congr rfl fun k _ => ?_)).trans (zero_add _)
    have e : (reduces_rows.lift (ix2 (0 : Fin 1) n) k : S1x16384x1024.Idx) = ix3 (0 : Fin 1) n k := funext fun a => by fin_cases a <;> rfl
    rw [e]
    rfl
  · refine (broadcastInDim_apply _ _ _ _ (ix3 (0 : Fin 1) (0 : Fin 1) d) fun a => by fin_cases a <;> rfl).trans ?_
    exact broadcastInDim_apply _ _ _ _ (ix1 d) fun a => by fin_cases a <;> rfl

end Cert.Final.Ref
-- ==== Proof.Ffn.SampleRef.lean ====
module

public import proofs.«01_k».proof.Proof.Ffn.Row
public import proofs.«01_k».proof.Proof.Gen.Reference5Ideal.Run
public import Idealize.ShloMosaic.Lib.ValueIdx
public import Idealize.ShloMosaic.Lib.ValueLayout

/-! The samples' last normalization's reference, read at an index over the extended reals. -/

@[expose] public section

set_option maxRecDepth 8192

noncomputable section

namespace Cert.Sample.Ref

open Idealize.ShloMosaic
open Idealize.ShloMosaic.ValueIdx Cert.Ffn Cert.Reference5Ideal Cert.Reference5Ideal.Gen

/-- The normalized rows. -/
def normed (a0 : FVec Ideal S128x8x1024 .f32) (a1 : FVec Ideal S1024 .f32) : FVec Ideal S128x8x1024 .f32 :=
  mulf (mulf a0 (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf a0 a0) (constant S_ .f32 0x00000000#32) reducesTo_S128x8x1024_S128x8_d2 h_S_)) (broadcastInDim S128x8x1 ![] bcast_S_S128x8x1 (constant S_ .f32 0x44800000#32))) (broadcastInDim S128x8x1 ![] bcast_S_S128x8x1 (constant S_ .f32 0x358637BD#32)))))) (broadcastInDim S128x8x1024 ![0, 1, 2] bcast_S1x1x1024_S128x8x1024_0_1_2 (broadcastInDim S1x1x1024 ![2] bcast_S1024_S1x1x1024_2 a1))

theorem reduces_rows : S128x8x1024.Reduces [2] S128x8 := by decide

theorem value_at (a0 : FVec Ideal S128x8x1024 .f32) (a1 : FVec Ideal S1024 .f32) (b : Fin 128) (n : Fin 8) (d : Fin 1024) :
    normed a0 a1 (ix3 b n d) = normAt (fun e => a0 (ix3 b n e)) (fun e => a1 (ix1 e)) d := by
  unfold normed
  refine congrArg₂ (· * ·) (congrArg₂ (· * ·) rfl ?_) ?_
  · refine (broadcastInDim_apply _ _ _ _ (ix3 b n (0 : Fin 1)) fun a => by fin_cases a <;> rfl).trans ?_
    refine congrArg Ideal.rsqrt (congrArg₂ (· + ·) (congrArg₂ Ideal.div ?_ rfl) rfl)
    refine (broadcastInDim_apply _ _ _ _ (ix2 b n) fun a => by fin_cases a <;> rfl).trans ?_
    refine (Ideal.hostReduceAdd_single _ reduces_rows _ _ _).trans ?_
    refine (congrArg₂ (· + ·) zero_bits (Finset.sum_congr rfl fun k _ => ?_)).trans (zero_add _)
    have e : (reduces_rows.lift (ix2 b n) k : S128x8x1024.Idx) = ix3 b n k := funext fun a => by fin_cases a <;> rfl
    rw [e]
    rfl
  · refine (broadcastInDim_apply _ _ _ _ (ix3 (0 : Fin 1) (0 : Fin 1) d) fun a => by fin_cases a <;> rfl).trans ?_
    exact broadcastInDim_apply _ _ _ _ (ix1 d) fun a => by fin_cases a <;> rfl

end Cert.Sample.Ref
-- ==== Proof.lean ====
module

public import proofs.«01_k».proof.Defs
public import proofs.«01_k».proof.Proof.Gen.Kernel
public import proofs.«01_k».proof.Proof.Gen.Kernel2
public import proofs.«01_k».proof.Proof.Gen.Kernel.Skeleton
public import proofs.«01_k».proof.Proof.Gen.Kernel2.Skeleton
public import proofs.«01_k».proof.Proof.Gen.Kernel.Loops
public import proofs.«01_k».proof.Proof.Gen.Kernel2.Loops
public import proofs.«01_k».proof.Proof.Gen.Kernel.Launch
public import proofs.«01_k».proof.Proof.Gen.Kernel2.Launch
public import proofs.«01_k».proof.Proof.Gen.Kernel.Points
public import proofs.«01_k».proof.Proof.Gen.Kernel2.Points
public import proofs.«01_k».proof.Proof.Gen.Kernel.Frame
public import proofs.«01_k».proof.Proof.Gen.Kernel2.Frame
public import proofs.«01_k».proof.Proof.Gen.KernelIdeal
public import proofs.«01_k».proof.Proof.Gen.Kernel2Ideal
public import proofs.«01_k».proof.Proof.Gen.KernelIdeal.Skeleton
public import proofs.«01_k».proof.Proof.Gen.Kernel2Ideal.Skeleton
public import proofs.«01_k».proof.Proof.Gen.KernelIdeal.Loops
public import proofs.«01_k».proof.Proof.Gen.Kernel2Ideal.Loops
public import proofs.«01_k».proof.Proof.Gen.KernelIdeal.Launch
public import proofs.«01_k».proof.Proof.Gen.Kernel2Ideal.Launch
public import proofs.«01_k».proof.Proof.Gen.KernelIdeal.Points
public import proofs.«01_k».proof.Proof.Gen.Kernel2Ideal.Points
public import proofs.«01_k».proof.Proof.Gen.KernelIdeal.Frame
public import proofs.«01_k».proof.Proof.Gen.Kernel2Ideal.Frame
public import proofs.«01_k».proof.Proof.Gen.ReferenceIdeal
public import proofs.«01_k».proof.Proof.Gen.Reference2Ideal
public import proofs.«01_k».proof.Proof.Gen.ReferenceIdeal.Run
public import proofs.«01_k».proof.Proof.Gen.Reference2Ideal.Run
public import proofs.«01_k».proof.Proof.Gen.Pre_finite
public import proofs.«01_k».proof.Proof.Gen.Pre_finite2
public import proofs.«01_k».proof.Proof.Run
public import proofs.«01_k».proof.Proof.KernelValue
public import proofs.«01_k».proof.Proof.RefValue
public import proofs.«01_k».proof.Proof.Finite
public import proofs.«01_k».proof.Proof.Fox.Run
public import proofs.«01_k».proof.Proof.Fox.KernelValue
public import proofs.«01_k».proof.Proof.Fox.RefValue
public import proofs.«01_k».proof.Proof.Fox.Finite
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Kernel3Ideal.Value
public import proofs.«01_k».proof.Proof.Ffn.KernelValue
public import proofs.«01_k».proof.Proof.Ffn.RefAt
public import proofs.«01_k».proof.Proof.Ffn.FinalKernel
public import proofs.«01_k».proof.Proof.Ffn.SampleKernel
public import proofs.«01_k».proof.Proof.Ffn.FinalRef
public import proofs.«01_k».proof.Proof.Ffn.SampleRef
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel5
public import proofs.«01_k».proof.Proof.Gen.Kernel4.Skeleton
public import proofs.«01_k».proof.Proof.Gen.Kernel5.Skeleton
public import proofs.«01_k».proof.Proof.Gen.Kernel4.Launch
public import proofs.«01_k».proof.Proof.Gen.Kernel5.Launch
public import proofs.«01_k».proof.Proof.Gen.Kernel4.Points
public import proofs.«01_k».proof.Proof.Gen.Kernel5.Points
public import proofs.«01_k».proof.Proof.Gen.Kernel4.Frame
public import proofs.«01_k».proof.Proof.Gen.Kernel5.Frame
public import proofs.«01_k».proof.Proof.Gen.Kernel4Ideal
public import proofs.«01_k».proof.Proof.Gen.Kernel5Ideal
public import proofs.«01_k».proof.Proof.Gen.Kernel4Ideal.Skeleton
public import proofs.«01_k».proof.Proof.Gen.Kernel5Ideal.Skeleton
public import proofs.«01_k».proof.Proof.Gen.Kernel4Ideal.Launch
public import proofs.«01_k».proof.Proof.Gen.Kernel5Ideal.Launch
public import proofs.«01_k».proof.Proof.Gen.Kernel4Ideal.Points
public import proofs.«01_k».proof.Proof.Gen.Kernel5Ideal.Points
public import proofs.«01_k».proof.Proof.Gen.Kernel4Ideal.Frame
public import proofs.«01_k».proof.Proof.Gen.Kernel5Ideal.Frame
public import proofs.«01_k».proof.Proof.Gen.Reference4Ideal
public import proofs.«01_k».proof.Proof.Gen.Reference5Ideal
public import Idealize.ShloMosaic.Adequacy
public import Idealize.ShloMosaic.Init

@[expose] public section

set_option maxRecDepth 100000

noncomputable section

namespace Cert.Proof

open Idealize.ShloMosaic Idealize.SL.Sem

/-- The two printed programs are one text: their tables of bodies agree. -/
theorem bodies_same : Cert.Kernel.defs₀ (F := Bits) = Cert.KernelIdeal.defs₀ (F := Bits) := by
  refine congrArg Defs.onTc (funext fun l => funext fun x => ?_)
  match l, x with
  | 0, (t, s) => rfl
  | ⟨n + 1, h⟩, x => exact absurd h (Nat.not_lt.2 (Nat.le_add_left _ _))

theorem defs_same : Cert.Kernel.defs (F := Bits) = Cert.KernelIdeal.defs (F := Bits) := congrArg (Pipeline.defs Cert.KernelIdeal.pcfgs) bodies_same

/-- The kernel's run at the machine's arithmetic is the run of its idealization's text there. -/
theorem quiescent_kernel : Cert.quiescent_Kernel (hKernel := Cert.Kernel.Gen.facts) := fun m ρ _ => by
  have h := Cert.Flash.frame (F := Bits) m ρ
  rw [← defs_same] at h
  exact h

theorem quiescent_kernelIdeal : Cert.quiescent_KernelIdeal (hKernelIdeal := Cert.KernelIdeal.Gen.facts) := fun m ρ _ => Cert.Flash.frame (F := Ideal) m ρ

/-- The reference's run: host lines only, no semaphore. -/
theorem quiescent_referenceIdeal : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem quiescent_kernelIdeal_finite : Cert.quiescent_KernelIdeal_pre_finite (hKernelIdeal := Cert.KernelIdeal.Gen.facts) (hPre_finite := Cert.Pre_finite.Gen.facts) := fun m ρ _ => Cert.Flash.frame (F := Ideal) m ρ

theorem quiescent_referenceIdeal_finite : Cert.quiescent_ReferenceIdeal_pre_finite (hReferenceIdeal := Cert.ReferenceIdeal.Gen.facts) (hPre_finite := Cert.Pre_finite.Gen.facts) := fun m ρ _ =>
  quiescent_referenceIdeal m ρ trivial

open Idealize.ShloMosaic.TcCoe in
/-- The reference's result is the kernel's: at each entry both are the average of a head's values under the weights of its scores. -/
theorem results_same (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD)
    (hf : Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) = fun _ => 1#1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.Flash.picked ((Cert.Flash.dats m 0 c).arrAt 3 Cert.KernelIdeal.cfg0.N) : FVec Ideal Cert.KernelIdeal.S16384x8x64 .bf16) = Cert.ReferenceIdeal.Value.res_main_v26 (F := Ideal) m' c := by
  obtain ⟨e0, e1, e2, e3⟩ := Cert.Flash.real_of_finite _ _ _ _ _ hf
  rw [Cert.Flash.Ref.result_eq, h0, h1, h2, h3, h4]
  rw [Cert.Flash.region_result m c _ _ _ _ e0 e1 e2 e3]
  rw [e0, e1, e2, e3]
  funext i
  have hi : i = ValueIdx.ix3 (i 0) (i 1) (i 2) := funext fun a => by fin_cases a <;> rfl
  rw [hi]
  refine (Cert.Flash.picked_at _ (i 0) (i 1) (i 2)).trans ?_
  refine Eq.trans ?_ (Cert.Flash.Ref.value_at _ _ _ _ _ (i 0) (i 1) (i 2)).symm
  exact Cert.Flash.averages_at _ _ _ _ _ (i 0) (i 1) ⟨(i 2).val, Nat.lt_trans (i 2).isLt (by decide)⟩ _ rfl

theorem algebraic : Cert.algebraic_KernelIdeal_ReferenceIdeal_pre_finite (hKernelIdeal := Cert.KernelIdeal.Gen.facts) (hReferenceIdeal := Cert.ReferenceIdeal.Gen.facts) (hPre_finite := Cert.Pre_finite.Gen.facts) := fun m g m' g' hf hm => by
  refine ⟨fun c => Cert.Flash.picked ((Cert.Flash.dats m 0 c).arrAt 3 Cert.KernelIdeal.cfg0.N), ?_, ?_⟩
  · refine (θ_run Cert.KernelIdeal.defs _ _).mono (fun r h c => ⟨?_, ?_⟩) (Cert.Flash.run_main (F := Ideal) m g)
    · exact ((h.1 c).2 Cert.KernelIdeal.main_v21 (Pipeline.mem_restRefs_of Cert.KernelIdeal.main_v21 (by decide) (by decide))).trans (Cert.Flash.tail_result m c)
    · exact ⟨((h.1 c).2 Cert.KernelIdeal.main_arg0 (Pipeline.mem_restRefs_of Cert.KernelIdeal.main_arg0 (by decide) (by decide))).trans (Cert.KernelIdeal.Gen.W_main_arg0 m (Cert.Flash.dats m) c),
        ((h.1 c).2 Cert.KernelIdeal.main_arg1 (Pipeline.mem_restRefs_of Cert.KernelIdeal.main_arg1 (by decide) (by decide))).trans (Cert.KernelIdeal.Gen.W_main_arg1 m (Cert.Flash.dats m) c),
        ((h.1 c).2 Cert.KernelIdeal.main_arg2 (Pipeline.mem_restRefs_of Cert.KernelIdeal.main_arg2 (by decide) (by decide))).trans (Cert.KernelIdeal.Gen.W_main_arg2 m (Cert.Flash.dats m) c),
        ((h.1 c).2 Cert.KernelIdeal.main_arg3 (Pipeline.mem_restRefs_of Cert.KernelIdeal.main_arg3 (by decide) (by decide))).trans (Cert.KernelIdeal.Gen.W_main_arg3 m (Cert.Flash.dats m) c),
        ((h.1 c).2 Cert.KernelIdeal.main_arg4 (Pipeline.mem_restRefs_of Cert.KernelIdeal.main_arg4 (by decide) (by decide))).trans (Cert.KernelIdeal.Gen.W_main_arg4 m (Cert.Flash.dats m) c)⟩
  · refine (θ_run Cert.ReferenceIdeal.defs _ _).mono (fun r h c => ⟨(h c).1.trans ?_, (h c).2⟩) (Cert.ReferenceIdeal.Value.run (F := Ideal) m' g')
    obtain ⟨h0, h1, h2, h3, h4⟩ := hm c
    exact (results_same m m' c (hf c) h0 h1 h2 h3 h4).symm

/-! ## The forgetting attention -/

theorem bodies_same2 : Cert.Kernel2.defs₀ (F := Bits) = Cert.Kernel2Ideal.defs₀ (F := Bits) := by
  refine congrArg Defs.onTc (funext fun l => funext fun x => ?_)
  match l, x with
  | 0, (t, s) => rfl
  | ⟨n + 1, h⟩, x => exact absurd h (Nat.not_lt.2 (Nat.le_add_left _ _))

theorem defs_same2 : Cert.Kernel2.defs (F := Bits) = Cert.Kernel2Ideal.defs (F := Bits) := congrArg (Pipeline.defs Cert.Kernel2Ideal.pcfgs) bodies_same2

theorem main_same2 : Cert.Kernel2.main (F := Bits) = Cert.Kernel2Ideal.main (F := Bits) := by chain_rfl

theorem quiescent_kernel2 : Cert.quiescent_Kernel2 (hKernel2 := Cert.Kernel2.Gen.facts) := fun m ρ _ => by
  have h := Cert.Fox.frame (F := Bits) m ρ
  rw [← defs_same2, ← main_same2] at h
  exact h

theorem quiescent_kernel2Ideal : Cert.quiescent_Kernel2Ideal (hKernel2Ideal := Cert.Kernel2Ideal.Gen.facts) := fun m ρ _ => Cert.Fox.frame (F := Ideal) m ρ

theorem quiescent_reference2Ideal : Cert.quiescent_Reference2Ideal (hReference2Ideal := Cert.Reference2Ideal.Gen.facts) := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem quiescent_kernel2Ideal_finite : Cert.quiescent_Kernel2Ideal_pre_finite2 (hKernel2Ideal := Cert.Kernel2Ideal.Gen.facts) (hPre_finite2 := Cert.Pre_finite2.Gen.facts) := fun m ρ _ => Cert.Fox.frame (F := Ideal) m ρ

theorem quiescent_reference2Ideal_finite : Cert.quiescent_Reference2Ideal_pre_finite2 (hReference2Ideal := Cert.Reference2Ideal.Gen.facts) (hPre_finite2 := Cert.Pre_finite2.Gen.facts) := fun m ρ _ =>
  quiescent_reference2Ideal m ρ trivial

open Idealize.ShloMosaic.TcCoe in
theorem results_same2 (m : (ℓ : Loc Cert.Kernel2Ideal.nD Cert.Kernel2Ideal.τ Cert.Kernel2Ideal.sig) → Buf (Elt Ideal) ℓ) (m' : (ℓ : Loc Cert.Reference2Ideal.nD Cert.Reference2Ideal.τ Cert.Reference2Ideal.sig) → Buf (Elt Ideal) ℓ)
    (c : Dev Cert.Kernel2Ideal.nD)
    (hf : Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) = fun _ => 1#1)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) :
    (Cert.Fox.picked ((Cert.Fox.dats m 0 c).arrAt 3 Cert.Kernel2Ideal.cfg0.N) : FVec Ideal Cert.Kernel2Ideal.S16384x8x64 .bf16) = Cert.Reference2Ideal.Value.res_main_v36 (F := Ideal) m' c := by
  obtain ⟨e0, e1, e3⟩ := Cert.Fox.real_of_finite _ _ _ _ hf
  rw [Cert.Fox.Ref.result_eq, h0, h1, h2, h3]
  rw [Cert.Fox.region_result m c _ _ _ e0 e1 e3]
  rw [e0, e1, e3]
  funext i
  have hi : i = ValueIdx.ix3 (i 0) (i 1) (i 2) := funext fun a => by fin_cases a <;> rfl
  rw [hi]
  refine (Cert.Fox.picked_at _ (i 0) (i 1) (i 2)).trans ?_
  refine Eq.trans ?_ (Cert.Fox.Ref.value_at _ _ _ _ (i 0) (i 1) (i 2)).symm
  exact Cert.Fox.averages_at _ _ _ _ (i 0) (i 1) ⟨(i 2).val, Nat.lt_trans (i 2).isLt (by decide)⟩ _ rfl

theorem algebraic2 : Cert.algebraic_Kernel2Ideal_Reference2Ideal_pre_finite2 (hKernel2Ideal := Cert.Kernel2Ideal.Gen.facts) (hReference2Ideal := Cert.Reference2Ideal.Gen.facts) (hPre_finite2 := Cert.Pre_finite2.Gen.facts) := fun m g m' g' hf hm => by
  refine ⟨fun c => Cert.Fox.picked ((Cert.Fox.dats m 0 c).arrAt 3 Cert.Kernel2Ideal.cfg0.N), ?_, ?_⟩
  · refine (θ_run Cert.Kernel2Ideal.defs _ _).mono (fun r h c => ⟨?_, ?_⟩) (Cert.Fox.run_main (F := Ideal) m g)
    · exact ((h.1 c).2 Cert.Kernel2Ideal.main_v47 (Pipeline.mem_restRefs_of Cert.Kernel2Ideal.main_v47 (by decide) (by decide))).trans (Cert.Fox.tail_result m c)
    · exact ⟨((h.1 c).2 Cert.Kernel2Ideal.main_arg0 (Pipeline.mem_restRefs_of Cert.Kernel2Ideal.main_arg0 (by decide) (by decide))).trans (Cert.Kernel2Ideal.Gen.W_main_arg0 m (Cert.Fox.dats m) c),
        ((h.1 c).2 Cert.Kernel2Ideal.main_arg1 (Pipeline.mem_restRefs_of Cert.Kernel2Ideal.main_arg1 (by decide) (by decide))).trans (Cert.Kernel2Ideal.Gen.W_main_arg1 m (Cert.Fox.dats m) c),
        ((h.1 c).2 Cert.Kernel2Ideal.main_arg2 (Pipeline.mem_restRefs_of Cert.Kernel2Ideal.main_arg2 (by decide) (by decide))).trans (Cert.Kernel2Ideal.Gen.W_main_arg2 m (Cert.Fox.dats m) c),
        ((h.1 c).2 Cert.Kernel2Ideal.main_arg3 (Pipeline.mem_restRefs_of Cert.Kernel2Ideal.main_arg3 (by decide) (by decide))).trans (Cert.Kernel2Ideal.Gen.W_main_arg3 m (Cert.Fox.dats m) c)⟩
  · refine (θ_run Cert.Reference2Ideal.defs _ _).mono (fun r h c => ⟨(h c).1.trans ?_, (h c).2⟩) (Cert.Reference2Ideal.Value.run (F := Ideal) m' g')
    obtain ⟨h0, h1, h2, h3⟩ := hm c
    exact (results_same2 m m' c (hf c) h0 h1 h2 h3).symm

/-! ## The feed-forward layer -/

theorem quiescent_kernel3 : Cert.quiescent_Kernel3 (hKernel3 := Cert.Kernel3.Gen.facts) := fun m ρ _ => Cert.Kernel3.Gen.frame m ρ

theorem quiescent_kernel3Ideal : Cert.quiescent_Kernel3Ideal (hKernel3Ideal := Cert.Kernel3Ideal.Gen.facts) := fun m ρ _ => Cert.Kernel3Ideal.Gen.frame m ρ

theorem quiescent_reference3Ideal : Cert.quiescent_Reference3Ideal (hReference3Ideal := Cert.Reference3Ideal.Gen.facts) := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

open Idealize.ShloMosaic.TcCoe in
theorem results_same3 (m : (ℓ : Loc Cert.Kernel3Ideal.nD Cert.Kernel3Ideal.τ Cert.Kernel3Ideal.sig) → Buf (Elt Ideal) ℓ) (m' : (ℓ : Loc Cert.Reference3Ideal.nD Cert.Reference3Ideal.τ Cert.Reference3Ideal.sig) → Buf (Elt Ideal) ℓ)
    (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) :
    ((Cert.Kernel3Ideal.Gen.dats m 0 c).arrAt 8 Cert.Kernel3Ideal.cfg0.N : FVec Ideal Cert.Kernel3Ideal.S1x16384x1024 .f32) = Cert.Reference3Ideal.Value.res_main_v32 (F := Ideal) m' c := by
  rw [Cert.Ffn.Ref.result_eq, h0, h1, h2, h3, h4]
  refine (Cert.Ffn.region_result m c).trans ?_
  funext i
  have h : (i 0).val < 1 := (i 0).isLt
  have hi : i = ValueIdx.ix3 (0 : Fin 1) (i 1) (i 2) := funext fun a => by
    fin_cases a
    · exact Fin.ext (Nat.lt_one_iff.1 h)
    · rfl
    · rfl
  rw [hi]
  exact (Cert.Ffn.Ref.value_at _ _ _ _ _ (i 1) (i 2)).symm

theorem algebraic3 : Cert.algebraic_Kernel3Ideal_Reference3Ideal (hKernel3Ideal := Cert.Kernel3Ideal.Gen.facts) (hReference3Ideal := Cert.Reference3Ideal.Gen.facts) := fun m g m' g' _ hm => by
  refine ⟨fun c => (Cert.Kernel3Ideal.Gen.dats m 0 c).arrAt 8 Cert.Kernel3Ideal.cfg0.N, Cert.Kernel3Ideal.Value.run_blocks m g, ?_⟩
  refine (θ_run Cert.Reference3Ideal.defs _ _).mono (fun r h c => ⟨(h c).1.trans ?_, (h c).2⟩) (Cert.Reference3Ideal.Value.run (F := Ideal) m' g')
  obtain ⟨h0, h1, h2, h3, h4⟩ := hm c
  exact (results_same3 m m' c h0 h1 h2 h3 h4).symm

/-! ## The last normalization -/

theorem quiescent_kernel4 : Cert.quiescent_Kernel4 (hKernel4 := Cert.Kernel4.Gen.facts) := fun m ρ _ => Cert.Kernel4.Gen.frame m ρ

theorem quiescent_kernel4Ideal : Cert.quiescent_Kernel4Ideal (hKernel4Ideal := Cert.Kernel4Ideal.Gen.facts) := fun m ρ _ => Cert.Kernel4Ideal.Gen.frame m ρ

theorem quiescent_reference4Ideal : Cert.quiescent_Reference4Ideal (hReference4Ideal := Cert.Reference4Ideal.Gen.facts) := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

open Idealize.ShloMosaic.TcCoe in
theorem results_same4 (m : (ℓ : Loc Cert.Kernel4Ideal.nD Cert.Kernel4Ideal.τ Cert.Kernel4Ideal.sig) → Buf (Elt Ideal) ℓ) (a0 : FVec Ideal Cert.Reference4Ideal.S1x16384x1024 .f32) (a1 : FVec Ideal Cert.Reference4Ideal.S1024 .f32)
    (c : Dev Cert.Kernel4Ideal.nD)
    (h0 : a0 = m ((c.tc : Thread Cert.Kernel4Ideal.nD Cert.Kernel4Ideal.τ).loc Cert.Kernel4Ideal.main_arg0)) (h1 : a1 = m ((c.tc : Thread Cert.Kernel4Ideal.nD Cert.Kernel4Ideal.τ).loc Cert.Kernel4Ideal.main_arg1)) :
    (Cert.Final.shaped ((Cert.Kernel4Ideal.Gen.dats m 0 c).arrAt 2 Cert.Kernel4Ideal.cfg0.N) : FVec Ideal Cert.Kernel4Ideal.S1x16384x1024 .f32) = Cert.Final.Ref.normed a0 a1 := by
  rw [Cert.Final.region_result m c, ← h0, ← h1]
  funext i
  have h : (i 0).val < 1 := (i 0).isLt
  have hi : i = ValueIdx.ix3 (0 : Fin 1) (i 1) (i 2) := funext fun a => by
    fin_cases a
    · exact Fin.ext (Nat.lt_one_iff.1 h)
    · rfl
    · rfl
  rw [hi]
  exact (Cert.Final.shaped_at _ (i 1) (i 2)).trans (Cert.Final.Ref.value_at _ _ (i 1) (i 2)).symm

theorem algebraic4 : Cert.algebraic_Kernel4Ideal_Reference4Ideal (hKernel4Ideal := Cert.Kernel4Ideal.Gen.facts) (hReference4Ideal := Cert.Reference4Ideal.Gen.facts) := fun m g m' g' _ hm => by
  refine ⟨fun c => Cert.Final.shaped ((Cert.Kernel4Ideal.Gen.dats m 0 c).arrAt 2 Cert.Kernel4Ideal.cfg0.N), ?_, ?_⟩
  · refine (θ_run Cert.Kernel4Ideal.defs _ _).mono (fun r h c => ⟨?_, ?_⟩) (Cert.Kernel4Ideal.Gen.run_main (F := Ideal) m g)
    · exact ((h c).2 Cert.Kernel4Ideal.main_v3 (Pipeline.mem_restRefs_of Cert.Kernel4Ideal.main_v3 (by decide) (by decide))).trans (Cert.Final.tail_result m c)
    · exact ⟨((h c).2 Cert.Kernel4Ideal.main_arg0 (Pipeline.mem_restRefs_of Cert.Kernel4Ideal.main_arg0 (by decide) (by decide))).trans (Cert.Kernel4Ideal.Gen.W_main_arg0 m (Cert.Kernel4Ideal.Gen.dats m) c),
        ((h c).2 Cert.Kernel4Ideal.main_arg1 (Pipeline.mem_restRefs_of Cert.Kernel4Ideal.main_arg1 (by decide) (by decide))).trans (Cert.Kernel4Ideal.Gen.W_main_arg1 m (Cert.Kernel4Ideal.Gen.dats m) c)⟩
  · refine (θ_run Cert.Reference4Ideal.defs _ _).mono (fun r h c => ⟨(h c).1.trans ?_, (h c).2⟩) (Cert.Reference4Ideal.Value.run (F := Ideal) m' g')
    obtain ⟨h0, h1⟩ := hm c
    exact (results_same4 m _ _ c h0 h1).symm

/-! ## The last normalization of the samples -/

theorem quiescent_kernel5 : Cert.quiescent_Kernel5 (hKernel5 := Cert.Kernel5.Gen.facts) := fun m ρ _ => Cert.Kernel5.Gen.frame m ρ

theorem quiescent_kernel5Ideal : Cert.quiescent_Kernel5Ideal (hKernel5Ideal := Cert.Kernel5Ideal.Gen.facts) := fun m ρ _ => Cert.Kernel5Ideal.Gen.frame m ρ

theorem quiescent_reference5Ideal : Cert.quiescent_Reference5Ideal (hReference5Ideal := Cert.Reference5Ideal.Gen.facts) := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

open Idealize.ShloMosaic.TcCoe in
theorem results_same5 (m : (ℓ : Loc Cert.Kernel5Ideal.nD Cert.Kernel5Ideal.τ Cert.Kernel5Ideal.sig) → Buf (Elt Ideal) ℓ) (a0 : FVec Ideal Cert.Reference5Ideal.S128x8x1024 .f32) (a1 : FVec Ideal Cert.Reference5Ideal.S1024 .f32)
    (c : Dev Cert.Kernel5Ideal.nD)
    (h0 : a0 = m ((c.tc : Thread Cert.Kernel5Ideal.nD Cert.Kernel5Ideal.τ).loc Cert.Kernel5Ideal.main_arg0)) (h1 : a1 = m ((c.tc : Thread Cert.Kernel5Ideal.nD Cert.Kernel5Ideal.τ).loc Cert.Kernel5Ideal.main_arg1)) :
    (Cert.Sample.shaped ((Cert.Kernel5Ideal.Gen.dats m 0 c).arrAt 2 Cert.Kernel5Ideal.cfg0.N) : FVec Ideal Cert.Kernel5Ideal.S128x8x1024 .f32) = Cert.Sample.Ref.normed a0 a1 := by
  rw [Cert.Sample.region_result m c, ← h0, ← h1]
  funext i
  have hi : i = ValueIdx.ix3 (i 0) (i 1) (i 2) := funext fun a => by
    fin_cases a <;> rfl
  rw [hi]
  exact (Cert.Sample.result_shaped _ _ (i 0) (i 1) (i 2)).trans (Cert.Sample.Ref.value_at _ _ (i 0) (i 1) (i 2)).symm

theorem algebraic5 : Cert.algebraic_Kernel5Ideal_Reference5Ideal (hKernel5Ideal := Cert.Kernel5Ideal.Gen.facts) (hReference5Ideal := Cert.Reference5Ideal.Gen.facts) := fun m g m' g' _ hm => by
  refine ⟨fun c => Cert.Sample.shaped ((Cert.Kernel5Ideal.Gen.dats m 0 c).arrAt 2 Cert.Kernel5Ideal.cfg0.N), ?_, ?_⟩
  · refine (θ_run Cert.Kernel5Ideal.defs _ _).mono (fun r h c => ⟨?_, ?_⟩) (Cert.Kernel5Ideal.Gen.run_main (F := Ideal) m g)
    · exact ((h c).2 Cert.Kernel5Ideal.main_v3 (Pipeline.mem_restRefs_of Cert.Kernel5Ideal.main_v3 (by decide) (by decide))).trans (Cert.Sample.tail_result m c)
    · exact ⟨((h c).2 Cert.Kernel5Ideal.main_arg0 (Pipeline.mem_restRefs_of Cert.Kernel5Ideal.main_arg0 (by decide) (by decide))).trans (Cert.Kernel5Ideal.Gen.W_main_arg0 m (Cert.Kernel5Ideal.Gen.dats m) c),
        ((h c).2 Cert.Kernel5Ideal.main_arg1 (Pipeline.mem_restRefs_of Cert.Kernel5Ideal.main_arg1 (by decide) (by decide))).trans (Cert.Kernel5Ideal.Gen.W_main_arg1 m (Cert.Kernel5Ideal.Gen.dats m) c)⟩
  · refine (θ_run Cert.Reference5Ideal.defs _ _).mono (fun r h c => ⟨(h c).1.trans ?_, (h c).2⟩) (Cert.Reference5Ideal.Value.run (F := Ideal) m' g')
    obtain ⟨h0, h1⟩ := hm c
    exact (results_same5 m _ _ c h0 h1).symm

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_finite.Gen.facts, Cert.Pre_finite2.Gen.facts,
    quiescent_kernel, quiescent_kernelIdeal, quiescent_kernelIdeal_finite, quiescent_referenceIdeal, quiescent_referenceIdeal_finite,
    quiescent_kernel2, quiescent_kernel2Ideal, quiescent_kernel2Ideal_finite, quiescent_reference2Ideal, quiescent_reference2Ideal_finite,
    quiescent_kernel3, quiescent_kernel3Ideal, quiescent_reference3Ideal, quiescent_kernel4, quiescent_kernel4Ideal, quiescent_reference4Ideal, quiescent_kernel5, quiescent_kernel5Ideal, quiescent_reference5Ideal,
    trivial, algebraic, trivial, algebraic2, trivial, algebraic3, trivial, algebraic4, trivial, algebraic5⟩

end Cert.Proof

end
